-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def preserves_Kernel_KernelIdeal : Prop :=
  IdealRules.named_const.Statement Cert.KernelIdeal.κ "masked" .f32 0xF149F2CA#32 ⊥
  ∧ IdealRules.named_const.Statement Cert.KernelIdeal.κ "log2_e" .f32 0x3FB8AA3B#32 (((Real.log 2)⁻¹ : ℝ) : EReal)

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v22) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v1) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v16)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v16) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v22) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v19) = v0 c
          ∧ r.2.mem ((c.tc : Thread Cert.Reference5Ideal.nD Cert.Reference5Ideal.τ).loc Cert.Reference5Ideal.main_v21) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v23) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v8_0)) (v1 : (c : Dev Cert.Kernel7Ideal.nD) → Buf (Elt Ideal) ((c.tc : Thread Cert.Kernel7Ideal.nD Cert.Kernel7Ideal.τ).loc Cert.Kernel7Ideal.main_v8_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v8_0) = v0 c
          ∧ r.2.mem ((c.tc : Thread Cert.Kernel7Ideal.nD Cert.Kernel7Ideal.τ).loc Cert.Kernel7Ideal.main_v8_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v51) = v0 c
          ∧ r.2.mem ((c.tc : Thread Cert.Reference7Ideal.nD Cert.Reference7Ideal.τ).loc Cert.Reference7Ideal.main_v52) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite_logits : Cert.Pre_finite_logits.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite_logits (hKernelIdeal := hKernelIdeal) (hReferenceIdeal := hReferenceIdeal) (hPre_finite_logits := hPre_finite_logits)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite_logits.lean ====
abbrev S8192x2048 : Shape := ⟨2, ![8192, 2048]⟩
abbrev S8192x16 : Shape := ⟨2, ![8192, 16]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8192x16 : S_.BroadcastsInDim S8192x16 (![] : Fin 0 → Fin S8192x16.rank)
  reducesTo_S8192x16_S_d0_1 : S8192x16.ReducesTo [0, 1] S_

variable [Facts]

def fn {F : FTy → Type} [FloatOps F] (main_arg0 : FVec F S8192x2048 .f32) (main_arg1 : FVec F S8192x2048 .f32) (main_arg2 : FVec F S8192x2048 .f32) (main_arg3 : FVec F S8192x16 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x16 .f32 := Host.absf main_arg3
  let main_cst_2 : FVec F S_ .f32 := constant S_ .f32 0x7F800000#32
  let main_v10 : FVec F S8192x16 .f32 := broadcastInDim S8192x16 ![] bcast_S_S8192x16 main_cst_2
  let main_v11 : IVec S8192x16 1 := cmpf .olt main_v9 main_v10
  let main_c_3 : IVec S_ 1 := constantI S_ 1 1#1
  let main_v12 : IVec S_ 1 := (fun x v => Host.reduce IntOp.andi x v reducesTo_S8192x16_S_d0_1 h_S_) main_v11 main_c_3
  let main_v13 : IVec S_ 1 := andi main_v8 main_v12
  main_v13
-- ==== Kernel.lean ====
abbrev S8192x2048 : Shape := ⟨2, ![8192, 2048]⟩
abbrev S8192x16 : Shape := ⟨2, ![8192, 16]⟩
abbrev S_ : Shape := ⟨0, ![]⟩
abbrev S8192x6144 : Shape := ⟨2, ![8192, 6144]⟩
abbrev S8192x4x4 : Shape := ⟨3, ![8192, 4, 4]⟩
abbrev S4x8192x4 : Shape := ⟨3, ![4, 8192, 4]⟩
abbrev S512x512 : Shape := ⟨2, ![512, 512]⟩
abbrev S8192x512 : Shape := ⟨2, ![8192, 512]⟩
abbrev S1x8192x4 : Shape := ⟨3, ![1, 8192, 4]⟩
abbrev S4x128x512 : Shape := ⟨3, ![4, 128, 512]⟩
abbrev S4x1x512 : Shape := ⟨3, ![4, 1, 512]⟩
abbrev S2x4x256x512 : Shape := ⟨4, ![2, 4, 256, 512]⟩
abbrev S1x1x1 : Shape := ⟨3, ![1, 1, 1]⟩
abbrev S1x1 : Shape := ⟨2, ![1, 1]⟩
abbrev S256x128 : Shape := ⟨2, ![256, 128]⟩
abbrev S512x128 : Shape := ⟨2, ![512, 128]⟩
abbrev S256x512 : Shape := ⟨2, ![256, 512]⟩
abbrev S1x256x1 : Shape := ⟨3, ![1, 256, 1]⟩
abbrev S256x1 : Shape := ⟨2, ![256, 1]⟩
abbrev S1x1x256x512 : Shape := ⟨4, ![1, 1, 256, 512]⟩
abbrev S1x1x512 : Shape := ⟨3, ![1, 1, 512]⟩
abbrev S1x512 : Shape := ⟨2, ![1, 512]⟩
abbrev S512 : Shape := ⟨1, ![512]⟩
abbrev S128x256 : Shape := ⟨2, ![128, 256]⟩
abbrev S16x256 : Shape := ⟨2, ![16, 256]⟩
abbrev S144x256 : Shape := ⟨2, ![144, 256]⟩
abbrev S144x512 : Shape := ⟨2, ![144, 512]⟩
abbrev S1x128x512 : Shape := ⟨3, ![1, 128, 512]⟩
abbrev S128x512 : Shape := ⟨2, ![128, 512]⟩
abbrev S256x256 : Shape := ⟨2, ![256, 256]⟩
abbrev S1x1x256x256 : Shape := ⟨4, ![1, 1, 256, 256]⟩
abbrev S1x1x256 : Shape := ⟨3, ![1, 1, 256]⟩
abbrev S1x256 : Shape := ⟨2, ![1, 256]⟩
abbrev S256 : Shape := ⟨1, ![256]⟩
abbrev S1x128x256 : Shape := ⟨3, ![1, 128, 256]⟩

abbrev nBuf : Space → Nat
  | .hbm => 18
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x16, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S8192x2048, .f32⟩
  | .hbm, ⟨10, _⟩ => ⟨S8192x2048, .f32⟩
  | .hbm, ⟨11, _⟩ => ⟨S8192x2048, .bf16⟩
  | .hbm, ⟨12, _⟩ => ⟨S8192x2048, .bf16⟩
  | .hbm, ⟨13, _⟩ => ⟨S8192x2048, .bf16⟩
  | .hbm, ⟨14, _⟩ => ⟨S8192x6144, .bf16⟩
  | .hbm, ⟨15, _⟩ => ⟨S8192x4x4, .f32⟩
  | .hbm, ⟨16, _⟩ => ⟨S4x8192x4, .f32⟩
  | .hbm, ⟨17, _⟩ => ⟨S8192x2048, .bf16⟩
  | .local _ .vmem, ⟨0, _⟩ => ⟨S512x512, .bf16⟩
  | .local _ .vmem, ⟨1, _⟩ => ⟨S512x512, .bf16⟩
  | .local _ .vmem, ⟨2, _⟩ => ⟨S8192x512, .bf16⟩
  | .local _ .vmem, ⟨3, _⟩ => ⟨S8192x512, .bf16⟩
  | .local _ .vmem, ⟨4, _⟩ => ⟨S8192x512, .bf16⟩
  | .local _ .vmem, ⟨5, _⟩ => ⟨S8192x512, .bf16⟩
  | .local _ .vmem, ⟨6, _⟩ => ⟨S1x8192x4, .f32⟩
  | .local _ .vmem, ⟨7, _⟩ => ⟨S1x8192x4, .f32⟩
  | .local _ .vmem, ⟨8, _⟩ => ⟨S512x512, .bf16⟩
  | .local _ .vmem, ⟨9, _⟩ => ⟨S512x512, .bf16⟩
  | .local _ .vmem, ⟨10, _⟩ => ⟨S4x128x512, .f32⟩
  | .local _ .vmem, ⟨11, _⟩ => ⟨S4x1x512, .f32⟩
  | .local _ .vmem, ⟨12, _⟩ => ⟨S4x1x512, .f32⟩
  | .local _ .vmem, ⟨13, _⟩ => ⟨S2x4x256x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

def k0_mult1 : BitVec 32 :=
  let c0_i32 : BitVec 32 := 0#32
  c0_i32
def k0_off1 (i : grid0.Coords) : Fin 3 → Nat :=
  let c0_10 : Index := 0#32
  let arg1 : BitVec 32 := BitVec.ofNat 32 (i 1).val
  let c512_i32 : BitVec 32 := 512#32
  let v13 : BitVec 32 := Scalar.muli arg1 c512_i32
  let v14 : Index := Scalar.indexCast v13
  let c0_11 : Index := 0#32
  ![0, v14.toNat, 0]
def k0_off2 (i : grid0.Coords) : Fin 3 → Nat :=
  let c0_24 : Index := 0#32
  let arg1 : BitVec 32 := BitVec.ofNat 32 (i 1).val
  let c512_i32_23 : BitVec 32 := 512#32
  let v35 : BitVec 32 := Scalar.muli arg1 c512_i32_23
  let v36 : Index := Scalar.indexCast v35
  let c1 : Index := 1#32
  ![0, v36.toNat, 1]
def k0_off3 (i : grid0.Coords) : Fin 3 → Nat :=
  let c0_36 : Index := 0#32
  let arg1 : BitVec 32 := BitVec.ofNat 32 (i 1).val
  let c512_i32_35 : BitVec 32 := 512#32
  let v57 : BitVec 32 := Scalar.muli arg1 c512_i32_35
  let v58 : Index := Scalar.indexCast v57
  let c2 : Index := 2#32
  ![0, v58.toNat, 2]
def k0_off4 (i : grid0.Coords) : Fin 3 → Nat :=
  let c0_48 : Index := 0#32
  let arg1 : BitVec 32 := BitVec.ofNat 32 (i 1).val
  let c512_i32_47 : BitVec 32 := 512#32
  let v79 : BitVec 32 := Scalar.muli arg1 c512_i32_47
  let v80 : Index := Scalar.indexCast v79
  let c3 : Index := 3#32
  ![0, v80.toNat, 3]
@[reducible] def k0_t1_loop (i : grid0.Coords) : Scf.Loop 32 :=
  let c0_i32_60 : BitVec 32 := 0#32
  let arg1 : BitVec 32 := BitVec.ofNat 32 (i 1).val
  let v101 : BitVec 32 := Scalar.subi arg1 c0_i32_60
  let c1_i32 : BitVec 32 := 1#32
  let v103 : BitVec 32 := Scalar.divsi v101 c1_i32
  let v104 : BitVec 32 := Scalar.muli v103 c1_i32
  let v105 : BitVec 32 := Scalar.addi c0_i32_60 v104
  let c1_i32_61 : BitVec 32 := 1#32
  ⟨c0_i32_60, v105, c1_i32_61⟩
def k0_mult2 (i : grid0.Coords) (k0_t1 : Fin (k0_t1_loop i).trips) : BitVec 32 :=
  let c2_i32_397 : BitVec 32 := 2#32
  let c0_i32_60 : BitVec 32 := 0#32
  let c1_i32_61 : BitVec 32 := 1#32
  let arg11 : BitVec 32 := Scf.iv c0_i32_60 c1_i32_61 k0_t1
  let v657 : BitVec 32 := Scalar.muli c2_i32_397 arg11
  let c1_i32_398 : BitVec 32 := 1#32
  let v658 : BitVec 32 := Scalar.addi v657 c1_i32_398
  let c256_i32_399 : BitVec 32 := 256#32
  let v659 : BitVec 32 := Scalar.muli v658 c256_i32_399
  v659
def k0_off5 (i : grid0.Coords) : Fin 3 → Nat :=
  let c0_401 : Index := 0#32
  let arg1 : BitVec 32 := BitVec.ofNat 32 (i 1).val
  let c512_i32_400 : BitVec 32 := 512#32
  let v661 : BitVec 32 := Scalar.muli arg1 c512_i32_400
  let v662 : Index := Scalar.indexCast v661
  let c0_402 : Index := 0#32
  ![0, v662.toNat, 0]
def k0_off6 (i : grid0.Coords) (k0_t1 : Fin (k0_t1_loop i).trips) (c1_i32_398 : BitVec 32) : Fin 2 → Nat :=
  let c2_i32_397 : BitVec 32 := 2#32
  let c0_i32_60 : BitVec 32 := 0#32
  let c1_i32_61 : BitVec 32 := 1#32
  let arg11 : BitVec 32 := Scf.iv c0_i32_60 c1_i32_61 k0_t1
  let v657 : BitVec 32 := Scalar.muli c2_i32_397 arg11
  let v658 : BitVec 32 := Scalar.addi v657 c1_i32_398
  let c256_i32_399 : BitVec 32 := 256#32
  let v659 : BitVec 32 := Scalar.muli v658 c256_i32_399
  let v660 : BitVec 32 := v659
  let v665 : Index := Scalar.indexCast v660
  let c0_403 : Index := 0#32
  ![v665.toNat, 0]
def k0_off7 (i : grid0.Coords) (k0_t1 : Fin (k0_t1_loop i).trips) (c1_i32_398 : BitVec 32) : Fin 3 → Nat :=
  let c0_407 : Index := 0#32
  let c2_i32_397 : BitVec 32 := 2#32
  let c0_i32_60 : BitVec 32 := 0#32
  let c1_i32_61 : BitVec 32 := 1#32
  let arg11 : BitVec 32 := Scf.iv c0_i32_60 c1_i32_61 k0_t1
  let v657 : BitVec 32 := Scalar.muli c2_i32_397 arg11
  let v658 : BitVec 32 := Scalar.addi v657 c1_i32_398
  let c256_i32_399 : BitVec 32 := 256#32
  let v659 : BitVec 32 := Scalar.muli v658 c256_i32_399
  let v660 : BitVec 32 := v659
  let v671 : Index := Scalar.indexCast v660
  let c0_408 : Index := 0#32
  ![0, v671.toNat, 0]
def k0_off8 (i : grid0.Coords) : Fin 3 → Nat :=
  let c0_415 : Index := 0#32
  let arg1 : BitVec 32 := BitVec.ofNat 32 (i 1).val
  let c512_i32_414 : BitVec 32 := 512#32
  let v683 : BitVec 32 := Scalar.muli arg1 c512_i32_414
  let v684 : Index := Scalar.indexCast v683
  let c1_416 : Index := 1#32
  ![0, v684.toNat, 1]
def k0_off9 (i : grid0.Coords) (k0_t1 : Fin (k0_t1_loop i).trips) (c1_i32_398 : BitVec 32) : Fin 2 → Nat :=
  let c2_i32_397 : BitVec 32 := 2#32
  let c0_i32_60 : BitVec 32 := 0#32
  let c1_i32_61 : BitVec 32 := 1#32
  let arg11 : BitVec 32 := Scf.iv c0_i32_60 c1_i32_61 k0_t1
  let v657 : BitVec 32 := Scalar.muli c2_i32_397 arg11
  let v658 : BitVec 32 := Scalar.addi v657 c1_i32_398
  let c256_i32_399 : BitVec 32 := 256#32
  let v659 : BitVec 32 := Scalar.muli v658 c256_i32_399
  let v660 : BitVec 32 := v659
  let v687 : Index := Scalar.indexCast v660
  let c128_417 : Index := 128#32
  ![v687.toNat, 128]
def k0_off10 (i : grid0.Coords) (k0_t1 : Fin (k0_t1_loop i).trips) (c1_i32_398 : BitVec 32) : Fin 3 → Nat :=
  let c0_421 : Index := 0#32
  let c2_i32_397 : BitVec 32 := 2#32
  let c0_i32_60 : BitVec 32 := 0#32
  let c1_i32_61 : BitVec 32 := 1#32
  let arg11 : BitVec 32 := Scf.iv c0_i32_60 c1_i32_61 k0_t1
  let v657 : BitVec 32 := Scalar.muli c2_i32_397 arg11
  let v658 : BitVec 32 := Scalar.addi v657 c1_i32_398
  let c256_i32_399 : BitVec 32 := 256#32
  let v659 : BitVec 32 := Scalar.muli v658 c256_i32_399
  let v660 : BitVec 32 := v659
  let v693 : Index := Scalar.indexCast v660
  let c1_422 : Index := 1#32
  ![0, v693.toNat, 1]
def k0_off11 (i : grid0.Coords) : Fin 3 → Nat :=
  let c0_429 : Index := 0#32
  let arg1 : BitVec 32 := BitVec.ofNat 32 (i 1).val
  let c512_i32_428 : BitVec 32 := 512#32
  let v705 : BitVec 32 := Scalar.muli arg1 c512_i32_428
  let v706 : Index := Scalar.indexCast v705
  let c2_430 : Index := 2#32
  ![0, v706.toNat, 2]
def k0_off12 (i : grid0.Coords) (k0_t1 : Fin (k0_t1_loop i).trips) (c1_i32_398 : BitVec 32) : Fin 2 → Nat :=
  let c2_i32_397 : BitVec 32 := 2#32
  let c0_i32_60 : BitVec 32 := 0#32
  let c1_i32_61 : BitVec 32 := 1#32
  let arg11 : BitVec 32 := Scf.iv c0_i32_60 c1_i32_61 k0_t1
  let v657 : BitVec 32 := Scalar.muli c2_i32_397 arg11
  let v658 : BitVec 32 := Scalar.addi v657 c1_i32_398
  let c256_i32_399 : BitVec 32 := 256#32
  let v659 : BitVec 32 := Scalar.muli v658 c256_i32_399
  let v660 : BitVec 32 := v659
  let v709 : Index := Scalar.indexCast v660
  let c256_431 : Index := 256#32
  ![v709.toNat, 256]
def k0_off13 (i : grid0.Coords) (k0_t1 : Fin (k0_t1_loop i).trips) (c1_i32_398 : BitVec 32) : Fin 3 → Nat :=
  let c0_435 : Index := 0#32
  let c2_i32_397 : BitVec 32 := 2#32
  let c0_i32_60 : BitVec 32 := 0#32
  let c1_i32_61 : BitVec 32 := 1#32
  let arg11 : BitVec 32 := Scf.iv c0_i32_60 c1_i32_61 k0_t1
  let v657 : BitVec 32 := Scalar.muli c2_i32_397 arg11
  let v658 : BitVec 32 := Scalar.addi v657 c1_i32_398
  let c256_i32_399 : BitVec 32 := 256#32
  let v659 : BitVec 32 := Scalar.muli v658 c256_i32_399
  let v660 : BitVec 32 := v659
  let v715 : Index := Scalar.indexCast v660
  let c2_436 : Index := 2#32
  ![0, v715.toNat, 2]
def k0_off14 (i : grid0.Coords) : Fin 3 → Nat :=
  let c0_443 : Index := 0#32
  let arg1 : BitVec 32 := BitVec.ofNat 32 (i 1).val
  let c512_i32_442 : BitVec 32 := 512#32
  let v727 : BitVec 32 := Scalar.muli arg1 c512_i32_442
  let v728 : Index := Scalar.indexCast v727
  let c3_444 : Index := 3#32
  ![0, v728.toNat, 3]
def k0_off15 (i : grid0.Coords) (k0_t1 : Fin (k0_t1_loop i).trips) (c1_i32_398 : BitVec 32) : Fin 2 → Nat :=
  let c2_i32_397 : BitVec 32 := 2#32
  let c0_i32_60 : BitVec 32 := 0#32
  let c1_i32_61 : BitVec 32 := 1#32
  let arg11 : BitVec 32 := Scf.iv c0_i32_60 c1_i32_61 k0_t1
  let v657 : BitVec 32 := Scalar.muli c2_i32_397 arg11
  let v658 : BitVec 32 := Scalar.addi v657 c1_i32_398
  let c256_i32_399 : BitVec 32 := 256#32
  let v659 : BitVec 32 := Scalar.muli v658 c256_i32_399
  let v660 : BitVec 32 := v659
  let v731 : Index := Scalar.indexCast v660
  let c384_445 : Index := 384#32
  ![v731.toNat, 384]
def k0_off16 (i : grid0.Coords) (k0_t1 : Fin (k0_t1_loop i).trips) (c1_i32_398 : BitVec 32) : Fin 3 → Nat :=
  let c0_449 : Index := 0#32
  let c2_i32_397 : BitVec 32 := 2#32
  let c0_i32_60 : BitVec 32 := 0#32
  let c1_i32_61 : BitVec 32 := 1#32
  let arg11 : BitVec 32 := Scf.iv c0_i32_60 c1_i32_61 k0_t1
  let v657 : BitVec 32 := Scalar.muli c2_i32_397 arg11
  let v658 : BitVec 32 := Scalar.addi v657 c1_i32_398
  let c256_i32_399 : BitVec 32 := 256#32
  let v659 : BitVec 32 := Scalar.muli v658 c256_i32_399
  let v660 : BitVec 32 := v659
  let v737 : Index := Scalar.indexCast v660
  let c3_450 : Index := 3#32
  ![0, v737.toNat, 3]
def k0_mult3 (i : grid0.Coords) (k0_t1 : Fin (k0_t1_loop i).trips) : BitVec 32 :=
  let c2_i32_397 : BitVec 32 := 2#32
  let c0_i32_60 : BitVec 32 := 0#32
  let c1_i32_61 : BitVec 32 := 1#32
  let arg11 : BitVec 32 := Scf.iv c0_i32_60 c1_i32_61 k0_t1
  let v657 : BitVec 32 := Scalar.muli c2_i32_397 arg11
  let c256_i32_456 : BitVec 32 := 256#32
  let v749 : BitVec 32 := Scalar.muli v657 c256_i32_456
  v749
def k0_off17 (i : grid0.Coords) (k0_t1 : Fin (k0_t1_loop i).trips) : Fin 2 → Nat :=
  let c2_i32_397 : BitVec 32 := 2#32
  let c0_i32_60 : BitVec 32 := 0#32
  let c1_i32_61 : BitVec 32 := 1#32
  let arg11 : BitVec 32 := Scf.iv c0_i32_60 c1_i32_61 k0_t1
  let v657 : BitVec 32 := Scalar.muli c2_i32_397 arg11
  let c256_i32_456 : BitVec 32 := 256#32
  let v749 : BitVec 32 := Scalar.muli v657 c256_i32_456
  let v750 : BitVec 32 := v749
  let v766 : Index := Scalar.indexCast v750
  let c0_468 : Index := 0#32
  ![v766.toNat, 0]
def k0_off18 (i : grid0.Coords) (k0_t1 : Fin (k0_t1_loop i).trips) : Fin 2 → Nat :=
  let c2_i32_397 : BitVec 32 := 2#32
  let c0_i32_60 : BitVec 32 := 0#32
  let c1_i32_61 : BitVec 32 := 1#32
  let arg11 : BitVec 32 := Scf.iv c0_i32_60 c1_i32_61 k0_t1
  let v657 : BitVec 32 := Scalar.muli c2_i32_397 arg11
  let c256_i32_456 : BitVec 32 := 256#32
  let v749 : BitVec 32 := Scalar.muli v657 c256_i32_456
  let v750 : BitVec 32 := v749
  let v806 : Index := Scalar.indexCast v750
  let c128_494 : Index := 128#32
  ![v806.toNat, 128]
def k0_off19 (i : grid0.Coords) (k0_t1 : Fin (k0_t1_loop i).trips) : Fin 2 → Nat :=
  let c2_i32_397 : BitVec 32 := 2#32
  let c0_i32_60 : BitVec 32 := 0#32
  let c1_i32_61 : BitVec 32 := 1#32
  let arg11 : BitVec 32 := Scf.iv c0_i32_60 c1_i32_61 k0_t1
  let v657 : BitVec 32 := Scalar.muli c2_i32_397 arg11
  let c256_i32_456 : BitVec 32 := 256#32
  let v749 : BitVec 32 := Scalar.muli v657 c256_i32_456
  let v750 : BitVec 32 := v749
  let v846 : Index := Scalar.indexCast v750
  let c256_520 : Index := 256#32
  ![v846.toNat, 256]
def k0_off20 (i : grid0.Coords) (k0_t1 : Fin (k0_t1_loop i).trips) : Fin 2 → Nat :=
  let c2_i32_397 : BitVec 32 := 2#32
  let c0_i32_60 : BitVec 32 := 0#32
  let c1_i32_61 : BitVec 32 := 1#32
  let arg11 : BitVec 32 := Scf.iv c0_i32_60 c1_i32_61 k0_t1
  let v657 : BitVec 32 := Scalar.muli c2_i32_397 arg11
  let c256_i32_456 : BitVec 32 := 256#32
  let v749 : BitVec 32 := Scalar.muli v657 c256_i32_456
  let v750 : BitVec 32 := v749
  let v886 : Index := Scalar.indexCast v750
  let c384_546 : Index := 384#32
  ![v886.toNat, 384]
def k0_mult4 (i : grid0.Coords) (k0_t1 : Fin (k0_t1_loop i).trips) : BitVec 32 :=
  let c2_i32_397 : BitVec 32 := 2#32
  let c0_i32_60 : BitVec 32 := 0#32
  let c1_i32_61 : BitVec 32 := 1#32
  let arg11 : BitVec 32 := Scf.iv c0_i32_60 c1_i32_61 k0_t1
  let v657 : BitVec 32 := Scalar.muli c2_i32_397 arg11
  let c2_i32_561 : BitVec 32 := 2#32
  let v911 : BitVec 32 := Scalar.addi v657 c2_i32_561
  let c256_i32_562 : BitVec 32 := 256#32
  let v912 : BitVec 32 := Scalar.muli v911 c256_i32_562
  v912
def k0_mult5 (i : grid0.Coords) (k0_t1 : Fin (k0_t1_loop i).trips) : BitVec 32 :=
  let c2_i32_397 : BitVec 32 := 2#32
  let c0_i32_60 : BitVec 32 := 0#32
  let c1_i32_61 : BitVec 32 := 1#32
  let arg11 : BitVec 32 := Scf.iv c0_i32_60 c1_i32_61 k0_t1
  let v657 : BitVec 32 := Scalar.muli c2_i32_397 arg11
  let c1_i32_619 : BitVec 32 := 1#32
  let v1002 : BitVec 32 := Scalar.addi v657 c1_i32_619
  let c256_i32_620 : BitVec 32 := 256#32
  let v1003 : BitVec 32 := Scalar.muli v1002 c256_i32_620
  v1003
@[reducible] def k0_t2_loop (i : grid0.Coords) : Scf.Loop 32 :=
  let c0_i32_60 : BitVec 32 := 0#32
  let arg1 : BitVec 32 := BitVec.ofNat 32 (i 1).val
  let v101 : BitVec 32 := Scalar.subi arg1 c0_i32_60
  let c1_i32 : BitVec 32 := 1#32
  let v103 : BitVec 32 := Scalar.divsi v101 c1_i32
  let v104 : BitVec 32 := Scalar.muli v103 c1_i32
  let v105 : BitVec 32 := Scalar.addi c0_i32_60 v104
  let v102 : BitVec 32 := Scalar.addi c0_i32_60 v101
  let c1_i32_62 : BitVec 32 := 1#32
  ⟨v105, v102, c1_i32_62⟩
def k0_mult6 (i : grid0.Coords) (k0_t2 : Fin (k0_t2_loop i).trips) : BitVec 32 :=
  let c2_i32_397 : BitVec 32 := 2#32
  let c0_i32_60 : BitVec 32 := 0#32
  let arg1 : BitVec 32 := BitVec.ofNat 32 (i 1).val
  let v101 : BitVec 32 := Scalar.subi arg1 c0_i32_60
  let c1_i32 : BitVec 32 := 1#32
  let v103 : BitVec 32 := Scalar.divsi v101 c1_i32
  let v104 : BitVec 32 := Scalar.muli v103 c1_i32
  let v105 : BitVec 32 := Scalar.addi c0_i32_60 v104
  let c1_i32_62 : BitVec 32 := 1#32
  let arg11 : BitVec 32 := Scf.iv v105 c1_i32_62 k0_t2
  let v657 : BitVec 32 := Scalar.muli c2_i32_397 arg11
  let c1_i32_398 : BitVec 32 := 1#32
  let v658 : BitVec 32 := Scalar.addi v657 c1_i32_398
  let c256_i32_399 : BitVec 32 := 256#32
  let v659 : BitVec 32 := Scalar.muli v658 c256_i32_399
  v659
def k0_off21 (i : grid0.Coords) : Fin 3 → Nat :=
  let c0_401 : Index := 0#32
  let arg1 : BitVec 32 := BitVec.ofNat 32 (i 1).val
  let c512_i32_400 : BitVec 32 := 512#32
  let v661 : BitVec 32 := Scalar.muli arg1 c512_i32_400
  let v662 : Index := Scalar.indexCast v661
  let c0_402 : Index := 0#32
  ![0, v662.toNat, 0]
def k0_off22 (i : grid0.Coords) (k0_t2 : Fin (k0_t2_loop i).trips) (c1_i32_398 : BitVec 32) : Fin 2 → Nat :=
  let c2_i32_397 : BitVec 32 := 2#32
  let c0_i32_60 : BitVec 32 := 0#32
  let arg1 : BitVec 32 := BitVec.ofNat 32 (i 1).val
  let v101 : BitVec 32 := Scalar.subi arg1 c0_i32_60
  let c1_i32 : BitVec 32 := 1#32
  let v103 : BitVec 32 := Scalar.divsi v101 c1_i32
  let v104 : BitVec 32 := Scalar.muli v103 c1_i32
  let v105 : BitVec 32 := Scalar.addi c0_i32_60 v104
  let c1_i32_62 : BitVec 32 := 1#32
  let arg11 : BitVec 32 := Scf.iv v105 c1_i32_62 k0_t2
  let v657 : BitVec 32 := Scalar.muli c2_i32_397 arg11
  let v658 : BitVec 32 := Scalar.addi v657 c1_i32_398
  let c256_i32_399 : BitVec 32 := 256#32
  let v659 : BitVec 32 := Scalar.muli v658 c256_i32_399
  let v660 : BitVec 32 := v659
  let v665 : Index := Scalar.indexCast v660
  let c0_403 : Index := 0#32
  ![v665.toNat, 0]
def k0_off23 (i : grid0.Coords) (k0_t2 : Fin (k0_t2_loop i).trips) (c1_i32_398 : BitVec 32) : Fin 3 → Nat :=
  let c0_407 : Index := 0#32
  let c2_i32_397 : BitVec 32 := 2#32
  let c0_i32_60 : BitVec 32 := 0#32
  let arg1 : BitVec 32 := BitVec.ofNat 32 (i 1).val
  let v101 : BitVec 32 := Scalar.subi arg1 c0_i32_60
  let c1_i32 : BitVec 32 := 1#32
  let v103 : BitVec 32 := Scalar.divsi v101 c1_i32
  let v104 : BitVec 32 := Scalar.muli v103 c1_i32
  let v105 : BitVec 32 := Scalar.addi c0_i32_60 v104
  let c1_i32_62 : BitVec 32 := 1#32
  let arg11 : BitVec 32 := Scf.iv v105 c1_i32_62 k0_t2
  let v657 : BitVec 32 := Scalar.muli c2_i32_397 arg11
  let v658 : BitVec 32 := Scalar.addi v657 c1_i32_398
  let c256_i32_399 : BitVec 32 := 256#32
  let v659 : BitVec 32 := Scalar.muli v658 c256_i32_399
  let v660 : BitVec 32 := v659
  let v671 : Index := Scalar.indexCast v660
  let c0_408 : Index := 0#32
  ![0, v671.toNat, 0]
def k0_off24 (i : grid0.Coords) : Fin 3 → Nat :=
  let c0_415 : Index := 0#32
  let arg1 : BitVec 32 := BitVec.ofNat 32 (i 1).val
  let c512_i32_414 : BitVec 32 := 512#32
  let v683 : BitVec 32 := Scalar.muli arg1 c512_i32_414
  let v684 : Index := Scalar.indexCast v683
  let c1_416 : Index := 1#32
  ![0, v684.toNat, 1]
def k0_off25 (i : grid0.Coords) (k0_t2 : Fin (k0_t2_loop i).trips) (c1_i32_398 : BitVec 32) : Fin 2 → Nat :=
  let c2_i32_397 : BitVec 32 := 2#32
  let c0_i32_60 : BitVec 32 := 0#32
  let arg1 : BitVec 32 := BitVec.ofNat 32 (i 1).val
  let v101 : BitVec 32 := Scalar.subi arg1 c0_i32_60
  let c1_i32 : BitVec 32 := 1#32
  let v103 : BitVec 32 := Scalar.divsi v101 c1_i32
  let v104 : BitVec 32 := Scalar.muli v103 c1_i32
  let v105 : BitVec 32 := Scalar.addi c0_i32_60 v104
  let c1_i32_62 : BitVec 32 := 1#32
  let arg11 : BitVec 32 := Scf.iv v105 c1_i32_62 k0_t2
  let v657 : BitVec 32 := Scalar.muli c2_i32_397 arg11
  let v658 : BitVec 32 := Scalar.addi v657 c1_i32_398
  let c256_i32_399 : BitVec 32 := 256#32
  let v659 : BitVec 32 := Scalar.muli v658 c256_i32_399
  let v660 : BitVec 32 := v659
  let v687 : Index := Scalar.indexCast v660
  let c128_417 : Index := 128#32
  ![v687.toNat, 128]
def k0_off26 (i : grid0.Coords) (k0_t2 : Fin (k0_t2_loop i).trips) (c1_i32_398 : BitVec 32) : Fin 3 → Nat :=
  let c0_421 : Index := 0#32
  let c2_i32_397 : BitVec 32 := 2#32
  let c0_i32_60 : BitVec 32 := 0#32
  let arg1 : BitVec 32 := BitVec.ofNat 32 (i 1).val
  let v101 : BitVec 32 := Scalar.subi arg1 c0_i32_60
  let c1_i32 : BitVec 32 := 1#32
  let v103 : BitVec 32 := Scalar.divsi v101 c1_i32
  let v104 : BitVec 32 := Scalar.muli v103 c1_i32
  let v105 : BitVec 32 := Scalar.addi c0_i32_60 v104
  let c1_i32_62 : BitVec 32 := 1#32
  let arg11 : BitVec 32 := Scf.iv v105 c1_i32_62 k0_t2
  let v657 : BitVec 32 := Scalar.muli c2_i32_397 arg11
  let v658 : BitVec 32 := Scalar.addi v657 c1_i32_398
  let c256_i32_399 : BitVec 32 := 256#32
  let v659 : BitVec 32 := Scalar.muli v658 c256_i32_399
  let v660 : BitVec 32 := v659
  let v693 : Index := Scalar.indexCast v660
  let c1_422 : Index := 1#32
  ![0, v693.toNat, 1]
def k0_off27 (i : grid0.Coords) : Fin 3 → Nat :=
  let c0_429 : Index := 0#32
  let arg1 : BitVec 32 := BitVec.ofNat 32 (i 1).val
  let c512_i32_428 : BitVec 32 := 512#32
  let v705 : BitVec 32 := Scalar.muli arg1 c512_i32_428
  let v706 : Index := Scalar.indexCast v705
  let c2_430 : Index := 2#32
  ![0, v706.toNat, 2]
def k0_off28 (i : grid0.Coords) (k0_t2 : Fin (k0_t2_loop i).trips) (c1_i32_398 : BitVec 32) : Fin 2 → Nat :=
  let c2_i32_397 : BitVec 32 := 2#32
  let c0_i32_60 : BitVec 32 := 0#32
  let arg1 : BitVec 32 := BitVec.ofNat 32 (i 1).val
  let v101 : BitVec 32 := Scalar.subi arg1 c0_i32_60
  let c1_i32 : BitVec 32 := 1#32
  let v103 : BitVec 32 := Scalar.divsi v101 c1_i32
  let v104 : BitVec 32 := Scalar.muli v103 c1_i32
  let v105 : BitVec 32 := Scalar.addi c0_i32_60 v104
  let c1_i32_62 : BitVec 32 := 1#32
  let arg11 : BitVec 32 := Scf.iv v105 c1_i32_62 k0_t2
  let v657 : BitVec 32 := Scalar.muli c2_i32_397 arg11
  let v658 : BitVec 32 := Scalar.addi v657 c1_i32_398
  let c256_i32_399 : BitVec 32 := 256#32
  let v659 : BitVec 32 := Scalar.muli v658 c256_i32_399
  let v660 : BitVec 32 := v659
  let v709 : Index := Scalar.indexCast v660
  let c256_431 : Index := 256#32
  ![v709.toNat, 256]
def k0_off29 (i : grid0.Coords) (k0_t2 : Fin (k0_t2_loop i).trips) (c1_i32_398 : BitVec 32) : Fin 3 → Nat :=
  let c0_435 : Index := 0#32
  let c2_i32_397 : BitVec 32 := 2#32
  let c0_i32_60 : BitVec 32 := 0#32
  let arg1 : BitVec 32 := BitVec.ofNat 32 (i 1).val
  let v101 : BitVec 32 := Scalar.subi arg1 c0_i32_60
  let c1_i32 : BitVec 32 := 1#32
  let v103 : BitVec 32 := Scalar.divsi v101 c1_i32
  let v104 : BitVec 32 := Scalar.muli v103 c1_i32
  let v105 : BitVec 32 := Scalar.addi c0_i32_60 v104
  let c1_i32_62 : BitVec 32 := 1#32
  let arg11 : BitVec 32 := Scf.iv v105 c1_i32_62 k0_t2
  let v657 : BitVec 32 := Scalar.muli c2_i32_397 arg11
  let v658 : BitVec 32 := Scalar.addi v657 c1_i32_398
  let c256_i32_399 : BitVec 32 := 256#32
  let v659 : BitVec 32 := Scalar.muli v658 c256_i32_399
  let v660 : BitVec 32 := v659
  let v715 : Index := Scalar.indexCast v660
  let c2_436 : Index := 2#32
  ![0, v715.toNat, 2]
def k0_off30 (i : grid0.Coords) : Fin 3 → Nat :=
  let c0_443 : Index := 0#32
  let arg1 : BitVec 32 := BitVec.ofNat 32 (i 1).val
  let c512_i32_442 : BitVec 32 := 512#32
  let v727 : BitVec 32 := Scalar.muli arg1 c512_i32_442
  let v728 : Index := Scalar.indexCast v727
  let c3_444 : Index := 3#32
  ![0, v728.toNat, 3]
def k0_off31 (i : grid0.Coords) (k0_t2 : Fin (k0_t2_loop i).trips) (c1_i32_398 : BitVec 32) : Fin 2 → Nat :=
  let c2_i32_397 : BitVec 32 := 2#32
  let c0_i32_60 : BitVec 32 := 0#32
  let arg1 : BitVec 32 := BitVec.ofNat 32 (i 1).val
  let v101 : BitVec 32 := Scalar.subi arg1 c0_i32_60
  let c1_i32 : BitVec 32 := 1#32
  let v103 : BitVec 32 := Scalar.divsi v101 c1_i32
  let v104 : BitVec 32 := Scalar.muli v103 c1_i32
  let v105 : BitVec 32 := Scalar.addi c0_i32_60 v104
  let c1_i32_62 : BitVec 32 := 1#32
  let arg11 : BitVec 32 := Scf.iv v105 c1_i32_62 k0_t2
  let v657 : BitVec 32 := Scalar.muli c2_i32_397 arg11
  let v658 : BitVec 32 := Scalar.addi v657 c1_i32_398
  let c256_i32_399 : BitVec 32 := 256#32
  let v659 : BitVec 32 := Scalar.muli v658 c256_i32_399
  let v660 : BitVec 32 := v659
  let v731 : Index := Scalar.indexCast v660
  let c384_445 : Index := 384#32
  ![v731.toNat, 384]
def k0_off32 (i : grid0.Coords) (k0_t2 : Fin (k0_t2_loop i).trips) (c1_i32_398 : BitVec 32) : Fin 3 → Nat :=
  let c0_449 : Index := 0#32
  let c2_i32_397 : BitVec 32 := 2#32
  let c0_i32_60 : BitVec 32 := 0#32
  let arg1 : BitVec 32 := BitVec.ofNat 32 (i 1).val
  let v101 : BitVec 32 := Scalar.subi arg1 c0_i32_60
  let c1_i32 : BitVec 32 := 1#32
  let v103 : BitVec 32 := Scalar.divsi v101 c1_i32
  let v104 : BitVec 32 := Scalar.muli v103 c1_i32
  let v105 : BitVec 32 := Scalar.addi c0_i32_60 v104
  let c1_i32_62 : BitVec 32 := 1#32
  let arg11 : BitVec 32 := Scf.iv v105 c1_i32_62 k0_t2
  let v657 : BitVec 32 := Scalar.muli c2_i32_397 arg11
  let v658 : BitVec 32 := Scalar.addi v657 c1_i32_398
  let c256_i32_399 : BitVec 32 := 256#32
  let v659 : BitVec 32 := Scalar.muli v658 c256_i32_399
  let v660 : BitVec 32 := v659
  let v737 : Index := Scalar.indexCast v660
  let c3_450 : Index := 3#32
  ![0, v737.toNat, 3]
def k0_mult7 (i : grid0.Coords) (k0_t2 : Fin (k0_t2_loop i).trips) : BitVec 32 :=
  let c2_i32_397 : BitVec 32 := 2#32
  let c0_i32_60 : BitVec 32 := 0#32
  let arg1 : BitVec 32 := BitVec.ofNat 32 (i 1).val
  let v101 : BitVec 32 := Scalar.subi arg1 c0_i32_60
  let c1_i32 : BitVec 32 := 1#32
  let v103 : BitVec 32 := Scalar.divsi v101 c1_i32
  let v104 : BitVec 32 := Scalar.muli v103 c1_i32
  let v105 : BitVec 32 := Scalar.addi c0_i32_60 v104
  let c1_i32_62 : BitVec 32 := 1#32
  let arg11 : BitVec 32 := Scf.iv v105 c1_i32_62 k0_t2
  let v657 : BitVec 32 := Scalar.muli c2_i32_397 arg11
  let c256_i32_456 : BitVec 32 := 256#32
  let v749 : BitVec 32 := Scalar.muli v657 c256_i32_456
  v749
def k0_off33 (i : grid0.Coords) (k0_t2 : Fin (k0_t2_loop i).trips) : Fin 2 → Nat :=
  let c2_i32_397 : BitVec 32 := 2#32
  let c0_i32_60 : BitVec 32 := 0#32
  let arg1 : BitVec 32 := BitVec.ofNat 32 (i 1).val
  let v101 : BitVec 32 := Scalar.subi arg1 c0_i32_60
  let c1_i32 : BitVec 32 := 1#32
  let v103 : BitVec 32 := Scalar.divsi v101 c1_i32
  let v104 : BitVec 32 := Scalar.muli v103 c1_i32
  let v105 : BitVec 32 := Scalar.addi c0_i32_60 v104
  let c1_i32_62 : BitVec 32 := 1#32
  let arg11 : BitVec 32 := Scf.iv v105 c1_i32_62 k0_t2
  let v657 : BitVec 32 := Scalar.muli c2_i32_397 arg11
  let c256_i32_456 : BitVec 32 := 256#32
  let v749 : BitVec 32 := Scalar.muli v657 c256_i32_456
  let v750 : BitVec 32 := v749
  let v766 : Index := Scalar.indexCast v750
  let c0_468 : Index := 0#32
  ![v766.toNat, 0]
def k0_off34 (i : grid0.Coords) (k0_t2 : Fin (k0_t2_loop i).trips) : Fin 2 → Nat :=
  let c2_i32_397 : BitVec 32 := 2#32
  let c0_i32_60 : BitVec 32 := 0#32
  let arg1 : BitVec 32 := BitVec.ofNat 32 (i 1).val
  let v101 : BitVec 32 := Scalar.subi arg1 c0_i32_60
  let c1_i32 : BitVec 32 := 1#32
  let v103 : BitVec 32 := Scalar.divsi v101 c1_i32
  let v104 : BitVec 32 := Scalar.muli v103 c1_i32
  let v105 : BitVec 32 := Scalar.addi c0_i32_60 v104
  let c1_i32_62 : BitVec 32 := 1#32
  let arg11 : BitVec 32 := Scf.iv v105 c1_i32_62 k0_t2
  let v657 : BitVec 32 := Scalar.muli c2_i32_397 arg11
  let c256_i32_456 : BitVec 32 := 256#32
  let v749 : BitVec 32 := Scalar.muli v657 c256_i32_456
  let v750 : BitVec 32 := v749
  let v806 : Index := Scalar.indexCast v750
  let c128_494 : Index := 128#32
  ![v806.toNat, 128]
def k0_off35 (i : grid0.Coords) (k0_t2 : Fin (k0_t2_loop i).trips) : Fin 2 → Nat :=
  let c2_i32_397 : BitVec 32 := 2#32
  let c0_i32_60 : BitVec 32 := 0#32
  let arg1 : BitVec 32 := BitVec.ofNat 32 (i 1).val
  let v101 : BitVec 32 := Scalar.subi arg1 c0_i32_60
  let c1_i32 : BitVec 32 := 1#32
  let v103 : BitVec 32 := Scalar.divsi v101 c1_i32
  let v104 : BitVec 32 := Scalar.muli v103 c1_i32
  let v105 : BitVec 32 := Scalar.addi c0_i32_60 v104
  let c1_i32_62 : BitVec 32 := 1#32
  let arg11 : BitVec 32 := Scf.iv v105 c1_i32_62 k0_t2
  let v657 : BitVec 32 := Scalar.muli c2_i32_397 arg11
  let c256_i32_456 : BitVec 32 := 256#32
  let v749 : BitVec 32 := Scalar.muli v657 c256_i32_456
  let v750 : BitVec 32 := v749
  let v846 : Index := Scalar.indexCast v750
  let c256_520 : Index := 256#32
  ![v846.toNat, 256]
def k0_off36 (i : grid0.Coords) (k0_t2 : Fin (k0_t2_loop i).trips) : Fin 2 → Nat :=
  let c2_i32_397 : BitVec 32 := 2#32
  let c0_i32_60 : BitVec 32 := 0#32
  let arg1 : BitVec 32 := BitVec.ofNat 32 (i 1).val
  let v101 : BitVec 32 := Scalar.subi arg1 c0_i32_60
  let c1_i32 : BitVec 32 := 1#32
  let v103 : BitVec 32 := Scalar.divsi v101 c1_i32
  let v104 : BitVec 32 := Scalar.muli v103 c1_i32
  let v105 : BitVec 32 := Scalar.addi c0_i32_60 v104
  let c1_i32_62 : BitVec 32 := 1#32
  let arg11 : BitVec 32 := Scf.iv v105 c1_i32_62 k0_t2
  let v657 : BitVec 32 := Scalar.muli c2_i32_397 arg11
  let c256_i32_456 : BitVec 32 := 256#32
  let v749 : BitVec 32 := Scalar.muli v657 c256_i32_456
  let v750 : BitVec 32 := v749
  let v886 : Index := Scalar.indexCast v750
  let c384_546 : Index := 384#32
  ![v886.toNat, 384]
def k0_mult8 (i : grid0.Coords) (k0_t2 : Fin (k0_t2_loop i).trips) : BitVec 32 :=
  let c2_i32_397 : BitVec 32 := 2#32
  let c0_i32_60 : BitVec 32 := 0#32
  let arg1 : BitVec 32 := BitVec.ofNat 32 (i 1).val
  let v101 : BitVec 32 := Scalar.subi arg1 c0_i32_60
  let c1_i32 : BitVec 32 := 1#32
  let v103 : BitVec 32 := Scalar.divsi v101 c1_i32
  let v104 : BitVec 32 := Scalar.muli v103 c1_i32
  let v105 : BitVec 32 := Scalar.addi c0_i32_60 v104
  let c1_i32_62 : BitVec 32 := 1#32
  let arg11 : BitVec 32 := Scf.iv v105 c1_i32_62 k0_t2
  let v657 : BitVec 32 := Scalar.muli c2_i32_397 arg11
  let c2_i32_561 : BitVec 32 := 2#32
  let v911 : BitVec 32 := Scalar.addi v657 c2_i32_561
  let c256_i32_562 : BitVec 32 := 256#32
  let v912 : BitVec 32 := Scalar.muli v911 c256_i32_562
  v912
def k0_mult9 (i : grid0.Coords) (k0_t2 : Fin (k0_t2_loop i).trips) : BitVec 32 :=
  let c2_i32_397 : BitVec 32 := 2#32
  let c0_i32_60 : BitVec 32 := 0#32
  let arg1 : BitVec 32 := BitVec.ofNat 32 (i 1).val
  let v101 : BitVec 32 := Scalar.subi arg1 c0_i32_60
  let c1_i32 : BitVec 32 := 1#32
  let v103 : BitVec 32 := Scalar.divsi v101 c1_i32
  let v104 : BitVec 32 := Scalar.muli v103 c1_i32
  let v105 : BitVec 32 := Scalar.addi c0_i32_60 v104
  let c1_i32_62 : BitVec 32 := 1#32
  let arg11 : BitVec 32 := Scf.iv v105 c1_i32_62 k0_t2
  let v657 : BitVec 32 := Scalar.muli c2_i32_397 arg11
  let c1_i32_619 : BitVec 32 := 1#32
  let v1002 : BitVec 32 := Scalar.addi v657 c1_i32_619
  let c256_i32_620 : BitVec 32 := 256#32
  let v1003 : BitVec 32 := Scalar.muli v1002 c256_i32_620
  v1003
def k0_mult10 (i : grid0.Coords) : BitVec 32 :=
  let c2_i32 : BitVec 32 := 2#32
  let arg1 : BitVec 32 := BitVec.ofNat 32 (i 1).val
  let v106 : BitVec 32 := Scalar.muli c2_i32 arg1
  let c1_i32_63 : BitVec 32 := 1#32
  let v107 : BitVec 32 := Scalar.addi v106 c1_i32_63
  let c256_i32 : BitVec 32 := 256#32
  let v108 : BitVec 32 := Scalar.muli v107 c256_i32
  v108
def k0_off37 (i : grid0.Coords) : Fin 2 → Nat :=
  let c2_i32 : BitVec 32 := 2#32
  let arg1 : BitVec 32 := BitVec.ofNat 32 (i 1).val
  let v106 : BitVec 32 := Scalar.muli c2_i32 arg1
  let c1_i32_63 : BitVec 32 := 1#32
  let v107 : BitVec 32 := Scalar.addi v106 c1_i32_63
  let c256_i32 : BitVec 32 := 256#32
  let v108 : BitVec 32 := Scalar.muli v107 c256_i32
  let v109 : BitVec 32 := v108
  let v114 : Index := Scalar.indexCast v109
  let c0_67 : Index := 0#32
  ![v114.toNat, 0]
def k0_off38 (i : grid0.Coords) : Fin 3 → Nat :=
  let c0_71 : Index := 0#32
  let c2_i32 : BitVec 32 := 2#32
  let arg1 : BitVec 32 := BitVec.ofNat 32 (i 1).val
  let v106 : BitVec 32 := Scalar.muli c2_i32 arg1
  let c1_i32_63 : BitVec 32 := 1#32
  let v107 : BitVec 32 := Scalar.addi v106 c1_i32_63
  let c256_i32 : BitVec 32 := 256#32
  let v108 : BitVec 32 := Scalar.muli v107 c256_i32
  let v109 : BitVec 32 := v108
  let v120 : Index := Scalar.indexCast v109
  let c0_72 : Index := 0#32
  ![0, v120.toNat, 0]
def k0_off39 (i : grid0.Coords) : Fin 2 → Nat :=
  let c2_i32 : BitVec 32 := 2#32
  let arg1 : BitVec 32 := BitVec.ofNat 32 (i 1).val
  let v106 : BitVec 32 := Scalar.muli c2_i32 arg1
  let c1_i32_63 : BitVec 32 := 1#32
  let v107 : BitVec 32 := Scalar.addi v106 c1_i32_63
  let c256_i32 : BitVec 32 := 256#32
  let v108 : BitVec 32 := Scalar.muli v107 c256_i32
  let v109 : BitVec 32 := v108
  let v136 : Index := Scalar.indexCast v109
  let c128_81 : Index := 128#32
  ![v136.toNat, 128]
def k0_off40 (i : grid0.Coords) : Fin 3 → Nat :=
  let c0_85 : Index := 0#32
  let c2_i32 : BitVec 32 := 2#32
  let arg1 : BitVec 32 := BitVec.ofNat 32 (i 1).val
  let v106 : BitVec 32 := Scalar.muli c2_i32 arg1
  let c1_i32_63 : BitVec 32 := 1#32
  let v107 : BitVec 32 := Scalar.addi v106 c1_i32_63
  let c256_i32 : BitVec 32 := 256#32
  let v108 : BitVec 32 := Scalar.muli v107 c256_i32
  let v109 : BitVec 32 := v108
  let v142 : Index := Scalar.indexCast v109
  let c1_86 : Index := 1#32
  ![0, v142.toNat, 1]
def k0_off41 (i : grid0.Coords) : Fin 2 → Nat :=
  let c2_i32 : BitVec 32 := 2#32
  let arg1 : BitVec 32 := BitVec.ofNat 32 (i 1).val
  let v106 : BitVec 32 := Scalar.muli c2_i32 arg1
  let c1_i32_63 : BitVec 32 := 1#32
  let v107 : BitVec 32 := Scalar.addi v106 c1_i32_63
  let c256_i32 : BitVec 32 := 256#32
  let v108 : BitVec 32 := Scalar.muli v107 c256_i32
  let v109 : BitVec 32 := v108
  let v158 : Index := Scalar.indexCast v109
  let c256_95 : Index := 256#32
  ![v158.toNat, 256]
def k0_off42 (i : grid0.Coords) : Fin 3 → Nat :=
  let c0_99 : Index := 0#32
  let c2_i32 : BitVec 32 := 2#32
  let arg1 : BitVec 32 := BitVec.ofNat 32 (i 1).val
  let v106 : BitVec 32 := Scalar.muli c2_i32 arg1
  let c1_i32_63 : BitVec 32 := 1#32
  let v107 : BitVec 32 := Scalar.addi v106 c1_i32_63
  let c256_i32 : BitVec 32 := 256#32
  let v108 : BitVec 32 := Scalar.muli v107 c256_i32
  let v109 : BitVec 32 := v108
  let v164 : Index := Scalar.indexCast v109
  let c2_100 : Index := 2#32
  ![0, v164.toNat, 2]
def k0_off43 (i : grid0.Coords) : Fin 2 → Nat :=
  let c2_i32 : BitVec 32 := 2#32
  let arg1 : BitVec 32 := BitVec.ofNat 32 (i 1).val
  let v106 : BitVec 32 := Scalar.muli c2_i32 arg1
  let c1_i32_63 : BitVec 32 := 1#32
  let v107 : BitVec 32 := Scalar.addi v106 c1_i32_63
  let c256_i32 : BitVec 32 := 256#32
  let v108 : BitVec 32 := Scalar.muli v107 c256_i32
  let v109 : BitVec 32 := v108
  let v180 : Index := Scalar.indexCast v109
  let c384_109 : Index := 384#32
  ![v180.toNat, 384]
def k0_off44 (i : grid0.Coords) : Fin 3 → Nat :=
  let c0_113 : Index := 0#32
  let c2_i32 : BitVec 32 := 2#32
  let arg1 : BitVec 32 := BitVec.ofNat 32 (i 1).val
  let v106 : BitVec 32 := Scalar.muli c2_i32 arg1
  let c1_i32_63 : BitVec 32 := 1#32
  let v107 : BitVec 32 := Scalar.addi v106 c1_i32_63
  let c256_i32 : BitVec 32 := 256#32
  let v108 : BitVec 32 := Scalar.muli v107 c256_i32
  let v109 : BitVec 32 := v108
  let v186 : Index := Scalar.indexCast v109
  let c3_114 : Index := 3#32
  ![0, v186.toNat, 3]
def k0_mult11 (i : grid0.Coords) : BitVec 32 :=
  let c2_i32_120 : BitVec 32 := 2#32
  let arg1 : BitVec 32 := BitVec.ofNat 32 (i 1).val
  let v198 : BitVec 32 := Scalar.muli c2_i32_120 arg1
  let c256_i32_121 : BitVec 32 := 256#32
  let v199 : BitVec 32 := Scalar.muli v198 c256_i32_121
  v199
def k0_off45 (i : grid0.Coords) : Fin 2 → Nat :=
  let c2_i32_120 : BitVec 32 := 2#32
  let arg1 : BitVec 32 := BitVec.ofNat 32 (i 1).val
  let v198 : BitVec 32 := Scalar.muli c2_i32_120 arg1
  let c256_i32_121 : BitVec 32 := 256#32
  let v199 : BitVec 32 := Scalar.muli v198 c256_i32_121
  let v200 : BitVec 32 := v199
  let v228 : Index := Scalar.indexCast v200
  let c0_137 : Index := 0#32
  ![v228.toNat, 0]
def k0_off46 (i : grid0.Coords) : Fin 2 → Nat :=
  let c2_i32_120 : BitVec 32 := 2#32
  let arg1 : BitVec 32 := BitVec.ofNat 32 (i 1).val
  let v198 : BitVec 32 := Scalar.muli c2_i32_120 arg1
  let c256_i32_121 : BitVec 32 := 256#32
  let v199 : BitVec 32 := Scalar.muli v198 c256_i32_121
  let v200 : BitVec 32 := v199
  let v280 : Index := Scalar.indexCast v200
  let c128_167 : Index := 128#32
  ![v280.toNat, 128]
def k0_off47 (i : grid0.Coords) : Fin 2 → Nat :=
  let c2_i32_120 : BitVec 32 := 2#32
  let arg1 : BitVec 32 := BitVec.ofNat 32 (i 1).val
  let v198 : BitVec 32 := Scalar.muli c2_i32_120 arg1
  let c256_i32_121 : BitVec 32 := 256#32
  let v199 : BitVec 32 := Scalar.muli v198 c256_i32_121
  let v200 : BitVec 32 := v199
  let v332 : Index := Scalar.indexCast v200
  let c256_197 : Index := 256#32
  ![v332.toNat, 256]
def k0_off48 (i : grid0.Coords) : Fin 2 → Nat :=
  let c2_i32_120 : BitVec 32 := 2#32
  let arg1 : BitVec 32 := BitVec.ofNat 32 (i 1).val
  let v198 : BitVec 32 := Scalar.muli c2_i32_120 arg1
  let c256_i32_121 : BitVec 32 := 256#32
  let v199 : BitVec 32 := Scalar.muli v198 c256_i32_121
  let v200 : BitVec 32 := v199
  let v384 : Index := Scalar.indexCast v200
  let c384_227 : Index := 384#32
  ![v384.toNat, 384]
def k0_mult12 (i : grid0.Coords) : BitVec 32 :=
  let c2_i32_242 : BitVec 32 := 2#32
  let arg1 : BitVec 32 := BitVec.ofNat 32 (i 1).val
  let v409 : BitVec 32 := Scalar.muli c2_i32_242 arg1
  let c1_i32_243 : BitVec 32 := 1#32
  let v410 : BitVec 32 := Scalar.addi v409 c1_i32_243
  let c256_i32_244 : BitVec 32 := 256#32
  let v411 : BitVec 32 := Scalar.muli v410 c256_i32_244
  v411
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8192x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "log2_e" => some (((Real.log 2)⁻¹ : ℝ) : EReal)
  | "masked" => some ⊥
  | _ => none
-- ==== ReferenceIdeal.lean ====
abbrev S8192x2048 : Shape := ⟨2, ![8192, 2048]⟩
abbrev S8192x16 : Shape := ⟨2, ![8192, 16]⟩
abbrev S8192x16x128 : Shape := ⟨3, ![8192, 16, 128]⟩
abbrev S16x8192x128 : Shape := ⟨3, ![16, 8192, 128]⟩
abbrev S16x8192 : Shape := ⟨2, ![16, 8192]⟩
abbrev S16x8192x8192 : Shape := ⟨3, ![16, 8192, 8192]⟩
abbrev S_ : Shape := ⟨0, ![]⟩
abbrev S16x8192x1 : Shape := ⟨3, ![16, 8192, 1]⟩
abbrev S16x1x8192 : Shape := ⟨3, ![16, 1, 8192]⟩
abbrev S8192 : Shape := ⟨1, ![8192]⟩
abbrev S1x1x8192 : Shape := ⟨3, ![1, 1, 8192]⟩
abbrev S1x8192x1 : Shape := ⟨3, ![1, 8192, 1]⟩
abbrev S1x8192x8192 : Shape := ⟨3, ![1, 8192, 8192]⟩

abbrev nBuf : Space → Nat
  | .hbm => 51
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x16, .f32⟩
  | .hbm, ⟨4, _⟩ => ⟨S8192x16x128, .f32⟩
  | .hbm, ⟨5, _⟩ => ⟨S16x8192x128, .f32⟩
  | .hbm, ⟨6, _⟩ => ⟨S8192x16x128, .f32⟩
  | .hbm, ⟨7, _⟩ => ⟨S16x8192x128, .f32⟩
  | .hbm, ⟨8, _⟩ => ⟨S8192x16x128, .f32⟩
  | .hbm, ⟨9, _⟩ => ⟨S16x8192x128, .f32⟩
  | .hbm, ⟨10, _⟩ => ⟨S16x8192, .f32⟩
  | .hbm, ⟨11, _⟩ => ⟨S16x8192x8192, .f32⟩
  | .hbm, ⟨12, _⟩ => ⟨S_, .f32⟩
  | .hbm, ⟨13, _⟩ => ⟨S_, .f32⟩
  | .hbm, ⟨14, _⟩ => ⟨S16x8192x8192, .f32⟩
  | .hbm, ⟨15, _⟩ => ⟨S16x8192x8192, .f32⟩
  | .hbm, ⟨16, _⟩ => ⟨S16x8192x1, .f32⟩
  | .hbm, ⟨17, _⟩ => ⟨S16x8192x8192, .f32⟩
  | .hbm, ⟨18, _⟩ => ⟨S16x8192x8192, .f32⟩
  | .hbm, ⟨19, _⟩ => ⟨S16x1x8192, .f32⟩
  | .hbm, ⟨20, _⟩ => ⟨S16x8192x8192, .f32⟩
  | .hbm, ⟨21, _⟩ => ⟨S16x8192x8192, .f32⟩
  | .hbm, ⟨22, _⟩ => ⟨S8192, .i32⟩
  | .hbm, ⟨23, _⟩ => ⟨S1x1x8192, .i32⟩
  | .hbm, ⟨24, _⟩ => ⟨S1x8192x1, .i32⟩
  | .hbm, ⟨25, _⟩ => ⟨S1x8192x8192, .i32⟩
  | .hbm, ⟨26, _⟩ => ⟨S1x8192x8192, .i32⟩
  | .hbm, ⟨27, _⟩ => ⟨S1x8192x8192, .i1⟩
  | .hbm, ⟨28, _⟩ => ⟨S_, .f32⟩
  | .hbm, ⟨29, _⟩ => ⟨S_, .f32⟩
  | .hbm, ⟨30, _⟩ => ⟨S16x8192x8192, .i1⟩
  | .hbm, ⟨31, _⟩ => ⟨S16x8192x8192, .f32⟩
  | .hbm, ⟨32, _⟩ => ⟨S16x8192x8192, .f32⟩
  | .hbm, ⟨33, _⟩ => ⟨S_, .f32⟩
  | .hbm, ⟨34, _⟩ => ⟨S16x8192, .f32⟩
  | .hbm, ⟨35, _⟩ => ⟨S_, .f32⟩
  | .hbm, ⟨36, _⟩ => ⟨S16x8192, .f32⟩
  | .hbm, ⟨37, _⟩ => ⟨S16x8192, .f32⟩
  | .hbm, ⟨38, _⟩ => ⟨S16x8192x1, .f32⟩
  | .hbm, ⟨39, _⟩ => ⟨S16x8192x8192, .f32⟩
  | .hbm, ⟨40, _⟩ => ⟨S16x8192x8192, .f32⟩
  | .hbm, ⟨41, _⟩ => ⟨S16x8192x8192, .f32⟩
  | .hbm, ⟨42, _⟩ => ⟨S_, .f32⟩
  | .hbm, ⟨43, _⟩ => ⟨S16x8192, .f32⟩
  | .hbm, ⟨44, _⟩ => ⟨S16x8192x1, .f32⟩
  | .hbm, ⟨45, _⟩ => ⟨S16x8192x8192, .f32⟩
  | .hbm, ⟨46, _⟩ => ⟨S16x8192x8192, .f32⟩
  | .hbm, ⟨47, _⟩ => ⟨S16x8192x128, .f32⟩
  | .hbm, ⟨48, _⟩ => ⟨S8192x16x128, .f32⟩
  | .hbm, ⟨49, _⟩ => ⟨S8192x2048, .f32⟩
  | .hbm, ⟨50, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== Kernel2.lean ====
abbrev S8192x2048 : Shape := ⟨2, ![8192, 2048]⟩
abbrev S4x2048 : Shape := ⟨2, ![4, 2048]⟩
abbrev S2048x5632 : Shape := ⟨2, ![2048, 5632]⟩
abbrev S5632x2048 : Shape := ⟨2, ![5632, 2048]⟩
abbrev S4x1x2048 : Shape := ⟨3, ![4, 1, 2048]⟩
abbrev S1024x2048 : Shape := ⟨2, ![1024, 2048]⟩
abbrev S1x1x2048 : Shape := ⟨3, ![1, 1, 2048]⟩
abbrev S2048x512 : Shape := ⟨2, ![2048, 512]⟩
abbrev S512x2048 : Shape := ⟨2, ![512, 2048]⟩
abbrev S1x2048 : Shape := ⟨2, ![1, 2048]⟩
abbrev S1024 : Shape := ⟨1, ![1024]⟩
abbrev S1024x1 : Shape := ⟨2, ![1024, 1]⟩
abbrev S1024x512 : Shape := ⟨2, ![1024, 512]⟩

abbrev nBuf : Space → Nat
  | .hbm => 10
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048x5632, .bf16⟩
  | .hbm, ⟨6, _⟩ => ⟨S2048x5632, .bf16⟩
  | .hbm, ⟨7, _⟩ => ⟨S5632x2048, .bf16⟩
  | .hbm, ⟨8, _⟩ => ⟨S4x1x2048, .f32⟩
  | .hbm, ⟨9, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1024x2048, .f32⟩
  | .local _ .vmem, ⟨10, _⟩ => ⟨S1024x2048, .f32⟩
  | .local _ .vmem, ⟨11, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S8192x2048 : Shape := ⟨2, ![8192, 2048]⟩
abbrev S4x2048 : Shape := ⟨2, ![4, 2048]⟩
abbrev S2048x5632 : Shape := ⟨2, ![2048, 5632]⟩
abbrev S5632x2048 : Shape := ⟨2, ![5632, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S2048 : Shape := ⟨1, ![2048]⟩
abbrev S8192x5632 : Shape := ⟨2, ![8192, 5632]⟩

abbrev nBuf : Space → Nat
  | .hbm => 40
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S8192x5632, .f32⟩
  | .hbm, ⟨24, _⟩ => ⟨S8192x5632, .f32⟩
  | .hbm, ⟨25, _⟩ => ⟨S8192x5632, .f32⟩
  | .hbm, ⟨26, _⟩ => ⟨S_, .f32⟩
  | .hbm, ⟨27, _⟩ => ⟨S8192x5632, .f32⟩
  | .hbm, ⟨28, _⟩ => ⟨S8192x5632, .f32⟩
  | .hbm, ⟨29, _⟩ => ⟨S_, .f32⟩
  | .hbm, ⟨30, _⟩ => ⟨S8192x5632, .f32⟩
  | .hbm, ⟨31, _⟩ => ⟨S8192x5632, .f32⟩
  | .hbm, ⟨32, _⟩ => ⟨S8192x5632, .f32⟩
  | .hbm, ⟨33, _⟩ => ⟨S8192x5632, .f32⟩
  | .hbm, ⟨34, _⟩ => ⟨S8192x5632, .f32⟩
  | .hbm, ⟨35, _⟩ => ⟨S8192x2048, .f32⟩
  | .hbm, ⟨36, _⟩ => ⟨S_, .f32⟩
  | .hbm, ⟨37, _⟩ => ⟨S8192x2048, .f32⟩
  | .hbm, ⟨38, _⟩ => ⟨S8192x2048, .f32⟩
  | .hbm, ⟨39, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩

abbrev nD : Nat := 1
abbrev τ : Topo := Topo.v7x

variable {F : FTy → Type} [FloatOps F]
-- ==== Kernel3.lean ====
abbrev S8192x2048 : Shape := ⟨2, ![8192, 2048]⟩
abbrev S2048x2048 : Shape := ⟨2, ![2048, 2048]⟩
abbrev S512x2048 : Shape := ⟨2, ![512, 2048]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048x2048, .f32⟩
  | .hbm, ⟨3, _⟩ => ⟨S8192x2048, .bf16⟩
  | .hbm, ⟨4, _⟩ => ⟨S2048x2048, .bf16⟩
  | .hbm, ⟨5, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S2048x2048, .bf16⟩
  | .local _ .vmem, ⟨5, _⟩ => ⟨S512x2048, .f32⟩
  | .local _ .vmem, ⟨6, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S8192x2048 : Shape := ⟨2, ![8192, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048x2048, .f32⟩
  | .hbm, ⟨3, _⟩ => ⟨S8192x2048, .f32⟩
  | .hbm, ⟨4, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel4.lean ====
abbrev S8192x2048 : Shape := ⟨2, ![8192, 2048]⟩
abbrev S4x2048 : Shape := ⟨2, ![4, 2048]⟩
abbrev S2048x6144 : Shape := ⟨2, ![2048, 6144]⟩
abbrev S_ : Shape := ⟨0, ![]⟩
abbrev S1x128 : Shape := ⟨2, ![1, 128]⟩
abbrev S4x1x2048 : Shape := ⟨3, ![4, 1, 2048]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S8192x6144 : Shape := ⟨2, ![8192, 6144]⟩
abbrev S1024x2048 : Shape := ⟨2, ![1024, 2048]⟩
abbrev S1x1x2048 : Shape := ⟨3, ![1, 1, 2048]⟩
abbrev S2048x2048 : Shape := ⟨2, ![2048, 2048]⟩
abbrev S1x2048 : Shape := ⟨2, ![1, 2048]⟩
abbrev S1024 : Shape := ⟨1, ![1024]⟩
abbrev S1024x1 : Shape := ⟨2, ![1024, 1]⟩
abbrev S256x2048 : Shape := ⟨2, ![256, 2048]⟩

abbrev nBuf : Space → Nat
  | .hbm => 60
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S2048x6144, .f32⟩
  | .hbm, ⟨3, _⟩ => ⟨S_, .f32⟩
  | .hbm, ⟨4, _⟩ => ⟨S1x128, .f32⟩
  | .hbm, ⟨5, _⟩ => ⟨S4x1x2048, .f32⟩
  | .hbm, ⟨6, _⟩ => ⟨S2048x6144, .bf16⟩
  | .hbm, ⟨7, _⟩ => ⟨S256, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i32⟩
  | .hbm, ⟨14, _⟩ => ⟨S256, .i32⟩
  | .hbm, ⟨15, _⟩ => ⟨S256, .i32⟩
  | .hbm, ⟨16, _⟩ => ⟨S_, .i32⟩
  | .hbm, ⟨17, _⟩ => ⟨S256, .i32⟩
  | .hbm, ⟨18, _⟩ => ⟨S256, .i1⟩
  | .hbm, ⟨19, _⟩ => ⟨S_, .i32⟩
  | .hbm, ⟨20, _⟩ => ⟨S256, .i32⟩
  | .hbm, ⟨21, _⟩ => ⟨S256, .i1⟩
  | .hbm, ⟨22, _⟩ => ⟨S_, .i32⟩
  | .hbm, ⟨23, _⟩ => ⟨S_, .i1⟩
  | .hbm, ⟨24, _⟩ => ⟨S256, .i1⟩
  | .hbm, ⟨25, _⟩ => ⟨S256, .i1⟩
  | .hbm, ⟨26, _⟩ => ⟨S256, .i1⟩
  | .hbm, ⟨27, _⟩ => ⟨S256, .i32⟩
  | .hbm, ⟨28, _⟩ => ⟨S256, .i32⟩
  | .hbm, ⟨29, _⟩ => ⟨S256, .i32⟩
  | .hbm, ⟨30, _⟩ => ⟨S_, .i32⟩
  | .hbm, ⟨31, _⟩ => ⟨S256, .i32⟩
  | .hbm, ⟨32, _⟩ => ⟨S256, .i32⟩
  | .hbm, ⟨33, _⟩ => ⟨S_, .i32⟩
  | .hbm, ⟨34, _⟩ => ⟨S_, .i32⟩
  | .hbm, ⟨35, _⟩ => ⟨S256, .i32⟩
  | .hbm, ⟨36, _⟩ => ⟨S256, .i32⟩
  | .hbm, ⟨37, _⟩ => ⟨S256, .i32⟩
  | .hbm, ⟨38, _⟩ => ⟨S_, .i32⟩
  | .hbm, ⟨39, _⟩ => ⟨S256, .i32⟩
  | .hbm, ⟨40, _⟩ => ⟨S256, .i1⟩
  | .hbm, ⟨41, _⟩ => ⟨S256, .i32⟩
  | .hbm, ⟨42, _⟩ => ⟨S256, .i32⟩
  | .hbm, ⟨43, _⟩ => ⟨S_, .i32⟩
  | .hbm, ⟨44, _⟩ => ⟨S256, .i32⟩
  | .hbm, ⟨45, _⟩ => ⟨S256, .i1⟩
  | .hbm, ⟨46, _⟩ => ⟨S256, .i1⟩
  | .hbm, ⟨47, _⟩ => ⟨S_, .i32⟩
  | .hbm, ⟨48, _⟩ => ⟨S256, .i32⟩
  | .hbm, ⟨49, _⟩ => ⟨S256, .i32⟩
  | .hbm, ⟨50, _⟩ => ⟨S256, .i32⟩
  | .hbm, ⟨51, _⟩ => ⟨S256, .i32⟩
  | .hbm, ⟨52, _⟩ => ⟨S256x1, .i32⟩
  | .hbm, ⟨53, _⟩ => ⟨S256, .i32⟩
  | .hbm, ⟨54, _⟩ => ⟨S1x256, .i32⟩
  | .hbm, ⟨55, _⟩ => ⟨S256x256, .i32⟩
  | .hbm, ⟨56, _⟩ => ⟨S256x256, .i32⟩
  | .hbm, ⟨57, _⟩ => ⟨S256x256, .i1⟩
  | .hbm, ⟨58, _⟩ => ⟨S256x256, .bf16⟩
  | .hbm, ⟨59, _⟩ => ⟨S8192x6144, .bf16⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S2048x2048, .bf16⟩
  | .local _ .vmem, ⟨4, _⟩ => ⟨S2048x2048, .bf16⟩
  | .local _ .vmem, ⟨5, _⟩ => ⟨S1x128, .f32⟩
  | .local _ .vmem, ⟨6, _⟩ => ⟨S1x128, .f32⟩
  | .local _ .vmem, ⟨7, _⟩ => ⟨S256x256, .bf16⟩
  | .local _ .vmem, ⟨8, _⟩ => ⟨S1024x2048, .bf16⟩
  | .local _ .vmem, ⟨9, _⟩ => ⟨S1024x2048, .bf16⟩
  | .local _ .vmem, ⟨10, _⟩ => ⟨S1024x2048, .bf16⟩
  | .local _ .vmem, ⟨11, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_1 : Ref sig .tc := ⟨.hbm, 16, rfl⟩
abbrev main_call0_v5 : Ref sig .tc := ⟨.hbm, 17, rfl⟩
abbrev main_call0_v6 : Ref sig .tc := ⟨.hbm, 18, rfl⟩
abbrev main_call0_c_2 : Ref sig .tc := ⟨.hbm, 19, rfl⟩
abbrev main_call0_v7 : Ref sig .tc := ⟨.hbm, 20, rfl⟩
abbrev main_call0_v8 : Ref sig .tc := ⟨.hbm, 21, rfl⟩
abbrev main_call0_c_3 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_v4 : Ref sig .tc := ⟨.hbm, 29, rfl⟩
abbrev main_c_0 : Ref sig .tc := ⟨.hbm, 30, rfl⟩
abbrev main_v5 : Ref sig .tc := ⟨.hbm, 31, rfl⟩
abbrev main_v6 : Ref sig .tc := ⟨.hbm, 32, rfl⟩
abbrev main_c_1 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v7 : Ref sig .tc := ⟨.hbm, 50, rfl⟩
abbrev main_v8 : Ref sig .tc := ⟨.hbm, 51, rfl⟩
abbrev main_v9 : Ref sig .tc := ⟨.hbm, 52, rfl⟩
abbrev main_v10 : Ref sig .tc := ⟨.hbm, 53, rfl⟩
abbrev main_v11 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![8, 3], ![false, false]⟩

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg1 : BitVec 32 := BitVec.ofNat 32 (i 1).val
  let c1_i32 : BitVec 32 := 1#32
  let v6 : BitVec 1 := Scalar.cmpi .eq arg1 c1_i32
  let v7 : BitVec 32 := Scalar.extui v6
  let c0_i32_3 : BitVec 32 := 0#32
  let v8 : BitVec 1 := Scalar.cmpi .ne v7 c0_i32_3
  v8

def k0_cond4 (i : grid0.Coords) : BitVec 1 :=
  let arg1 : BitVec 32 := BitVec.ofNat 32 (i 1).val
  let c2_i32 : BitVec 32 := 2#32
  let v9 : BitVec 1 := Scalar.cmpi .eq arg1 c2_i32
  let v10 : BitVec 32 := Scalar.extui v9
  let c0_i32_4 : BitVec 32 := 0#32
  let v11 : BitVec 1 := Scalar.cmpi .ne v10 c0_i32_4
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference4Ideal.lean ====
abbrev S8192x2048 : Shape := ⟨2, ![8192, 2048]⟩
abbrev S4x2048 : Shape := ⟨2, ![4, 2048]⟩
abbrev S2048x6144 : Shape := ⟨2, ![2048, 6144]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S2048 : Shape := ⟨1, ![2048]⟩
abbrev S8192x6144 : Shape := ⟨2, ![8192, 6144]⟩
abbrev S8192x4096 : Shape := ⟨2, ![8192, 4096]⟩
abbrev S32x8x32x4096 : Shape := ⟨4, ![32, 8, 32, 4096]⟩
abbrev S32x32x8x4096 : Shape := ⟨4, ![32, 32, 8, 4096]⟩

abbrev nBuf : Space → Nat
  | .hbm => 29
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S2048x6144, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S8192x6144, .f32⟩
  | .hbm, ⟨22, _⟩ => ⟨S8192x6144, .bf16⟩
  | .hbm, ⟨23, _⟩ => ⟨S8192x4096, .bf16⟩
  | .hbm, ⟨24, _⟩ => ⟨S32x8x32x4096, .bf16⟩
  | .hbm, ⟨25, _⟩ => ⟨S32x32x8x4096, .bf16⟩
  | .hbm, ⟨26, _⟩ => ⟨S8192x4096, .bf16⟩
  | .hbm, ⟨27, _⟩ => ⟨S8192x2048, .bf16⟩
  | .hbm, ⟨28, _⟩ => ⟨S8192x6144, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== Kernel5.lean ====
abbrev S8192x2048 : Shape := ⟨2, ![8192, 2048]⟩
abbrev S4x2048 : Shape := ⟨2, ![4, 2048]⟩
abbrev S2048x6144 : Shape := ⟨2, ![2048, 6144]⟩
abbrev S4x1x2048 : Shape := ⟨3, ![4, 1, 2048]⟩
abbrev S1024x2048 : Shape := ⟨2, ![1024, 2048]⟩
abbrev S1x1x2048 : Shape := ⟨3, ![1, 1, 2048]⟩
abbrev S2048x512 : Shape := ⟨2, ![2048, 512]⟩
abbrev S1024x512 : Shape := ⟨2, ![1024, 512]⟩
abbrev S1x2048 : Shape := ⟨2, ![1, 2048]⟩
abbrev S1024 : Shape := ⟨1, ![1024]⟩
abbrev S1024x1 : Shape := ⟨2, ![1024, 1]⟩

abbrev nBuf : Space → Nat
  | .hbm => 7
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S2048x6144, .f32⟩
  | .hbm, ⟨3, _⟩ => ⟨S4x1x2048, .f32⟩
  | .hbm, ⟨4, _⟩ => ⟨S2048x6144, .bf16⟩
  | .hbm, ⟨5, _⟩ => ⟨S8192x2048, .bf16⟩
  | .hbm, ⟨6, _⟩ => ⟨S8192x2048, .bf16⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference5Ideal.lean ====
abbrev S8192x2048 : Shape := ⟨2, ![8192, 2048]⟩
abbrev S4x2048 : Shape := ⟨2, ![4, 2048]⟩
abbrev S2048x6144 : Shape := ⟨2, ![2048, 6144]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S2048 : Shape := ⟨1, ![2048]⟩
abbrev S8192x6144 : Shape := ⟨2, ![8192, 6144]⟩

abbrev nBuf : Space → Nat
  | .hbm => 28
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S2048x6144, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S8192x6144, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .bf16⟩
  | .hbm, ⟨26, _⟩ => ⟨S8192x2048, .f32⟩
  | .hbm, ⟨27, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== Kernel6.lean ====
abbrev S8192x2048 : Shape := ⟨2, ![8192, 2048]⟩
abbrev S3x2048 : Shape := ⟨2, ![3, 2048]⟩
abbrev S2048x2048 : Shape := ⟨2, ![2048, 2048]⟩
abbrev S512x2048 : Shape := ⟨2, ![512, 2048]⟩
abbrev S16x2048 : Shape := ⟨2, ![16, 2048]⟩
abbrev S1x2048 : Shape := ⟨2, ![1, 2048]⟩

abbrev nBuf : Space → Nat
  | .hbm => 9
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S3x2048, .f32⟩
  | .hbm, ⟨4, _⟩ => ⟨S2048x2048, .f32⟩
  | .hbm, ⟨5, _⟩ => ⟨S8192x2048, .bf16⟩
  | .hbm, ⟨6, _⟩ => ⟨S8192x2048, .bf16⟩
  | .hbm, ⟨7, _⟩ => ⟨S2048x2048, .bf16⟩
  | .hbm, ⟨8, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S16x2048, .bf16⟩
  | .local _ .vmem, ⟨7, _⟩ => ⟨S16x2048, .bf16⟩
  | .local _ .vmem, ⟨8, _⟩ => ⟨S3x2048, .f32⟩
  | .local _ .vmem, ⟨9, _⟩ => ⟨S2048x2048, .bf16⟩
  | .local _ .vmem, ⟨10, _⟩ => ⟨S512x2048, .f32⟩
  | .local _ .vmem, ⟨11, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S8192x2048 : Shape := ⟨2, ![8192, 2048]⟩
abbrev S3x2048 : Shape := ⟨2, ![3, 2048]⟩
abbrev S2048x2048 : Shape := ⟨2, ![2048, 2048]⟩
abbrev S_ : Shape := ⟨0, ![]⟩
abbrev S8194x2048 : Shape := ⟨2, ![8194, 2048]⟩
abbrev S1x2048 : Shape := ⟨2, ![1, 2048]⟩
abbrev S2048 : Shape := ⟨1, ![2048]⟩

abbrev nBuf : Space → Nat
  | .hbm => 31
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S3x2048, .f32⟩
  | .hbm, ⟨4, _⟩ => ⟨S2048x2048, .f32⟩
  | .hbm, ⟨5, _⟩ => ⟨S_, .i32⟩
  | .hbm, ⟨6, _⟩ => ⟨S_, .f32⟩
  | .hbm, ⟨7, _⟩ => ⟨S8194x2048, .f32⟩
  | .hbm, ⟨8, _⟩ => ⟨S1x2048, .f32⟩
  | .hbm, ⟨9, _⟩ => ⟨S2048, .f32⟩
  | .hbm, ⟨10, _⟩ => ⟨S8192x2048, .f32⟩
  | .hbm, ⟨11, _⟩ => ⟨S1x2048, .f32⟩
  | .hbm, ⟨12, _⟩ => ⟨S8192x2048, .f32⟩
  | .hbm, ⟨13, _⟩ => ⟨S8192x2048, .f32⟩
  | .hbm, ⟨14, _⟩ => ⟨S1x2048, .f32⟩
  | .hbm, ⟨15, _⟩ => ⟨S2048, .f32⟩
  | .hbm, ⟨16, _⟩ => ⟨S8192x2048, .f32⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S2048, .f32⟩
  | .hbm, ⟨23, _⟩ => ⟨S8192x2048, .f32⟩
  | .hbm, ⟨24, _⟩ => ⟨S1x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Kernel7.lean ====
abbrev S8192x2048 : Shape := ⟨2, ![8192, 2048]⟩
abbrev S4x2048 : Shape := ⟨2, ![4, 2048]⟩
abbrev S2048x6160 : Shape := ⟨2, ![2048, 6160]⟩
abbrev S128 : Shape := ⟨1, ![128]⟩
abbrev S2048x6144 : Shape := ⟨2, ![2048, 6144]⟩
abbrev S2048x16 : Shape := ⟨2, ![2048, 16]⟩
abbrev S_ : Shape := ⟨0, ![]⟩
abbrev S2048x128 : Shape := ⟨2, ![2048, 128]⟩
abbrev S4x1x2048 : Shape := ⟨3, ![4, 1, 2048]⟩
abbrev S1x128 : Shape := ⟨2, ![1, 128]⟩
abbrev S8192x6144 : Shape := ⟨2, ![8192, 6144]⟩
abbrev S8192x128 : Shape := ⟨2, ![8192, 128]⟩
abbrev S1024x2048 : Shape := ⟨2, ![1024, 2048]⟩
abbrev S1x1x2048 : Shape := ⟨3, ![1, 1, 2048]⟩
abbrev S2048x2048 : Shape := ⟨2, ![2048, 2048]⟩
abbrev S1024x128 : Shape := ⟨2, ![1024, 128]⟩
abbrev S1x2048 : Shape := ⟨2, ![1, 2048]⟩
abbrev S1024 : Shape := ⟨1, ![1024]⟩
abbrev S1024x1 : Shape := ⟨2, ![1024, 1]⟩

abbrev nBuf : Space → Nat
  | .hbm => 17
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S2048x6160, .f32⟩
  | .hbm, ⟨3, _⟩ => ⟨S128, .f32⟩
  | .hbm, ⟨4, _⟩ => ⟨S128, .f32⟩
  | .hbm, ⟨5, _⟩ => ⟨S2048x6144, .f32⟩
  | .hbm, ⟨6, _⟩ => ⟨S2048x6144, .bf16⟩
  | .hbm, ⟨7, _⟩ => ⟨S2048x16, .f32⟩
  | .hbm, ⟨8, _⟩ => ⟨S_, .i32⟩
  | .hbm, ⟨9, _⟩ => ⟨S_, .f32⟩
  | .hbm, ⟨10, _⟩ => ⟨S2048x128, .f32⟩
  | .hbm, ⟨11, _⟩ => ⟨S2048x128, .bf16⟩
  | .hbm, ⟨12, _⟩ => ⟨S4x1x2048, .f32⟩
  | .hbm, ⟨13, _⟩ => ⟨S1x128, .f32⟩
  | .hbm, ⟨14, _⟩ => ⟨S1x128, .f32⟩
  | .hbm, ⟨15, _⟩ => ⟨S8192x6144, .bf16⟩
  | .hbm, ⟨16, _⟩ => ⟨S8192x128, .f32⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S2048x2048, .bf16⟩
  | .local _ .vmem, ⟨4, _⟩ => ⟨S2048x2048, .bf16⟩
  | .local _ .vmem, ⟨5, _⟩ => ⟨S1x128, .f32⟩
  | .local _ .vmem, ⟨6, _⟩ => ⟨S1x128, .f32⟩
  | .local _ .vmem, ⟨7, _⟩ => ⟨S2048x128, .bf16⟩
  | .local _ .vmem, ⟨8, _⟩ => ⟨S1024x2048, .bf16⟩
  | .local _ .vmem, ⟨9, _⟩ => ⟨S1024x2048, .bf16⟩
  | .local _ .vmem, ⟨10, _⟩ => ⟨S1024x128, .f32⟩
  | .local _ .vmem, ⟨11, _⟩ => ⟨S1024x128, .f32⟩
  | .local _ .vmem, ⟨12, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![8, 3], ![false, false]⟩

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg1 : BitVec 32 := BitVec.ofNat 32 (i 1).val
  let c1_i32 : BitVec 32 := 1#32
  let v6 : BitVec 1 := Scalar.cmpi .eq arg1 c1_i32
  let v7 : BitVec 32 := Scalar.extui v6
  let c0_i32_3 : BitVec 32 := 0#32
  let v8 : BitVec 1 := Scalar.cmpi .ne v7 c0_i32_3
  v8

def k0_cond4 (i : grid0.Coords) : BitVec 1 :=
  let arg1 : BitVec 32 := BitVec.ofNat 32 (i 1).val
  let c2_i32 : BitVec 32 := 2#32
  let v9 : BitVec 1 := Scalar.cmpi .eq arg1 c2_i32
  let v10 : BitVec 32 := Scalar.extui v9
  let c0_i32_4 : BitVec 32 := 0#32
  let v11 : BitVec 1 := Scalar.cmpi .ne v10 c0_i32_4
  v11

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference7Ideal.lean ====
abbrev S8192x2048 : Shape := ⟨2, ![8192, 2048]⟩
abbrev S4x2048 : Shape := ⟨2, ![4, 2048]⟩
abbrev S2048x6160 : Shape := ⟨2, ![2048, 6160]⟩
abbrev S128 : Shape := ⟨1, ![128]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S8192x6160 : Shape := ⟨2, ![8192, 6160]⟩
abbrev S8192x16 : Shape := ⟨2, ![8192, 16]⟩
abbrev S8192x16x128 : Shape := ⟨3, ![8192, 16, 128]⟩
abbrev S8192x16x1 : Shape := ⟨3, ![8192, 16, 1]⟩
abbrev S1x1x128 : Shape := ⟨3, ![1, 1, 128]⟩
abbrev S8192x6144 : Shape := ⟨2, ![8192, 6144]⟩
abbrev S8192x128 : Shape := ⟨2, ![8192, 128]⟩

abbrev nBuf : Space → Nat
  | .hbm => 69
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S2048x6160, .f32⟩
  | .hbm, ⟨3, _⟩ => ⟨S128, .f32⟩
  | .hbm, ⟨4, _⟩ => ⟨S128, .f32⟩
  | .hbm, ⟨5, _⟩ => ⟨S1x2048, .f32⟩
  | .hbm, ⟨6, _⟩ => ⟨S2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S8192x6160, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x16, .f32⟩
  | .hbm, ⟨28, _⟩ => ⟨S8192x16x128, .f32⟩
  | .hbm, ⟨29, _⟩ => ⟨S8192x16x128, .f32⟩
  | .hbm, ⟨30, _⟩ => ⟨S_, .f32⟩
  | .hbm, ⟨31, _⟩ => ⟨S8192x16, .f32⟩
  | .hbm, ⟨32, _⟩ => ⟨S8192x16x1, .f32⟩
  | .hbm, ⟨33, _⟩ => ⟨S_, .f32⟩
  | .hbm, ⟨34, _⟩ => ⟨S8192x16x1, .f32⟩
  | .hbm, ⟨35, _⟩ => ⟨S8192x16x1, .f32⟩
  | .hbm, ⟨36, _⟩ => ⟨S_, .f32⟩
  | .hbm, ⟨37, _⟩ => ⟨S8192x16x1, .f32⟩
  | .hbm, ⟨38, _⟩ => ⟨S8192x16x1, .f32⟩
  | .hbm, ⟨39, _⟩ => ⟨S8192x16x1, .f32⟩
  | .hbm, ⟨40, _⟩ => ⟨S8192x16x128, .f32⟩
  | .hbm, ⟨41, _⟩ => ⟨S8192x16x128, .f32⟩
  | .hbm, ⟨42, _⟩ => ⟨S1x1x128, .f32⟩
  | .hbm, ⟨43, _⟩ => ⟨S8192x16x128, .f32⟩
  | .hbm, ⟨44, _⟩ => ⟨S8192x16x128, .f32⟩
  | .hbm, ⟨45, _⟩ => ⟨S8192x2048, .f32⟩
  | .hbm, ⟨46, _⟩ => ⟨S8192x16x128, .f32⟩
  | .hbm, ⟨47, _⟩ => ⟨S8192x16x128, .f32⟩
  | .hbm, ⟨48, _⟩ => ⟨S_, .f32⟩
  | .hbm, ⟨49, _⟩ => ⟨S8192x16, .f32⟩
  | .hbm, ⟨50, _⟩ => ⟨S8192x16x1, .f32⟩
  | .hbm, ⟨51, _⟩ => ⟨S_, .f32⟩
  | .hbm, ⟨52, _⟩ => ⟨S8192x16x1, .f32⟩
  | .hbm, ⟨53, _⟩ => ⟨S8192x16x1, .f32⟩
  | .hbm, ⟨54, _⟩ => ⟨S_, .f32⟩
  | .hbm, ⟨55, _⟩ => ⟨S8192x16x1, .f32⟩
  | .hbm, ⟨56, _⟩ => ⟨S8192x16x1, .f32⟩
  | .hbm, ⟨57, _⟩ => ⟨S8192x16x1, .f32⟩
  | .hbm, ⟨58, _⟩ => ⟨S8192x16x128, .f32⟩
  | .hbm, ⟨59, _⟩ => ⟨S8192x16x128, .f32⟩
  | .hbm, ⟨60, _⟩ => ⟨S1x1x128, .f32⟩
  | .hbm, ⟨61, _⟩ => ⟨S8192x16x128, .f32⟩
  | .hbm, ⟨62, _⟩ => ⟨S8192x16x128, .f32⟩
  | .hbm, ⟨63, _⟩ => ⟨S8192x2048, .f32⟩
  | .hbm, ⟨64, _⟩ => ⟨S8192x6144, .f32⟩
  | .hbm, ⟨65, _⟩ => ⟨S8192x6144, .bf16⟩
  | .hbm, ⟨66, _⟩ => ⟨S_, .i32⟩
  | .hbm, ⟨67, _⟩ => ⟨S_, .f32⟩
  | .hbm, ⟨68, _⟩ => ⟨S8192x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_cst_7 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_c : Ref sig .tc := ⟨.hbm, 66, rfl⟩
abbrev main_call0_v0 : Ref sig .tc := ⟨.hbm, 67, rfl⟩
abbrev main_v52 : Ref sig .tc := ⟨.hbm, 68, rfl⟩

abbrev nD : Nat := 1
abbrev τ : Topo := Topo.v7x

variable {F : FTy → Type} [FloatOps F]
-- ==== Kernel8.lean ====
abbrev S8192x16 : Shape := ⟨2, ![8192, 16]⟩
abbrev S16 : Shape := ⟨1, ![16]⟩
abbrev S_ : Shape := ⟨0, ![]⟩
abbrev S8192x128 : Shape := ⟨2, ![8192, 128]⟩
abbrev S128 : Shape := ⟨1, ![128]⟩
abbrev S1x128 : Shape := ⟨2, ![1, 128]⟩

abbrev nBuf : Space → Nat
  | .hbm => 10
  | .vmem => 3
  | .smem => 0
  | _ => 0

abbrev bufTy : (tb : Table) → Fin (tcTables nBuf tb) → BufTy
  | .hbm, ⟨0, _⟩ => ⟨S8192x16, .f32⟩
  | .hbm, ⟨1, _⟩ => ⟨S16, .f32⟩
  | .hbm, ⟨2, _⟩ => ⟨S_, .i32⟩
  | .hbm, ⟨3, _⟩ => ⟨S_, .f32⟩
  | .hbm, ⟨4, _⟩ => ⟨S8192x128, .f32⟩
  | .hbm, ⟨5, _⟩ => ⟨S_, .i32⟩
  | .hbm, ⟨6, _⟩ => ⟨S_, .f32⟩
  | .hbm, ⟨7, _⟩ => ⟨S128, .f32⟩
  | .hbm, ⟨8, _⟩ => ⟨S1x128, .f32⟩
  | .hbm, ⟨9, _⟩ => ⟨S8192x128, .f32⟩
  | .local _ .vmem, ⟨0, _⟩ => ⟨S8192x128, .f32⟩
  | .local _ .vmem, ⟨1, _⟩ => ⟨S1x128, .f32⟩
  | .local _ .vmem, ⟨2, _⟩ => ⟨S8192x128, .f32⟩
  | _, _ => ⟨S8192x16, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_c_0 : Ref sig .tc := ⟨.hbm, 5, rfl⟩
abbrev main_call1_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8192x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8192x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference8Ideal.lean ====
abbrev S8192x16 : Shape := ⟨2, ![8192, 16]⟩
abbrev S16 : Shape := ⟨1, ![16]⟩
abbrev S_ : Shape := ⟨0, ![]⟩
abbrev S8192x128 : Shape := ⟨2, ![8192, 128]⟩
abbrev S128 : Shape := ⟨1, ![128]⟩
abbrev S1x128 : Shape := ⟨2, ![1, 128]⟩

abbrev nBuf : Space → Nat
  | .hbm => 30
  | .vmem => 0
  | .smem => 0
  | _ => 0

abbrev bufTy : (tb : Table) → Fin (tcTables nBuf tb) → BufTy
  | .hbm, ⟨0, _⟩ => ⟨S8192x16, .f32⟩
  | .hbm, ⟨1, _⟩ => ⟨S16, .f32⟩
  | .hbm, ⟨2, _⟩ => ⟨S_, .i32⟩
  | .hbm, ⟨3, _⟩ => ⟨S_, .f32⟩
  | .hbm, ⟨4, _⟩ => ⟨S8192x128, .f32⟩
  | .hbm, ⟨5, _⟩ => ⟨S_, .i32⟩
  | .hbm, ⟨6, _⟩ => ⟨S_, .f32⟩
  | .hbm, ⟨7, _⟩ => ⟨S128, .f32⟩
  | .hbm, ⟨8, _⟩ => ⟨S1x128, .f32⟩
  | .hbm, ⟨9, _⟩ => ⟨S8192x128, .f32⟩
  | .hbm, ⟨10, _⟩ => ⟨S8192x128, .f32⟩
  | .hbm, ⟨11, _⟩ => ⟨S8192x128, .f32⟩
  | .hbm, ⟨12, _⟩ => ⟨S_, .f32⟩
  | .hbm, ⟨13, _⟩ => ⟨S8192x128, .f32⟩
  | .hbm, ⟨14, _⟩ => ⟨S8192x128, .f32⟩
  | .hbm, ⟨15, _⟩ => ⟨S8192x128, .f32⟩
  | .hbm, ⟨16, _⟩ => ⟨S8192x128, .f32⟩
  | .hbm, ⟨17, _⟩ => ⟨S8192x128, .i1⟩
  | .hbm, ⟨18, _⟩ => ⟨S8192x128, .f32⟩
  | .hbm, ⟨19, _⟩ => ⟨S8192x128, .f32⟩
  | .hbm, ⟨20, _⟩ => ⟨S8192x128, .f32⟩
  | .hbm, ⟨21, _⟩ => ⟨S8192x128, .f32⟩
  | .hbm, ⟨22, _⟩ => ⟨S8192x128, .f32⟩
  | .hbm, ⟨23, _⟩ => ⟨S8192x128, .f32⟩
  | .hbm, ⟨24, _⟩ => ⟨S8192x128, .f32⟩
  | .hbm, ⟨25, _⟩ => ⟨S8192x128, .f32⟩
  | .hbm, ⟨26, _⟩ => ⟨S8192x128, .f32⟩
  | .hbm, ⟨27, _⟩ => ⟨S_, .f32⟩
  | .hbm, ⟨28, _⟩ => ⟨S_, .f32⟩
  | .hbm, ⟨29, _⟩ => ⟨S8192x128, .f32⟩
  | _, _ => ⟨S8192x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_c_0 : Ref sig .tc := ⟨.hbm, 5, rfl⟩
abbrev main_call1_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call2_v0 : Ref sig .tc := ⟨.hbm, 11, rfl⟩
abbrev main_call2_call0_cst : Ref sig .tc := ⟨.hbm, 12, rfl⟩
abbrev main_call2_call0_v0 : Ref sig .tc := ⟨.hbm, 13, rfl⟩
abbrev main_call2_call0_v1 : Ref sig .tc := ⟨.hbm, 14, rfl⟩
abbrev main_call2_call0_v2 : Ref sig .tc := ⟨.hbm, 15, rfl⟩
abbrev main_call2_call0_v3 : Ref sig .tc := ⟨.hbm, 16, rfl⟩
abbrev main_call2_call0_v4 : Ref sig .tc := ⟨.hbm, 17, rfl⟩
abbrev main_call2_call0_v5 : Ref sig .tc := ⟨.hbm, 18, rfl⟩
abbrev main_call2_call0_v6 : Ref sig .tc := ⟨.hbm, 19, rfl⟩
abbrev main_call2_call0_v7 : Ref sig .tc := ⟨.hbm, 20, rfl⟩
abbrev main_call2_call0_v8 : Ref sig .tc := ⟨.hbm, 21, rfl⟩
abbrev main_call2_call0_v9 : Ref sig .tc := ⟨.hbm, 22, rfl⟩
abbrev main_call2_call0_v10 : Ref sig .tc := ⟨.hbm, 23, rfl⟩
abbrev main_call2_call0_v11 : Ref sig .tc := ⟨.hbm, 24, rfl⟩
abbrev main_call2_v1 : Ref sig .tc := ⟨.hbm, 25, rfl⟩
abbrev main_v5 : Ref sig .tc := ⟨.hbm, 26, rfl⟩
abbrev main_call3_call0_cst : Ref sig .tc := ⟨.hbm, 27, rfl⟩
abbrev main_call3_call0_v0 : Ref sig .tc := ⟨.hbm, 28, rfl⟩
abbrev main_v6 : Ref sig .tc := ⟨.hbm, 29, rfl⟩

abbrev nD : Nat := 1
abbrev τ : Topo := Topo.v7x

variable {F : FTy → Type} [FloatOps F]
-- ==== Proof.Ffn.lean ====
module

public import proofs.«01_k».proof.Defs
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Proof.Ffn

open Idealize.ShloMosaic Idealize.ShloMosaic.TcCoe Idealize.SL.Sem
open Cert.Kernel2Ideal Cert.Kernel2Ideal.Gen
open Cert.Reference2Ideal.Read (val_main_v14 val_main_v15 val_main_v16 val_main_v17 val_main_v18 val_main_v19 val_main_v22)

variable (m : (ℓ : Loc nD τ sig) → Buf (Elt Ideal) ℓ) (c : Dev nD)

/-- Where the blocks of the five inputs lie at grid point `t`. -/
theorem idx : ∀ t : Fin cfg0.N, win0_0.index t = ![t.val / 11, 0] ∧ win0_1.index t = ![3, 0, 0]
    ∧ win0_2.index t = ![0, t.val % 11] ∧ win0_3.index t = ![0, t.val % 11] ∧ win0_4.index t = ![t.val % 11, 0] := by
  decide +kernel

/-- The row-normed activation the reference forms from the arguments. -/
abbrev XN : S8192x2048.Idx → EReal :=
  val_main_v14 (F := Ideal) (m ((c : Thread nD τ).loc main_arg0)) (m ((c : Thread nD τ).loc main_arg1))

theorem norm_block (t : Fin cfg0.N) (r : Fin 1024) (k : Fin 2048) (h : 1024 * (t.val / 11) + r.val < 8192) :
    k0_pay1 (F := Ideal) (iblk m c 0 t) (iblk m c 1 t) (ix2 r k)
      = XN m c (ix2 ⟨1024 * (t.val / 11) + r.val, h⟩ k) := by
  unfold XN
  pointwise [k0_pay1, val_main_v14, Cert.Reference2Ideal.Read.val_main_v0, Cert.Reference2Ideal.Read.val_main_cst, Cert.Reference2Ideal.Read.val_main_v1, Cert.Reference2Ideal.Read.val_main_v2, Cert.Reference2Ideal.Read.val_main_cst_0, Cert.Reference2Ideal.Read.val_main_v3, Cert.Reference2Ideal.Read.val_main_v4, Cert.Reference2Ideal.Read.val_main_cst_1, Cert.Reference2Ideal.Read.val_main_v5, Cert.Reference2Ideal.Read.val_main_v6, Cert.Reference2Ideal.Read.val_main_v7, Cert.Reference2Ideal.Read.val_main_v8, Cert.Reference2Ideal.Read.val_main_v9, Cert.Reference2Ideal.Read.val_main_v10, Cert.Reference2Ideal.Read.val_main_v11, Cert.Reference2Ideal.Read.val_main_v12, Cert.Reference2Ideal.Read.val_main_v13]
  blk_point [iblk, V, idx t]

/-- The carried scratch holds the row block's normed activation at every grid point. -/
theorem scratch_block : ∀ (n : ℕ) (hn : n < cfg0.N) (r : Fin 1024) (k : Fin 2048) (h : 1024 * (n / 11) + r.val < 8192),
    (outsAt0 m c n hn).2 (ix2 r k) = XN m c (ix2 ⟨1024 * (n / 11) + r.val, h⟩ k) := by
  intro n
  induction n with
  | zero =>
    intro hn r k h
    have e := outsAt0_A m c ⟨0, hn⟩ rfl
    rw [show outsAt0 m c 0 hn = outsAt0 m c (⟨0, hn⟩ : Fin cfg0.N).val (⟨0, hn⟩ : Fin cfg0.N).isLt from rfl, e]
    frame_out
    exact norm_block m c ⟨0, hn⟩ r k h
  | succ n ih =>
    intro hn r k h
    by_cases h0 : (n + 1) % 11 = 0
    · rw [show outsAt0 m c (n + 1) hn = outsAt0 m c (⟨n + 1, hn⟩ : Fin cfg0.N).val (⟨n + 1, hn⟩ : Fin cfg0.N).isLt from rfl, outsAt0_A m c ⟨n + 1, hn⟩ h0]
      frame_out
      exact norm_block m c ⟨n + 1, hn⟩ r k h
    · rw [show outsAt0 m c (n + 1) hn = outsAt0 m c (⟨n + 1, hn⟩ : Fin cfg0.N).val (⟨n + 1, hn⟩ : Fin cfg0.N).isLt from rfl, outsAt0_B m c ⟨n + 1, hn⟩ h0]
      have hd : (n + 1) / 11 = n / 11 := by omega
      dsimp only
      unfold sout0_B_0
      simp only [Nat.add_sub_cancel]
      have e := ih (by omega) r k (by omega)
      simp only [← hd] at e
      exact e

/-- The reference's gate and up projections. -/
abbrev GT : Cert.Reference2Ideal.S8192x5632.Idx → EReal :=
  val_main_v15 (F := Ideal) (m ((c : Thread nD τ).loc main_arg0)) (m ((c : Thread nD τ).loc main_arg1)) (m ((c : Thread nD τ).loc main_arg2))

abbrev UP : Cert.Reference2Ideal.S8192x5632.Idx → EReal :=
  val_main_v17 (F := Ideal) (m ((c : Thread nD τ).loc main_arg0)) (m ((c : Thread nD τ).loc main_arg1)) (m ((c : Thread nD τ).loc main_arg3))

/-- One grid point's step on top of the block it finds. -/
theorem step_block (t : Fin cfg0.N) (xs : Vec Ideal S1024x2048 .bf16) (xo : Vec Ideal S1024x2048 .f32)
    (hx : ∀ (r : Fin 1024) (k : Fin 2048) (h : 1024 * (t.val / 11) + r.val < 8192), xs (ix2 r k) = XN m c (ix2 ⟨1024 * (t.val / 11) + r.val, h⟩ k))
    (r : Fin 1024) (d : Fin 2048) (h : 1024 * (t.val / 11) + r.val < 8192) :
    k0_pay2 (F := Ideal) xs (iblk m c 2 t) (iblk m c 3 t) xo (iblk m c 4 t) (ix2 r d)
      = xo (ix2 r d) + ∑ f : Fin 512, (Ideal.ofBits .f32 0x3F000000#32 * GT m c (ix2 ⟨1024 * (t.val / 11) + r.val, h⟩ ⟨512 * (t.val % 11) + f.val, by have := f.isLt; omega⟩)
          * Ideal.logistic (GT m c (ix2 ⟨1024 * (t.val / 11) + r.val, h⟩ ⟨512 * (t.val % 11) + f.val, by have := f.isLt; omega⟩))
          * UP m c (ix2 ⟨1024 * (t.val / 11) + r.val, h⟩ ⟨512 * (t.val % 11) + f.val, by have := f.isLt; omega⟩))
          * (m ((c : Thread nD τ).loc main_arg4)) (ix2 ⟨512 * (t.val % 11) + f.val, by have := f.isLt; omega⟩ d) := by
  unfold GT UP
  pointwise [k0_pay2, val_main_v15, val_main_v17]
  simp only [hx _ _ h]
  unfold XN
  generalize val_main_v14 (m (c.tc.loc main_arg0)) (m (c.tc.loc main_arg1)) = xn
  blk_point [iblk, V, idx t]

/-- The summand of the down projection at column `k` of the hidden layer, zero past its width. -/
def part (R : Fin 8192) (d : Fin 2048) (k : ℕ) : EReal :=
  if hk : k < 5632 then
    (Ideal.ofBits .f32 0x3F000000#32 * GT m c (ix2 R ⟨k, hk⟩) * Ideal.logistic (GT m c (ix2 R ⟨k, hk⟩)) * UP m c (ix2 R ⟨k, hk⟩))
      * (m ((c : Thread nD τ).loc main_arg4)) (ix2 ⟨k, hk⟩ d)
  else 0

theorem step_part (t : Fin cfg0.N) (xs : Vec Ideal S1024x2048 .bf16) (xo : Vec Ideal S1024x2048 .f32)
    (hx : ∀ (r : Fin 1024) (k : Fin 2048) (h : 1024 * (t.val / 11) + r.val < 8192), xs (ix2 r k) = XN m c (ix2 ⟨1024 * (t.val / 11) + r.val, h⟩ k))
    (r : Fin 1024) (d : Fin 2048) (h : 1024 * (t.val / 11) + r.val < 8192) :
    k0_pay2 (F := Ideal) xs (iblk m c 2 t) (iblk m c 3 t) xo (iblk m c 4 t) (ix2 r d)
      = xo (ix2 r d) + ∑ f ∈ Finset.range 512, part m c ⟨1024 * (t.val / 11) + r.val, h⟩ d (512 * (t.val % 11) + f) := by
  rw [step_block m c t xs xo hx r d h, ← Fin.sum_univ_eq_sum_range]
  congr 1
  refine Finset.sum_congr rfl fun f _ => ?_
  have hf := f.isLt
  unfold part
  rw [dif_pos (by omega)]

/-- The residual stream. -/
abbrev X : S8192x2048.Idx → EReal := m ((c : Thread nD τ).loc main_arg0)

/-- The output block after grid point `n`: the residual and the hidden tiles added so far. -/
theorem out_block : ∀ (n : ℕ) (hn : n < cfg0.N) (r : Fin 1024) (d : Fin 2048) (h : 1024 * (n / 11) + r.val < 8192),
    (outsAt0 m c n hn).1 (ix2 r d) = X m c (ix2 ⟨1024 * (n / 11) + r.val, h⟩ d)
      + ∑ j ∈ Finset.range (n % 11 + 1), ∑ f ∈ Finset.range 512, part m c ⟨1024 * (n / 11) + r.val, h⟩ d (512 * j + f) := by
  have first : ∀ (t : Fin cfg0.N) (h0 : t.val % 11 = 0) (r : Fin 1024) (d : Fin 2048) (h : 1024 * (t.val / 11) + r.val < 8192),
      (outsAt0 m c t.val t.isLt).1 (ix2 r d) = X m c (ix2 ⟨1024 * (t.val / 11) + r.val, h⟩ d)
        + ∑ j ∈ Finset.range (t.val % 11 + 1), ∑ f ∈ Finset.range 512, part m c ⟨1024 * (t.val / 11) + r.val, h⟩ d (512 * j + f) := by
    intro t h0 r d h
    rw [outsAt0_A m c t h0]
    frame_out
    rw [step_part m c t _ _ (fun r k h => norm_block m c t r k h) r d h, h0]
    simp only [Nat.zero_add, Finset.sum_range_one]
    congr 1
    blk_ext [iblk, V, idx t]
  intro n
  induction n with
  | zero => intro hn r d h; exact first ⟨0, hn⟩ rfl r d h
  | succ n ih =>
    intro hn r d h
    by_cases h0 : (n + 1) % 11 = 0
    · exact first ⟨n + 1, hn⟩ h0 r d h
    · rw [show outsAt0 m c (n + 1) hn = outsAt0 m c (⟨n + 1, hn⟩ : Fin cfg0.N).val (⟨n + 1, hn⟩ : Fin cfg0.N).isLt from rfl, outsAt0_B m c ⟨n + 1, hn⟩ h0]
      have hd : (n + 1) / 11 = n / 11 := by omega
      have hm : (n + 1) % 11 = n % 11 + 1 := by omega
      frame_out
      simp only [read_unread_whole, Nat.add_sub_cancel]
      have e := ih (by omega) r d (by omega)
      have es : ∀ (r : Fin 1024) (k : Fin 2048) (h : 1024 * ((n + 1) / 11) + r.val < 8192),
          (outsAt0 m c n (by omega)).2 (ix2 r k) = XN m c (ix2 ⟨1024 * ((n + 1) / 11) + r.val, h⟩ k) := by
        intro r k h
        have e := scratch_block m c n (by omega) r k (by omega)
        simp only [← hd] at e
        exact e
      rw [step_part m c ⟨n + 1, hn⟩ _ _ es r d h]
      simp only [← hd] at e
      rw [e]
      dsimp only
      rw [hm, Finset.sum_range_succ _ (n % 11 + 1), add_assoc]

theorem half : Ideal.ofBits .f32 0x3F000000#32 = ((1 / 2 : ℝ) : EReal) := by
  simp [Ideal.ofBits, Ideal.ieee, -EReal.coe_mul]; norm_num

/-- One half goes into a sum of extended reals. -/
theorem half_sum {ι : Type*} (s : Finset ι) (f : ι → EReal) :
    Ideal.ofBits .f32 0x3F000000#32 * ∑ k ∈ s, f k = ∑ k ∈ s, Ideal.ofBits .f32 0x3F000000#32 * f k := by
  classical
  rw [half]
  induction s using Finset.induction_on with
  | empty => simp
  | insert a s ha ih =>
    rw [Finset.sum_insert ha, Finset.sum_insert ha, ← ih]
    exact EReal.left_distrib_of_nonneg_of_ne_top (by exact_mod_cast (by norm_num : (0 : ℝ) ≤ 1 / 2)) (EReal.coe_ne_top _) _ _

/-- The kernel's result, index by index, is the reference's. -/
theorem result (i : S8192x2048.Idx) : Value.G5 m c i
    = val_main_v22 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) i := by
  idx_vars i
  have h0 := i0.isLt
  have h1 := i1.isLt
  have hN : cfg0.N = 88 := rfl
  have hp : Value.pt5Of (ix2 i0 i1) = 11 * (i0.val / 1024) + 10 := by
    simp only [Value.pt5Of, Value.run5Of, ix2_0, ix2_1]; omega
  have hl : Value.loc5Of (ix2 i0 i1) = ix2 ⟨i0.val % 1024, by omega⟩ i1 := by
    funext a
    match a with
    | ⟨0, _⟩ => rfl
    | ⟨1, _⟩ => exact Fin.ext (Nat.mod_eq_of_lt h1)
  have hlt : Value.pt5Of (ix2 i0 i1) < cfg0.N := by rw [hp, hN]; omega
  unfold Value.G5
  rw [dif_pos hlt, ← Value.outsAt0_sweep m c _ hlt, hl]
  have hrow : 1024 * (Value.pt5Of (ix2 i0 i1) / 11) + i0.val % 1024 = i0.val := by rw [hp]; omega
  have hmod : Value.pt5Of (ix2 i0 i1) % 11 = 10 := by rw [hp]; omega
  rw [out_block m c _ hlt ⟨i0.val % 1024, by omega⟩ i1 (by dsimp only; omega), hmod]
  dsimp only
  have hi : (⟨1024 * (Value.pt5Of (ix2 i0 i1) / 11) + i0.val % 1024, by omega⟩ : Fin 8192) = i0 := Fin.ext hrow
  rw [hi]
  have hs : ∑ j ∈ Finset.range 11, ∑ f ∈ Finset.range 512, part m c i0 i1 (512 * j + f) = ∑ k ∈ Finset.range (11 * 512), part m c i0 i1 k := by
    rw [← Finset.sum_range_range_mul_add]
    simp only [mul_comm]
  rw [hs, ← Fin.sum_univ_eq_sum_range]
  pointwise [val_main_v22, Cert.Reference2Ideal.Read.val_main_v21, Cert.Reference2Ideal.Read.val_main_v20, Cert.Reference2Ideal.Read.val_main_cst_2, val_main_v19, val_main_v18, val_main_v16, Cert.Reference2Ideal.Read.val_main_call0_v5, Cert.Reference2Ideal.Read.val_main_call0_v4, Cert.Reference2Ideal.Read.val_main_call0_v3, Cert.Reference2Ideal.Read.val_main_call0_v2, Cert.Reference2Ideal.Read.val_main_call0_v1, Cert.Reference2Ideal.Read.val_main_call0_v0, Cert.Reference2Ideal.Read.val_main_call0_cst, Cert.Reference2Ideal.Read.val_main_call0_cst_0]
  rw [half_sum]
  congr 1
  refine Finset.sum_congr rfl fun k _ => ?_
  unfold part
  rw [dif_pos k.isLt]
  unfold GT UP Ideal.logistic
  simp only [mul_assoc]

end Cert.Proof.Ffn

namespace Cert.Proof

open Idealize.ShloMosaic Idealize.ShloMosaic.TcCoe Idealize.SL.Sem

theorem quiescent_Kernel2 : Cert.quiescent_Kernel2 (hKernel2 := Cert.Kernel2.Gen.facts) :=
  fun m g _ => Cert.Kernel2.Gen.frame m g

theorem quiescent_Kernel2Ideal : Cert.quiescent_Kernel2Ideal (hKernel2Ideal := Cert.Kernel2Ideal.Gen.facts) :=
  fun m g _ => Cert.Kernel2Ideal.Gen.frame m g

theorem quiescent_Reference2Ideal : Cert.quiescent_Reference2Ideal (hReference2Ideal := Cert.Reference2Ideal.Gen.facts) :=
  fun m g _ => (θ_run _ _ _).mono (fun r h => ⟨fun c => (h c).2, sem_eq_zero_of_no_sems (by decide) r.2⟩)
    (Cert.Reference2Ideal.Value.run m g)

theorem algebraic_Kernel2Ideal_Reference2Ideal :
    Cert.algebraic_Kernel2Ideal_Reference2Ideal (hKernel2Ideal := Cert.Kernel2Ideal.Gen.facts) (hReference2Ideal := Cert.Reference2Ideal.Gen.facts) := by
  intro m g m' g' _ hagree
  refine ⟨fun c => Cert.Kernel2Ideal.Value.G5 m c, Cert.Kernel2Ideal.Value.run m g, ?_⟩
  refine (θ_run _ _ _).mono (fun r h c => ?_) (Cert.Reference2Ideal.Value.run m' g')
  refine ⟨(h c).1.trans ?_, (h c).2⟩
  rw [Cert.Reference2Ideal.Read.val_main_v22_eq, (hagree c).1, (hagree c).2.1, (hagree c).2.2.1, (hagree c).2.2.2.1, (hagree c).2.2.2.2]
  exact (funext fun i => Ffn.result m c i).symm

end Cert.Proof

end

end
-- ==== Proof.ConvOut.lean ====
module

public import proofs.«01_k».proof.Defs
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pointwise
public import Idealize.ShloMosaic.Lib.Pipeline.ValueKit
public import Idealize.ShloMosaic.Lib.Pipeline.ReadBack
public import Idealize.ShloMosaic.Lib.WordCmp

@[expose] public section

set_option maxRecDepth 16384

noncomputable section

namespace Cert.Proof.ConvOut

open Idealize.ShloMosaic Idealize.ShloMosaic.TcCoe Idealize.SL.Sem
open Cert.Kernel6Ideal Cert.Kernel6Ideal.Gen
open Cert.Reference6Ideal.Read (val_main_v20 val_main_v21 val_main_v22 val_main_v23)

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0]
    ∧ win0_3.index t = ![32 * t.val - 1, 0] ∧ win0_4.index t = ![0, 0] ∧ win0_5.index t = ![0, 0] ∧ win0_6.index t = ![t.val, 0] :=
  (by decide +kernel : ∀ t : Fin grid0.N, _)
theorem coord0 : ∀ t : Fin cfg0.N, (grid0.coords t 0).val = t.val := (by decide +kernel : ∀ t : Fin grid0.N, _)

abbrev X : S8192x2048.Idx → EReal := m ((c : Thread nD τ).loc main_arg0)
abbrev B : S8192x2048.Idx → EReal := m ((c : Thread nD τ).loc main_arg1)
abbrev I : S8192x2048.Idx → EReal := m ((c : Thread nD τ).loc main_arg2)
abbrev K : S3x2048.Idx → EReal := m ((c : Thread nD τ).loc main_arg3)
abbrev W : S2048x2048.Idx → EReal := m ((c : Thread nD τ).loc main_arg4)

/-- The inner rows from `n` back: zero before the first. -/
def back (n : ℕ) (R : Fin 8192) (e : Fin 2048) : EReal :=
  if h : n ≤ R.val then I m c (ix2 ⟨R.val - n, by have := R.isLt; omega⟩ e) else 0

theorem zero : Ideal.ofBits .f32 0x00000000#32 = (0 : EReal) := by
  simp [Ideal.ofBits, Ideal.ieee]

theorem ix2_ext {a b : ℕ} {r r' : Fin a} {e e' : Fin b} (h : r.val = r'.val) (h' : e.val = e'.val) : ix2 r e = ix2 r' e' :=
  congrArg₂ ix2 (Fin.ext h) (Fin.ext h')

theorem conv_ref (R : Fin 8192) (e : Fin 2048) :
    val_main_v20 (F := Ideal) (I m c) (K m c) (ix2 R e)
      = K m c (ix2 0 e) * back m c 2 R e + K m c (ix2 1 e) * back m c 1 R e + K m c (ix2 2 e) * back m c 0 R e := by
  unfold back
  pointwise [Cert.Reference6Ideal.Read.val_main_c, Cert.Reference6Ideal.Read.val_main_call0_v0, Cert.Reference6Ideal.Read.val_main_v0, Cert.Reference6Ideal.Read.val_main_v1, Cert.Reference6Ideal.Read.val_main_v2, Cert.Reference6Ideal.Read.val_main_v3, Cert.Reference6Ideal.Read.val_main_v4, Cert.Reference6Ideal.Read.val_main_v5, Cert.Reference6Ideal.Read.val_main_v6, Cert.Reference6Ideal.Read.val_main_v7, Cert.Reference6Ideal.Read.val_main_v8, Cert.Reference6Ideal.Read.val_main_v9, Cert.Reference6Ideal.Read.val_main_v10, Cert.Reference6Ideal.Read.val_main_v11, Cert.Reference6Ideal.Read.val_main_v12, Cert.Reference6Ideal.Read.val_main_v13, Cert.Reference6Ideal.Read.val_main_v14, Cert.Reference6Ideal.Read.val_main_v15, Cert.Reference6Ideal.Read.val_main_v16, Cert.Reference6Ideal.Read.val_main_v17, Cert.Reference6Ideal.Read.val_main_v18, Cert.Reference6Ideal.Read.val_main_v19, Cert.Reference6Ideal.Read.val_main_v20]
  have z : FloatOps.sitofp (F := Ideal) FTy.f32 0#32 = (0 : EReal) := by
    show (((((0#32 : BitVec 32).toInt : ℤ) : ℝ) : EReal)) = 0
    simp
  have hR := R.isLt
  rw [z]
  congr 2
  · congr 1
    by_cases h : 2 ≤ R.val
    · rw [dif_pos ⟨h, by omega⟩, dif_pos h]
    · rw [dif_neg (fun q => h q.1), dif_neg h]
  · congr 1
    by_cases h : 1 ≤ R.val
    · rw [dif_pos ⟨by omega, by omega⟩, dif_pos h]
      exact congrArg (I m c) (ix2_ext (show 1 + R.val - 2 = R.val - 1 by omega) rfl)
    · rw [dif_neg (fun q => h (by omega)), dif_neg h]

theorem sel (r k : ℕ) (hr : r < 512) (hk : k < 512) (A B : EReal) :
    Scalar.select (IntOp.cmpi .eq (BitVec.ofNat 32 r) (BitVec.ofNat 32 k)) A B = if r = k then A else B := by
  rw [WordCmp.cmpi_eq_eq_toNat]
  have e1 : (BitVec.ofNat 32 r).toNat = r := by rw [BitVec.toNat_ofNat]; omega
  have e2 : (BitVec.ofNat 32 k).toNat = k := by rw [BitVec.toNat_ofNat]; omega
  rw [e1, e2]
  unfold Scalar.select
  by_cases h : r = k
  · rw [if_pos h, decide_eq_true h]; rfl
  · rw [if_neg h, decide_eq_false h]; rfl

theorem inner_blk (t : Fin cfg0.N) (r : Fin 512) (e : Fin 2048) (h : 512 * t.val + r.val < 8192) :
    iblk m c 2 t (ix2 r e) = I m c (ix2 ⟨512 * t.val + r.val, h⟩ e) := by
  blk_point [iblk, V, idx t]

theorem halo_blk (t : Fin cfg0.N) (r : Fin 16) (e : Fin 2048) (h : 16 * (32 * t.val - 1) + r.val < 8192) :
    iblk m c 3 t (ix2 r e) = I m c (ix2 ⟨16 * (32 * t.val - 1) + r.val, h⟩ e) := by
  blk_point [iblk, V, idx t]

/-- The factor on the halo rows: zero at the first grid point, one after. -/
theorem halo_on : ∀ t : Fin cfg0.N, (Scalar.extui (Scalar.cmpi CmpIPredicate.sgt (BitVec.ofNat 32 (grid0.coords t 0).val) 0#32)).toInt = if t.val = 0 then 0 else 1 :=
  (by decide +kernel : ∀ t : Fin grid0.N, _)

theorem conv_block (t : Fin cfg0.N) (r : Fin 512) (e : Fin 2048) (h : 512 * t.val + r.val < 8192) (k2 k1 k0 : Vec Ideal S1x2048 .f32) :
    k0_pay2 (F := Ideal) (grid0.coords t) (iblk m c 2 t) (iblk m c 3 t) k2 k1 k0 (ix2 r e)
      = k2 (ix2 0 e) * back m c 0 ⟨512 * t.val + r.val, h⟩ e + k1 (ix2 0 e) * back m c 1 ⟨512 * t.val + r.val, h⟩ e
        + k0 (ix2 0 e) * back m c 2 ⟨512 * t.val + r.val, h⟩ e := by
  unfold back
  pointwise [k0_pay2]
  have hN : t.val < 16 := t.isLt
  have hr := r.isLt
  rw [sel r.val 0 hr (by omega), sel r.val 0 hr (by omega), sel r.val 1 hr (by omega), halo_on t, inner_blk m c t r e h]
  congr 2
  · congr 1
    by_cases h0 : r.val = 0
    · rw [if_pos h0]
      by_cases ht : t.val = 0
      · rw [if_pos ht, dif_neg (by omega)]
        simp
      · rw [if_neg ht, dif_pos (by omega), halo_blk m c t 15 e (by show 16 * (32 * t.val - 1) + 15 < 8192; omega)]
        rw [show (((1 : ℤ) : ℝ) : EReal) = 1 by simp, mul_one]
        exact congrArg (I m c) (ix2_ext (show 16 * (32 * t.val - 1) + 15 = 512 * t.val + r.val - 1 by omega) rfl)
    · rw [if_neg h0, dif_pos (by omega), inner_blk m c t ⟨(r.val + 512 - 1) % 512, by omega⟩ e (by show 512 * t.val + (r.val + 512 - 1) % 512 < 8192; omega)]
      exact congrArg (I m c) (ix2_ext (show 512 * t.val + (r.val + 512 - 1) % 512 = 512 * t.val + r.val - 1 by omega) rfl)
  · congr 1
    by_cases h0 : r.val = 0
    · rw [if_pos h0]
      by_cases ht : t.val = 0
      · rw [if_pos ht, dif_neg (by omega)]
        simp
      · rw [if_neg ht, dif_pos (by omega), halo_blk m c t 14 e (by show 16 * (32 * t.val - 1) + 14 < 8192; omega)]
        rw [show (((1 : ℤ) : ℝ) : EReal) = 1 by simp, mul_one]
        exact congrArg (I m c) (ix2_ext (show 16 * (32 * t.val - 1) + 14 = 512 * t.val + r.val - 2 by omega) rfl)
    · rw [if_neg h0]
      by_cases h1 : r.val = 1
      · rw [if_pos h1]
        by_cases ht : t.val = 0
        · rw [if_pos ht, dif_neg (by omega)]
          simp
        · rw [if_neg ht, dif_pos (by omega), halo_blk m c t 15 e (by show 16 * (32 * t.val - 1) + 15 < 8192; omega)]
          rw [show (((1 : ℤ) : ℝ) : EReal) = 1 by simp, mul_one]
          exact congrArg (I m c) (ix2_ext (show 16 * (32 * t.val - 1) + 15 = 512 * t.val + r.val - 2 by omega) rfl)
      · rw [if_neg h1, dif_pos (by omega), inner_blk m c t ⟨(r.val + 512 - 2) % 512, by omega⟩ e (by show 512 * t.val + (r.val + 512 - 2) % 512 < 8192; omega)]
        exact congrArg (I m c) (ix2_ext (show 512 * t.val + (r.val + 512 - 2) % 512 = 512 * t.val + r.val - 2 by omega) rfl)

/-- The row blocks together are the residual and the product with the gated convolution. -/
theorem final : (dats m 0 c).arrAt 6 cfg0.N = val_main_v23 (F := Ideal) (X m c) (B m c) (I m c) (K m c) (W m c) := by
  refine (dats m 0 c).arrAt_eq_of_covers 6 _ (by decide +kernel) fun t hf y => ?_
  blk_simp
  rw [after0_6]
  frame_out
  idx_vars y
  have hr := y0.isLt
  have hN : t.val < 16 := t.isLt
  have e : (((View.whole main_v3).slice (win0_6.rect t)).emb (ix2 y0 y1)) = ix2 ⟨512 * t.val + y0.val, by omega⟩ y1 := by blk_ext [idx t]
  refine Eq.trans ?_ (congrArg _ e).symm
  pointwise [k0_pay1, val_main_v23, val_main_v22, val_main_v21]
  simp only [conv_ref, conv_block m c t y0 _ (by omega : 512 * t.val + y0.val < 8192)]
  have a2 : ∀ x : Fin 2048, View.ld (iblk m c 4 t) r0_2 (ix2 0 x) = K m c (ix2 2 x) := fun x => by blk_point [iblk, V, idx t]
  have a1 : ∀ x : Fin 2048, View.ld (iblk m c 4 t) r0_3 (ix2 0 x) = K m c (ix2 1 x) := fun x => by blk_point [iblk, V, idx t]
  have a0 : ∀ x : Fin 2048, View.ld (iblk m c 4 t) r0_4 (ix2 0 x) = K m c (ix2 0 x) := fun x => by blk_point [iblk, V, idx t]
  have hx : iblk m c 0 t (ix2 y0 y1) = X m c (ix2 ⟨512 * t.val + y0.val, by omega⟩ y1) := by blk_point [iblk, V, idx t]
  have hb : ∀ x : Fin 2048, iblk m c 1 t (ix2 y0 x) = B m c (ix2 ⟨512 * t.val + y0.val, by omega⟩ x) := fun x => by blk_point [iblk, V, idx t]
  have hw : ∀ x : Fin 2048, iblk m c 5 t (ix2 x y1) = W m c (ix2 x y1) := fun x => by blk_point [iblk, V, idx t]
  rw [hx]
  congr 1
  refine Finset.sum_congr rfl fun x _ => ?_
  rw [hb, hw, a2, a1, a0]
  congr 2
  rw [add_comm, add_comm (K m c (ix2 2 x) * _), ← add_assoc]

end Cert.Proof.ConvOut

namespace Cert.Proof

open Idealize.ShloMosaic Idealize.ShloMosaic.TcCoe Idealize.SL.Sem

theorem quiescent_Kernel6 : Cert.quiescent_Kernel6 (hKernel6 := Cert.Kernel6.Gen.facts) :=
  fun m g _ => Cert.Kernel6.Gen.frame m g

theorem quiescent_Kernel6Ideal : Cert.quiescent_Kernel6Ideal (hKernel6Ideal := Cert.Kernel6Ideal.Gen.facts) :=
  fun m g _ => Cert.Kernel6Ideal.Gen.frame m g

theorem quiescent_Reference6Ideal : Cert.quiescent_Reference6Ideal (hReference6Ideal := Cert.Reference6Ideal.Gen.facts) :=
  fun m g _ => (θ_run _ _ _).mono (fun r h => ⟨fun c => (h c).2, sem_eq_zero_of_no_sems (by decide) r.2⟩)
    (Cert.Reference6Ideal.Value.run m g)

theorem algebraic_Kernel6Ideal_Reference6Ideal :
    Cert.algebraic_Kernel6Ideal_Reference6Ideal (hKernel6Ideal := Cert.Kernel6Ideal.Gen.facts) (hReference6Ideal := Cert.Reference6Ideal.Gen.facts) := by
  intro m g m' g' _ hagree
  refine ⟨_, Cert.Kernel6Ideal.Value.run_blocks m g, ?_⟩
  refine (θ_run _ _ _).mono (fun r h c => ?_) (Cert.Reference6Ideal.Value.run m' g')
  refine ⟨(h c).1.trans ?_, (h c).2⟩
  rw [Cert.Reference6Ideal.Read.val_main_v23_eq, (hagree c).1, (hagree c).2.1, (hagree c).2.2.1, (hagree c).2.2.2.1, (hagree c).2.2.2.2]
  exact (ConvOut.final m c).symm

end Cert.Proof

end

end
-- ==== Proof.ConvIn.lean ====
module

public import proofs.«01_k».proof.Defs
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Proof.ConvIn

open Idealize.ShloMosaic Idealize.ShloMosaic.TcCoe Idealize.SL.Sem
open Cert.Kernel5Ideal Cert.Kernel5Ideal.Gen
open Cert.Reference5Ideal.Read (val_main_v14 val_main_v15 val_main_v16 val_main_v17 val_main_v18 val_main_v19 val_main_v20 val_main_v21)

variable (m : (ℓ : Loc nD τ sig) → Buf (Elt Ideal) ℓ) (c : Dev nD)

theorem idx : ∀ t : Fin cfg0.N, win0_0.index t = ![t.val / 4, 0] ∧ win0_1.index t = ![1, 0, 0] ∧ win0_2.index t = ![0, t.val % 4]
    ∧ win0_3.index t = ![0, t.val % 4 + 4] ∧ win0_4.index t = ![0, t.val % 4 + 8] ∧ win0_5.index t = ![t.val / 4, t.val % 4] ∧ win0_6.index t = ![t.val / 4, t.val % 4] := by
  decide +kernel

abbrev X : S8192x2048.Idx → EReal := m ((c : Thread nD τ).loc main_arg0)
abbrev G : S4x2048.Idx → EReal := m ((c : Thread nD τ).loc main_arg1)
abbrev W : S2048x6144.Idx → EReal := m ((c : Thread nD τ).loc main_arg2)

/-- The row-normed activation of the reference. -/
abbrev XN : S8192x2048.Idx → EReal := val_main_v14 (F := Ideal) (X m c) (G m c)

theorem norm_block (t : Fin cfg0.N) (r : Fin 1024) (k : Fin 2048) (h : 1024 * (t.val / 4) + r.val < 8192) :
    k0_pay1 (F := Ideal) (iblk m c 0 t) (iblk m c 1 t) (ix2 r k) = XN m c (ix2 ⟨1024 * (t.val / 4) + r.val, h⟩ k) := by
  unfold XN
  pointwise [k0_pay1, val_main_v14, Cert.Reference5Ideal.Read.val_main_v0, Cert.Reference5Ideal.Read.val_main_cst, Cert.Reference5Ideal.Read.val_main_v1, Cert.Reference5Ideal.Read.val_main_v2, Cert.Reference5Ideal.Read.val_main_cst_0, Cert.Reference5Ideal.Read.val_main_v3, Cert.Reference5Ideal.Read.val_main_v4, Cert.Reference5Ideal.Read.val_main_cst_1, Cert.Reference5Ideal.Read.val_main_v5, Cert.Reference5Ideal.Read.val_main_v6, Cert.Reference5Ideal.Read.val_main_v7, Cert.Reference5Ideal.Read.val_main_v8, Cert.Reference5Ideal.Read.val_main_v9, Cert.Reference5Ideal.Read.val_main_v10, Cert.Reference5Ideal.Read.val_main_v11, Cert.Reference5Ideal.Read.val_main_v12, Cert.Reference5Ideal.Read.val_main_v13]
  blk_point [iblk, V, idx t]

/-- The scratch array holds the row block's normed activation at every grid point. -/
theorem scratch_block : ∀ (n : ℕ) (hn : n < cfg0.N) (r : Fin 1024) (k : Fin 2048) (h : 1024 * (n / 4) + r.val < 8192),
    (outsAt0 m c n hn).2.2 (ix2 r k) = XN m c (ix2 ⟨1024 * (n / 4) + r.val, h⟩ k) := by
  have first : ∀ (t : Fin cfg0.N) (h0 : t.val % 4 = 0) (r : Fin 1024) (k : Fin 2048) (h : 1024 * (t.val / 4) + r.val < 8192),
      (outsAt0 m c t.val t.isLt).2.2 (ix2 r k) = XN m c (ix2 ⟨1024 * (t.val / 4) + r.val, h⟩ k) := by
    intro t h0 r k h
    rw [outsAt0_A m c t h0]
    frame_out
    exact norm_block m c t r k h
  intro n
  induction n with
  | zero => intro hn r k h; exact first ⟨0, hn⟩ rfl r k h
  | succ n ih =>
    intro hn r k h
    by_cases h0 : (n + 1) % 4 = 0
    · exact first ⟨n + 1, hn⟩ h0 r k h
    · rw [show outsAt0 m c (n + 1) hn = outsAt0 m c (⟨n + 1, hn⟩ : Fin cfg0.N).val (⟨n + 1, hn⟩ : Fin cfg0.N).isLt from rfl, outsAt0_B m c ⟨n + 1, hn⟩ h0]
      have hd : (n + 1) / 4 = n / 4 := by omega
      dsimp only
      unfold sout0_B_0
      simp only [Nat.add_sub_cancel]
      have e := ih (by omega) r k (by omega)
      simp only [← hd] at e
      exact e

theorem gate_block (t : Fin cfg0.N) (xs : Vec Ideal S1024x2048 .bf16)
    (hx : ∀ (r : Fin 1024) (k : Fin 2048) (h : 1024 * (t.val / 4) + r.val < 8192), xs (ix2 r k) = XN m c (ix2 ⟨1024 * (t.val / 4) + r.val, h⟩ k))
    (r : Fin 1024) (d : Fin 512) (h : 1024 * (t.val / 4) + r.val < 8192) :
    k0_pay2 (F := Ideal) xs (iblk m c 2 t) (ix2 r d)
      = val_main_v19 (F := Ideal) (X m c) (G m c) (W m c) (ix2 ⟨1024 * (t.val / 4) + r.val, h⟩ ⟨512 * (t.val % 4) + d.val, by have := d.isLt; omega⟩) := by
  pointwise [k0_pay2, val_main_v19, val_main_v16, val_main_v15]
  simp only [hx _ _ h]
  unfold XN
  generalize val_main_v14 (F := Ideal) (X m c) (G m c) = xn
  blk_point [iblk, V, idx t]

theorem inner_block (t : Fin cfg0.N) (xs : Vec Ideal S1024x2048 .bf16)
    (hx : ∀ (r : Fin 1024) (k : Fin 2048) (h : 1024 * (t.val / 4) + r.val < 8192), xs (ix2 r k) = XN m c (ix2 ⟨1024 * (t.val / 4) + r.val, h⟩ k))
    (r : Fin 1024) (d : Fin 512) (h : 1024 * (t.val / 4) + r.val < 8192) :
    k0_pay3 (F := Ideal) xs (iblk m c 3 t) (iblk m c 4 t) (ix2 r d)
      = val_main_v21 (F := Ideal) (X m c) (G m c) (W m c) (ix2 ⟨1024 * (t.val / 4) + r.val, h⟩ ⟨512 * (t.val % 4) + d.val, by have := d.isLt; omega⟩) := by
  pointwise [k0_pay3, val_main_v21, val_main_v20, val_main_v17, val_main_v18, val_main_v15]
  simp only [hx _ _ h]
  unfold XN
  generalize val_main_v14 (F := Ideal) (X m c) (G m c) = xn
  blk_point [iblk, V, idx t]

theorem outs (t : Fin cfg0.N) (r : Fin 1024) (d : Fin 512) (h : 1024 * (t.val / 4) + r.val < 8192) :
    (outsAt0 m c t.val t.isLt).1 (ix2 r d)
      = val_main_v19 (F := Ideal) (X m c) (G m c) (W m c) (ix2 ⟨1024 * (t.val / 4) + r.val, h⟩ ⟨512 * (t.val % 4) + d.val, by have := d.isLt; omega⟩)
    ∧ (outsAt0 m c t.val t.isLt).2.1 (ix2 r d)
      = val_main_v21 (F := Ideal) (X m c) (G m c) (W m c) (ix2 ⟨1024 * (t.val / 4) + r.val, h⟩ ⟨512 * (t.val % 4) + d.val, by have := d.isLt; omega⟩) := by
  by_cases h0 : t.val % 4 = 0
  · rw [outsAt0_A m c t h0]
    constructor
    · frame_out
      exact gate_block m c t _ (fun r k h => norm_block m c t r k h) r d h
    · frame_out
      exact inner_block m c t _ (fun r k h => norm_block m c t r k h) r d h
  · have hs : ∀ (r : Fin 1024) (k : Fin 2048) (h : 1024 * (t.val / 4) + r.val < 8192),
        (outsAt0 m c (t.val - 1) (by have := t.isLt; omega)).2.2 (ix2 r k) = XN m c (ix2 ⟨1024 * (t.val / 4) + r.val, h⟩ k) := by
      intro r k h
      have hd : (t.val - 1) / 4 = t.val / 4 := by omega
      have e := scratch_block m c (t.val - 1) (by have := t.isLt; omega) r k (by omega)
      simp only [hd] at e
      exact e
    rw [outsAt0_B m c t h0]
    constructor
    · frame_out
      simp only [read_unread_whole]
      exact gate_block m c t _ hs r d h
    · frame_out
      simp only [read_unread_whole]
      exact inner_block m c t _ hs r d h

theorem final_gate : (dats m 0 c).arrAt 5 cfg0.N = val_main_v19 (F := Ideal) (X m c) (G m c) (W m c) := by
  refine (dats m 0 c).arrAt_eq_of_covers 5 _ (by decide +kernel) fun t hf y => ?_
  blk_simp
  rw [after0_5]
  idx_vars y
  have hr := y0.isLt
  have hN : t.val < 32 := t.isLt
  refine (outs m c t y0 y1 (by omega)).1.trans (congrArg _ ?_)
  blk_ext [idx t]

theorem final_inner : (dats m 0 c).arrAt 6 cfg0.N = val_main_v21 (F := Ideal) (X m c) (G m c) (W m c) := by
  refine (dats m 0 c).arrAt_eq_of_covers 6 _ (by decide +kernel) fun t hf y => ?_
  blk_simp
  rw [after0_6]
  idx_vars y
  have hr := y0.isLt
  have hN : t.val < 32 := t.isLt
  refine (outs m c t y0 y1 (by omega)).2.trans (congrArg _ ?_)
  blk_ext [idx t]

end Cert.Proof.ConvIn

namespace Cert.Proof

open Idealize.ShloMosaic Idealize.ShloMosaic.TcCoe Idealize.SL.Sem

theorem quiescent_Kernel5 : Cert.quiescent_Kernel5 (hKernel5 := Cert.Kernel5.Gen.facts) :=
  fun m g _ => Cert.Kernel5.Gen.frame m g

theorem quiescent_Kernel5Ideal : Cert.quiescent_Kernel5Ideal (hKernel5Ideal := Cert.Kernel5Ideal.Gen.facts) :=
  fun m g _ => Cert.Kernel5Ideal.Gen.frame m g

theorem quiescent_Reference5Ideal : Cert.quiescent_Reference5Ideal (hReference5Ideal := Cert.Reference5Ideal.Gen.facts) :=
  fun m g _ => (θ_run _ _ _).mono (fun r h => ⟨fun c => (h c).2.2, sem_eq_zero_of_no_sems (by decide) r.2⟩)
    (Cert.Reference5Ideal.Value.run m g)

theorem algebraic_Kernel5Ideal_Reference5Ideal :
    Cert.algebraic_Kernel5Ideal_Reference5Ideal (hKernel5Ideal := Cert.Kernel5Ideal.Gen.facts) (hReference5Ideal := Cert.Reference5Ideal.Gen.facts) := by
  intro m g m' g' _ hagree
  refine ⟨_, _, Cert.Kernel5Ideal.Value.run_blocks m g, ?_⟩
  refine (θ_run _ _ _).mono (fun r h c => ?_) (Cert.Reference5Ideal.Value.run m' g')
  refine ⟨(h c).1.trans ?_, (h c).2.1.trans ?_, (h c).2.2⟩
  · rw [Cert.Reference5Ideal.Read.val_main_v19_eq, (hagree c).1, (hagree c).2.1, (hagree c).2.2]
    exact (ConvIn.final_gate m c).symm
  · rw [Cert.Reference5Ideal.Read.val_main_v21_eq, (hagree c).1, (hagree c).2.1, (hagree c).2.2]
    exact (ConvIn.final_inner m c).symm

end Cert.Proof

end

end
-- ==== Proof.SbQkv.lean ====
module

public import proofs.«01_k».proof.Defs
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pointwise
public import Idealize.ShloMosaic.Lib.Pipeline.ValueKit
public import Idealize.ShloMosaic.Lib.Pipeline.ReadBack
public import Idealize.ShloMosaic.Lib.WordCmp

@[expose] public section

set_option maxRecDepth 16384

noncomputable section

namespace Cert.Proof.SbQkv

open Idealize.ShloMosaic Idealize.ShloMosaic.TcCoe Idealize.SL.Sem
open Cert.Kernel4Ideal Cert.Kernel4Ideal.Gen
open Cert.Reference4Ideal.Read (val_main_v14 val_main_v15 val_main_v16 val_main_v17 val_main_v18 val_main_v19 val_main_v20 val_main_v21 val_main_v22)

variable (m : (ℓ : Loc nD τ sig) → Buf (Elt Ideal) ℓ) (c : Dev nD)

theorem idx : ∀ t : Fin cfg0.N, win0_0.index t = ![t.val / 3, 0] ∧ win0_1.index t = ![2, 0, 0] ∧ win0_2.index t = ![0, t.val % 3]
    ∧ win0_5.index t = ![0, 0] ∧ win0_6.index t = ![t.val / 3, t.val % 3] :=
  (by decide +kernel : ∀ t : Fin grid0.N, _)

abbrev X : S8192x2048.Idx → EReal := m ((c : Thread nD τ).loc main_arg0)
abbrev G : S4x2048.Idx → EReal := m ((c : Thread nD τ).loc main_arg1)
abbrev W : S2048x6144.Idx → EReal := m ((c : Thread nD τ).loc main_arg2)

/-- The row-normed activation of the reference. -/
abbrev XN : S8192x2048.Idx → EReal := val_main_v14 (F := Ideal) (X m c) (G m c)

theorem entry_gain : V m c main_v1 = shapeCast S4x1x2048 (G m c) shapeCasts_S4x2048_S4x1x2048 := by
  simp only [V, hostOps0, hostOps0_1, hostOps0_2, hostOps0_3, hostOps0_4, List.flatten_cons, List.flatten_nil, List.append_nil, List.cons_append, List.nil_append]
  after_results_simp
  rfl

theorem entry_w : V m c main_v2 = W m c := by
  simp only [V, hostOps0, hostOps0_1, hostOps0_2, hostOps0_3, hostOps0_4, List.flatten_cons, List.flatten_nil, List.append_nil, List.cons_append, List.nil_append]
  after_results_simp
  rfl

/-- The position that row `p` of a group is taken from, as the host works it out in words. -/
theorem word : ∀ p : Fin 256, IntOp.addi
          (IntOp.muli
            (Scalar.select
              (IntOp.andi
                (IntOp.cmpi CmpIPredicate.ne
                  (IntOp.cmpi CmpIPredicate.slt
                    (IntOp.remsi ArithUnit.host (BitVec.ofNat 32 p.val)
                      (Scalar.select (IntOp.cmpi CmpIPredicate.eq 8#32 0#32) 1#32 8#32))
                    0#32)
                  (IntOp.cmpi CmpIPredicate.slt (Scalar.select (IntOp.cmpi CmpIPredicate.eq 8#32 0#32) 1#32 8#32) 0#32))
                (IntOp.cmpi CmpIPredicate.ne
                  (IntOp.remsi ArithUnit.host (BitVec.ofNat 32 p.val)
                    (Scalar.select (IntOp.cmpi CmpIPredicate.eq 8#32 0#32) 1#32 8#32))
                  0#32))
              (IntOp.addi
                (IntOp.remsi ArithUnit.host (BitVec.ofNat 32 p.val)
                  (Scalar.select (IntOp.cmpi CmpIPredicate.eq 8#32 0#32) 1#32 8#32))
                (Scalar.select (IntOp.cmpi CmpIPredicate.eq 8#32 0#32) 1#32 8#32))
              (IntOp.remsi ArithUnit.host (BitVec.ofNat 32 p.val)
                (Scalar.select (IntOp.cmpi CmpIPredicate.eq 8#32 0#32) 1#32 8#32)))
            32#32)
          (Scalar.select
            (IntOp.andi
              (IntOp.cmpi CmpIPredicate.ne
                (if BitVec.ofNat 32 p.val = 0 then (0 : BitVec 32) else if (BitVec.ofNat 32 p.val).msb = true then -1 else 1)
                (if 8#32 = 0 then (0 : BitVec 32) else if (8#32).msb = true then -1 else 1))
              (IntOp.cmpi CmpIPredicate.ne (IntOp.remsi ArithUnit.host (BitVec.ofNat 32 p.val) 8#32) 0#32))
            (IntOp.subi (IntOp.divsi ArithUnit.host (BitVec.ofNat 32 p.val) 8#32) 1#32)
            (IntOp.divsi ArithUnit.host (BitVec.ofNat 32 p.val) 8#32)) = BitVec.ofNat 32 (p.val % 8 * 32 + p.val / 8) := by
  decide +kernel

theorem entry_perm (p q : Fin 256) : V m c main_v15 (ix2 p q) = if p.val % 8 * 32 + p.val / 8 = q.val then (1 : EReal) else 0 := by
  simp only [V, hostOps0, hostOps0_1, hostOps0_2, hostOps0_3, hostOps0_4, List.flatten_cons, List.flatten_nil, List.append_nil, List.cons_append, List.nil_append]
  after_results_simp
  simp only [StableHlo.TRef.ofBuf_toBuf, id]
  simp only [StableHlo.TRef.ofBuf, StableHlo.TRef.of, StableHlo.TRef.toBuf, cast_eq]
  pointwise
  refine Eq.trans (congrArg (fun w => FloatOps.uitofp (F := Ideal) FTy.bf16 (IntOp.cmpi .eq w (BitVec.ofNat 32 q.val))) (word p)) ?_
  show FloatOps.uitofp (F := Ideal) FTy.bf16 (IntOp.cmpi .eq (BitVec.ofNat 32 (p.val % 8 * 32 + p.val / 8)) (BitVec.ofNat 32 q.val)) = _
  rw [WordCmp.cmpi_eq_eq_toNat]
  have hp := p.isLt
  have hq := q.isLt
  rw [show (BitVec.ofNat 32 (p.val % 8 * 32 + p.val / 8)).toNat = p.val % 8 * 32 + p.val / 8 by rw [BitVec.toNat_ofNat]; omega,
    show (BitVec.ofNat 32 q.val).toNat = q.val by rw [BitVec.toNat_ofNat]; omega]
  by_cases h : p.val % 8 * 32 + p.val / 8 = q.val
  · rw [if_pos h, decide_eq_true h]
    show (((1#1 : BitVec 1).toNat : ℝ) : EReal) = 1
    simp
  · rw [if_neg h, decide_eq_false h]
    show (((0#1 : BitVec 1).toNat : ℝ) : EReal) = 0
    simp

theorem norm_block (t : Fin cfg0.N) (r : Fin 1024) (k : Fin 2048) (h : 1024 * (t.val / 3) + r.val < 8192) :
    k0_pay6 (F := Ideal) (iblk m c 0 t) (iblk m c 1 t) (ix2 r k) = XN m c (ix2 ⟨1024 * (t.val / 3) + r.val, h⟩ k) := by
  unfold XN
  pointwise [k0_pay6, val_main_v14, Cert.Reference4Ideal.Read.val_main_v0, Cert.Reference4Ideal.Read.val_main_cst, Cert.Reference4Ideal.Read.val_main_v1, Cert.Reference4Ideal.Read.val_main_v2, Cert.Reference4Ideal.Read.val_main_cst_0, Cert.Reference4Ideal.Read.val_main_v3, Cert.Reference4Ideal.Read.val_main_v4, Cert.Reference4Ideal.Read.val_main_cst_1, Cert.Reference4Ideal.Read.val_main_v5, Cert.Reference4Ideal.Read.val_main_v6, Cert.Reference4Ideal.Read.val_main_v7, Cert.Reference4Ideal.Read.val_main_v8, Cert.Reference4Ideal.Read.val_main_v9, Cert.Reference4Ideal.Read.val_main_v10, Cert.Reference4Ideal.Read.val_main_v11, Cert.Reference4Ideal.Read.val_main_v12, Cert.Reference4Ideal.Read.val_main_v13]
  blk_point [iblk, idx t]
  all_goals rw [entry_gain]
  all_goals pointwise
  all_goals blk_point [iblk, idx t]

theorem perm_block (t : Fin cfg0.N) (p q : Fin 256) :
    iblk m c 5 t (ix2 p q) = if p.val % 8 * 32 + p.val / 8 = q.val then (1 : EReal) else 0 := by
  refine Eq.trans ?_ (entry_perm m c p q)
  unfold iblk
  refine congrArg (V m c main_v15) ?_
  blk_ext [idx t]

/-- The zero-one matrix. -/
abbrev PM (t : Fin cfg0.N) : S256x256.Idx → EReal := iblk m c 5 t

/-- A product with the zero-one matrix takes one row of a group. -/
theorem pick (t : Fin cfg0.N) (p : Fin 256) (f : Fin 256 → EReal) :
    ∑ q : Fin 256, PM m c t (ix2 p q) * f q = f ⟨p.val % 8 * 32 + p.val / 8, by have := p.isLt; omega⟩ := by
  rw [Finset.sum_eq_single (⟨p.val % 8 * 32 + p.val / 8, by have := p.isLt; omega⟩ : Fin 256)]
  · rw [show PM m c t (ix2 p _) = _ from perm_block m c t p _, if_pos rfl, one_mul]
  · intro q _ hq
    rw [show PM m c t (ix2 p q) = _ from perm_block m c t p q, if_neg (fun e => hq (Fin.ext e.symm)), zero_mul]
  · intro h; exact absurd (Finset.mem_univ _) h

theorem ix2_ext {a b : ℕ} {r r' : Fin a} {e e' : Fin b} (h : r.val = r'.val) (h' : e.val = e'.val) : ix2 r e = ix2 r' e' :=
  congrArg₂ ix2 (Fin.ext h) (Fin.ext h')

theorem ref_q (R : Fin 8192) (d : ℕ) (h : d < 2048) (h' : d < 6144) :
    val_main_v22 (F := Ideal) (X m c) (G m c) (W m c) (ix2 R ⟨d, h'⟩)
      = ∑ k : Fin 2048, XN m c (ix2 R k) * W m c (ix2 k ⟨d, h'⟩) := by
  unfold XN
  pointwise [val_main_v22, val_main_v21, val_main_v16, val_main_v15]
  rw [dif_pos h]

theorem ref_kv (R : Fin 8192) (d : ℕ) (h : 2048 ≤ d) (h' : d < 6144) :
    val_main_v22 (F := Ideal) (X m c) (G m c) (W m c) (ix2 R ⟨d, h'⟩)
      = ∑ k : Fin 2048, XN m c (ix2 ⟨256 * (R.val / 256) + (R.val % 256 % 8 * 32 + R.val % 256 / 8), by have := R.isLt; omega⟩ k) * W m c (ix2 k ⟨d, h'⟩) := by
  unfold XN
  pointwise [val_main_v22, val_main_v20, val_main_v19, val_main_v18, val_main_v17, val_main_v16, val_main_v15]
  rw [dif_neg (by omega)]
  refine Finset.sum_congr rfl fun k _ => ?_
  refine congrArg₂ (· * ·) (congrArg _ (ix2_ext ?_ rfl)) (congrArg _ (ix2_ext rfl ?_))
  · show R.val / 256 * 256 + R.val % 8 * 32 + R.val / 8 % 32 = 256 * (R.val / 256) + (R.val % 256 % 8 * 32 + R.val % 256 / 8)
    omega
  · show 2048 + (d - 2048) = d
    omega

theorem group_0 (t : Fin cfg0.N) (p : Fin 256) (k : Fin 2048) (h : 1024 * (t.val / 3) + (0 + (p.val % 8 * 32 + p.val / 8)) < 8192) :
    k0_pay8 (F := Ideal) (iblk m c 0 t) (iblk m c 1 t) (iblk m c 5 t) (ix2 p k)
      = XN m c (ix2 ⟨1024 * (t.val / 3) + (0 + (p.val % 8 * 32 + p.val / 8)), h⟩ k) := by
  have hp := p.isLt
  refine Eq.trans ?_ (norm_block m c t ⟨0 + (p.val % 8 * 32 + p.val / 8), by omega⟩ k h)
  refine Eq.trans ?_ (pick m c t p (fun q => k0_pay6 (F := Ideal) (iblk m c 0 t) (iblk m c 1 t) (ix2 ⟨0 + q.val, by have := q.isLt; omega⟩ k)))
  pointwise [k0_pay8]

theorem group_256 (t : Fin cfg0.N) (p : Fin 256) (k : Fin 2048) (h : 1024 * (t.val / 3) + (256 + (p.val % 8 * 32 + p.val / 8)) < 8192) :
    k0_pay9 (F := Ideal) (iblk m c 0 t) (iblk m c 1 t) (iblk m c 5 t) (ix2 p k)
      = XN m c (ix2 ⟨1024 * (t.val / 3) + (256 + (p.val % 8 * 32 + p.val / 8)), h⟩ k) := by
  have hp := p.isLt
  refine Eq.trans ?_ (norm_block m c t ⟨256 + (p.val % 8 * 32 + p.val / 8), by omega⟩ k h)
  refine Eq.trans ?_ (pick m c t p (fun q => k0_pay6 (F := Ideal) (iblk m c 0 t) (iblk m c 1 t) (ix2 ⟨256 + q.val, by have := q.isLt; omega⟩ k)))
  pointwise [k0_pay9]

theorem group_512 (t : Fin cfg0.N) (p : Fin 256) (k : Fin 2048) (h : 1024 * (t.val / 3) + (512 + (p.val % 8 * 32 + p.val / 8)) < 8192) :
    k0_pay1 (F := Ideal) (k0_pay6 (iblk m c 0 t) (iblk m c 1 t)) (iblk m c 5 t) (ix2 p k)
      = XN m c (ix2 ⟨1024 * (t.val / 3) + (512 + (p.val % 8 * 32 + p.val / 8)), h⟩ k) := by
  have hp := p.isLt
  refine Eq.trans ?_ (norm_block m c t ⟨512 + (p.val % 8 * 32 + p.val / 8), by omega⟩ k h)
  refine Eq.trans ?_ (pick m c t p (fun q => k0_pay6 (F := Ideal) (iblk m c 0 t) (iblk m c 1 t) (ix2 ⟨512 + q.val, by have := q.isLt; omega⟩ k)))
  pointwise [k0_pay1]

theorem group_768 (t : Fin cfg0.N) (p : Fin 256) (k : Fin 2048) (h : 1024 * (t.val / 3) + (768 + (p.val % 8 * 32 + p.val / 8)) < 8192) :
    k0_pay2 (F := Ideal) (k0_pay6 (iblk m c 0 t) (iblk m c 1 t)) (iblk m c 5 t) (ix2 p k)
      = XN m c (ix2 ⟨1024 * (t.val / 3) + (768 + (p.val % 8 * 32 + p.val / 8)), h⟩ k) := by
  have hp := p.isLt
  refine Eq.trans ?_ (norm_block m c t ⟨768 + (p.val % 8 * 32 + p.val / 8), by omega⟩ k h)
  refine Eq.trans ?_ (pick m c t p (fun q => k0_pay6 (F := Ideal) (iblk m c 0 t) (iblk m c 1 t) (ix2 ⟨768 + q.val, by have := q.isLt; omega⟩ k)))
  pointwise [k0_pay2]

/-- The rows of a row block as the keys and values take them: each group of 256 interleaved. -/
theorem scratch_first (t : Fin cfg0.N) (h0 : t.val % 3 = 0) (r : Fin 1024) (k : Fin 2048) (h : 1024 * (t.val / 3) + (256 * (r.val / 256) + (r.val % 256 % 8 * 32 + r.val % 256 / 8)) < 8192) :
    (outsAt0 m c t.val t.isLt).2 (ix2 r k) = XN m c (ix2 ⟨1024 * (t.val / 3) + (256 * (r.val / 256) + (r.val % 256 % 8 * 32 + r.val % 256 / 8)), h⟩ k) := by
  have hr := r.isLt
  have hN : t.val < 24 := t.isLt
  rw [outsAt0_A m c t h0 h0 (by omega) (by omega)]
  frame_out
  refine View.canon_eq_of_allAt _ _ _ (View.cover_of_tiled_head _ _ _ rfl _) (View.allAt_cons_unit _ _ _ _ _ ?_ (View.allAt_cons_unit _ _ _ _ _ ?_
    (View.allAt_cons_unit _ _ _ _ _ ?_ (View.allAt_cons_unit _ _ _ _ _ ?_ (View.allAt_nil _ _)))))
  · intro x hx
    idx_vars x
    have e0 : r.val = 768 + x0.val := hx 0
    have e1 : k.val = 0 + x1.val := hx 1
    have hx0 := x0.isLt
    refine (group_768 m c t x0 x1 (by omega)).trans ?_
    exact congrArg (XN m c) (ix2_ext (by show 1024 * (t.val / 3) + (768 + (x0.val % 8 * 32 + x0.val / 8)) = 1024 * (t.val / 3) + (256 * (r.val / 256) + (r.val % 256 % 8 * 32 + r.val % 256 / 8)); omega) (by omega))
  · intro x hx
    idx_vars x
    have e0 : r.val = 512 + x0.val := hx 0
    have e1 : k.val = 0 + x1.val := hx 1
    have hx0 := x0.isLt
    refine (group_512 m c t x0 x1 (by omega)).trans ?_
    exact congrArg (XN m c) (ix2_ext (by show 1024 * (t.val / 3) + (512 + (x0.val % 8 * 32 + x0.val / 8)) = 1024 * (t.val / 3) + (256 * (r.val / 256) + (r.val % 256 % 8 * 32 + r.val % 256 / 8)); omega) (by omega))
  · intro x hx
    idx_vars x
    have e0 : r.val = 256 + x0.val := hx 0
    have e1 : k.val = 0 + x1.val := hx 1
    have hx0 := x0.isLt
    refine (group_256 m c t x0 x1 (by omega)).trans ?_
    exact congrArg (XN m c) (ix2_ext (by show 1024 * (t.val / 3) + (256 + (x0.val % 8 * 32 + x0.val / 8)) = 1024 * (t.val / 3) + (256 * (r.val / 256) + (r.val % 256 % 8 * 32 + r.val % 256 / 8)); omega) (by omega))
  · intro x hx
    idx_vars x
    have e0 : r.val = 0 + x0.val := hx 0
    have e1 : k.val = 0 + x1.val := hx 1
    have hx0 := x0.isLt
    refine (group_0 m c t x0 x1 (by omega)).trans ?_
    exact congrArg (XN m c) (ix2_ext (by show 1024 * (t.val / 3) + (0 + (x0.val % 8 * 32 + x0.val / 8)) = 1024 * (t.val / 3) + (256 * (r.val / 256) + (r.val % 256 % 8 * 32 + r.val % 256 / 8)); omega) (by omega))

theorem scratch_block : ∀ (n : ℕ) (hn : n < cfg0.N) (r : Fin 1024) (k : Fin 2048) (h : 1024 * (n / 3) + (256 * (r.val / 256) + (r.val % 256 % 8 * 32 + r.val % 256 / 8)) < 8192),
    (outsAt0 m c n hn).2 (ix2 r k) = XN m c (ix2 ⟨1024 * (n / 3) + (256 * (r.val / 256) + (r.val % 256 % 8 * 32 + r.val % 256 / 8)), h⟩ k) := by
  intro n
  induction n with
  | zero => intro hn r k h; exact scratch_first m c ⟨0, hn⟩ rfl r k h
  | succ n ih =>
    intro hn r k h
    by_cases h0 : (n + 1) % 3 = 0
    · exact scratch_first m c ⟨n + 1, hn⟩ h0 r k h
    · have hd : (n + 1) / 3 = n / 3 := by omega
      have e := ih (by omega) r k (by omega)
      simp only [← hd] at e
      rw [show outsAt0 m c (n + 1) hn = outsAt0 m c (⟨n + 1, hn⟩ : Fin cfg0.N).val (⟨n + 1, hn⟩ : Fin cfg0.N).isLt from rfl]
      by_cases h1 : (n + 1) % 3 = 1
      · rw [outsAt0_B m c ⟨n + 1, hn⟩ h0 h0 h1 (by show ¬ (n + 1) % 3 = 2; omega)]
        dsimp only
        unfold sout0_B_1
        simp only [Nat.add_sub_cancel]
        exact e
      · rw [outsAt0_C m c ⟨n + 1, hn⟩ h0 h0 h1 (by show (n + 1) % 3 = 2; omega)]
        dsimp only
        unfold sout0_C_1
        simp only [Nat.add_sub_cancel]
        exact e

theorem one : Ideal.ofBits .f32 0x3F800000#32 = (1 : EReal) := by
  simp [Ideal.ofBits, Ideal.ieee, -EReal.coe_mul]
  norm_num

theorem w_block (t : Fin cfg0.N) (k d : Fin 2048) : iblk m c 2 t (ix2 k d) = W m c (ix2 k ⟨2048 * (t.val % 3) + d.val, by have := d.isLt; omega⟩) := by
  rw [← entry_w]
  unfold iblk
  refine congrArg (V m c main_v2) ?_
  blk_ext [idx t]

/-- A row block of the result. -/
theorem outs (t : Fin cfg0.N) (r : Fin 1024) (d : Fin 2048) (h : 1024 * (t.val / 3) + r.val < 8192) :
    (outsAt0 m c t.val t.isLt).1 (ix2 r d)
      = val_main_v22 (F := Ideal) (X m c) (G m c) (W m c) (ix2 ⟨1024 * (t.val / 3) + r.val, h⟩ ⟨2048 * (t.val % 3) + d.val, by have := d.isLt; omega⟩) := by
  have hr := r.isLt
  have hN : t.val < 24 := t.isLt
  have hd := d.isLt
  by_cases h0 : t.val % 3 = 0
  · rw [ref_q m c _ _ (by omega), outsAt0_A m c t h0 h0 (by omega) (by omega)]
    frame_out
    pointwise [k0_pay3, k0_pay7]
    exact Finset.sum_congr rfl fun k _ => by rw [norm_block m c t r k h, w_block]
  · rw [ref_kv m c _ _ (by omega)]
    have hs : ∀ k : Fin 2048, (outsAt0 m c (t.val - 1) (by omega)).2 (ix2 r k) = XN m c (ix2 ⟨256 * ((1024 * (t.val / 3) + r.val) / 256) + ((1024 * (t.val / 3) + r.val) % 256 % 8 * 32 + (1024 * (t.val / 3) + r.val) % 256 / 8), by omega⟩ k) := by
      intro k
      refine (scratch_block m c (t.val - 1) (by omega) r k (by omega)).trans (congrArg (XN m c) (ix2_ext ?_ rfl))
      show 1024 * ((t.val - 1) / 3) + (256 * (r.val / 256) + (r.val % 256 % 8 * 32 + r.val % 256 / 8)) = 256 * ((1024 * (t.val / 3) + r.val) / 256) + ((1024 * (t.val / 3) + r.val) % 256 % 8 * 32 + (1024 * (t.val / 3) + r.val) % 256 / 8)
      omega
    by_cases h1 : t.val % 3 = 1
    · rw [outsAt0_B m c t h0 h0 h1 (by omega)]
      frame_out
      simp only [read_unread_whole]
      pointwise [k0_pay4]
      exact Finset.sum_congr rfl fun k _ => by rw [hs, w_block]
    · rw [outsAt0_C m c t h0 h0 h1 (by omega)]
      frame_out
      simp only [read_unread_whole]
      pointwise [k0_pay5]
      exact Finset.sum_congr rfl fun k _ => by rw [hs, w_block]

theorem final : (dats m 0 c).arrAt 6 cfg0.N = val_main_v22 (F := Ideal) (X m c) (G m c) (W m c) := by
  refine (dats m 0 c).arrAt_eq_of_covers 6 _ (by decide +kernel) fun t hf y => ?_
  blk_simp
  rw [after0_6]
  idx_vars y
  have hr := y0.isLt
  have hN : t.val < 24 := t.isLt
  refine (outs m c t y0 y1 (by omega)).trans (congrArg _ ?_)
  blk_ext [idx t]

end Cert.Proof.SbQkv

namespace Cert.Proof

open Idealize.ShloMosaic Idealize.ShloMosaic.TcCoe Idealize.SL.Sem

theorem quiescent_Kernel4 : Cert.quiescent_Kernel4 (hKernel4 := Cert.Kernel4.Gen.facts) :=
  fun m g _ => Cert.Kernel4.Gen.frame m g

theorem quiescent_Kernel4Ideal : Cert.quiescent_Kernel4Ideal (hKernel4Ideal := Cert.Kernel4Ideal.Gen.facts) :=
  fun m g _ => Cert.Kernel4Ideal.Gen.frame m g

theorem quiescent_Reference4Ideal : Cert.quiescent_Reference4Ideal (hReference4Ideal := Cert.Reference4Ideal.Gen.facts) :=
  fun m g _ => (θ_run _ _ _).mono (fun r h => ⟨fun c => (h c).2, sem_eq_zero_of_no_sems (by decide) r.2⟩)
    (Cert.Reference4Ideal.Value.run m g)

theorem algebraic_Kernel4Ideal_Reference4Ideal :
    Cert.algebraic_Kernel4Ideal_Reference4Ideal (hKernel4Ideal := Cert.Kernel4Ideal.Gen.facts) (hReference4Ideal := Cert.Reference4Ideal.Gen.facts) := by
  intro m g m' g' _ hagree
  refine ⟨_, Cert.Kernel4Ideal.Value.run_blocks m g, ?_⟩
  refine (θ_run _ _ _).mono (fun r h c => ?_) (Cert.Reference4Ideal.Value.run m' g')
  refine ⟨(h c).1.trans ?_, (h c).2⟩
  rw [Cert.Reference4Ideal.Read.val_main_v22_eq, (hagree c).1, (hagree c).2.1, (hagree c).2.2]
  exact (SbQkv.final m c).symm

end Cert.Proof

end

end
-- ==== Proof.FoxQkvRun.lean ====
module

public import proofs.«01_k».proof.Proof.Gen.Kernel7Ideal.Skeleton
public import proofs.«01_k».proof.Proof.Gen.Kernel7Ideal.Frame

@[expose] public section

set_option maxRecDepth 16384

noncomputable section

namespace Cert.Kernel7Ideal.Hand

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords)

set_option maxHeartbeats 4000000 in
/-- A grid point of part 0 (queries): what the stores leave in the block of the result, in the block of the gate logits
    and in the scratch array of the normed rows, as lists of pieces. -/
def runA (arg2 : Memref sig .tc .vmem S1024x2048 .f32) (harg2 : arg2.IsWhole) (arg3 : Memref sig .tc .vmem S1x1x2048 .f32) (harg3 : arg3.IsWhole) (arg4 : Memref sig .tc .vmem S2048x2048 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S2048x128 .bf16) (harg7 : arg7.IsWhole) (arg8 : Memref sig .tc .vmem S1024x2048 .bf16) (harg8 : arg8.IsWhole) (arg9 : Memref sig .tc .vmem S1024x128 .f32) (harg9 : arg9.IsWhole) (arg10 : Memref sig .tc .vmem S1024x2048 .bf16) (harg10 : arg10.IsWhole)
    (h1 : k0_cond1 i = 1#1) (h2 : k0_cond2 i = 1#1) (h3 : ¬k0_cond3 i = 1#1) (h4 : ¬k0_cond4 i = 1#1) (x2 : Vec F S1024x2048 .f32) (x3 : Vec F S1x1x2048 .f32) (x4 : Vec F S2048x2048 .bf16) (x5 : Vec F S1x128 .f32) (x6 : Vec F S1x128 .f32) (x7 : Vec F S2048x128 .bf16) :
    Σ' (L8 : List (View.Piece (Elt F) S1024x2048 .bf16)), Σ' (L9 : List (View.Piece (Elt F) S1024x128 .f32)), { L10 : List (View.Piece (Elt F) S1024x2048 .bf16) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10)) -∗ K ⟨⟩))
          ⊢ wp frame (wpE (defs₀ (F := F)) Variants.none c none) E (cc0_qkv_proj i arg2 harg2 arg3 harg3 arg4 harg4 arg5 harg5 arg6 harg6 arg7 harg7 arg8 harg8 arg9 harg9 arg10 harg10) K } := by
  refine ⟨?_, ?_, ?_, fun E K => ?run⟩
  case run =>
    simp only [cc0_qkv_proj_eq_skeleton]; unfold cc0_qkv_proj_skel
    unfold owns
    iintro ⟨⟨%f2, %h2, H2⟩, ⟨%f3, %h3, H3⟩, ⟨%f4, %h4, H4⟩, ⟨%f5, %h5, H5⟩, ⟨%f6, %h6, H6⟩, ⟨%f7, %h7, H7⟩, ⟨%d8, %f8, -, H8⟩, ⟨%d9, %f9, -, H9⟩, ⟨%d10, %f10, -, H10⟩, Hk⟩
    obtain rfl := harg2.eq_unread h2; obtain rfl := harg3.eq_unread h3; obtain rfl := harg4.eq_unread h4; obtain rfl := harg5.eq_unread h5; obtain rfl := harg6.eq_unread h6; obtain rfl := harg7.eq_unread h7
    sl_exec (disch := first | sl_exact h1 | sl_exact h2 | sl_exact h3 | sl_exact h4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    isplitl [H9]; · iexists _; iexact H9
    iexists _; iexact H10

set_option maxHeartbeats 4000000 in
/-- A grid point of part 1 (keys): what the stores leave in the block of the result, as a list of pieces; the gate logits and the scratch array
    stay as found. -/
def runB (arg2 : Memref sig .tc .vmem S1024x2048 .f32) (harg2 : arg2.IsWhole) (arg3 : Memref sig .tc .vmem S1x1x2048 .f32) (harg3 : arg3.IsWhole) (arg4 : Memref sig .tc .vmem S2048x2048 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S2048x128 .bf16) (harg7 : arg7.IsWhole) (arg8 : Memref sig .tc .vmem S1024x2048 .bf16) (harg8 : arg8.IsWhole) (arg9 : Memref sig .tc .vmem S1024x128 .f32) (harg9 : arg9.IsWhole) (arg10 : Memref sig .tc .vmem S1024x2048 .bf16) (harg10 : arg10.IsWhole)
    (h1 : ¬k0_cond1 i = 1#1) (h2 : ¬k0_cond2 i = 1#1) (h3 : k0_cond3 i = 1#1) (h4 : ¬k0_cond4 i = 1#1) (x2 : Vec F S1024x2048 .f32) (x3 : Vec F S1x1x2048 .f32) (x4 : Vec F S2048x2048 .bf16) (x5 : Vec F S1x128 .f32) (x6 : Vec F S1x128 .f32) (x7 : Vec F S2048x128 .bf16) (x10 : Vec F S1024x2048 .bf16) :
    { L8 : List (View.Piece (Elt F) S1024x2048 .bf16) //
      ∀ (x9 : Vec F S1024x128 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ owns (c : Thread nD τ) arg9 fullShare x9 ∗ owns (c : Thread nD τ) arg10 fullShare x10
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ f, arg8.view.loc (c : Thread nD τ) ↦[arg8.view.set]{fullShare} arg8.view.writes (Elt F) f L8) ∗ owns (c : Thread nD τ) arg9 fullShare x9 ∗ owns (c : Thread nD τ) arg10 fullShare x10) -∗ K ⟨⟩))
          ⊢ wp frame (wpE (defs₀ (F := F)) Variants.none c none) E (cc0_qkv_proj i arg2 harg2 arg3 harg3 arg4 harg4 arg5 harg5 arg6 harg6 arg7 harg7 arg8 harg8 arg9 harg9 arg10 harg10) K } := by
  refine ⟨?_, fun x9 E K => ?run⟩
  case run =>
    simp only [cc0_qkv_proj_eq_skeleton]; unfold cc0_qkv_proj_skel
    unfold owns
    iintro ⟨⟨%f2, %h2, H2⟩, ⟨%f3, %h3, H3⟩, ⟨%f4, %h4, H4⟩, ⟨%f5, %h5, H5⟩, ⟨%f6, %h6, H6⟩, ⟨%f7, %h7, H7⟩, ⟨%d8, %f8, -, H8⟩, ⟨%f9, %h9, H9⟩, ⟨%f10, %h10, H10⟩, Hk⟩
    obtain rfl := harg2.eq_unread h2; obtain rfl := harg3.eq_unread h3; obtain rfl := harg4.eq_unread h4; obtain rfl := harg5.eq_unread h5; obtain rfl := harg6.eq_unread h6; obtain rfl := harg7.eq_unread h7; obtain rfl := harg10.eq_unread h10
    sl_exec (disch := first | sl_exact h1 | sl_exact h2 | sl_exact h3 | sl_exact h4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    isplitl [H9]
    · iexists _; isplitr; · ipureintro; exact h9
      iexact H9
    iexists _; isplitr; · ipureintro; exact harg10.read_unread _
    iexact H10

set_option maxHeartbeats 4000000 in
/-- A grid point of part 2 (values): what the stores leave in the block of the result, as a list of pieces; the gate logits and the scratch array
    stay as found. -/
def runC (arg2 : Memref sig .tc .vmem S1024x2048 .f32) (harg2 : arg2.IsWhole) (arg3 : Memref sig .tc .vmem S1x1x2048 .f32) (harg3 : arg3.IsWhole) (arg4 : Memref sig .tc .vmem S2048x2048 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S2048x128 .bf16) (harg7 : arg7.IsWhole) (arg8 : Memref sig .tc .vmem S1024x2048 .bf16) (harg8 : arg8.IsWhole) (arg9 : Memref sig .tc .vmem S1024x128 .f32) (harg9 : arg9.IsWhole) (arg10 : Memref sig .tc .vmem S1024x2048 .bf16) (harg10 : arg10.IsWhole)
    (h1 : ¬k0_cond1 i = 1#1) (h2 : ¬k0_cond2 i = 1#1) (h3 : ¬k0_cond3 i = 1#1) (h4 : k0_cond4 i = 1#1) (x2 : Vec F S1024x2048 .f32) (x3 : Vec F S1x1x2048 .f32) (x4 : Vec F S2048x2048 .bf16) (x5 : Vec F S1x128 .f32) (x6 : Vec F S1x128 .f32) (x7 : Vec F S2048x128 .bf16) (x10 : Vec F S1024x2048 .bf16) :
    { L8 : List (View.Piece (Elt F) S1024x2048 .bf16) //
      ∀ (x9 : Vec F S1024x128 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ owns (c : Thread nD τ) arg9 fullShare x9 ∗ owns (c : Thread nD τ) arg10 fullShare x10
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ f, arg8.view.loc (c : Thread nD τ) ↦[arg8.view.set]{fullShare} arg8.view.writes (Elt F) f L8) ∗ owns (c : Thread nD τ) arg9 fullShare x9 ∗ owns (c : Thread nD τ) arg10 fullShare x10) -∗ K ⟨⟩))
          ⊢ wp frame (wpE (defs₀ (F := F)) Variants.none c none) E (cc0_qkv_proj i arg2 harg2 arg3 harg3 arg4 harg4 arg5 harg5 arg6 harg6 arg7 harg7 arg8 harg8 arg9 harg9 arg10 harg10) K } := by
  refine ⟨?_, fun x9 E K => ?run⟩
  case run =>
    simp only [cc0_qkv_proj_eq_skeleton]; unfold cc0_qkv_proj_skel
    unfold owns
    iintro ⟨⟨%f2, %h2, H2⟩, ⟨%f3, %h3, H3⟩, ⟨%f4, %h4, H4⟩, ⟨%f5, %h5, H5⟩, ⟨%f6, %h6, H6⟩, ⟨%f7, %h7, H7⟩, ⟨%d8, %f8, -, H8⟩, ⟨%f9, %h9, H9⟩, ⟨%f10, %h10, H10⟩, Hk⟩
    obtain rfl := harg2.eq_unread h2; obtain rfl := harg3.eq_unread h3; obtain rfl := harg4.eq_unread h4; obtain rfl := harg5.eq_unread h5; obtain rfl := harg6.eq_unread h6; obtain rfl := harg7.eq_unread h7; obtain rfl := harg10.eq_unread h10
    sl_exec (disch := first | sl_exact h1 | sl_exact h2 | sl_exact h3 | sl_exact h4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    isplitl [H9]
    · iexists _; isplitr; · ipureintro; exact h9
      iexact H9
    iexists _; isplitr; · ipureintro; exact harg10.read_unread _
    iexact H10

end Cert.Kernel7Ideal.Hand

end
-- ==== Proof.FoxQkvFrame.lean ====
module

public import proofs.«01_k».proof.Proof.FoxQkvRun
public import Idealize.ShloMosaic.Lib.Claim
public import Idealize.ShloMosaic.Lib.Pipeline.TableIdle

@[expose] public section

set_option maxRecDepth 16384

noncomputable section

namespace Cert.Kernel7Ideal.Hand

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The part (queries, keys, values) a grid point computes is its number modulo 3. -/
theorem cond : ∀ t : Fin cfg0.N, (k0_cond1 (grid0.coords t) = 1#1 ↔ t.val % 3 = 0) ∧ (k0_cond2 (grid0.coords t) = 1#1 ↔ t.val % 3 = 0)
    ∧ (k0_cond3 (grid0.coords t) = 1#1 ↔ t.val % 3 = 1) ∧ (k0_cond4 (grid0.coords t) = 1#1 ↔ t.val % 3 = 2) :=
  (by decide +kernel : ∀ t : Fin grid0.N, (k0_cond1 (grid0.coords t) = 1#1 ↔ t.val % 3 = 0) ∧ (k0_cond2 (grid0.coords t) = 1#1 ↔ t.val % 3 = 0)
    ∧ (k0_cond3 (grid0.coords t) = 1#1 ↔ t.val % 3 = 1) ∧ (k0_cond4 (grid0.coords t) = 1#1 ↔ t.val % 3 = 2))
theorem cond_pos {t : Fin cfg0.N} {k : ℕ} {p : Prop} (h : p ↔ t.val % 3 = k) (e : t.val % 3 = k) : p := h.mpr e
theorem cond_neg {t : Fin cfg0.N} {k l : ℕ} {p : Prop} (h : p ↔ t.val % 3 = k) (e : t.val % 3 = l) (hkl : l ≠ k) : ¬p := fun hp => hkl (e.symm.trans (h.mp hp))

/-- The scratch array that carries the normed rows between the parts. -/
abbrev scM : Memref sig .tc .vmem S1024x2048 .bf16 := Memref.whole cc0_scratch0

/-- The run of the body at a grid point of the queries. -/
abbrev atA (c : Dev nD) (t : Fin cfg0.N) (h : t.val % 3 = 0) :=
  runA (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) scM (Memref.isWhole_whole _) (cond_pos (cond t).1 h) (cond_pos (cond t).2.1 h) (cond_neg (cond t).2.2.1 h (by decide)) (cond_neg (cond t).2.2.2 h (by decide)) (iblk m c 0 t) (iblk m c 1 t) (iblk m c 2 t) (iblk m c 3 t) (iblk m c 4 t) (iblk m c 5 t)

/-- The run of the body at a grid point of the keys. -/
abbrev atB (c : Dev nD) (t : Fin cfg0.N) (h : t.val % 3 = 1) (xs : Vec F S1024x2048 .bf16) :=
  runB (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) scM (Memref.isWhole_whole _) (cond_neg (cond t).1 h (by decide)) (cond_neg (cond t).2.1 h (by decide)) (cond_pos (cond t).2.2.1 h) (cond_neg (cond t).2.2.2 h (by decide)) (iblk m c 0 t) (iblk m c 1 t) (iblk m c 2 t) (iblk m c 3 t) (iblk m c 4 t) (iblk m c 5 t) xs

/-- The run of the body at a grid point of the values. -/
abbrev atC (c : Dev nD) (t : Fin cfg0.N) (h : t.val % 3 = 2) (xs : Vec F S1024x2048 .bf16) :=
  runC (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) scM (Memref.isWhole_whole _) (cond_neg (cond t).1 h (by decide)) (cond_neg (cond t).2.1 h (by decide)) (cond_neg (cond t).2.2.1 h (by decide)) (cond_pos (cond t).2.2.2 h) (iblk m c 0 t) (iblk m c 1 t) (iblk m c 2 t) (iblk m c 3 t) (iblk m c 4 t) (iblk m c 5 t) xs

/-- The first point of a point's block of rows, which norms the rows. -/
def base (t : Fin cfg0.N) : Fin cfg0.N := ⟨t.val / 3 * 3, lt_of_le_of_lt (Nat.div_mul_le_self _ _) t.isLt⟩
theorem base_mod (t : Fin cfg0.N) : (base t).val % 3 = 0 := Nat.mul_mod_left _ _
theorem base_eq (t : Fin cfg0.N) (h : t.val % 3 = 0) : base t = t := Fin.ext (by simp only [base]; omega)
theorem base_pred (t : Fin cfg0.N) (h : t.val % 3 ≠ 0) (hp : t.val - 1 < cfg0.N) : base ⟨t.val - 1, hp⟩ = base t := Fin.ext (by simp only [base]; omega)

/-- The normed rows of a point's block of rows; its gate logits. -/
def normed (c : Dev nD) (t : Fin cfg0.N) : Vec F S1024x2048 .bf16 := View.canon (atA m c (base t) (base_mod t)).2.2.1
def logits (c : Dev nD) (t : Fin cfg0.N) : Vec F S1024x128 .f32 := View.canon (atA m c (base t) (base_mod t)).2.1
/-- The block of queries, of keys, of values. -/
def outA (c : Dev nD) (t : Fin cfg0.N) (h : t.val % 3 = 0) : Vec F S1024x2048 .bf16 := View.canon (atA m c t h).1
def outB (c : Dev nD) (t : Fin cfg0.N) (h : t.val % 3 = 1) : Vec F S1024x2048 .bf16 := View.canon (atB m c t h (normed m c t)).1
def outC (c : Dev nD) (t : Fin cfg0.N) (h : t.val % 3 = 2) : Vec F S1024x2048 .bf16 := View.canon (atC m c t h (normed m c t)).1
/-- The block of the result a point leaves. -/
def outAt (c : Dev nD) (t : Fin cfg0.N) : Vec F S1024x2048 .bf16 :=
  if h0 : t.val % 3 = 0 then outA m c t h0 else if h1 : t.val % 3 = 1 then outB m c t h1 else outC m c t (by omega)

theorem normed_of (c : Dev nD) (t : Fin cfg0.N) (h : t.val % 3 = 0) : normed m c t = View.canon (atA m c t h).2.2.1 := by
  have : ∀ t' h', t' = t → View.canon (atA m c t' h').2.2.1 = View.canon (atA m c t h).2.2.1 := by rintro t' h' rfl; rfl
  exact this _ _ (base_eq t h)
theorem logits_of (c : Dev nD) (t : Fin cfg0.N) (h : t.val % 3 = 0) : logits m c t = View.canon (atA m c t h).2.1 := by
  have : ∀ t' h', t' = t → View.canon (atA m c t' h').2.1 = View.canon (atA m c t h).2.1 := by rintro t' h' rfl; rfl
  exact this _ _ (base_eq t h)
theorem normed_pred (c : Dev nD) (t : Fin cfg0.N) (h : t.val % 3 ≠ 0) (hp : t.val - 1 < cfg0.N) : normed m c ⟨t.val - 1, hp⟩ = normed m c t := by
  have : ∀ t' t'' h' h'', t' = t'' → View.canon (atA m c t' h').2.2.1 = View.canon (atA m c t'' h'').2.2.1 := by rintro t' _ h' h'' rfl; rfl
  exact this _ _ _ _ (base_pred t h hp)
theorem logits_pred (c : Dev nD) (t : Fin cfg0.N) (h : t.val % 3 ≠ 0) (hp : t.val - 1 < cfg0.N) : logits m c ⟨t.val - 1, hp⟩ = logits m c t := by
  have : ∀ t' t'' h' h'', t' = t'' → View.canon (atA m c t' h').2.1 = View.canon (atA m c t'' h'').2.1 := by rintro t' _ h' h'' rfl; rfl
  exact this _ _ _ _ (base_pred t h hp)

/-- The stores of each case tile the blocks they fill. -/
theorem coverA (c : Dev nD) (t : Fin cfg0.N) (h : t.val % 3 = 0) (y) : ∃ pc ∈ (atA m c t h).1, y ∈ pc.1.set :=
  View.cover_of_tiledL (atA m c t h).1 S1024x128.size (by sl_kernel_rfl) y
theorem coverL (c : Dev nD) (t : Fin cfg0.N) (h : t.val % 3 = 0) (y) : ∃ pc ∈ (atA m c t h).2.1, y ∈ pc.1.set :=
  View.cover_of_tiledL (atA m c t h).2.1 S1024x128.size (by sl_kernel_rfl) y
theorem coverN (c : Dev nD) (t : Fin cfg0.N) (h : t.val % 3 = 0) (y) : ∃ pc ∈ (atA m c t h).2.2.1, y ∈ pc.1.set :=
  View.cover_of_tiledL (atA m c t h).2.2.1 S1024x2048.size (by sl_kernel_rfl) y
theorem coverB (c : Dev nD) (t : Fin cfg0.N) (h : t.val % 3 = 1) (xs) (y) : ∃ pc ∈ (atB m c t h xs).1, y ∈ pc.1.set :=
  View.cover_of_tiledL (atB m c t h xs).1 S1024x128.size (by sl_kernel_rfl) y
theorem coverC (c : Dev nD) (t : Fin cfg0.N) (h : t.val % 3 = 2) (xs) (y) : ∃ pc ∈ (atC m c t h xs).1, y ∈ pc.1.set :=
  View.cover_of_tiledL (atC m c t h xs).1 S1024x2048.size (by sl_kernel_rfl) y

/-- A buffer filled by stores that cover it is held at what they leave. -/
theorem held {s : Shape} {e : EltTy} (c : Dev nD) (b : Memref sig .tc .vmem s e) (L : List (View.Piece (Elt F) s e)) (X : s.Idx → Elt F e)
    (h : ∀ y, ∃ pc ∈ L, y ∈ pc.1.set) (hX : X = View.canon L) :
    iprop((∃ f, b.view.loc (c : Thread nD τ) ↦[b.view.set]{fullShare} b.view.writes (Elt F) f L) : sProp 𝕄) ⊢ owns (c : Thread nD τ) b fullShare X := by
  subst hX
  unfold owns
  iintro ⟨%f, H⟩
  iexists _; isplitr
  swap; · iexact H
  ipureintro; exact View.read_writes_eq_canon _ _ _ h

/-- The invariant before a position: at the start what the launch hands over; later the scratch array at the normed rows
    of the point before, and the generator. -/
def PhiS (c : Dev nD) : (n : ℕ) → n ≤ cfg0.N → sProp 𝕄
  | 0, _ => Pipeline.ΦA spec0 c
  | n + 1, hn => iprop(owns (c : Thread nD τ) scM fullShare (normed m c ⟨n, hn⟩) ∗ (∃ r, prngReg c r))
theorem PhiS_pos (c : Dev nD) (n : ℕ) (h : n ≤ cfg0.N) (hz : n ≠ 0) :
    PhiS m c n h = iprop(owns (c : Thread nD τ) scM fullShare (normed m c ⟨n - 1, by omega⟩) ∗ (∃ r, prngReg c r)) := by
  cases n with
  | zero => exact absurd rfl hz
  | succ n => rfl
theorem PhiA0_eq (c : Dev nD) : (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl
/-- At any position the invariant holds the scratch array at something. -/
theorem PhiS_any (c : Dev nD) (n : ℕ) (h : n ≤ cfg0.N) : PhiS m c n h ⊢ iprop((∃ d, owns (c : Thread nD τ) scM fullShare d) ∗ (∃ r, prngReg c r)) := by
  by_cases hz : n = 0
  · subst hz; exact (PhiA0_eq (F := F) c) ▸ .rfl
  · rw [PhiS_pos m c n h hz]
    iintro ⟨HS, Hg⟩
    isplitl [HS]; · iexists _; iexact HS
    iexact Hg

/-- The data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
    | ⟨7, _⟩ => logits m c t
  Φ t := PhiS m c t.val (Nat.le_of_lt_succ t.isLt)
  q _ := fullShare
  owed _ := 0

theorem A_eq (c : Dev nD) (w : Fin cfg0.W) : (dats m 0 c).A w = V m c (Pipeline.arrRef spec0 w) := by dsimp only [dats]
theorem PhiS_castSucc (c : Dev nD) (t : Fin cfg0.N) : (dats m 0 c).Φ t.castSucc = PhiS m c t.val (Nat.le_of_lt t.isLt) := by
  dsimp only [dats]; exact Pipeline.Dat.Φ_castSucc (PhiS m c) t
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outAt m c t := by dsimp only [dats]
theorem after0_7 (c : Dev nD) (t : Fin cfg0.N) : (dats m 0 c).after 7 t = logits m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
/-- The gate logits' window is stored to at the first point of a block of rows only; the result's at every point. -/
theorem idle7 (t : Fin cfg0.N) : cfg0.idle 7 (cfg0.grid.coords t) = decide (t.val % 3 ≠ 0) := by
  have h : cfg0.idle 7 (cfg0.grid.coords t) = !(k0_cond1 (grid0.coords t) == 1#1) := rfl
  rw [h, Bool.eq_iff_iff]; simp only [Bool.not_eq_true', beq_eq_false_iff_ne, ne_eq, decide_eq_true_eq, (cond t).1]
theorem idle6 (t : Fin cfg0.N) : cfg0.idle 6 (cfg0.grid.coords t) = false := by
  have h : cfg0.idle 6 (cfg0.grid.coords t) = (!(k0_cond2 (grid0.coords t) == 1#1) && !(k0_cond3 (grid0.coords t) == 1#1) && !(k0_cond4 (grid0.coords t) == 1#1)) := rfl
  rw [h, Bool.eq_false_iff]; simp only [ne_eq, Bool.and_eq_true, Bool.not_eq_true', beq_eq_false_iff_ne, (cond t).2.1, (cond t).2.2.1, (cond t).2.2.2]; omega
theorem fresh7 (n : ℕ) (h : n ≤ cfg0.N) : cfg0.fresh 7 n = decide (n % 3 = 0) :=
  Pipeline.Cfg.fresh_tab cfg0 7 (fun n => decide (n % 3 = 0)) (by decide) (fun t => by
    have hf := flush0_7 t
    rw [idle7, Bool.eq_iff_iff]; simp only [Bool.or_eq_true, Bool.and_eq_true, decide_eq_true_eq, hf]; omega) n h
/-- Between a block's first point and its last the gate logits stay in their buffer. -/
theorem before0_7 (c : Dev nD) (t : Fin cfg0.N) (h : t.val % 3 ≠ 0) (d) : (dats m 0 c).before 7 t d = logits m c t := by
  rw [(dats m 0 c).before_out_traj 7 rfl (fun _ _ => rfl) (fun t ht hi hfr => by
    rw [idle7, decide_eq_true_eq] at hi; rw [after0_7, after0_7, logits_pred m c t hi]) t.val t rfl d,
    fresh7 _ (Nat.le_of_lt t.isLt), if_neg (by simpa using h), after0_7, logits_pred m c t h]
/-- What the body must leave of the two results' buffers. -/
theorem leaves6 (c : Dev nD) (t : Fin cfg0.N) :
    (owns (c : Thread nD τ) (st0_6 t) fullShare ((dats m 0 c).after 6 t) : sProp 𝕄) ⊢ (dats m 0 c).leavesExact 6 t := by
  unfold Pipeline.Dat.leavesExact; rw [idle6]
theorem leaves7 (c : Dev nD) (t : Fin cfg0.N) :
    (owns (c : Thread nD τ) (st0_7 t) fullShare ((dats m 0 c).after 7 t) : sProp 𝕄) ⊢ (dats m 0 c).leavesExact 7 t := by
  unfold Pipeline.Dat.leavesExact
  by_cases h : t.val % 3 = 0
  · rw [idle7, decide_eq_false (by simpa using h)]
  · rw [idle7, decide_eq_true (by simpa using h)]
    cases hf : (cfg0.win 7).flush t
    · dsimp only
      simp only [before0_7 m c t h, after0_7]
      iintro H; iexists (fun _ => Classical.arbitrary _); iexact H
    · exact .rfl

/-- What the body is called with at a point, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (dats m 0 c).leavesExact 6 t ∗ (dats m 0 c).leavesExact 7 t)

set_option maxHeartbeats 2000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5]
  rw [show (dats m 0 c).Φ t.succ = iprop(owns (c : Thread nD τ) scM fullShare (normed m c t) ∗ (∃ r, prngReg c r)) from rfl, PhiS_castSucc m c t]
  by_cases h0 : t.val % 3 = 0
  · iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩⟩
    ihave HP2 := (PhiS_any m c _ _) $$ HP
    icases HP2 with ⟨HS, Hg⟩
    iapply ((atA m c t h0).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS]; · iexact HS
    iintro ⟨H0, H1, H2, H3, H4, H5, H6, H7, HS⟩
    isplitl [HS Hg]
    · isplitl [HS]
      · iapply (held c scM _ _ (coverN m c t h0) (normed_of m c t h0)); iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iapply (leaves6 m c t); rw [after0_6]; iapply (held c (st0_6 t) _ _ (coverA m c t h0) (dif_pos h0)); iexact H6
    iapply (leaves7 m c t); rw [after0_7]; iapply (held c (st0_7 t) _ _ (coverL m c t h0) (logits_of m c t h0)); iexact H7
  · rw [PhiS_pos m c _ _ (by omega), normed_pred m c t h0]
    simp only [before0_7 m c t h0]
    by_cases h1 : t.val % 3 = 1
    · iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((atB m c t h1 (normed m c t)).2 (logits m c t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS]; · iexact HS
      iintro ⟨H0, H1, H2, H3, H4, H5, H6, H7, HS⟩
      isplitl [HS Hg]
      · isplitl [HS]
        · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iapply (leaves6 m c t); rw [after0_6]; iapply (held c (st0_6 t) _ _ (coverB m c t h1 _) ((dif_neg h0).trans (dif_pos h1))); iexact H6
      iapply (leaves7 m c t); rw [after0_7]; iexact H7
    · have h2 : t.val % 3 = 2 := by omega
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((atC m c t h2 (normed m c t)).2 (logits m c t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS]; · iexact HS
      iintro ⟨H0, H1, H2, H3, H4, H5, H6, H7, HS⟩
      isplitl [HS Hg]
      · isplitl [HS]
        · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iapply (leaves6 m c t); rw [after0_6]; iapply (held c (st0_6 t) _ _ (coverC m c t h2 _) ((dif_neg h0).trans (dif_neg h1))); iexact H6
      iapply (leaves7 m c t); rw [after0_7]; iexact H7

theorem defs₀_row (t : Fin cfg0.N) : defs₀ (F := F) .tc cfg0.body (cfg0.bodyArgs t (cfg0.slots t)) = bodyAt0 t := by
  unfold defs₀; rw [Defs.onTc_tc]
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl
theorem hin (c : Dev nD) : Pipeline.ΦA spec0 c ⊢ (dats m 0 c).Φ 0 := by
  rw [show (dats m 0 c).Φ 0 = PhiS m c 0 (Nat.zero_le _) from rfl]; exact .rfl
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA0_eq]
  exact PhiS_any m c _ _

set_option backward.isDefEq.respectTransparency.types false in
/-- The run of the whole call, with the counters at zero. -/
theorem run_counters : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)
theorem run_call : θ_run defs (onTc (τ := τ) (main (F := F))) (s₀ m ρ) (Pipeline.FramePost cfgs (dats m) 0 (V m)) :=
  (θ_run defs _ _).mono (fun _ h => h.1) (run_counters m ρ)
/-- The arguments end as launched, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_call m ρ)) ((θ_run defs _ _).mono (fun _ h => h.2) (run_counters m ρ))

end Cert.Kernel7Ideal.Hand

end
-- ==== Proof.FoxQkv.lean ====
module

public import proofs.«01_k».proof.Defs
public import proofs.«01_k».proof.Proof.Gen.Kernel7.Frame
public import proofs.«01_k».proof.Proof.Gen.Kernel7Ideal.Frame
public import proofs.«01_k».proof.Proof.Gen.Kernel7Ideal.Skeleton
public import proofs.«01_k».proof.Proof.Gen.Kernel7.Skeleton
public import proofs.«01_k».proof.Proof.FoxQkvFrame
public import proofs.«01_k».proof.Proof.FoxQkvFrameBits
public import proofs.«01_k».proof.Proof.Gen.Reference7Ideal.Run
public import proofs.«01_k».proof.Proof.Gen.Reference7Ideal.Read
public import Idealize.ShloMosaic.Lib.Pointwise
public import Idealize.ShloMosaic.Lib.Pipeline.ValueKit
public import Idealize.ShloMosaic.Lib.Pipeline.ReadBack
public import Idealize.ShloMosaic.Lib.WordCmp

@[expose] public section

set_option maxRecDepth 16384

noncomputable section

namespace Cert.Proof.FoxQkv

open Idealize.ShloMosaic Idealize.ShloMosaic.TcCoe Idealize.SL.Sem
open Cert.Kernel7Ideal Cert.Kernel7Ideal.Gen Cert.Kernel7Ideal.Hand
open Cert.Reference7Ideal.Read

variable (m : (ℓ : Loc nD τ sig) → Buf (Elt Ideal) ℓ) (c : Dev nD)

theorem idx : ∀ t : Fin cfg0.N, win0_0.index t = ![t.val / 3, 0] ∧ win0_1.index t = ![3, 0, 0] ∧ win0_2.index t = ![0, t.val % 3]
    ∧ win0_3.index t = ![0, 0] ∧ win0_4.index t = ![0, 0] ∧ win0_5.index t = ![0, 0] ∧ win0_6.index t = ![t.val / 3, t.val % 3] ∧ win0_7.index t = ![t.val / 3, 0] :=
  (by decide +kernel : ∀ t : Fin grid0.N, _)

abbrev X : S8192x2048.Idx → EReal := m ((c : Thread nD τ).loc main_arg0)
abbrev G : S4x2048.Idx → EReal := m ((c : Thread nD τ).loc main_arg1)
abbrev W : S2048x6160.Idx → EReal := m ((c : Thread nD τ).loc main_arg2)
abbrev QG : S128.Idx → EReal := m ((c : Thread nD τ).loc main_arg3)
abbrev KG : S128.Idx → EReal := m ((c : Thread nD τ).loc main_arg4)

/-- The row-normed activation of the reference. -/
abbrev XN : S8192x2048.Idx → EReal := val_main_v14 (F := Ideal) (X m c) (G m c)

theorem entry_gain : V m c main_v5 = shapeCast S4x1x2048 (G m c) shapeCasts_S4x2048_S4x1x2048 := by
  simp only [V, hostOps0, hostOps0_1, hostOps0_2, List.flatten_cons, List.flatten_nil, List.append_nil, List.cons_append, List.nil_append]
  after_results_simp
  rfl

theorem entry_qg (e : Fin 128) : V m c main_v6 (ix2 0 e) = QG m c (ix1 e) := by
  simp only [V, hostOps0, hostOps0_1, hostOps0_2, List.flatten_cons, List.flatten_nil, List.append_nil, List.cons_append, List.nil_append]
  after_results_simp
  pointwise

theorem entry_kg (e : Fin 128) : V m c main_v7 (ix2 0 e) = KG m c (ix1 e) := by
  simp only [V, hostOps0, hostOps0_1, hostOps0_2, List.flatten_cons, List.flatten_nil, List.append_nil, List.cons_append, List.nil_append]
  after_results_simp
  pointwise

theorem entry_w (k : Fin 2048) (d : Fin 6144) : V m c main_v1 (ix2 k d) = W m c (ix2 k ⟨d.val, by have := d.isLt; omega⟩) := by
  simp only [V, hostOps0, hostOps0_1, hostOps0_2, List.flatten_cons, List.flatten_nil, List.append_nil, List.cons_append, List.nil_append]
  after_results_simp
  pointwise

/-- The word 0 as a float is the zero the padding writes. -/
theorem pad_zero : FloatOps.sitofp (F := Ideal) FTy.f32 0#32 = (0 : EReal) := by
  show (((0#32 : BitVec 32).toInt : ℝ) : EReal) = 0
  simp

theorem entry_wf (k : Fin 2048) (d : Fin 128) : V m c main_v4 (ix2 k d) = if h : d.val < 16 then W m c (ix2 k ⟨6144 + d.val, by omega⟩) else (0 : EReal) := by
  simp only [V, hostOps0, hostOps0_1, hostOps0_2, List.flatten_cons, List.flatten_nil, List.append_nil, List.cons_append, List.nil_append]
  after_results_simp
  simp only [StableHlo.TRef.ofBuf_toBuf, id]
  simp only [StableHlo.TRef.ofBuf, StableHlo.TRef.of, StableHlo.TRef.toBuf, cast_eq]
  pointwise
  rw [pad_zero]

theorem ix2_ext {a b : ℕ} {r r' : Fin a} {e e' : Fin b} (h : r.val = r'.val) (h' : e.val = e'.val) : ix2 r e = ix2 r' e' :=
  congrArg₂ ix2 (Fin.ext h) (Fin.ext h')

/-- Column `x` of the head that starts at column `o` of a projected row `v`: normed over the head, with the gain `g`. -/
def headVal (v : Fin 2048 → EReal) (g : Fin 128 → EReal) (o : ℕ) (ho : o + 128 ≤ 2048) (x : Fin 128) : EReal :=
  v ⟨o + x.val, by have := x.isLt; omega⟩ *
    Ideal.rsqrt (Ideal.div (∑ e : Fin 128, v ⟨o + e.val, by have := e.isLt; omega⟩ * v ⟨o + e.val, by have := e.isLt; omega⟩) (Ideal.ofBits .f32 0x43000000#32)
      + Ideal.ofBits .f32 0x358637BD#32) * g x

theorem q_0 (v12 : Vec Ideal S1024x2048 .bf16) (v13 : Vec Ideal S2048x2048 .bf16) (g : Vec Ideal S1x128 .f32) (r : Fin 1024) (x : Fin 128) :
    k0_pay10 (F := Ideal) v12 v13 g (ix2 r x) = headVal (fun d => k0_pay9 (F := Ideal) v12 v13 (ix2 r d)) (fun e => g (ix2 0 e)) 0 (by decide) x := by
  pointwise [k0_pay10, headVal]

theorem q_1 (v12 : Vec Ideal S1024x2048 .bf16) (v13 : Vec Ideal S2048x2048 .bf16) (g : Vec Ideal S1x128 .f32) (r : Fin 1024) (x : Fin 128) :
    k0_pay12 (F := Ideal) (k0_pay11 v12 v13 g) (ix2 r x) = headVal (fun d => k0_pay9 (F := Ideal) v12 v13 (ix2 r d)) (fun e => g (ix2 0 e)) 128 (by decide) x := by
  pointwise [k0_pay12, k0_pay11, headVal]

theorem q_2 (v : FVec Ideal S1024x2048 .f32) (g : Vec Ideal S1x128 .f32) (r : Fin 1024) (x : Fin 128) :
    k0_pay13 (F := Ideal) v g (ix2 r x) = headVal (fun d => v (ix2 r d)) (fun e => g (ix2 0 e)) 256 (by decide) x := by
  pointwise [k0_pay13, headVal]

theorem q_3 (v : FVec Ideal S1024x2048 .f32) (g : Vec Ideal S1x128 .f32) (r : Fin 1024) (x : Fin 128) :
    k0_pay14 (F := Ideal) v g (ix2 r x) = headVal (fun d => v (ix2 r d)) (fun e => g (ix2 0 e)) 384 (by decide) x := by
  pointwise [k0_pay14, headVal]

theorem q_4 (v : FVec Ideal S1024x2048 .f32) (g : Vec Ideal S1x128 .f32) (r : Fin 1024) (x : Fin 128) :
    k0_pay15 (F := Ideal) v g (ix2 r x) = headVal (fun d => v (ix2 r d)) (fun e => g (ix2 0 e)) 512 (by decide) x := by
  pointwise [k0_pay15, headVal]

theorem q_5 (v : FVec Ideal S1024x2048 .f32) (g : Vec Ideal S1x128 .f32) (r : Fin 1024) (x : Fin 128) :
    k0_pay16 (F := Ideal) v g (ix2 r x) = headVal (fun d => v (ix2 r d)) (fun e => g (ix2 0 e)) 640 (by decide) x := by
  pointwise [k0_pay16, headVal]

theorem q_6 (v : FVec Ideal S1024x2048 .f32) (g : Vec Ideal S1x128 .f32) (r : Fin 1024) (x : Fin 128) :
    k0_pay19 (F := Ideal) (k0_pay17 v) (k0_pay18 v) g (ix2 r x) = headVal (fun d => v (ix2 r d)) (fun e => g (ix2 0 e)) 768 (by decide) x := by
  pointwise [k0_pay19, k0_pay17, k0_pay18, headVal]

theorem q_7 (v : FVec Ideal S1024x2048 .f32) (g : Vec Ideal S1x128 .f32) (r : Fin 1024) (x : Fin 128) :
    k0_pay20 (F := Ideal) v g (ix2 r x) = headVal (fun d => v (ix2 r d)) (fun e => g (ix2 0 e)) 896 (by decide) x := by
  pointwise [k0_pay20, headVal]

theorem q_8 (v : FVec Ideal S1024x2048 .f32) (g : Vec Ideal S1x128 .f32) (r : Fin 1024) (x : Fin 128) :
    k0_pay24 (F := Ideal) (k0_pay21 v) (k0_pay22 v) k0_pay23 g (ix2 r x) = headVal (fun d => v (ix2 r d)) (fun e => g (ix2 0 e)) 1024 (by decide) x := by
  pointwise [k0_pay24, k0_pay21, k0_pay22, k0_pay23, headVal]

theorem q_9 (v : FVec Ideal S1024x2048 .f32) (g : Vec Ideal S1x128 .f32) (r : Fin 1024) (x : Fin 128) :
    k0_pay25 (F := Ideal) v g (ix2 r x) = headVal (fun d => v (ix2 r d)) (fun e => g (ix2 0 e)) 1152 (by decide) x := by
  pointwise [k0_pay25, headVal]

theorem q_10 (v : FVec Ideal S1024x2048 .f32) (g : Vec Ideal S1x128 .f32) (r : Fin 1024) (x : Fin 128) :
    k0_pay28 (F := Ideal) (k0_pay26 v) (k0_pay27 v) g (ix2 r x) = headVal (fun d => v (ix2 r d)) (fun e => g (ix2 0 e)) 1280 (by decide) x := by
  pointwise [k0_pay28, k0_pay26, k0_pay27, headVal]

theorem q_11 (v : FVec Ideal S1024x2048 .f32) (g : Vec Ideal S1x128 .f32) (r : Fin 1024) (x : Fin 128) :
    k0_pay29 (F := Ideal) v g (ix2 r x) = headVal (fun d => v (ix2 r d)) (fun e => g (ix2 0 e)) 1408 (by decide) x := by
  pointwise [k0_pay29, headVal]

theorem q_12 (v : FVec Ideal S1024x2048 .f32) (g : Vec Ideal S1x128 .f32) (r : Fin 1024) (x : Fin 128) :
    k0_pay31 (F := Ideal) (k0_pay30 v) g (ix2 r x) = headVal (fun d => v (ix2 r d)) (fun e => g (ix2 0 e)) 1536 (by decide) x := by
  pointwise [k0_pay31, k0_pay30, headVal]

theorem q_13 (v : FVec Ideal S1024x2048 .f32) (g : Vec Ideal S1x128 .f32) (r : Fin 1024) (x : Fin 128) :
    k0_pay32 (F := Ideal) v g (ix2 r x) = headVal (fun d => v (ix2 r d)) (fun e => g (ix2 0 e)) 1664 (by decide) x := by
  pointwise [k0_pay32, headVal]

theorem q_14 (v : FVec Ideal S1024x2048 .f32) (g : Vec Ideal S1x128 .f32) (r : Fin 1024) (x : Fin 128) :
    k0_pay4 (F := Ideal) (k0_pay33 v) (k0_pay34 g) (ix2 r x) = headVal (fun d => v (ix2 r d)) (fun e => g (ix2 0 e)) 1792 (by decide) x := by
  pointwise [k0_pay4, k0_pay33, k0_pay34, headVal]

theorem q_15 (v : FVec Ideal S1024x2048 .f32) (g : Vec Ideal S1x128 .f32) (r : Fin 1024) (x : Fin 128) :
    k0_pay5 (F := Ideal) v g (ix2 r x) = headVal (fun d => v (ix2 r d)) (fun e => g (ix2 0 e)) 1920 (by decide) x := by
  pointwise [k0_pay5, headVal]

theorem k_0 (v12 : Vec Ideal S1024x2048 .bf16) (v13 : Vec Ideal S2048x2048 .bf16) (g : Vec Ideal S1x128 .f32) (r : Fin 1024) (x : Fin 128) :
    k0_pay36 (F := Ideal) v12 v13 g (ix2 r x) = headVal (fun d => k0_pay35 (F := Ideal) v12 v13 (ix2 r d)) (fun e => g (ix2 0 e)) 0 (by decide) x := by
  pointwise [k0_pay36, headVal]

theorem k_1 (v12 : Vec Ideal S1024x2048 .bf16) (v13 : Vec Ideal S2048x2048 .bf16) (g : Vec Ideal S1x128 .f32) (r : Fin 1024) (x : Fin 128) :
    k0_pay38 (F := Ideal) (k0_pay37 v12 v13 g) (ix2 r x) = headVal (fun d => k0_pay35 (F := Ideal) v12 v13 (ix2 r d)) (fun e => g (ix2 0 e)) 128 (by decide) x := by
  pointwise [k0_pay38, k0_pay37, headVal]

theorem k_2 (v : FVec Ideal S1024x2048 .f32) (g : Vec Ideal S1x128 .f32) (r : Fin 1024) (x : Fin 128) :
    k0_pay39 (F := Ideal) v g (ix2 r x) = headVal (fun d => v (ix2 r d)) (fun e => g (ix2 0 e)) 256 (by decide) x := by
  pointwise [k0_pay39, headVal]

theorem k_3 (v : FVec Ideal S1024x2048 .f32) (g : Vec Ideal S1x128 .f32) (r : Fin 1024) (x : Fin 128) :
    k0_pay40 (F := Ideal) v g (ix2 r x) = headVal (fun d => v (ix2 r d)) (fun e => g (ix2 0 e)) 384 (by decide) x := by
  pointwise [k0_pay40, headVal]

theorem k_4 (v : FVec Ideal S1024x2048 .f32) (g : Vec Ideal S1x128 .f32) (r : Fin 1024) (x : Fin 128) :
    k0_pay41 (F := Ideal) v g (ix2 r x) = headVal (fun d => v (ix2 r d)) (fun e => g (ix2 0 e)) 512 (by decide) x := by
  pointwise [k0_pay41, headVal]

theorem k_5 (v : FVec Ideal S1024x2048 .f32) (g : Vec Ideal S1x128 .f32) (r : Fin 1024) (x : Fin 128) :
    k0_pay42 (F := Ideal) v g (ix2 r x) = headVal (fun d => v (ix2 r d)) (fun e => g (ix2 0 e)) 640 (by decide) x := by
  pointwise [k0_pay42, headVal]

theorem k_6 (v : FVec Ideal S1024x2048 .f32) (g : Vec Ideal S1x128 .f32) (r : Fin 1024) (x : Fin 128) :
    k0_pay45 (F := Ideal) (k0_pay43 v) (k0_pay44 v) g (ix2 r x) = headVal (fun d => v (ix2 r d)) (fun e => g (ix2 0 e)) 768 (by decide) x := by
  pointwise [k0_pay45, k0_pay43, k0_pay44, headVal]

theorem k_7 (v : FVec Ideal S1024x2048 .f32) (g : Vec Ideal S1x128 .f32) (r : Fin 1024) (x : Fin 128) :
    k0_pay46 (F := Ideal) v g (ix2 r x) = headVal (fun d => v (ix2 r d)) (fun e => g (ix2 0 e)) 896 (by decide) x := by
  pointwise [k0_pay46, headVal]

theorem k_8 (v : FVec Ideal S1024x2048 .f32) (g : Vec Ideal S1x128 .f32) (r : Fin 1024) (x : Fin 128) :
    k0_pay50 (F := Ideal) (k0_pay47 v) (k0_pay48 v) k0_pay49 g (ix2 r x) = headVal (fun d => v (ix2 r d)) (fun e => g (ix2 0 e)) 1024 (by decide) x := by
  pointwise [k0_pay50, k0_pay47, k0_pay48, k0_pay49, headVal]

theorem k_9 (v : FVec Ideal S1024x2048 .f32) (g : Vec Ideal S1x128 .f32) (r : Fin 1024) (x : Fin 128) :
    k0_pay51 (F := Ideal) v g (ix2 r x) = headVal (fun d => v (ix2 r d)) (fun e => g (ix2 0 e)) 1152 (by decide) x := by
  pointwise [k0_pay51, headVal]

theorem k_10 (v : FVec Ideal S1024x2048 .f32) (g : Vec Ideal S1x128 .f32) (r : Fin 1024) (x : Fin 128) :
    k0_pay54 (F := Ideal) (k0_pay52 v) (k0_pay53 v) g (ix2 r x) = headVal (fun d => v (ix2 r d)) (fun e => g (ix2 0 e)) 1280 (by decide) x := by
  pointwise [k0_pay54, k0_pay52, k0_pay53, headVal]

theorem k_11 (v : FVec Ideal S1024x2048 .f32) (g : Vec Ideal S1x128 .f32) (r : Fin 1024) (x : Fin 128) :
    k0_pay55 (F := Ideal) v g (ix2 r x) = headVal (fun d => v (ix2 r d)) (fun e => g (ix2 0 e)) 1408 (by decide) x := by
  pointwise [k0_pay55, headVal]

theorem k_12 (v : FVec Ideal S1024x2048 .f32) (g : Vec Ideal S1x128 .f32) (r : Fin 1024) (x : Fin 128) :
    k0_pay57 (F := Ideal) (k0_pay56 v) g (ix2 r x) = headVal (fun d => v (ix2 r d)) (fun e => g (ix2 0 e)) 1536 (by decide) x := by
  pointwise [k0_pay57, k0_pay56, headVal]

theorem k_13 (v : FVec Ideal S1024x2048 .f32) (g : Vec Ideal S1x128 .f32) (r : Fin 1024) (x : Fin 128) :
    k0_pay58 (F := Ideal) v g (ix2 r x) = headVal (fun d => v (ix2 r d)) (fun e => g (ix2 0 e)) 1664 (by decide) x := by
  pointwise [k0_pay58, headVal]

theorem k_14 (v : FVec Ideal S1024x2048 .f32) (g : Vec Ideal S1x128 .f32) (r : Fin 1024) (x : Fin 128) :
    k0_pay6 (F := Ideal) (k0_pay59 v) (k0_pay60 g) (ix2 r x) = headVal (fun d => v (ix2 r d)) (fun e => g (ix2 0 e)) 1792 (by decide) x := by
  pointwise [k0_pay6, k0_pay59, k0_pay60, headVal]

theorem k_15 (v : FVec Ideal S1024x2048 .f32) (g : Vec Ideal S1x128 .f32) (r : Fin 1024) (x : Fin 128) :
    k0_pay7 (F := Ideal) v g (ix2 r x) = headVal (fun d => v (ix2 r d)) (fun e => g (ix2 0 e)) 1920 (by decide) x := by
  pointwise [k0_pay7, headVal]

theorem norm_block (t : Fin cfg0.N) (r : Fin 1024) (k : Fin 2048) (h : 1024 * (t.val / 3) + r.val < 8192) :
    k0_pay1 (F := Ideal) (iblk m c 0 t) (iblk m c 1 t) (ix2 r k) = XN m c (ix2 ⟨1024 * (t.val / 3) + r.val, h⟩ k) := by
  unfold XN
  pointwise [k0_pay2, k0_pay1, val_main_v0, val_main_v1, val_main_v2, val_main_v3, val_main_v4, val_main_v5, val_main_v6, val_main_v7, val_main_v8, val_main_v9, val_main_v10, val_main_v11, val_main_v12, val_main_v13, val_main_v14, val_main_cst, val_main_cst_0, val_main_cst_1]
  blk_point [iblk, idx t]
  all_goals rw [entry_gain]
  all_goals pointwise
  all_goals blk_point [iblk, idx t]

theorem w_block (t : Fin cfg0.N) (k d : Fin 2048) : iblk m c 2 t (ix2 k d) = W m c (ix2 k ⟨2048 * (t.val % 3) + d.val, by have := d.isLt; omega⟩) := by
  refine Eq.trans ?_ (entry_w m c k ⟨2048 * (t.val % 3) + d.val, by have := d.isLt; omega⟩)
  unfold iblk
  refine congrArg (V m c main_v1) ?_
  blk_ext [idx t]

theorem qg_block (t : Fin cfg0.N) (e : Fin 128) : iblk m c 3 t (ix2 0 e) = QG m c (ix1 e) := by
  refine Eq.trans ?_ (entry_qg m c e)
  unfold iblk
  refine congrArg (V m c main_v6) ?_
  blk_ext [idx t]

theorem kg_block (t : Fin cfg0.N) (e : Fin 128) : iblk m c 4 t (ix2 0 e) = KG m c (ix1 e) := by
  refine Eq.trans ?_ (entry_kg m c e)
  unfold iblk
  refine congrArg (V m c main_v7) ?_
  blk_ext [idx t]

theorem wf_block (t : Fin cfg0.N) (k : Fin 2048) (d : Fin 128) : iblk m c 5 t (ix2 k d) = if h : d.val < 16 then W m c (ix2 k ⟨6144 + d.val, by omega⟩) else (0 : EReal) := by
  refine Eq.trans ?_ (entry_wf m c k d)
  unfold iblk
  refine congrArg (V m c main_v4) ?_
  blk_ext [idx t]

/-- A column of the projection of the reference. -/
def proj (R : Fin 8192) (d : Fin 6144) : EReal := ∑ k : Fin 2048, XN m c (ix2 R k) * W m c (ix2 k ⟨d.val, by have := d.isLt; omega⟩)

/-- Row `R` of the projected queries, keys, values: part `p`. -/
def row (R : Fin 8192) (p : Fin 3) (d : Fin 2048) : EReal := proj m c R ⟨2048 * p.val + d.val, by have := d.isLt; have := p.isLt; omega⟩

theorem ref_q (R : Fin 8192) (h : Fin 16) (x : Fin 128) (hd : h.val * 128 + x.val < 2048) (ho : h.val * 128 + 128 ≤ 2048) :
    val_main_v34 (F := Ideal) (X m c) (G m c) (W m c) (QG m c) (ix2 R ⟨h.val * 128 + x.val, hd⟩)
      = headVal (row m c R 0) (fun e => QG m c (ix1 e)) (h.val * 128) ho x := by
  unfold row proj XN
  pointwise [headVal, val_main_v34, val_main_v33, val_main_v32, val_main_v31, val_main_v30, val_main_v29, val_main_v28, val_main_v27, val_main_v26, val_main_v25, val_main_v24, val_main_v23, val_main_v22, val_main_v21, val_main_v20, val_main_cst_2, val_main_cst_3, val_main_cst_4, val_main_v16, val_main_v15]

theorem ref_k (R : Fin 8192) (h : Fin 16) (x : Fin 128) (hd : h.val * 128 + x.val < 2048) (ho : h.val * 128 + 128 ≤ 2048) :
    val_main_v49 (F := Ideal) (X m c) (G m c) (W m c) (KG m c) (ix2 R ⟨h.val * 128 + x.val, hd⟩)
      = headVal (row m c R 1) (fun e => KG m c (ix1 e)) (h.val * 128) ho x := by
  unfold row proj XN
  pointwise [headVal, val_main_v49, val_main_v48, val_main_v47, val_main_v46, val_main_v45, val_main_v44, val_main_v43, val_main_v42, val_main_v41, val_main_v40, val_main_v39, val_main_v38, val_main_v37, val_main_v36, val_main_v35, val_main_cst_5, val_main_cst_6, val_main_cst_7, val_main_v17, val_main_v15]

theorem ref_v (R : Fin 8192) (d : Fin 2048) : val_main_v18 (F := Ideal) (X m c) (G m c) (W m c) (ix2 R d) = row m c R 2 d := by
  unfold row proj XN
  pointwise [val_main_v18, val_main_v15]

theorem ref_f (R : Fin 8192) (d : Fin 128) :
    val_main_v52 (F := Ideal) (X m c) (G m c) (W m c) (ix2 R d)
      = if h : d.val < 16 then ∑ k : Fin 2048, XN m c (ix2 R k) * W m c (ix2 k ⟨6144 + d.val, by omega⟩) else (0 : EReal) := by
  unfold XN
  pointwise [val_main_v52, val_main_v19, val_main_v15, val_main_call0_v0, val_main_c]
  rw [pad_zero]

theorem piece_q (R : Fin 8192) (o : ℕ) (ho : o + 128 ≤ 2048) (hh : o % 128 = 0) (x : Fin 128) (d : Fin 2048) (e : d.val = o + x.val) :
    headVal (row m c R 0) (fun e => QG m c (ix1 e)) o ho x = val_main_v34 (F := Ideal) (X m c) (G m c) (W m c) (QG m c) (ix2 R d) := by
  obtain ⟨h, rfl⟩ : ∃ h, o = h * 128 := ⟨o / 128, by omega⟩
  exact (ref_q m c R ⟨h, by omega⟩ x (by show h * 128 + x.val < 2048; have := x.isLt; omega) ho).symm.trans (congrArg _ (ix2_ext rfl e.symm))

theorem piece_k (R : Fin 8192) (o : ℕ) (ho : o + 128 ≤ 2048) (hh : o % 128 = 0) (x : Fin 128) (d : Fin 2048) (e : d.val = o + x.val) :
    headVal (row m c R 1) (fun e => KG m c (ix1 e)) o ho x = val_main_v49 (F := Ideal) (X m c) (G m c) (W m c) (KG m c) (ix2 R d) := by
  obtain ⟨h, rfl⟩ : ∃ h, o = h * 128 := ⟨o / 128, by omega⟩
  exact (ref_k m c R ⟨h, by omega⟩ x (by show h * 128 + x.val < 2048; have := x.isLt; omega) ho).symm.trans (congrArg _ (ix2_ext rfl e.symm))

theorem proj_q (v : Vec Ideal S1024x2048 .bf16) (t : Fin cfg0.N) (h0 : t.val % 3 = 0) (r : Fin 1024) (R : Fin 8192) (hv : ∀ k, v (ix2 r k) = XN m c (ix2 R k)) (d : Fin 2048) :
    k0_pay9 (F := Ideal) v (iblk m c 2 t) (ix2 r d) = row m c R 0 d := by
  pointwise [k0_pay9, row, proj]
  exact Finset.sum_congr rfl fun k _ => by rw [hv, w_block]; exact congrArg₂ (· * ·) rfl (congrArg _ (ix2_ext rfl (by show 2048 * (t.val % 3) + d.val = d.val; omega)))

theorem proj_k (v : Vec Ideal S1024x2048 .bf16) (t : Fin cfg0.N) (h0 : t.val % 3 = 1) (r : Fin 1024) (R : Fin 8192) (hv : ∀ k, v (ix2 r k) = XN m c (ix2 R k)) (d : Fin 2048) :
    k0_pay35 (F := Ideal) v (iblk m c 2 t) (ix2 r d) = row m c R 1 d := by
  pointwise [k0_pay35, row, proj]
  exact Finset.sum_congr rfl fun k _ => by rw [hv, w_block]; exact congrArg₂ (· * ·) rfl (congrArg _ (ix2_ext rfl (by show 2048 * (t.val % 3) + d.val = 2048 * 1 + d.val; omega)))

theorem proj_v (v : Vec Ideal S1024x2048 .bf16) (t : Fin cfg0.N) (h0 : t.val % 3 = 2) (r : Fin 1024) (R : Fin 8192) (hv : ∀ k, v (ix2 r k) = XN m c (ix2 R k)) (d : Fin 2048) :
    k0_pay8 (F := Ideal) v (iblk m c 2 t) (ix2 r d) = row m c R 2 d := by
  pointwise [k0_pay8, row, proj]
  exact Finset.sum_congr rfl fun k _ => by rw [hv, w_block]; exact congrArg₂ (· * ·) rfl (congrArg _ (ix2_ext rfl (by show 2048 * (t.val % 3) + d.val = 2048 * 2 + d.val; omega)))

theorem base_div (t : Fin cfg0.N) : (base t).val / 3 = t.val / 3 := Nat.mul_div_left _ (by decide)

theorem norm_at (t : Fin cfg0.N) (r : Fin 1024) (R : Fin 8192) (e : R.val = 1024 * (t.val / 3) + r.val) (k : Fin 2048) :
    k0_pay1 (F := Ideal) (iblk m c 0 t) (iblk m c 1 t) (ix2 r k) = XN m c (ix2 R k) :=
  (norm_block m c t r k (e ▸ R.isLt)).trans (congrArg (XN m c) (ix2_ext e.symm rfl))

/-- The normed rows as they are kept between the parts. -/
theorem kept_at (t : Fin cfg0.N) (r : Fin 1024) (R : Fin 8192) (e : R.val = 1024 * (t.val / 3) + r.val) (k : Fin 2048) :
    k0_pay2 (F := Ideal) (iblk m c 0 t) (iblk m c 1 t) (ix2 r k) = XN m c (ix2 R k) := by
  refine Eq.trans ?_ (norm_at m c t r R e k)
  pointwise [k0_pay2]

theorem end_q (v : Vec Ideal S1024x2048 .bf16) (t : Fin cfg0.N) (h : t.val % 3 = 0) (r x0 : Fin 1024) (R : Fin 8192) (hv : ∀ k, v (ix2 r k) = XN m c (ix2 R k))
    (o : ℕ) (ho : o + 128 ≤ 2048) (hh : o % 128 = 0) (x : Fin 128) (d : Fin 2048) (e0 : r.val = 0 + x0.val) (e1 : d.val = o + x.val) :
    headVal (fun d => k0_pay9 (F := Ideal) v (iblk m c 2 t) (ix2 x0 d)) (fun e => iblk m c 3 t (ix2 0 e)) o ho x
      = val_main_v34 (F := Ideal) (X m c) (G m c) (W m c) (QG m c) (ix2 R d) := by
  obtain rfl : r = x0 := Fin.ext (by omega)
  rw [show (fun d => k0_pay9 (F := Ideal) v (iblk m c 2 t) (ix2 r d)) = row m c R 0 from funext (proj_q m c v t h r R hv),
    show (fun e => iblk m c 3 t (ix2 0 e)) = (fun e => QG m c (ix1 e)) from funext (qg_block m c t)]
  exact piece_q m c R o ho hh x d e1

theorem end_k (v : Vec Ideal S1024x2048 .bf16) (t : Fin cfg0.N) (h : t.val % 3 = 1) (r x0 : Fin 1024) (R : Fin 8192) (hv : ∀ k, v (ix2 r k) = XN m c (ix2 R k))
    (o : ℕ) (ho : o + 128 ≤ 2048) (hh : o % 128 = 0) (x : Fin 128) (d : Fin 2048) (e0 : r.val = 0 + x0.val) (e1 : d.val = o + x.val) :
    headVal (fun d => k0_pay35 (F := Ideal) v (iblk m c 2 t) (ix2 x0 d)) (fun e => iblk m c 4 t (ix2 0 e)) o ho x
      = val_main_v49 (F := Ideal) (X m c) (G m c) (W m c) (KG m c) (ix2 R d) := by
  obtain rfl : r = x0 := Fin.ext (by omega)
  rw [show (fun d => k0_pay35 (F := Ideal) v (iblk m c 2 t) (ix2 r d)) = row m c R 1 from funext (proj_k m c v t h r R hv),
    show (fun e => iblk m c 4 t (ix2 0 e)) = (fun e => KG m c (ix1 e)) from funext (kg_block m c t)]
  exact piece_k m c R o ho hh x d e1

theorem block_q (t : Fin cfg0.N) (h : t.val % 3 = 0) (r : Fin 1024) (R : Fin 8192) (e : R.val = 1024 * (t.val / 3) + r.val) (d : Fin 2048) :
    outA (F := Ideal) m c t h (ix2 r d) = val_main_v34 (F := Ideal) (X m c) (G m c) (W m c) (QG m c) (ix2 R d) := by
  have hv := kept_at m c t r R e
  dsimp only [outA, atA]
  frame_out
  refine View.canon_eq_of_allAt _ _ _ (View.cover_of_tiled_head _ _ _ rfl _) (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_nil _ _)))))))))))))))))
  · intro x hx
    idx_vars x
    have e0 : r.val = 0 + x0.val := hx 0
    have e1 : d.val = 1920 + x1.val := hx 1
    exact (q_15 _ _ x0 x1).trans (end_q m c _ t h r x0 R hv 1920 (by decide) rfl x1 d e0 e1)
  · intro x hx
    idx_vars x
    have e0 : r.val = 0 + x0.val := hx 0
    have e1 : d.val = 1792 + x1.val := hx 1
    exact (q_14 _ _ x0 x1).trans (end_q m c _ t h r x0 R hv 1792 (by decide) rfl x1 d e0 e1)
  · intro x hx
    idx_vars x
    have e0 : r.val = 0 + x0.val := hx 0
    have e1 : d.val = 1664 + x1.val := hx 1
    exact (q_13 _ _ x0 x1).trans (end_q m c _ t h r x0 R hv 1664 (by decide) rfl x1 d e0 e1)
  · intro x hx
    idx_vars x
    have e0 : r.val = 0 + x0.val := hx 0
    have e1 : d.val = 1536 + x1.val := hx 1
    exact (q_12 _ _ x0 x1).trans (end_q m c _ t h r x0 R hv 1536 (by decide) rfl x1 d e0 e1)
  · intro x hx
    idx_vars x
    have e0 : r.val = 0 + x0.val := hx 0
    have e1 : d.val = 1408 + x1.val := hx 1
    exact (q_11 _ _ x0 x1).trans (end_q m c _ t h r x0 R hv 1408 (by decide) rfl x1 d e0 e1)
  · intro x hx
    idx_vars x
    have e0 : r.val = 0 + x0.val := hx 0
    have e1 : d.val = 1280 + x1.val := hx 1
    exact (q_10 _ _ x0 x1).trans (end_q m c _ t h r x0 R hv 1280 (by decide) rfl x1 d e0 e1)
  · intro x hx
    idx_vars x
    have e0 : r.val = 0 + x0.val := hx 0
    have e1 : d.val = 1152 + x1.val := hx 1
    exact (q_9 _ _ x0 x1).trans (end_q m c _ t h r x0 R hv 1152 (by decide) rfl x1 d e0 e1)
  · intro x hx
    idx_vars x
    have e0 : r.val = 0 + x0.val := hx 0
    have e1 : d.val = 1024 + x1.val := hx 1
    exact (q_8 _ _ x0 x1).trans (end_q m c _ t h r x0 R hv 1024 (by decide) rfl x1 d e0 e1)
  · intro x hx
    idx_vars x
    have e0 : r.val = 0 + x0.val := hx 0
    have e1 : d.val = 896 + x1.val := hx 1
    exact (q_7 _ _ x0 x1).trans (end_q m c _ t h r x0 R hv 896 (by decide) rfl x1 d e0 e1)
  · intro x hx
    idx_vars x
    have e0 : r.val = 0 + x0.val := hx 0
    have e1 : d.val = 768 + x1.val := hx 1
    exact (q_6 _ _ x0 x1).trans (end_q m c _ t h r x0 R hv 768 (by decide) rfl x1 d e0 e1)
  · intro x hx
    idx_vars x
    have e0 : r.val = 0 + x0.val := hx 0
    have e1 : d.val = 640 + x1.val := hx 1
    exact (q_5 _ _ x0 x1).trans (end_q m c _ t h r x0 R hv 640 (by decide) rfl x1 d e0 e1)
  · intro x hx
    idx_vars x
    have e0 : r.val = 0 + x0.val := hx 0
    have e1 : d.val = 512 + x1.val := hx 1
    exact (q_4 _ _ x0 x1).trans (end_q m c _ t h r x0 R hv 512 (by decide) rfl x1 d e0 e1)
  · intro x hx
    idx_vars x
    have e0 : r.val = 0 + x0.val := hx 0
    have e1 : d.val = 384 + x1.val := hx 1
    exact (q_3 _ _ x0 x1).trans (end_q m c _ t h r x0 R hv 384 (by decide) rfl x1 d e0 e1)
  · intro x hx
    idx_vars x
    have e0 : r.val = 0 + x0.val := hx 0
    have e1 : d.val = 256 + x1.val := hx 1
    exact (q_2 _ _ x0 x1).trans (end_q m c _ t h r x0 R hv 256 (by decide) rfl x1 d e0 e1)
  · intro x hx
    idx_vars x
    have e0 : r.val = 0 + x0.val := hx 0
    have e1 : d.val = 128 + x1.val := hx 1
    exact (q_1 _ _ _ x0 x1).trans (end_q m c _ t h r x0 R hv 128 (by decide) rfl x1 d e0 e1)
  · intro x hx
    idx_vars x
    have e0 : r.val = 0 + x0.val := hx 0
    have e1 : d.val = 0 + x1.val := hx 1
    exact (q_0 _ _ _ x0 x1).trans (end_q m c _ t h r x0 R hv 0 (by decide) rfl x1 d e0 e1)

theorem block_k (t : Fin cfg0.N) (h : t.val % 3 = 1) (r : Fin 1024) (R : Fin 8192) (e : R.val = 1024 * (t.val / 3) + r.val) (d : Fin 2048) :
    outB (F := Ideal) m c t h (ix2 r d) = val_main_v49 (F := Ideal) (X m c) (G m c) (W m c) (KG m c) (ix2 R d) := by
  have hv := kept_at m c (base t) r R (e.trans (by rw [base_div]))
  dsimp only [outB, atB, normed, atA]
  frame_out
  simp only [read_unread_whole]
  refine View.canon_eq_of_allAt _ _ _ (View.cover_of_tiled_head _ _ _ rfl _) (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_nil _ _)))))))))))))))))
  · intro x hx
    idx_vars x
    have e0 : r.val = 0 + x0.val := hx 0
    have e1 : d.val = 1920 + x1.val := hx 1
    exact (k_15 _ _ x0 x1).trans (end_k m c _ t h r x0 R hv 1920 (by decide) rfl x1 d e0 e1)
  · intro x hx
    idx_vars x
    have e0 : r.val = 0 + x0.val := hx 0
    have e1 : d.val = 1792 + x1.val := hx 1
    exact (k_14 _ _ x0 x1).trans (end_k m c _ t h r x0 R hv 1792 (by decide) rfl x1 d e0 e1)
  · intro x hx
    idx_vars x
    have e0 : r.val = 0 + x0.val := hx 0
    have e1 : d.val = 1664 + x1.val := hx 1
    exact (k_13 _ _ x0 x1).trans (end_k m c _ t h r x0 R hv 1664 (by decide) rfl x1 d e0 e1)
  · intro x hx
    idx_vars x
    have e0 : r.val = 0 + x0.val := hx 0
    have e1 : d.val = 1536 + x1.val := hx 1
    exact (k_12 _ _ x0 x1).trans (end_k m c _ t h r x0 R hv 1536 (by decide) rfl x1 d e0 e1)
  · intro x hx
    idx_vars x
    have e0 : r.val = 0 + x0.val := hx 0
    have e1 : d.val = 1408 + x1.val := hx 1
    exact (k_11 _ _ x0 x1).trans (end_k m c _ t h r x0 R hv 1408 (by decide) rfl x1 d e0 e1)
  · intro x hx
    idx_vars x
    have e0 : r.val = 0 + x0.val := hx 0
    have e1 : d.val = 1280 + x1.val := hx 1
    exact (k_10 _ _ x0 x1).trans (end_k m c _ t h r x0 R hv 1280 (by decide) rfl x1 d e0 e1)
  · intro x hx
    idx_vars x
    have e0 : r.val = 0 + x0.val := hx 0
    have e1 : d.val = 1152 + x1.val := hx 1
    exact (k_9 _ _ x0 x1).trans (end_k m c _ t h r x0 R hv 1152 (by decide) rfl x1 d e0 e1)
  · intro x hx
    idx_vars x
    have e0 : r.val = 0 + x0.val := hx 0
    have e1 : d.val = 1024 + x1.val := hx 1
    exact (k_8 _ _ x0 x1).trans (end_k m c _ t h r x0 R hv 1024 (by decide) rfl x1 d e0 e1)
  · intro x hx
    idx_vars x
    have e0 : r.val = 0 + x0.val := hx 0
    have e1 : d.val = 896 + x1.val := hx 1
    exact (k_7 _ _ x0 x1).trans (end_k m c _ t h r x0 R hv 896 (by decide) rfl x1 d e0 e1)
  · intro x hx
    idx_vars x
    have e0 : r.val = 0 + x0.val := hx 0
    have e1 : d.val = 768 + x1.val := hx 1
    exact (k_6 _ _ x0 x1).trans (end_k m c _ t h r x0 R hv 768 (by decide) rfl x1 d e0 e1)
  · intro x hx
    idx_vars x
    have e0 : r.val = 0 + x0.val := hx 0
    have e1 : d.val = 640 + x1.val := hx 1
    exact (k_5 _ _ x0 x1).trans (end_k m c _ t h r x0 R hv 640 (by decide) rfl x1 d e0 e1)
  · intro x hx
    idx_vars x
    have e0 : r.val = 0 + x0.val := hx 0
    have e1 : d.val = 512 + x1.val := hx 1
    exact (k_4 _ _ x0 x1).trans (end_k m c _ t h r x0 R hv 512 (by decide) rfl x1 d e0 e1)
  · intro x hx
    idx_vars x
    have e0 : r.val = 0 + x0.val := hx 0
    have e1 : d.val = 384 + x1.val := hx 1
    exact (k_3 _ _ x0 x1).trans (end_k m c _ t h r x0 R hv 384 (by decide) rfl x1 d e0 e1)
  · intro x hx
    idx_vars x
    have e0 : r.val = 0 + x0.val := hx 0
    have e1 : d.val = 256 + x1.val := hx 1
    exact (k_2 _ _ x0 x1).trans (end_k m c _ t h r x0 R hv 256 (by decide) rfl x1 d e0 e1)
  · intro x hx
    idx_vars x
    have e0 : r.val = 0 + x0.val := hx 0
    have e1 : d.val = 128 + x1.val := hx 1
    exact (k_1 _ _ _ x0 x1).trans (end_k m c _ t h r x0 R hv 128 (by decide) rfl x1 d e0 e1)
  · intro x hx
    idx_vars x
    have e0 : r.val = 0 + x0.val := hx 0
    have e1 : d.val = 0 + x1.val := hx 1
    exact (k_0 _ _ _ x0 x1).trans (end_k m c _ t h r x0 R hv 0 (by decide) rfl x1 d e0 e1)

theorem block_v (t : Fin cfg0.N) (h : t.val % 3 = 2) (r : Fin 1024) (R : Fin 8192) (e : R.val = 1024 * (t.val / 3) + r.val) (d : Fin 2048) :
    outC (F := Ideal) m c t h (ix2 r d) = val_main_v18 (F := Ideal) (X m c) (G m c) (W m c) (ix2 R d) := by
  have hv := kept_at m c (base t) r R (e.trans (by rw [base_div]))
  dsimp only [outC, atC, normed, atA]
  frame_out
  simp only [read_unread_whole]
  exact (proj_v m c _ t h r R hv d).trans (ref_v m c R d).symm

theorem block_f (t : Fin cfg0.N) (r : Fin 1024) (R : Fin 8192) (e : R.val = 1024 * (t.val / 3) + r.val) (d : Fin 128) :
    logits (F := Ideal) m c t (ix2 r d) = val_main_v52 (F := Ideal) (X m c) (G m c) (W m c) (ix2 R d) := by
  have hv := norm_at m c (base t) r R (e.trans (by rw [base_div]))
  rw [ref_f]
  dsimp only [logits, atA]
  frame_out
  pointwise [k0_pay3]
  by_cases hd : d.val < 16
  · rw [dif_pos hd]
    exact Finset.sum_congr rfl fun k _ => by rw [hv, wf_block, dif_pos hd]
  · rw [dif_neg hd]
    exact Finset.sum_eq_zero fun k _ => by rw [wf_block, dif_neg hd, mul_zero]

theorem ref_part0 (R : Fin 8192) (d : Fin 2048) (D : Fin 6144) (e : D.val = d.val) :
    val_main_v51 (F := Ideal) (X m c) (G m c) (W m c) (QG m c) (KG m c) (ix2 R D) = val_main_v34 (F := Ideal) (X m c) (G m c) (W m c) (QG m c) (ix2 R d) := by
  have := d.isLt
  pointwise [val_main_v51, val_main_v50]
  rw [dif_pos (by omega)]
  exact congrArg _ (ix2_ext rfl e)

theorem ref_part1 (R : Fin 8192) (d : Fin 2048) (D : Fin 6144) (e : D.val = 2048 + d.val) :
    val_main_v51 (F := Ideal) (X m c) (G m c) (W m c) (QG m c) (KG m c) (ix2 R D) = val_main_v49 (F := Ideal) (X m c) (G m c) (W m c) (KG m c) (ix2 R d) := by
  have := d.isLt
  pointwise [val_main_v51, val_main_v50]
  rw [dif_neg (by omega), dif_pos (by omega)]
  exact congrArg _ (ix2_ext rfl (by show D.val - 2048 = d.val; omega))

theorem ref_part2 (R : Fin 8192) (d : Fin 2048) (D : Fin 6144) (e : D.val = 4096 + d.val) :
    val_main_v51 (F := Ideal) (X m c) (G m c) (W m c) (QG m c) (KG m c) (ix2 R D) = val_main_v18 (F := Ideal) (X m c) (G m c) (W m c) (ix2 R d) := by
  have := d.isLt
  pointwise [val_main_v51, val_main_v50]
  rw [dif_neg (by omega), dif_neg (by omega)]
  exact congrArg _ (ix2_ext rfl (by show D.val - 2048 - 2048 = d.val; omega))

/-- A block of the first result. -/
theorem outs (t : Fin cfg0.N) (r : Fin 1024) (d : Fin 2048) (R : Fin 8192) (e : R.val = 1024 * (t.val / 3) + r.val) (D : Fin 6144) (e' : D.val = 2048 * (t.val % 3) + d.val) :
    outAt (F := Ideal) m c t (ix2 r d) = val_main_v51 (F := Ideal) (X m c) (G m c) (W m c) (QG m c) (KG m c) (ix2 R D) := by
  unfold outAt
  by_cases h0 : t.val % 3 = 0
  · rw [dif_pos h0]
    exact (block_q m c t h0 r R e d).trans (ref_part0 m c R d D (by omega)).symm
  · rw [dif_neg h0]
    by_cases h1 : t.val % 3 = 1
    · rw [dif_pos h1]
      exact (block_k m c t h1 r R e d).trans (ref_part1 m c R d D (by omega)).symm
    · rw [dif_neg h1]
      exact (block_v m c t (by omega) r R e d).trans (ref_part2 m c R d D (by omega)).symm

theorem final_qkv : (dats m 0 c).arrAt 6 cfg0.N = val_main_v51 (F := Ideal) (X m c) (G m c) (W m c) (QG m c) (KG m c) := by
  refine (dats m 0 c).arrAt_eq_of_covers 6 _ (by decide +kernel) fun t hf y => ?_
  blk_simp
  rw [after0_6]
  idx_vars y
  have hr := y0.isLt
  have hd := y1.isLt
  have hN : t.val < 24 := t.isLt
  refine (outs m c t y0 y1 ⟨1024 * (t.val / 3) + y0.val, by omega⟩ rfl ⟨2048 * (t.val % 3) + y1.val, by omega⟩ rfl).trans (congrArg _ ?_)
  blk_ext [idx t]

theorem final_f : (dats m 0 c).arrAt 7 cfg0.N = val_main_v52 (F := Ideal) (X m c) (G m c) (W m c) := by
  refine (dats m 0 c).arrAt_eq_of_covers 7 _ (by decide +kernel) fun t hf y => ?_
  blk_simp
  rw [after0_7]
  idx_vars y
  have hr := y0.isLt
  have hN : t.val < 24 := t.isLt
  refine (block_f m c t y0 ⟨1024 * (t.val / 3) + y0.val, by omega⟩ rfl y1).trans (congrArg _ ?_)
  blk_ext [idx t]

end Cert.Proof.FoxQkv

namespace Cert.Proof

open Idealize.ShloMosaic Idealize.ShloMosaic.TcCoe Idealize.SL.Sem

theorem quiescent_Kernel7 : Cert.quiescent_Kernel7 (hKernel7 := Cert.Kernel7.Gen.facts) :=
  fun m g _ => Cert.Kernel7.Hand.frame (F := Bits) m g

theorem quiescent_Kernel7Ideal : Cert.quiescent_Kernel7Ideal (hKernel7Ideal := Cert.Kernel7Ideal.Gen.facts) :=
  fun m g _ => Cert.Kernel7Ideal.Hand.frame (F := Ideal) m g

theorem quiescent_Reference7Ideal : Cert.quiescent_Reference7Ideal (hReference7Ideal := Cert.Reference7Ideal.Gen.facts) :=
  fun m g _ => (θ_run _ _ _).mono (fun r h => ⟨fun c => (h c).2.2, sem_eq_zero_of_no_sems (by decide) r.2⟩)
    (Cert.Reference7Ideal.Value.run m g)

theorem algebraic_Kernel7Ideal_Reference7Ideal :
    Cert.algebraic_Kernel7Ideal_Reference7Ideal (hKernel7Ideal := Cert.Kernel7Ideal.Gen.facts) (hReference7Ideal := Cert.Reference7Ideal.Gen.facts) := by
  intro m g m' g' _ hagree
  refine ⟨_, _, (θ_run _ _ _).mono (fun r h c => ⟨(h.2 c).1 6, (h.2 c).1 7, h.1.1 c⟩)
    (θ_run_and (Cert.Kernel7Ideal.Hand.frame (F := Ideal) m g) (Cert.Kernel7Ideal.Hand.run_call m g)), ?_⟩
  refine (θ_run _ _ _).mono (fun r h c => ?_) (Cert.Reference7Ideal.Value.run m' g')
  refine ⟨(h c).1.trans ?_, (h c).2.1.trans ?_, (h c).2.2⟩
  · rw [Cert.Reference7Ideal.Read.val_main_v51_eq, (hagree c).1, (hagree c).2.1, (hagree c).2.2.1, (hagree c).2.2.2.1, (hagree c).2.2.2.2]
    exact (FoxQkv.final_qkv m c).symm
  · rw [Cert.Reference7Ideal.Read.val_main_v52_eq, (hagree c).1, (hagree c).2.1, (hagree c).2.2.1]
    exact (FoxQkv.final_f m c).symm

end Cert.Proof

end

end
-- ==== Proof.FoxGate.lean ====
module

public import proofs.«01_k».proof.Defs
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pointwise
public import Idealize.ShloMosaic.Lib.Pipeline.ValueKit
public import Idealize.ShloMosaic.Lib.Pipeline.ReadBack
public import Idealize.ShloMosaic.Lib.WordCmp
public import Idealize.ShloMosaic.Lib.Routing.OpsOne

@[expose] public section

set_option maxRecDepth 16384

noncomputable section

namespace Cert.Proof.FoxGate

open Idealize.ShloMosaic Idealize.ShloMosaic.TcCoe Idealize.SL.Sem
open Cert.Kernel8Ideal Cert.Kernel8Ideal.Gen
open Finset (range)

/-! ## Sums of the last `n` rows -/

/-- The sum of the `n` entries that end at `r`. -/
def part (f : ℕ → EReal) (n r : ℕ) : EReal := ∑ i ∈ range n, if i ≤ r then f (r - i) else 0

theorem part_one (f : ℕ → EReal) (r : ℕ) : part f 1 r = f r := by
  unfold part
  rw [Finset.sum_range_one, if_pos (Nat.zero_le r), Nat.sub_zero]

theorem part_double (f : ℕ → EReal) (n r : ℕ) : part f (n + n) r = part f n r + if n ≤ r then part f n (r - n) else 0 := by
  unfold part
  rw [Finset.sum_range_add]
  refine congrArg (_ + ·) ?_
  by_cases h : n ≤ r
  · rw [if_pos h]
    refine Finset.sum_congr rfl fun i _ => ?_
    by_cases hi : n + i ≤ r
    · rw [if_pos hi, if_pos (by omega), Nat.sub_sub]
    · rw [if_neg hi, if_neg (by omega)]
  · rw [if_neg h]
    exact Finset.sum_eq_zero fun i _ => if_neg (by omega)

/-- A column of an array, zero past its end. -/
def col (v : S8192x128.Idx → EReal) (l : Fin 128) (i : ℕ) : EReal := if h : i < 8192 then v (ix2 ⟨i, h⟩ l) else 0

/-- `w` holds at every row the sum of the `n` rows of `v` that end there. -/
def Holds (v : S8192x128.Idx → EReal) (n : ℕ) (w : S8192x128.Idx → EReal) : Prop :=
  ∀ (r : Fin 8192) (l : Fin 128), w (ix2 r l) = part (col v l) n r.val

/-- One step of the kernel: add the rows rotated down by `n`, the first `n` of them replaced by zeros. -/
def st (n : BitVec 32) (v : FVec Ideal S8192x128 .f32) : FVec Ideal S8192x128 .f32 :=
  addf v (select (cmpi .sge (iota .tc S8192x128 32 [0] iota_S8192x128_d0_w32) (broadcast S8192x128 n))
    (dynamicRotate 0 n none v rotates_S8192x128_d0) (broadcast S8192x128 (Scalar.ofBits .f32 0x00000000#32)))

theorem st_apply (n : ℕ) (hn : n < 8192) (w : FVec Ideal S8192x128 .f32) (r : Fin 8192) (l : Fin 128) :
    st (BitVec.ofNat 32 n) w (ix2 r l)
      = w (ix2 r l) + if h : n ≤ r.val then w (ix2 ⟨r.val - n, by have := r.isLt; omega⟩ l) else (0 : EReal) := by
  have hr := r.isLt
  unfold st
  pointwise
  refine congrArg (_ + ·) ?_
  rw [WordCmp.cmpi_sge_ofNat (by omega) (by omega)]
  by_cases h : n ≤ r.val
  · rw [dif_pos h, decide_eq_true h]
    refine congrArg w (congrArg₂ ix2 (Fin.ext ?_) rfl)
    show (r.val + 8192 - (BitVec.ofNat 32 n).toNat % 8192) % 8192 = r.val - n
    rw [BitVec.toNat_ofNat]
    omega
  · rw [dif_neg h, decide_eq_false h]
    rfl

theorem Holds.step {v w : S8192x128.Idx → EReal} {n : ℕ} (h : Holds v n w) (hn : n < 8192) :
    Holds v (n + n) (st (BitVec.ofNat 32 n) w) := by
  intro r l
  rw [st_apply n hn, part_double, h r l]
  refine congrArg (_ + ·) ?_
  by_cases hr : n ≤ r.val
  · rw [dif_pos hr, if_pos hr, h]
  · rw [dif_neg hr, if_neg hr]

theorem Holds.base (v : S8192x128.Idx → EReal) : Holds v 1 v := by
  intro r l
  rw [part_one]
  unfold col
  rw [dif_pos r.isLt]

/-- The thirteen steps. -/
theorem steps (v : S8192x128.Idx → EReal) :
    Holds v 8192 (st 4096#32 (st 2048#32 (st 1024#32 (st 512#32 (st 256#32 (st 128#32 (st 64#32 (st 32#32 (st 16#32 (st 8#32
      (st 4#32 (st 2#32 (st 1#32 v))))))))))))) :=
  (((((((((((((Holds.base v).step (by decide)).step (by decide)).step (by decide)).step (by decide)).step (by decide)).step (by decide)).step
    (by decide)).step (by decide)).step (by decide)).step (by decide)).step (by decide)).step (by decide)).step (by decide)

/-! ## The logarithm of the sigmoid -/

theorem log_ne_bot (y : EReal) : Ideal.log (1 + Ideal.exp y) ≠ ⊥ := by
  induction y with
  | bot =>
    show Ideal.log (1 + 0) ≠ ⊥
    rw [add_zero, ← EReal.coe_one]
    show (if (1 : ℝ) ≤ 0 then (⊥ : EReal) else (Real.log 1 : EReal)) ≠ ⊥
    rw [if_neg (by norm_num)]
    exact EReal.coe_ne_bot _
  | top =>
    show Ideal.log (1 + ⊤) ≠ ⊥
    rw [← EReal.coe_one, EReal.coe_add_top]
    exact top_ne_bot
  | coe x =>
    show Ideal.log (1 + (Real.exp x : EReal)) ≠ ⊥
    rw [← EReal.coe_one, ← EReal.coe_add]
    show (if (1 + Real.exp x : ℝ) ≤ 0 then (⊥ : EReal) else (Real.log (1 + Real.exp x) : EReal)) ≠ ⊥
    rw [if_neg (by have := Real.exp_pos x; linarith)]
    exact EReal.coe_ne_bot _

theorem logsig (x : EReal) : min x 0 - Ideal.log (1 + Ideal.exp (0 - max x (-x)))
    = -(max (-x) 0 + Ideal.log1p (Ideal.exp (-max (-x - 0) (-(-x - 0))))) := by
  unfold Ideal.log1p
  rw [sub_zero, neg_neg, zero_sub, max_comm (-x) x]
  have h0 : (0 : EReal) ≤ max (-x) 0 := le_max_right _ _
  rw [EReal.neg_add (Or.inl fun h => by rw [h] at h0; exact absurd h0 (by simp)) (Or.inr (log_ne_bot _))]
  refine congrArg (· - _) ?_
  rcases le_total x 0 with h | h
  · rw [min_eq_left h, max_eq_left (EReal.le_neg_of_le_neg (by simpa using h)), neg_neg]
  · rw [min_eq_right h, max_eq_right (EReal.neg_le_of_neg_le (by simpa using h)), neg_zero]

/-! ## The host's arrays and the blocks -/

variable (m : (ℓ : Loc nD τ sig) → Buf (Elt Ideal) ℓ) (c : Dev nD)

theorem idx : ∀ t : Fin cfg0.N, win0_0.index t = ![0, 0] ∧ win0_1.index t = ![0, 0] ∧ win0_2.index t = ![0, 0] :=
  (by decide +kernel : ∀ t : Fin grid0.N, _)

abbrev X : S8192x16.Idx → EReal := m ((c : Thread nD τ).loc main_arg0)
abbrev B : S16.Idx → EReal := m ((c : Thread nD τ).loc main_arg1)

theorem entry_f (r : Fin 8192) (l : Fin 128) : V m c main_v0 (ix2 r l) = Cert.Reference8Ideal.Read.val_main_v0 (F := Ideal) (X m c) (ix2 r l) := by
  simp only [V, hostOps0, hostOps0_1, hostOps0_2, hostOps0_3, hostOps0_4, List.flatten_cons, List.flatten_nil, List.append_nil, List.cons_append, List.nil_append]
  after_results_simp
  simp only [StableHlo.TRef.ofBuf_toBuf, id]
  simp only [StableHlo.TRef.ofBuf, StableHlo.TRef.of, StableHlo.TRef.toBuf, cast_eq]
  pointwise [Cert.Reference8Ideal.Read.val_main_v0, Cert.Reference8Ideal.Read.val_main_call0_v0, Cert.Reference8Ideal.Read.val_main_c]

theorem entry_b (l : Fin 128) : V m c main_v2 (ix2 0 l) = Cert.Reference8Ideal.Read.val_main_v1 (F := Ideal) (B m c) (ix1 l) := by
  simp only [V, hostOps0, hostOps0_1, hostOps0_2, hostOps0_3, hostOps0_4, List.flatten_cons, List.flatten_nil, List.append_nil, List.cons_append, List.nil_append]
  after_results_simp
  simp only [StableHlo.TRef.ofBuf_toBuf, id]
  simp only [StableHlo.TRef.ofBuf, StableHlo.TRef.of, StableHlo.TRef.toBuf, cast_eq]
  pointwise [Cert.Reference8Ideal.Read.val_main_v1, Cert.Reference8Ideal.Read.val_main_call1_v0, Cert.Reference8Ideal.Read.val_main_c_0]

theorem f_block (t : Fin cfg0.N) (r : Fin 8192) (l : Fin 128) :
    iblk m c 0 t (ix2 r l) = Cert.Reference8Ideal.Read.val_main_v0 (F := Ideal) (X m c) (ix2 r l) := by
  rw [← entry_f]
  unfold iblk
  refine congrArg (V m c main_v0) ?_
  blk_ext [idx t]

theorem b_block (t : Fin cfg0.N) (l : Fin 128) :
    iblk m c 1 t (ix2 0 l) = Cert.Reference8Ideal.Read.val_main_v1 (F := Ideal) (B m c) (ix1 l) := by
  rw [← entry_b]
  unfold iblk
  refine congrArg (V m c main_v2) ?_
  blk_ext [idx t]

/-- The kernel's logarithm of the sigmoid, before the sums. -/
def ls (v0 : Vec Ideal S8192x128 .f32) (v2 : Vec Ideal S1x128 .f32) : FVec Ideal S8192x128 .f32 :=
  subf (minimumf (addf (shapeCast S8192x128 v0 shapeCasts_S8192x128_S8192x128) (broadcastTo S8192x128 (shapeCast S1x128 v2 shapeCasts_S1x128_S1x128) broadcasts_S1x128_S8192x128))
      (broadcast S8192x128 (Scalar.ofBits .f32 0x00000000#32)))
    (log (addf (broadcast S8192x128 (Scalar.ofBits .f32 0x3F800000#32))
      (exp (subf (broadcast S8192x128 (Scalar.ofBits .f32 0x00000000#32))
        (absf (addf (shapeCast S8192x128 v0 shapeCasts_S8192x128_S8192x128) (broadcastTo S8192x128 (shapeCast S1x128 v2 shapeCasts_S1x128_S1x128) broadcasts_S1x128_S8192x128)))))))

theorem pay2_eq (v0 : Vec Ideal S8192x128 .f32) (v2 : Vec Ideal S1x128 .f32) :
    k0_pay2 v0 v2 = st 4#32 (st 2#32 (st 1#32 (ls v0 v2))) := rfl

theorem pay4_eq (a b : FVec Ideal S8192x128 .f32) : k0_pay4 (iota .tc S8192x128 32 [0] iota_S8192x128_d0_w32) a b
    = st 512#32 (st 256#32 (st 128#32 (st 64#32 (st 32#32 (st 16#32 (addf a b)))))) := rfl

theorem pay1_eq (a : FVec Ideal S8192x128 .f32) :
    k0_pay1 (iota .tc S8192x128 32 [0] iota_S8192x128_d0_w32) a (k0_pay5 (iota .tc S8192x128 32 [0] iota_S8192x128_d0_w32))
      (dynamicRotate 0 1024#32 none a rotates_S8192x128_d0) = st 4096#32 (st 2048#32 (st 1024#32 a)) := rfl

theorem pay_eq (v0 : Vec Ideal S8192x128 .f32) (v2 : Vec Ideal S1x128 .f32) :
    k0_pay1 (iota .tc S8192x128 32 [0] iota_S8192x128_d0_w32)
      (k0_pay4 (iota .tc S8192x128 32 [0] iota_S8192x128_d0_w32) (k0_pay2 v0 v2) (k0_pay3 v0 v2))
      (k0_pay5 (iota .tc S8192x128 32 [0] iota_S8192x128_d0_w32))
      (k0_pay6 (iota .tc S8192x128 32 [0] iota_S8192x128_d0_w32) (k0_pay2 v0 v2) (k0_pay3 v0 v2))
    = st 4096#32 (st 2048#32 (st 1024#32 (st 512#32 (st 256#32 (st 128#32 (st 64#32 (st 32#32 (st 16#32 (st 8#32
      (st 4#32 (st 2#32 (st 1#32 (ls v0 v2))))))))))))) := by
  refine (pay1_eq (k0_pay4 (iota .tc S8192x128 32 [0] iota_S8192x128_d0_w32) (k0_pay2 v0 v2) (k0_pay3 v0 v2))).trans ?_
  rw [pay4_eq, ← pay2_eq]
  rfl

theorem one : Ideal.ofBits .f32 0x3F800000#32 = (1 : EReal) := by
  simp [Ideal.ofBits, Ideal.ieee, -EReal.coe_mul]
  norm_num

/-- The reference's logarithm of the sigmoid. -/
abbrev LS : S8192x128.Idx → EReal := Cert.Reference8Ideal.Read.val_main_v5 (F := Ideal) (X m c) (B m c)

theorem ref_ls (r : Fin 8192) (l : Fin 128) (x : EReal)
    (hx : x = Cert.Reference8Ideal.Read.val_main_v0 (F := Ideal) (X m c) (ix2 r l) + Cert.Reference8Ideal.Read.val_main_v1 (F := Ideal) (B m c) (ix1 l)) :
    LS m c (ix2 r l) = -(max (-x) 0 + Ideal.log1p (Ideal.exp (-max (-x - 0) (-(-x - 0))))) := by
  unfold LS
  pointwise [Cert.Reference8Ideal.Read.val_main_v5, Cert.Reference8Ideal.Read.val_main_call2_v1, Cert.Reference8Ideal.Read.val_main_call2_call0_v11, Cert.Reference8Ideal.Read.val_main_call2_call0_v10, Cert.Reference8Ideal.Read.val_main_call2_call0_v9, Cert.Reference8Ideal.Read.val_main_call2_call0_v8, Cert.Reference8Ideal.Read.val_main_call2_call0_v7, Cert.Reference8Ideal.Read.val_main_call2_call0_v6, Cert.Reference8Ideal.Read.val_main_call2_call0_v5, Cert.Reference8Ideal.Read.val_main_call2_call0_v4, Cert.Reference8Ideal.Read.val_main_call2_call0_v3, Cert.Reference8Ideal.Read.val_main_call2_call0_v2, Cert.Reference8Ideal.Read.val_main_call2_call0_v1, Cert.Reference8Ideal.Read.val_main_call2_call0_v0, Cert.Reference8Ideal.Read.val_main_call2_call0_cst, Cert.Reference8Ideal.Read.val_main_call2_v0, Cert.Reference8Ideal.Read.val_main_v4, Cert.Reference8Ideal.Read.val_main_v3, Cert.Reference8Ideal.Read.val_main_v2]
  rw [← hx, if_neg (fun h => h rfl)]
  rfl

theorem ls_block (t : Fin cfg0.N) (r : Fin 8192) (l : Fin 128) : ls (iblk m c 0 t) (iblk m c 1 t) (ix2 r l) = LS m c (ix2 r l) := by
  rw [ref_ls m c r l _ rfl, ← logsig]
  unfold ls
  pointwise
  rw [f_block, b_block]
  rfl

/-! ## The reference's running sum -/

theorem foldl_add {α : Type} (g : α → EReal) (L : List α) (a : EReal) : L.foldl (fun s n => s + g n) a = a + (L.map g).sum := by
  induction L generalizing a with
  | nil => simp
  | cons x L ih => rw [List.foldl_cons, ih, List.map_cons, List.sum_cons, add_assoc]

/-- The host's running sum down the rows of an array. -/
theorem ref_sum (v : S8192x128.Idx → EReal) (init : S_.Idx → EReal) (hi : ∀ i, init i = 0)
    (h : S8192x128.ReduceWindows (![8192, 1] : Fin 2 → Nat) ![1, 1] ![8191, 0] ![0, 0] S8192x128) (hu : 0 < S_.numel) (r : Fin 8192) (l : Fin 128) :
    Host.reduceWindowAdd (F := Ideal) (φ := .f32) ![8192, 1] ![1, 1] ![8191, 0] ![0, 0] v init h hu (ix2 r l) = part (col v l) 8192 r.val := by
  have hr := r.isLt
  have hl := l.isLt
  unfold Host.reduceWindowAdd
  rw [hi]
  change Ideal.hostReduceWindowAdd ![8192, 1] ![1, 1] ![8191, 0] ![0, 0] h v 0 (ix2 r l) = _
  unfold Ideal.hostReduceWindowAdd Host.reduceWindow
  dsimp only
  rw [ foldl_add, zero_add, ← Fin.sum_univ_def]
  let G : ℕ → EReal := fun k => if 8191 ≤ r.val + k then col v l (r.val + k - 8191) else 0
  refine (Finset.sum_congr rfl (g := fun n => G n.val) fun n _ => ?_).trans ?_
  · have hw0 : ((Routing.shape2 8192 1).rowMajor.symm n 0).val = n.val := by rw [Routing.symm_col]; rfl
    have hw1 : ((Routing.shape2 8192 1).rowMajor.symm n 1).val = 0 := by rw [Routing.symm_col]; rfl
    have hn : n.val < 8192 := (n.cast (Routing.numel_col 8192)).isLt
    show _ = if 8191 ≤ r.val + n.val then col v l (r.val + n.val - 8191) else 0
    split
    · next hin =>
      have h0 := hin 0
      change 8191 ≤ r.val * 1 + ((Routing.shape2 8192 1).rowMajor.symm n 0).val
        ∧ r.val * 1 + ((Routing.shape2 8192 1).rowMajor.symm n 0).val - 8191 < 8192 at h0
      rw [hw0] at h0
      rw [if_pos (by omega)]
      unfold col
      rw [dif_pos (by omega)]
      refine congrArg v (funext fun a => Fin.ext ?_)
      match a with
      | ⟨0, _⟩ =>
        show r.val * 1 + ((Routing.shape2 8192 1).rowMajor.symm n 0).val - 8191 = r.val + n.val - 8191
        rw [hw0, Nat.mul_one]
      | ⟨1, _⟩ =>
        show l.val * 1 + ((Routing.shape2 8192 1).rowMajor.symm n 1).val - 0 = l.val
        rw [hw1]
        omega
    · next hin =>
      rw [if_neg fun hle => hin fun a => by
        match a with
        | ⟨0, _⟩ =>
          show 8191 ≤ r.val * 1 + ((Routing.shape2 8192 1).rowMajor.symm n 0).val
            ∧ r.val * 1 + ((Routing.shape2 8192 1).rowMajor.symm n 0).val - 8191 < 8192
          rw [hw0]
          omega
        | ⟨1, _⟩ =>
          show 0 ≤ l.val * 1 + ((Routing.shape2 8192 1).rowMajor.symm n 1).val ∧ l.val * 1 + ((Routing.shape2 8192 1).rowMajor.symm n 1).val - 0 < 128
          rw [hw1]
          omega]
  · rw [Fin.sum_univ_eq_sum_range G, show (Routing.shape2 8192 1).numel = 8192 from Routing.numel_col 8192]
    rw [← Finset.sum_range_reflect]
    unfold part
    refine Finset.sum_congr rfl fun i hi => ?_
    have hi := Finset.mem_range.1 hi
    show (if 8191 ≤ r.val + (8192 - 1 - i) then col v l (r.val + (8192 - 1 - i) - 8191) else 0) = _
    by_cases h : i ≤ r.val
    · rw [if_pos h, if_pos (by omega)]
      exact congrArg _ (by omega)
    · rw [if_neg h, if_neg (by omega)]

theorem ref_final (r : Fin 8192) (l : Fin 128) :
    Cert.Reference8Ideal.Read.val_main_v6 (F := Ideal) (X m c) (B m c) (ix2 r l) = part (col (LS m c) l) 8192 r.val := by
  unfold Cert.Reference8Ideal.Read.val_main_v6
  refine ref_sum (LS m c) _ ?_ _ _ r l
  intro i
  pointwise [Cert.Reference8Ideal.Read.val_main_call3_call0_v0, Cert.Reference8Ideal.Read.val_main_call3_call0_cst]

theorem sums (v0 : Vec Ideal S8192x128 .f32) (v2 : Vec Ideal S1x128 .f32) (r : Fin 8192) (l : Fin 128) :
    k0_pay1 (F := Ideal) (k0_pay7 v0 v2) (k0_pay4 (k0_pay7 v0 v2) (k0_pay2 v0 v2) (k0_pay3 v0 v2)) (k0_pay5 (k0_pay7 v0 v2))
      (k0_pay6 (k0_pay7 v0 v2) (k0_pay2 v0 v2) (k0_pay3 v0 v2)) (ix2 r l) = part (col (ls v0 v2) l) 8192 r.val := by
  unfold k0_pay7
  rw [pay_eq]
  exact steps (ls v0 v2) r l

theorem part_congr {f g : ℕ → EReal} (h : ∀ i, f i = g i) (n r : ℕ) : part f n r = part g n r := by
  rw [funext h]

theorem col_block (t : Fin cfg0.N) (l : Fin 128) (i : ℕ) : col (ls (iblk m c 0 t) (iblk m c 1 t)) l i = col (LS m c) l i := by
  unfold col
  by_cases h : i < 8192
  · rw [dif_pos h, dif_pos h, ls_block]
  · rw [dif_neg h, dif_neg h]

theorem ld_f (v : Vec Ideal S8192x128 .f32) : View.ld v r0_0 = v := by
  funext y
  unfold View.ld
  refine congrArg v (funext fun a => Fin.ext ?_)
  match a with
  | ⟨0, _⟩ => show 0 + 1 * (y 0).val = (y 0).val; omega
  | ⟨1, _⟩ => show 0 + 1 * (y 1).val = (y 1).val; omega

theorem ld_b (v : Vec Ideal S1x128 .f32) : View.ld v r0_1 = v := by
  funext y
  unfold View.ld
  refine congrArg v (funext fun a => Fin.ext ?_)
  match a with
  | ⟨0, _⟩ => show 0 + 1 * (y 0).val = (y 0).val; omega
  | ⟨1, _⟩ => show 0 + 1 * (y 1).val = (y 1).val; omega

theorem outs (t : Fin cfg0.N) (r : Fin 8192) (l : Fin 128) :
    out0_2 (F := Ideal) (iblk m c 0 t) (iblk m c 1 t) (ix2 r l) = Cert.Reference8Ideal.Read.val_main_v6 (F := Ideal) (X m c) (B m c) (ix2 r l) := by
  rw [ref_final, ← part_congr (col_block m c t l), ← sums]
  frame_out
  unfold k0_pay8 k0_pay9
  rw [ld_f, ld_b]

theorem final : (dats m 0 c).arrAt 2 cfg0.N = Cert.Reference8Ideal.Read.val_main_v6 (F := Ideal) (X m c) (B m c) := by
  refine (dats m 0 c).arrAt_eq_of_covers 2 _ (by decide +kernel) fun t hf y => ?_
  blk_simp
  rw [after0_2]
  idx_vars y
  refine (outs m c t y0 y1).trans (congrArg _ ?_)
  blk_ext [idx t]

end Cert.Proof.FoxGate

namespace Cert.Proof

open Idealize.ShloMosaic Idealize.ShloMosaic.TcCoe Idealize.SL.Sem

theorem quiescent_Kernel8 : Cert.quiescent_Kernel8 (hKernel8 := Cert.Kernel8.Gen.facts) :=
  fun m g _ => Cert.Kernel8.Gen.frame m g

theorem quiescent_Kernel8Ideal : Cert.quiescent_Kernel8Ideal (hKernel8Ideal := Cert.Kernel8Ideal.Gen.facts) :=
  fun m g _ => Cert.Kernel8Ideal.Gen.frame m g

theorem quiescent_Reference8Ideal : Cert.quiescent_Reference8Ideal (hReference8Ideal := Cert.Reference8Ideal.Gen.facts) :=
  fun m g _ => (θ_run _ _ _).mono (fun r h => ⟨fun c => (h c).2, sem_eq_zero_of_no_sems (by decide) r.2⟩)
    (Cert.Reference8Ideal.Value.run m g)

theorem algebraic_Kernel8Ideal_Reference8Ideal :
    Cert.algebraic_Kernel8Ideal_Reference8Ideal (hKernel8Ideal := Cert.Kernel8Ideal.Gen.facts) (hReference8Ideal := Cert.Reference8Ideal.Gen.facts) := by
  intro m g m' g' _ hagree
  refine ⟨_, Cert.Kernel8Ideal.Value.run_blocks m g, ?_⟩
  refine (θ_run _ _ _).mono (fun r h c => ?_) (Cert.Reference8Ideal.Value.run m' g')
  refine ⟨(h c).1.trans ?_, (h c).2⟩
  rw [Cert.Reference8Ideal.Read.val_main_v6_eq, (hagree c).1, (hagree c).2]
  exact (FoxGate.final m c).symm

end Cert.Proof

end

end
-- ==== Proof.OutProj.lean ====
module

public import proofs.«01_k».proof.Defs
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Proof.Out

open Idealize.ShloMosaic Idealize.ShloMosaic.TcCoe Idealize.SL.Sem
open Cert.Kernel3Ideal Cert.Kernel3Ideal.Gen
open Cert.Reference3Ideal.Read (val_main_v0 val_main_v1)

variable (m : (ℓ : Loc nD τ sig) → Buf (Elt Ideal) ℓ) (c : Dev nD)

theorem idx : ∀ t : Fin cfg0.N, win0_0.index t = ![t.val, 0] ∧ win0_1.index t = ![t.val, 0] ∧ win0_2.index t = ![0, 0] ∧ win0_3.index t = ![t.val, 0] :=
  (by decide +kernel : ∀ t : Fin grid0.N, _)

abbrev X : S8192x2048.Idx → EReal := m ((c : Thread nD τ).loc main_arg0)
abbrev A : S8192x2048.Idx → EReal := m ((c : Thread nD τ).loc main_arg1)
abbrev W : S2048x2048.Idx → EReal := m ((c : Thread nD τ).loc main_arg2)

/-- The row blocks together are the residual and the product. -/
theorem final : (dats m 0 c).arrAt 3 cfg0.N = val_main_v1 (F := Ideal) (X m c) (A m c) (W m c) := by
  refine (dats m 0 c).arrAt_eq_of_covers 3 _ (by decide +kernel) fun t hf y => ?_
  blk_simp
  rw [after0_3]
  frame_out
  idx_vars y
  have hr := y0.isLt
  have hN : t.val < 16 := t.isLt
  have e : (((View.whole main_v2).slice (win0_3.rect t)).emb (ix2 y0 y1)) = ix2 ⟨512 * t.val + y0.val, by omega⟩ y1 := by blk_ext [idx t]
  refine Eq.trans ?_ (congrArg _ e).symm
  pointwise [k0_pay1, val_main_v1, val_main_v0]
  blk_point [iblk, V, idx t]

end Cert.Proof.Out

namespace Cert.Proof

open Idealize.ShloMosaic Idealize.ShloMosaic.TcCoe Idealize.SL.Sem

theorem quiescent_Kernel3 : Cert.quiescent_Kernel3 (hKernel3 := Cert.Kernel3.Gen.facts) :=
  fun m g _ => Cert.Kernel3.Gen.frame m g

theorem quiescent_Kernel3Ideal : Cert.quiescent_Kernel3Ideal (hKernel3Ideal := Cert.Kernel3Ideal.Gen.facts) :=
  fun m g _ => Cert.Kernel3Ideal.Gen.frame m g

theorem quiescent_Reference3Ideal : Cert.quiescent_Reference3Ideal (hReference3Ideal := Cert.Reference3Ideal.Gen.facts) :=
  fun m g _ => (θ_run _ _ _).mono (fun r h => ⟨fun c => (h c).2, sem_eq_zero_of_no_sems (by decide) r.2⟩)
    (Cert.Reference3Ideal.Value.run m g)

theorem algebraic_Kernel3Ideal_Reference3Ideal :
    Cert.algebraic_Kernel3Ideal_Reference3Ideal (hKernel3Ideal := Cert.Kernel3Ideal.Gen.facts) (hReference3Ideal := Cert.Reference3Ideal.Gen.facts) := by
  intro m g m' g' _ hagree
  refine ⟨_, Cert.Kernel3Ideal.Value.run_blocks m g, ?_⟩
  refine (θ_run _ _ _).mono (fun r h c => ?_) (Cert.Reference3Ideal.Value.run m' g')
  refine ⟨(h c).1.trans ?_, (h c).2⟩
  rw [Cert.Reference3Ideal.Read.val_main_v1_eq, (hagree c).1, (hagree c).2.1, (hagree c).2.2]
  exact (Out.final m c).symm

end Cert.Proof

end

end
-- ==== Proof.FoxStep.lean ====
module

public import proofs.«01_k».proof.Proof.Gen.KernelIdeal.Loops
public import Idealize.ShloMosaic.Lib.WritesUnit
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F] [Named F]

/-! ### Reading a box after a list of box writes -/

section Boxes
variable {Val : EltTy → Type} {sig : RefSig} {κ : Kind} {sp : Space} {s : Shape} {e : EltTy}

/-- A box read after a write of that very box is what was written. -/
theorem rd_hit (v : View sig κ sp s e) (f : v.ty.Contents Val) {off size : Fin s.rank → ℕ}
    (inb : ∀ a, off a + size a ≤ s.size a) (inb' : ∀ a, off a + size a ≤ s.size a)
    (w : (Rect.unit off size inb').shape.Idx → Val e) (L : List (View.Piece Val s e)) :
    v.readAt Val (Rect.unit off size inb).toLoadRect (v.writes Val f ((⟨Rect.unit off size inb', w⟩ : View.Piece Val s e) :: L)) = w :=
  funext fun x => View.read_writes_cons_emb v f (Rect.unit off size inb') w L x

/-- A box read after a write of a box apart from it reads past that write. -/
theorem rd_miss (v : View sig κ sp s e) (f : v.ty.Contents Val) {off size off' size' : Fin s.rank → ℕ}
    (inb : ∀ a, off a + size a ≤ s.size a) (inb' : ∀ a, off' a + size' a ≤ s.size a)
    (w : (Rect.unit off' size' inb').shape.Idx → Val e) (L : List (View.Piece Val s e))
    (h : ∃ a, off a + size a ≤ off' a ∨ off' a + size' a ≤ off a) :
    v.readAt Val (Rect.unit off size inb).toLoadRect (v.writes Val f ((⟨Rect.unit off' size' inb', w⟩ : View.Piece Val s e) :: L))
      = v.readAt Val (Rect.unit off size inb).toLoadRect (v.writes Val f L) := by
  obtain ⟨a, ha⟩ := h
  funext x
  refine View.read_writes_cons_unit_of_not_mem v f inb' w L _ rfl a ?_
  have hx : (x a).val < size a := (x a).isLt
  have hv : ((Rect.unit off size inb).toLoadRect.idx x a).val = off a + 1 * (x a).val := rfl
  omega

end Boxes

/-! ### The tile step: the running maximum, sum and accumulator after one tile of 256 keys -/

/-- The new running maximum. -/
def nM (s : Vec F S1x1x256x512 .f32) (m : Vec F S1x1x512 .f32) : FVec F S1x1x512 .f32 := k0_pay15 (k0_pay12 s m)
/-- The new running sum. -/
def nL (s : Vec F S1x1x256x512 .f32) (m : Vec F S1x1x512 .f32) (v : Vec F S256x128 .bf16) (l : Vec F S1x1x512 .f32) :
    FVec F S1x1x512 .f32 := k0_pay17 (k0_pay13 s m) (k0_pay14 s m) v l
/-- The new accumulator. -/
def nA (s : Vec F S1x1x256x512 .f32) (m : Vec F S1x1x512 .f32) (v : Vec F S256x128 .bf16) (a : Vec F S1x128x512 .f32) :
    FVec F S1x128x512 .f32 := k0_pay18 (k0_pay13 s m) (k0_pay14 s m) v a

/-! ### The blocks the tiles read, by tile number and head -/

/-- Rows `256 n …` and head `h`'s columns of the keys or values. -/
def kb (X : S8192x512.Idx → Elt F .bf16) (n : ℕ) (h : ℕ) : Vec F S256x128 .bf16 := fun x =>
  X (ix2 ⟨(256 * n + (x 0).val) % 8192, Nat.mod_lt _ (by decide)⟩ ⟨(128 * h + (x 1).val) % 512, Nat.mod_lt _ (by decide)⟩)
/-- Head `h`'s columns of the query block. -/
def qb (X : S512x512.Idx → Elt F .bf16) (h : ℕ) : Vec F S512x128 .bf16 := fun x =>
  X (ix2 (x 0) ⟨(128 * h + (x 1).val) % 512, Nat.mod_lt _ (by decide)⟩)
/-- Head `h`'s gates at rows `256 n …`. -/
def cb (X : S1x8192x4.Idx → Elt F .f32) (n : ℕ) (h : ℕ) : Vec F S1x256x1 .f32 := fun x =>
  X (ix3 0 ⟨(256 * n + (x 1).val) % 8192, Nat.mod_lt _ (by decide)⟩ ⟨h % 4, Nat.mod_lt _ (by decide)⟩)
/-- Head `h`'s gate at row `n`. -/
def c0b (X : S1x8192x4.Idx → Elt F .f32) (n : ℕ) (h : ℕ) : Vec F S1x1x1 .f32 := fun x =>
  X (ix3 0 ⟨n % 8192, Nat.mod_lt _ (by decide)⟩ ⟨h % 4, Nat.mod_lt _ (by decide)⟩)

theorem rd_kb (r : Memref sig .tc .vmem S8192x512 .bf16) (X : BufTy.Contents (Elt F) r.view.ty) {off : Fin 2 → ℕ}
    (inb : ∀ a, off a + S256x128.size a ≤ S8192x512.size a) (n h : ℕ) (e : off = ![256 * n, 128 * h]) :
    r.view.readAt (Elt F) (Rect.unit (s := S8192x512) off S256x128.size inb).toLoadRect X = kb (r.view.read (Elt F) X) n h := by
  subst e; funext x
  have h0 : 256 * n + 256 ≤ 8192 := inb 0
  have h1 : 128 * h + 128 ≤ 512 := inb 1
  have x0 : (x 0).val < 256 := (x 0).isLt
  have x1 : (x 1).val < 128 := (x 1).isLt
  refine congrArg (r.view.read (Elt F) X) (funext fun a => Fin.ext ?_)
  match a with
  | 0 => show 256 * n + 1 * (x 0).val = (256 * n + (x 0).val) % 8192; omega
  | 1 => show 128 * h + 1 * (x 1).val = (128 * h + (x 1).val) % 512; omega

theorem rd_qb (r : Memref sig .tc .vmem S512x512 .bf16) (X : BufTy.Contents (Elt F) r.view.ty) {off : Fin 2 → ℕ}
    (inb : ∀ a, off a + S512x128.size a ≤ S512x512.size a) (h : ℕ) (e : off = ![0, 128 * h]) :
    r.view.readAt (Elt F) (Rect.unit (s := S512x512) off S512x128.size inb).toLoadRect X = qb (r.view.read (Elt F) X) h := by
  subst e; funext x
  have h1 : 128 * h + 128 ≤ 512 := inb 1
  have x1 : (x 1).val < 128 := (x 1).isLt
  refine congrArg (r.view.read (Elt F) X) (funext fun a => Fin.ext ?_)
  match a with
  | 0 => show 0 + 1 * (x 0).val = (x 0).val; omega
  | 1 => show 128 * h + 1 * (x 1).val = (128 * h + (x 1).val) % 512; omega

theorem rd_cb (r : Memref sig .tc .vmem S1x8192x4 .f32) (X : BufTy.Contents (Elt F) r.view.ty) {off : Fin 3 → ℕ}
    (inb : ∀ a, off a + S1x256x1.size a ≤ S1x8192x4.size a) (n h : ℕ) (e : off = ![0, 256 * n, h]) :
    r.view.readAt (Elt F) (Rect.unit (s := S1x8192x4) off S1x256x1.size inb).toLoadRect X = cb (r.view.read (Elt F) X) n h := by
  subst e; funext x
  have h0 : 256 * n + 256 ≤ 8192 := inb 1
  have h1 : h + 1 ≤ 4 := inb 2
  have x0 : (x 0).val < 1 := (x 0).isLt
  have x1 : (x 1).val < 256 := (x 1).isLt
  have x2 : (x 2).val < 1 := (x 2).isLt
  refine congrArg (r.view.read (Elt F) X) (funext fun a => Fin.ext ?_)
  match a with
  | 0 => show 0 + 1 * (x 0).val = 0; omega
  | 1 => show 256 * n + 1 * (x 1).val = (256 * n + (x 1).val) % 8192; omega
  | 2 => show h + 1 * (x 2).val = h % 4; omega

theorem rd_c0b (r : Memref sig .tc .vmem S1x8192x4 .f32) (X : BufTy.Contents (Elt F) r.view.ty) {off : Fin 3 → ℕ}
    (inb : ∀ a, off a + S1x1x1.size a ≤ S1x8192x4.size a) (n h : ℕ) (e : off = ![0, n, h]) :
    r.view.readAt (Elt F) (Rect.unit (s := S1x8192x4) off S1x1x1.size inb).toLoadRect X = c0b (r.view.read (Elt F) X) n h := by
  subst e; funext x
  have h0 : n + 1 ≤ 8192 := inb 1
  have h1 : h + 1 ≤ 4 := inb 2
  have x0 : (x 0).val < 1 := (x 0).isLt
  have x1 : (x 1).val < 1 := (x 1).isLt
  have x2 : (x 2).val < 1 := (x 2).isLt
  refine congrArg (r.view.read (Elt F) X) (funext fun a => Fin.ext ?_)
  match a with
  | 0 => show 0 + 1 * (x 0).val = 0; omega
  | 1 => show n + 1 * (x 1).val = n % 8192; omega
  | 2 => show h + 1 * (x 2).val = h % 4; omega

/-- The logits of key tile `n` against the whole query block of step `i`, for head `h`. -/
def lg (i : ℕ) (x2 : S512x512.Idx → Elt F .bf16) (x3 : S8192x512.Idx → Elt F .bf16) (x5 : S1x8192x4.Idx → Elt F .f32) (n h : ℕ) :
    Vec F S1x1x256x512 .f32 := k0_pay3 (c0b x5 (512 * i) h) (kb x3 n h) (qb x2 h) (cb x5 n h)

/-! ### The offsets -/
theorem off5 : ∀ i : grid0.Coords, k0_off5 i = ![0, 512 * (i 1).val, 0] := by decide +kernel
theorem off8 : ∀ i : grid0.Coords, k0_off8 i = ![0, 512 * (i 1).val, 1] := by decide +kernel
theorem off11 : ∀ i : grid0.Coords, k0_off11 i = ![0, 512 * (i 1).val, 2] := by decide +kernel
theorem off14 : ∀ i : grid0.Coords, k0_off14 i = ![0, 512 * (i 1).val, 3] := by decide +kernel
theorem off1 : ∀ i : grid0.Coords, k0_off1 i = ![0, 512 * (i 1).val, 0] := by decide +kernel
theorem off2 : ∀ i : grid0.Coords, k0_off2 i = ![0, 512 * (i 1).val, 1] := by decide +kernel
theorem off3 : ∀ i : grid0.Coords, k0_off3 i = ![0, 512 * (i 1).val, 2] := by decide +kernel
theorem off4 : ∀ i : grid0.Coords, k0_off4 i = ![0, 512 * (i 1).val, 3] := by decide +kernel
theorem off6_1 : ∀ (i : grid0.Coords) (k : Fin (k0_t1_loop i).trips), k0_off6 i k 1#32 = ![256 * (2 * k.val + 1), 128 * 0] := by decide +kernel
theorem off6_2 : ∀ (i : grid0.Coords) (k : Fin (k0_t1_loop i).trips), k0_off6 i k 2#32 = ![256 * (2 * k.val + 2), 128 * 0] := by decide +kernel
theorem off9_1 : ∀ (i : grid0.Coords) (k : Fin (k0_t1_loop i).trips), k0_off9 i k 1#32 = ![256 * (2 * k.val + 1), 128 * 1] := by decide +kernel
theorem off9_2 : ∀ (i : grid0.Coords) (k : Fin (k0_t1_loop i).trips), k0_off9 i k 2#32 = ![256 * (2 * k.val + 2), 128 * 1] := by decide +kernel
theorem off12_1 : ∀ (i : grid0.Coords) (k : Fin (k0_t1_loop i).trips), k0_off12 i k 1#32 = ![256 * (2 * k.val + 1), 128 * 2] := by decide +kernel
theorem off12_2 : ∀ (i : grid0.Coords) (k : Fin (k0_t1_loop i).trips), k0_off12 i k 2#32 = ![256 * (2 * k.val + 2), 128 * 2] := by decide +kernel
theorem off15_1 : ∀ (i : grid0.Coords) (k : Fin (k0_t1_loop i).trips), k0_off15 i k 1#32 = ![256 * (2 * k.val + 1), 128 * 3] := by decide +kernel
theorem off15_2 : ∀ (i : grid0.Coords) (k : Fin (k0_t1_loop i).trips), k0_off15 i k 2#32 = ![256 * (2 * k.val + 2), 128 * 3] := by decide +kernel
theorem off7_1 : ∀ (i : grid0.Coords) (k : Fin (k0_t1_loop i).trips), k0_off7 i k 1#32 = ![0, 256 * (2 * k.val + 1), 0] := by decide +kernel
theorem off7_2 : ∀ (i : grid0.Coords) (k : Fin (k0_t1_loop i).trips), k0_off7 i k 2#32 = ![0, 256 * (2 * k.val + 2), 0] := by decide +kernel
theorem off10_1 : ∀ (i : grid0.Coords) (k : Fin (k0_t1_loop i).trips), k0_off10 i k 1#32 = ![0, 256 * (2 * k.val + 1), 1] := by decide +kernel
theorem off10_2 : ∀ (i : grid0.Coords) (k : Fin (k0_t1_loop i).trips), k0_off10 i k 2#32 = ![0, 256 * (2 * k.val + 2), 1] := by decide +kernel
theorem off13_1 : ∀ (i : grid0.Coords) (k : Fin (k0_t1_loop i).trips), k0_off13 i k 1#32 = ![0, 256 * (2 * k.val + 1), 2] := by decide +kernel
theorem off13_2 : ∀ (i : grid0.Coords) (k : Fin (k0_t1_loop i).trips), k0_off13 i k 2#32 = ![0, 256 * (2 * k.val + 2), 2] := by decide +kernel
theorem off16_1 : ∀ (i : grid0.Coords) (k : Fin (k0_t1_loop i).trips), k0_off16 i k 1#32 = ![0, 256 * (2 * k.val + 1), 3] := by decide +kernel
theorem off16_2 : ∀ (i : grid0.Coords) (k : Fin (k0_t1_loop i).trips), k0_off16 i k 2#32 = ![0, 256 * (2 * k.val + 2), 3] := by decide +kernel
theorem off17 : ∀ (i : grid0.Coords) (k : Fin (k0_t1_loop i).trips), k0_off17 i k = ![256 * (2 * k.val), 128 * 0] := by decide +kernel
theorem off18 : ∀ (i : grid0.Coords) (k : Fin (k0_t1_loop i).trips), k0_off18 i k = ![256 * (2 * k.val), 128 * 1] := by decide +kernel
theorem off19 : ∀ (i : grid0.Coords) (k : Fin (k0_t1_loop i).trips), k0_off19 i k = ![256 * (2 * k.val), 128 * 2] := by decide +kernel
theorem off20 : ∀ (i : grid0.Coords) (k : Fin (k0_t1_loop i).trips), k0_off20 i k = ![256 * (2 * k.val), 128 * 3] := by decide +kernel

section Trip

variable (𝒱 : Variants) (c : Dev nD) (bd : Option 𝒱.V) (i : grid0.Coords) (arg2 : Memref sig .tc .vmem S512x512 .bf16) (harg2 : arg2.IsWhole) (arg3 : Memref sig .tc .vmem S8192x512 .bf16) (harg3 : arg3.IsWhole) (arg4 : Memref sig .tc .vmem S8192x512 .bf16) (harg4 : arg4.IsWhole) (arg5 : Memref sig .tc .vmem S1x8192x4 .f32) (harg5 : arg5.IsWhole) (arg6 : Memref sig .tc .vmem S512x512 .bf16) (harg6 : arg6.IsWhole) (arg7 : Memref sig .tc .vmem S4x128x512 .f32) (harg7 : arg7.IsWhole) (arg8 : Memref sig .tc .vmem S4x1x512 .f32) (harg8 : arg8.IsWhole) (arg9 : Memref sig .tc .vmem S4x1x512 .f32) (harg9 : arg9.IsWhole) (arg10 : Memref sig .tc .vmem S2x4x256x512 .f32) (harg10 : arg10.IsWhole) (arg1 : BitVec 32) (X2 : BufTy.Contents (Elt F) arg2.view.ty) (X3 : BufTy.Contents (Elt F) arg3.view.ty) (X4 : BufTy.Contents (Elt F) arg4.view.ty) (X5 : BufTy.Contents (Elt F) arg5.view.ty)

/-- Head `h`'s running maximum, sum, accumulator, and its logits in a slot, as boxes. -/
def rd8 (f8 : BufTy.Contents (Elt F) arg8.view.ty) : Fin 4 → Vec F S1x1x512 .f32
  | 0 => arg8.view.readAt (Elt F) (Rect.unit (s := S4x1x512) ![0, 0, 0] S1x1x512.size inb_S4x1x512_S1x1x512_0_0_0).toLoadRect f8
  | 1 => arg8.view.readAt (Elt F) (Rect.unit (s := S4x1x512) ![1, 0, 0] S1x1x512.size inb_S4x1x512_S1x1x512_1_0_0).toLoadRect f8
  | 2 => arg8.view.readAt (Elt F) (Rect.unit (s := S4x1x512) ![2, 0, 0] S1x1x512.size inb_S4x1x512_S1x1x512_2_0_0).toLoadRect f8
  | 3 => arg8.view.readAt (Elt F) (Rect.unit (s := S4x1x512) ![3, 0, 0] S1x1x512.size inb_S4x1x512_S1x1x512_3_0_0).toLoadRect f8
def rd7 (f7 : BufTy.Contents (Elt F) arg7.view.ty) : Fin 4 → Vec F S1x128x512 .f32
  | 0 => arg7.view.readAt (Elt F) (Rect.unit (s := S4x128x512) ![0, 0, 0] S1x128x512.size inb_S4x128x512_S1x128x512_0_0_0).toLoadRect f7
  | 1 => arg7.view.readAt (Elt F) (Rect.unit (s := S4x128x512) ![1, 0, 0] S1x128x512.size inb_S4x128x512_S1x128x512_1_0_0).toLoadRect f7
  | 2 => arg7.view.readAt (Elt F) (Rect.unit (s := S4x128x512) ![2, 0, 0] S1x128x512.size inb_S4x128x512_S1x128x512_2_0_0).toLoadRect f7
  | 3 => arg7.view.readAt (Elt F) (Rect.unit (s := S4x128x512) ![3, 0, 0] S1x128x512.size inb_S4x128x512_S1x128x512_3_0_0).toLoadRect f7
def rd0 (f10 : BufTy.Contents (Elt F) arg10.view.ty) : Fin 4 → Vec F S1x1x256x512 .f32
  | 0 => arg10.view.readAt (Elt F) (Rect.unit (s := S2x4x256x512) ![0, 0, 0, 0] S1x1x256x512.size inb_S2x4x256x512_S1x1x256x512_0_0_0_0).toLoadRect f10
  | 1 => arg10.view.readAt (Elt F) (Rect.unit (s := S2x4x256x512) ![0, 1, 0, 0] S1x1x256x512.size inb_S2x4x256x512_S1x1x256x512_0_1_0_0).toLoadRect f10
  | 2 => arg10.view.readAt (Elt F) (Rect.unit (s := S2x4x256x512) ![0, 2, 0, 0] S1x1x256x512.size inb_S2x4x256x512_S1x1x256x512_0_2_0_0).toLoadRect f10
  | 3 => arg10.view.readAt (Elt F) (Rect.unit (s := S2x4x256x512) ![0, 3, 0, 0] S1x1x256x512.size inb_S2x4x256x512_S1x1x256x512_0_3_0_0).toLoadRect f10

variable (k : Fin (k0_t1_loop i).trips) (f7 : BufTy.Contents (Elt F) arg7.view.ty) (f8 : BufTy.Contents (Elt F) arg8.view.ty) (f9 : BufTy.Contents (Elt F) arg9.view.ty) (f10 : BufTy.Contents (Elt F) arg10.view.ty)

theorem c10_0 : trip_k0_t1.sl.v1005 i arg2 arg3 arg5 arg10 X2 X3 X5 k = lg (i 1).val (arg2.view.read (Elt F) X2) (arg3.view.read (Elt F) X3) (arg5.view.read (Elt F) X5) (2 * k.val + 1) 0 := by
  show View.readAt _ _ _ (View.writes _ _ _ _) = _
  unfold trip_k0_t1.sl.HW_arg10_8
  repeat rw [rd_miss _ _ _ _ _ _ (by decide)]
  rw [rd_hit]
  show k0_pay3 (arg5.view.readAt (Elt F) (Rect.unit (s := S1x8192x4) (k0_off5 i) S1x1x1.size (k0_off5_inb i)).toLoadRect X5) (arg3.view.readAt (Elt F) (Rect.unit (s := S8192x512) (k0_off6 i k 1#32) S256x128.size (k0_off6_inb i k 0)).toLoadRect X3) (arg2.view.readAt (Elt F) (Rect.unit (s := S512x512) ![0, 0] S512x128.size inb_S512x512_S512x128_0_0).toLoadRect X2) (arg5.view.readAt (Elt F) (Rect.unit (s := S1x8192x4) (k0_off7 i k 1#32) S1x256x1.size (k0_off7_inb i k 0)).toLoadRect X5) = _
  rw [rd_c0b arg5 X5 _ _ 0 (off5 i), rd_kb arg3 X3 _ _ 0 (off6_1 i k), rd_qb arg2 X2 _ 0 rfl, rd_cb arg5 X5 _ _ 0 (off7_1 i k)]; rfl
theorem c10_1 : trip_k0_t1.sl.v1045 i arg2 arg3 arg5 arg10 X2 X3 X5 k = lg (i 1).val (arg2.view.read (Elt F) X2) (arg3.view.read (Elt F) X3) (arg5.view.read (Elt F) X5) (2 * k.val + 1) 1 := by
  show View.readAt _ _ _ (View.writes _ _ _ _) = _
  unfold trip_k0_t1.sl.HW_arg10_8
  repeat rw [rd_miss _ _ _ _ _ _ (by decide)]
  rw [rd_hit]
  show k0_pay3 (arg5.view.readAt (Elt F) (Rect.unit (s := S1x8192x4) (k0_off8 i) S1x1x1.size (k0_off8_inb i)).toLoadRect X5) (arg3.view.readAt (Elt F) (Rect.unit (s := S8192x512) (k0_off9 i k 1#32) S256x128.size (k0_off9_inb i k 0)).toLoadRect X3) (arg2.view.readAt (Elt F) (Rect.unit (s := S512x512) ![0, 128] S512x128.size inb_S512x512_S512x128_0_128).toLoadRect X2) (arg5.view.readAt (Elt F) (Rect.unit (s := S1x8192x4) (k0_off10 i k 1#32) S1x256x1.size (k0_off10_inb i k 0)).toLoadRect X5) = _
  rw [rd_c0b arg5 X5 _ _ 1 (off8 i), rd_kb arg3 X3 _ _ 1 (off9_1 i k), rd_qb arg2 X2 _ 1 rfl, rd_cb arg5 X5 _ _ 1 (off10_1 i k)]; rfl
theorem c10_2 : trip_k0_t1.sl.v1085 i arg2 arg3 arg5 arg10 X2 X3 X5 k = lg (i 1).val (arg2.view.read (Elt F) X2) (arg3.view.read (Elt F) X3) (arg5.view.read (Elt F) X5) (2 * k.val + 1) 2 := by
  show View.readAt _ _ _ (View.writes _ _ _ _) = _
  unfold trip_k0_t1.sl.HW_arg10_8
  repeat rw [rd_miss _ _ _ _ _ _ (by decide)]
  rw [rd_hit]
  show k0_pay3 (arg5.view.readAt (Elt F) (Rect.unit (s := S1x8192x4) (k0_off11 i) S1x1x1.size (k0_off11_inb i)).toLoadRect X5) (arg3.view.readAt (Elt F) (Rect.unit (s := S8192x512) (k0_off12 i k 1#32) S256x128.size (k0_off12_inb i k 0)).toLoadRect X3) (arg2.view.readAt (Elt F) (Rect.unit (s := S512x512) ![0, 256] S512x128.size inb_S512x512_S512x128_0_256).toLoadRect X2) (arg5.view.readAt (Elt F) (Rect.unit (s := S1x8192x4) (k0_off13 i k 1#32) S1x256x1.size (k0_off13_inb i k 0)).toLoadRect X5) = _
  rw [rd_c0b arg5 X5 _ _ 2 (off11 i), rd_kb arg3 X3 _ _ 2 (off12_1 i k), rd_qb arg2 X2 _ 2 rfl, rd_cb arg5 X5 _ _ 2 (off13_1 i k)]; rfl
theorem c10_3 : trip_k0_t1.sl.v1125 i arg2 arg3 arg5 arg10 X2 X3 X5 k = lg (i 1).val (arg2.view.read (Elt F) X2) (arg3.view.read (Elt F) X3) (arg5.view.read (Elt F) X5) (2 * k.val + 1) 3 := by
  show View.readAt _ _ _ (View.writes _ _ _ _) = _
  unfold trip_k0_t1.sl.HW_arg10_8
  repeat rw [rd_miss _ _ _ _ _ _ (by decide)]
  rw [rd_hit]
  show k0_pay3 (arg5.view.readAt (Elt F) (Rect.unit (s := S1x8192x4) (k0_off14 i) S1x1x1.size (k0_off14_inb i)).toLoadRect X5) (arg3.view.readAt (Elt F) (Rect.unit (s := S8192x512) (k0_off15 i k 1#32) S256x128.size (k0_off15_inb i k 0)).toLoadRect X3) (arg2.view.readAt (Elt F) (Rect.unit (s := S512x512) ![0, 384] S512x128.size inb_S512x512_S512x128_0_384).toLoadRect X2) (arg5.view.readAt (Elt F) (Rect.unit (s := S1x8192x4) (k0_off16 i k 1#32) S1x256x1.size (k0_off16_inb i k 0)).toLoadRect X5) = _
  rw [rd_c0b arg5 X5 _ _ 3 (off14 i), rd_kb arg3 X3 _ _ 3 (off15_1 i k), rd_qb arg2 X2 _ 3 rfl, rd_cb arg5 X5 _ _ 3 (off16_1 i k)]; rfl
theorem c8_0 : trip_k0_t1.sl.v1007 arg8 arg10 f8 f10 = nM (rd0 arg10 f10 0) (rd8 arg8 f8 0) := by
  show View.readAt _ _ _ (View.writes _ _ _ _) = _
  unfold trip_k0_t1.sl.HW_arg8_4
  repeat rw [rd_miss _ _ _ _ _ _ (by decide)]
  rw [rd_hit]
  rfl
theorem c9_0 : trip_k0_t1.sl.v1028 i arg4 arg8 arg9 arg10 X4 k f8 f9 f10 = nL (rd0 arg10 f10 0) (rd8 arg8 f8 0) (kb (arg4.view.read (Elt F) X4) (2 * k.val) 0) (rd8 arg9 f9 0) := by
  show View.readAt _ _ _ (View.writes _ _ _ _) = _
  unfold trip_k0_t1.sl.HW_arg9_4
  repeat rw [rd_miss _ _ _ _ _ _ (by decide)]
  rw [rd_hit]
  show nL (rd0 arg10 f10 0) (rd8 arg8 f8 0) (arg4.view.readAt (Elt F) (Rect.unit (s := S8192x512) (k0_off17 i k) S256x128.size (k0_off17_inb i k)).toLoadRect X4) (rd8 arg9 f9 0) = _
  rw [rd_kb arg4 X4 _ _ 0 (off17 i k)]
theorem c7_0 : trip_k0_t1.sl.v1036 i arg4 arg7 arg8 arg10 X4 k f7 f8 f10 = nA (rd0 arg10 f10 0) (rd8 arg8 f8 0) (kb (arg4.view.read (Elt F) X4) (2 * k.val) 0) (rd7 arg7 f7 0) := by
  show View.readAt _ _ _ (View.writes _ _ _ _) = _
  unfold trip_k0_t1.sl.HW_arg7_4
  repeat rw [rd_miss _ _ _ _ _ _ (by decide)]
  rw [rd_hit]
  show nA (rd0 arg10 f10 0) (rd8 arg8 f8 0) (arg4.view.readAt (Elt F) (Rect.unit (s := S8192x512) (k0_off17 i k) S256x128.size (k0_off17_inb i k)).toLoadRect X4) (rd7 arg7 f7 0) = _
  rw [rd_kb arg4 X4 _ _ 0 (off17 i k)]
theorem c8_1 : trip_k0_t1.sl.v1047 i arg2 arg3 arg5 arg8 arg10 X2 X3 X5 k f8 f10 = nM (rd0 arg10 f10 1) (rd8 arg8 f8 1) := by
  show View.readAt _ _ _ (View.writes _ _ _ _) = _
  unfold trip_k0_t1.sl.HW_arg8_5 trip_k0_t1.sl.HW_arg8_4
  repeat rw [rd_miss _ _ _ _ _ _ (by decide)]
  rw [rd_hit]
  rfl
theorem c9_1 : trip_k0_t1.sl.v1068 i arg2 arg3 arg4 arg5 arg8 arg9 arg10 X2 X3 X4 X5 k f8 f9 f10 = nL (rd0 arg10 f10 1) (rd8 arg8 f8 1) (kb (arg4.view.read (Elt F) X4) (2 * k.val) 1) (rd8 arg9 f9 1) := by
  show View.readAt _ _ _ (View.writes _ _ _ _) = _
  unfold trip_k0_t1.sl.HW_arg9_5 trip_k0_t1.sl.HW_arg9_4
  repeat rw [rd_miss _ _ _ _ _ _ (by decide)]
  rw [rd_hit]
  show nL (rd0 arg10 f10 1) (rd8 arg8 f8 1) (arg4.view.readAt (Elt F) (Rect.unit (s := S8192x512) (k0_off18 i k) S256x128.size (k0_off18_inb i k)).toLoadRect X4) (rd8 arg9 f9 1) = _
  rw [rd_kb arg4 X4 _ _ 1 (off18 i k)]
theorem c7_1 : trip_k0_t1.sl.v1076 i arg2 arg3 arg4 arg5 arg7 arg8 arg10 X2 X3 X4 X5 k f7 f8 f10 = nA (rd0 arg10 f10 1) (rd8 arg8 f8 1) (kb (arg4.view.read (Elt F) X4) (2 * k.val) 1) (rd7 arg7 f7 1) := by
  show View.readAt _ _ _ (View.writes _ _ _ _) = _
  unfold trip_k0_t1.sl.HW_arg7_5 trip_k0_t1.sl.HW_arg7_4
  repeat rw [rd_miss _ _ _ _ _ _ (by decide)]
  rw [rd_hit]
  show nA (rd0 arg10 f10 1) (rd8 arg8 f8 1) (arg4.view.readAt (Elt F) (Rect.unit (s := S8192x512) (k0_off18 i k) S256x128.size (k0_off18_inb i k)).toLoadRect X4) (rd7 arg7 f7 1) = _
  rw [rd_kb arg4 X4 _ _ 1 (off18 i k)]
theorem c8_2 : trip_k0_t1.sl.v1087 i arg2 arg3 arg5 arg8 arg10 X2 X3 X5 k f8 f10 = nM (rd0 arg10 f10 2) (rd8 arg8 f8 2) := by
  show View.readAt _ _ _ (View.writes _ _ _ _) = _
  unfold trip_k0_t1.sl.HW_arg8_6 trip_k0_t1.sl.HW_arg8_5 trip_k0_t1.sl.HW_arg8_4
  repeat rw [rd_miss _ _ _ _ _ _ (by decide)]
  rw [rd_hit]
  rfl
theorem c9_2 : trip_k0_t1.sl.v1108 i arg2 arg3 arg4 arg5 arg8 arg9 arg10 X2 X3 X4 X5 k f8 f9 f10 = nL (rd0 arg10 f10 2) (rd8 arg8 f8 2) (kb (arg4.view.read (Elt F) X4) (2 * k.val) 2) (rd8 arg9 f9 2) := by
  show View.readAt _ _ _ (View.writes _ _ _ _) = _
  unfold trip_k0_t1.sl.HW_arg9_6 trip_k0_t1.sl.HW_arg9_5 trip_k0_t1.sl.HW_arg9_4
  repeat rw [rd_miss _ _ _ _ _ _ (by decide)]
  rw [rd_hit]
  show nL (rd0 arg10 f10 2) (rd8 arg8 f8 2) (arg4.view.readAt (Elt F) (Rect.unit (s := S8192x512) (k0_off19 i k) S256x128.size (k0_off19_inb i k)).toLoadRect X4) (rd8 arg9 f9 2) = _
  rw [rd_kb arg4 X4 _ _ 2 (off19 i k)]
theorem c7_2 : trip_k0_t1.sl.v1116 i arg2 arg3 arg4 arg5 arg7 arg8 arg10 X2 X3 X4 X5 k f7 f8 f10 = nA (rd0 arg10 f10 2) (rd8 arg8 f8 2) (kb (arg4.view.read (Elt F) X4) (2 * k.val) 2) (rd7 arg7 f7 2) := by
  show View.readAt _ _ _ (View.writes _ _ _ _) = _
  unfold trip_k0_t1.sl.HW_arg7_6 trip_k0_t1.sl.HW_arg7_5 trip_k0_t1.sl.HW_arg7_4
  repeat rw [rd_miss _ _ _ _ _ _ (by decide)]
  rw [rd_hit]
  show nA (rd0 arg10 f10 2) (rd8 arg8 f8 2) (arg4.view.readAt (Elt F) (Rect.unit (s := S8192x512) (k0_off19 i k) S256x128.size (k0_off19_inb i k)).toLoadRect X4) (rd7 arg7 f7 2) = _
  rw [rd_kb arg4 X4 _ _ 2 (off19 i k)]
theorem c8_3 : trip_k0_t1.sl.v1127 i arg2 arg3 arg5 arg8 arg10 X2 X3 X5 k f8 f10 = nM (rd0 arg10 f10 3) (rd8 arg8 f8 3) := by
  show View.readAt _ _ _ (View.writes _ _ _ _) = _
  unfold trip_k0_t1.sl.HW_arg8_7 trip_k0_t1.sl.HW_arg8_6 trip_k0_t1.sl.HW_arg8_5 trip_k0_t1.sl.HW_arg8_4
  repeat rw [rd_miss _ _ _ _ _ _ (by decide)]
  rw [rd_hit]
  rfl
theorem c9_3 : trip_k0_t1.sl.v1148 i arg2 arg3 arg4 arg5 arg8 arg9 arg10 X2 X3 X4 X5 k f8 f9 f10 = nL (rd0 arg10 f10 3) (rd8 arg8 f8 3) (kb (arg4.view.read (Elt F) X4) (2 * k.val) 3) (rd8 arg9 f9 3) := by
  show View.readAt _ _ _ (View.writes _ _ _ _) = _
  unfold trip_k0_t1.sl.HW_arg9_7 trip_k0_t1.sl.HW_arg9_6 trip_k0_t1.sl.HW_arg9_5 trip_k0_t1.sl.HW_arg9_4
  repeat rw [rd_miss _ _ _ _ _ _ (by decide)]
  rw [rd_hit]
  show nL (rd0 arg10 f10 3) (rd8 arg8 f8 3) (arg4.view.readAt (Elt F) (Rect.unit (s := S8192x512) (k0_off20 i k) S256x128.size (k0_off20_inb i k)).toLoadRect X4) (rd8 arg9 f9 3) = _
  rw [rd_kb arg4 X4 _ _ 3 (off20 i k)]
theorem c7_3 : trip_k0_t1.sl.v1156 i arg2 arg3 arg4 arg5 arg7 arg8 arg10 X2 X3 X4 X5 k f7 f8 f10 = nA (rd0 arg10 f10 3) (rd8 arg8 f8 3) (kb (arg4.view.read (Elt F) X4) (2 * k.val) 3) (rd7 arg7 f7 3) := by
  show View.readAt _ _ _ (View.writes _ _ _ _) = _
  unfold trip_k0_t1.sl.HW_arg7_7 trip_k0_t1.sl.HW_arg7_6 trip_k0_t1.sl.HW_arg7_5 trip_k0_t1.sl.HW_arg7_4
  repeat rw [rd_miss _ _ _ _ _ _ (by decide)]
  rw [rd_hit]
  show nA (rd0 arg10 f10 3) (rd8 arg8 f8 3) (arg4.view.readAt (Elt F) (Rect.unit (s := S8192x512) (k0_off20 i k) S256x128.size (k0_off20_inb i k)).toLoadRect X4) (rd7 arg7 f7 3) = _
  rw [rd_kb arg4 X4 _ _ 3 (off20 i k)]
set_option maxHeartbeats 1000000 in
theorem t8_0 : rd8 arg8 (arg8.view.writes (Elt F) f8 ((trip_k0_t1 (F := F) 𝒱 c bd i arg2 harg2 arg3 harg3 arg4 harg4 arg5 harg5 arg6 harg6 arg7 harg7 arg8 harg8 arg9 harg9 arg10 harg10 arg1 X2 X3 X4 X5 k).2.1 f7 f8 f9 f10)) 0
    = nM (lg (i 1).val (arg2.view.read (Elt F) X2) (arg3.view.read (Elt F) X3) (arg5.view.read (Elt F) X5) (2 * k.val + 1) 0) (nM (rd0 arg10 f10 0) (rd8 arg8 f8 0)) := by
  unfold trip_k0_t1
  dsimp only [rd8]
  unfold trip_k0_t1.sl.HW_arg8_7 trip_k0_t1.sl.HW_arg8_6 trip_k0_t1.sl.HW_arg8_5 trip_k0_t1.sl.HW_arg8_4
  repeat rw [rd_miss _ _ _ _ _ _ (by decide)]
  rw [rd_hit]
  show nM (trip_k0_t1.sl.v1005 i arg2 arg3 arg5 arg10 X2 X3 X5 k) (trip_k0_t1.sl.v1007 arg8 arg10 f8 f10) = _
  rw [c10_0, c8_0]
  rfl
set_option maxHeartbeats 1000000 in
theorem t9_0 : rd8 arg9 (arg9.view.writes (Elt F) f9 ((trip_k0_t1 (F := F) 𝒱 c bd i arg2 harg2 arg3 harg3 arg4 harg4 arg5 harg5 arg6 harg6 arg7 harg7 arg8 harg8 arg9 harg9 arg10 harg10 arg1 X2 X3 X4 X5 k).2.2.1 f7 f8 f9 f10)) 0
    = nL (lg (i 1).val (arg2.view.read (Elt F) X2) (arg3.view.read (Elt F) X3) (arg5.view.read (Elt F) X5) (2 * k.val + 1) 0) (nM (rd0 arg10 f10 0) (rd8 arg8 f8 0)) (kb (arg4.view.read (Elt F) X4) (2 * k.val + 1) 0) (nL (rd0 arg10 f10 0) (rd8 arg8 f8 0) (kb (arg4.view.read (Elt F) X4) (2 * k.val) 0) (rd8 arg9 f9 0)) := by
  unfold trip_k0_t1
  dsimp only [rd8]
  unfold trip_k0_t1.sl.HW_arg9_7 trip_k0_t1.sl.HW_arg9_6 trip_k0_t1.sl.HW_arg9_5 trip_k0_t1.sl.HW_arg9_4
  repeat rw [rd_miss _ _ _ _ _ _ (by decide)]
  rw [rd_hit]
  show nL (trip_k0_t1.sl.v1005 i arg2 arg3 arg5 arg10 X2 X3 X5 k) (trip_k0_t1.sl.v1007 arg8 arg10 f8 f10) (arg4.view.readAt (Elt F) (Rect.unit (s := S8192x512) (k0_off6 i k 1#32) S256x128.size (k0_off6_inb i k 0)).toLoadRect X4) (trip_k0_t1.sl.v1028 i arg4 arg8 arg9 arg10 X4 k f8 f9 f10) = _
  rw [c10_0, c8_0, c9_0, rd_kb arg4 X4 _ _ 0 (off6_1 i k)]
  rfl
set_option maxHeartbeats 1000000 in
theorem t7_0 : rd7 arg7 (arg7.view.writes (Elt F) f7 ((trip_k0_t1 (F := F) 𝒱 c bd i arg2 harg2 arg3 harg3 arg4 harg4 arg5 harg5 arg6 harg6 arg7 harg7 arg8 harg8 arg9 harg9 arg10 harg10 arg1 X2 X3 X4 X5 k).1 f7 f8 f9 f10)) 0
    = nA (lg (i 1).val (arg2.view.read (Elt F) X2) (arg3.view.read (Elt F) X3) (arg5.view.read (Elt F) X5) (2 * k.val + 1) 0) (nM (rd0 arg10 f10 0) (rd8 arg8 f8 0)) (kb (arg4.view.read (Elt F) X4) (2 * k.val + 1) 0) (nA (rd0 arg10 f10 0) (rd8 arg8 f8 0) (kb (arg4.view.read (Elt F) X4) (2 * k.val) 0) (rd7 arg7 f7 0)) := by
  unfold trip_k0_t1
  dsimp only [rd7]
  unfold trip_k0_t1.sl.HW_arg7_7 trip_k0_t1.sl.HW_arg7_6 trip_k0_t1.sl.HW_arg7_5 trip_k0_t1.sl.HW_arg7_4
  repeat rw [rd_miss _ _ _ _ _ _ (by decide)]
  rw [rd_hit]
  show nA (trip_k0_t1.sl.v1005 i arg2 arg3 arg5 arg10 X2 X3 X5 k) (trip_k0_t1.sl.v1007 arg8 arg10 f8 f10) (arg4.view.readAt (Elt F) (Rect.unit (s := S8192x512) (k0_off6 i k 1#32) S256x128.size (k0_off6_inb i k 0)).toLoadRect X4) (trip_k0_t1.sl.v1036 i arg4 arg7 arg8 arg10 X4 k f7 f8 f10) = _
  rw [c10_0, c8_0, c7_0, rd_kb arg4 X4 _ _ 0 (off6_1 i k)]
  rfl
set_option maxHeartbeats 1000000 in
theorem t0_0 : rd0 arg10 (arg10.view.writes (Elt F) f10 ((trip_k0_t1 (F := F) 𝒱 c bd i arg2 harg2 arg3 harg3 arg4 harg4 arg5 harg5 arg6 harg6 arg7 harg7 arg8 harg8 arg9 harg9 arg10 harg10 arg1 X2 X3 X4 X5 k).2.2.2.1 f7 f8 f9 f10)) 0 = lg (i 1).val (arg2.view.read (Elt F) X2) (arg3.view.read (Elt F) X3) (arg5.view.read (Elt F) X5) (2 * k.val + 2) 0 := by
  unfold trip_k0_t1
  dsimp only [rd0]
  unfold trip_k0_t1.sl.HW_arg10_8
  repeat rw [rd_miss _ _ _ _ _ _ (by decide)]
  rw [rd_hit]
  show k0_pay3 (arg5.view.readAt (Elt F) (Rect.unit (s := S1x8192x4) (k0_off5 i) S1x1x1.size (k0_off5_inb i)).toLoadRect X5) (arg3.view.readAt (Elt F) (Rect.unit (s := S8192x512) (k0_off6 i k 2#32) S256x128.size (k0_off6_inb i k 1)).toLoadRect X3) (arg2.view.readAt (Elt F) (Rect.unit (s := S512x512) ![0, 0] S512x128.size inb_S512x512_S512x128_0_0).toLoadRect X2) (arg5.view.readAt (Elt F) (Rect.unit (s := S1x8192x4) (k0_off7 i k 2#32) S1x256x1.size (k0_off7_inb i k 1)).toLoadRect X5) = _
  rw [rd_c0b arg5 X5 _ _ 0 (off5 i), rd_kb arg3 X3 _ _ 0 (off6_2 i k), rd_qb arg2 X2 _ 0 rfl, rd_cb arg5 X5 _ _ 0 (off7_2 i k)]; rfl
set_option maxHeartbeats 1000000 in
theorem t8_1 : rd8 arg8 (arg8.view.writes (Elt F) f8 ((trip_k0_t1 (F := F) 𝒱 c bd i arg2 harg2 arg3 harg3 arg4 harg4 arg5 harg5 arg6 harg6 arg7 harg7 arg8 harg8 arg9 harg9 arg10 harg10 arg1 X2 X3 X4 X5 k).2.1 f7 f8 f9 f10)) 1
    = nM (lg (i 1).val (arg2.view.read (Elt F) X2) (arg3.view.read (Elt F) X3) (arg5.view.read (Elt F) X5) (2 * k.val + 1) 1) (nM (rd0 arg10 f10 1) (rd8 arg8 f8 1)) := by
  unfold trip_k0_t1
  dsimp only [rd8]
  unfold trip_k0_t1.sl.HW_arg8_7 trip_k0_t1.sl.HW_arg8_6 trip_k0_t1.sl.HW_arg8_5 trip_k0_t1.sl.HW_arg8_4
  repeat rw [rd_miss _ _ _ _ _ _ (by decide)]
  rw [rd_hit]
  show nM (trip_k0_t1.sl.v1045 i arg2 arg3 arg5 arg10 X2 X3 X5 k) (trip_k0_t1.sl.v1047 i arg2 arg3 arg5 arg8 arg10 X2 X3 X5 k f8 f10) = _
  rw [c10_1, c8_1]
  rfl
set_option maxHeartbeats 1000000 in
theorem t9_1 : rd8 arg9 (arg9.view.writes (Elt F) f9 ((trip_k0_t1 (F := F) 𝒱 c bd i arg2 harg2 arg3 harg3 arg4 harg4 arg5 harg5 arg6 harg6 arg7 harg7 arg8 harg8 arg9 harg9 arg10 harg10 arg1 X2 X3 X4 X5 k).2.2.1 f7 f8 f9 f10)) 1
    = nL (lg (i 1).val (arg2.view.read (Elt F) X2) (arg3.view.read (Elt F) X3) (arg5.view.read (Elt F) X5) (2 * k.val + 1) 1) (nM (rd0 arg10 f10 1) (rd8 arg8 f8 1)) (kb (arg4.view.read (Elt F) X4) (2 * k.val + 1) 1) (nL (rd0 arg10 f10 1) (rd8 arg8 f8 1) (kb (arg4.view.read (Elt F) X4) (2 * k.val) 1) (rd8 arg9 f9 1)) := by
  unfold trip_k0_t1
  dsimp only [rd8]
  unfold trip_k0_t1.sl.HW_arg9_7 trip_k0_t1.sl.HW_arg9_6 trip_k0_t1.sl.HW_arg9_5 trip_k0_t1.sl.HW_arg9_4
  repeat rw [rd_miss _ _ _ _ _ _ (by decide)]
  rw [rd_hit]
  show nL (trip_k0_t1.sl.v1045 i arg2 arg3 arg5 arg10 X2 X3 X5 k) (trip_k0_t1.sl.v1047 i arg2 arg3 arg5 arg8 arg10 X2 X3 X5 k f8 f10) (arg4.view.readAt (Elt F) (Rect.unit (s := S8192x512) (k0_off9 i k 1#32) S256x128.size (k0_off9_inb i k 0)).toLoadRect X4) (trip_k0_t1.sl.v1068 i arg2 arg3 arg4 arg5 arg8 arg9 arg10 X2 X3 X4 X5 k f8 f9 f10) = _
  rw [c10_1, c8_1, c9_1, rd_kb arg4 X4 _ _ 1 (off9_1 i k)]
  rfl
set_option maxHeartbeats 1000000 in
theorem t7_1 : rd7 arg7 (arg7.view.writes (Elt F) f7 ((trip_k0_t1 (F := F) 𝒱 c bd i arg2 harg2 arg3 harg3 arg4 harg4 arg5 harg5 arg6 harg6 arg7 harg7 arg8 harg8 arg9 harg9 arg10 harg10 arg1 X2 X3 X4 X5 k).1 f7 f8 f9 f10)) 1
    = nA (lg (i 1).val (arg2.view.read (Elt F) X2) (arg3.view.read (Elt F) X3) (arg5.view.read (Elt F) X5) (2 * k.val + 1) 1) (nM (rd0 arg10 f10 1) (rd8 arg8 f8 1)) (kb (arg4.view.read (Elt F) X4) (2 * k.val + 1) 1) (nA (rd0 arg10 f10 1) (rd8 arg8 f8 1) (kb (arg4.view.read (Elt F) X4) (2 * k.val) 1) (rd7 arg7 f7 1)) := by
  unfold trip_k0_t1
  dsimp only [rd7]
  unfold trip_k0_t1.sl.HW_arg7_7 trip_k0_t1.sl.HW_arg7_6 trip_k0_t1.sl.HW_arg7_5 trip_k0_t1.sl.HW_arg7_4
  repeat rw [rd_miss _ _ _ _ _ _ (by decide)]
  rw [rd_hit]
  show nA (trip_k0_t1.sl.v1045 i arg2 arg3 arg5 arg10 X2 X3 X5 k) (trip_k0_t1.sl.v1047 i arg2 arg3 arg5 arg8 arg10 X2 X3 X5 k f8 f10) (arg4.view.readAt (Elt F) (Rect.unit (s := S8192x512) (k0_off9 i k 1#32) S256x128.size (k0_off9_inb i k 0)).toLoadRect X4) (trip_k0_t1.sl.v1076 i arg2 arg3 arg4 arg5 arg7 arg8 arg10 X2 X3 X4 X5 k f7 f8 f10) = _
  rw [c10_1, c8_1, c7_1, rd_kb arg4 X4 _ _ 1 (off9_1 i k)]
  rfl
set_option maxHeartbeats 1000000 in
theorem t0_1 : rd0 arg10 (arg10.view.writes (Elt F) f10 ((trip_k0_t1 (F := F) 𝒱 c bd i arg2 harg2 arg3 harg3 arg4 harg4 arg5 harg5 arg6 harg6 arg7 harg7 arg8 harg8 arg9 harg9 arg10 harg10 arg1 X2 X3 X4 X5 k).2.2.2.1 f7 f8 f9 f10)) 1 = lg (i 1).val (arg2.view.read (Elt F) X2) (arg3.view.read (Elt F) X3) (arg5.view.read (Elt F) X5) (2 * k.val + 2) 1 := by
  unfold trip_k0_t1
  dsimp only [rd0]
  unfold trip_k0_t1.sl.HW_arg10_8
  repeat rw [rd_miss _ _ _ _ _ _ (by decide)]
  rw [rd_hit]
  show k0_pay3 (arg5.view.readAt (Elt F) (Rect.unit (s := S1x8192x4) (k0_off8 i) S1x1x1.size (k0_off8_inb i)).toLoadRect X5) (arg3.view.readAt (Elt F) (Rect.unit (s := S8192x512) (k0_off9 i k 2#32) S256x128.size (k0_off9_inb i k 1)).toLoadRect X3) (arg2.view.readAt (Elt F) (Rect.unit (s := S512x512) ![0, 128] S512x128.size inb_S512x512_S512x128_0_128).toLoadRect X2) (arg5.view.readAt (Elt F) (Rect.unit (s := S1x8192x4) (k0_off10 i k 2#32) S1x256x1.size (k0_off10_inb i k 1)).toLoadRect X5) = _
  rw [rd_c0b arg5 X5 _ _ 1 (off8 i), rd_kb arg3 X3 _ _ 1 (off9_2 i k), rd_qb arg2 X2 _ 1 rfl, rd_cb arg5 X5 _ _ 1 (off10_2 i k)]; rfl
set_option maxHeartbeats 1000000 in
theorem t8_2 : rd8 arg8 (arg8.view.writes (Elt F) f8 ((trip_k0_t1 (F := F) 𝒱 c bd i arg2 harg2 arg3 harg3 arg4 harg4 arg5 harg5 arg6 harg6 arg7 harg7 arg8 harg8 arg9 harg9 arg10 harg10 arg1 X2 X3 X4 X5 k).2.1 f7 f8 f9 f10)) 2
    = nM (lg (i 1).val (arg2.view.read (Elt F) X2) (arg3.view.read (Elt F) X3) (arg5.view.read (Elt F) X5) (2 * k.val + 1) 2) (nM (rd0 arg10 f10 2) (rd8 arg8 f8 2)) := by
  unfold trip_k0_t1
  dsimp only [rd8]
  unfold trip_k0_t1.sl.HW_arg8_7 trip_k0_t1.sl.HW_arg8_6 trip_k0_t1.sl.HW_arg8_5 trip_k0_t1.sl.HW_arg8_4
  repeat rw [rd_miss _ _ _ _ _ _ (by decide)]
  rw [rd_hit]
  show nM (trip_k0_t1.sl.v1085 i arg2 arg3 arg5 arg10 X2 X3 X5 k) (trip_k0_t1.sl.v1087 i arg2 arg3 arg5 arg8 arg10 X2 X3 X5 k f8 f10) = _
  rw [c10_2, c8_2]
  rfl
set_option maxHeartbeats 1000000 in
theorem t9_2 : rd8 arg9 (arg9.view.writes (Elt F) f9 ((trip_k0_t1 (F := F) 𝒱 c bd i arg2 harg2 arg3 harg3 arg4 harg4 arg5 harg5 arg6 harg6 arg7 harg7 arg8 harg8 arg9 harg9 arg10 harg10 arg1 X2 X3 X4 X5 k).2.2.1 f7 f8 f9 f10)) 2
    = nL (lg (i 1).val (arg2.view.read (Elt F) X2) (arg3.view.read (Elt F) X3) (arg5.view.read (Elt F) X5) (2 * k.val + 1) 2) (nM (rd0 arg10 f10 2) (rd8 arg8 f8 2)) (kb (arg4.view.read (Elt F) X4) (2 * k.val + 1) 2) (nL (rd0 arg10 f10 2) (rd8 arg8 f8 2) (kb (arg4.view.read (Elt F) X4) (2 * k.val) 2) (rd8 arg9 f9 2)) := by
  unfold trip_k0_t1
  dsimp only [rd8]
  unfold trip_k0_t1.sl.HW_arg9_7 trip_k0_t1.sl.HW_arg9_6 trip_k0_t1.sl.HW_arg9_5 trip_k0_t1.sl.HW_arg9_4
  repeat rw [rd_miss _ _ _ _ _ _ (by decide)]
  rw [rd_hit]
  show nL (trip_k0_t1.sl.v1085 i arg2 arg3 arg5 arg10 X2 X3 X5 k) (trip_k0_t1.sl.v1087 i arg2 arg3 arg5 arg8 arg10 X2 X3 X5 k f8 f10) (arg4.view.readAt (Elt F) (Rect.unit (s := S8192x512) (k0_off12 i k 1#32) S256x128.size (k0_off12_inb i k 0)).toLoadRect X4) (trip_k0_t1.sl.v1108 i arg2 arg3 arg4 arg5 arg8 arg9 arg10 X2 X3 X4 X5 k f8 f9 f10) = _
  rw [c10_2, c8_2, c9_2, rd_kb arg4 X4 _ _ 2 (off12_1 i k)]
  rfl
set_option maxHeartbeats 1000000 in
theorem t7_2 : rd7 arg7 (arg7.view.writes (Elt F) f7 ((trip_k0_t1 (F := F) 𝒱 c bd i arg2 harg2 arg3 harg3 arg4 harg4 arg5 harg5 arg6 harg6 arg7 harg7 arg8 harg8 arg9 harg9 arg10 harg10 arg1 X2 X3 X4 X5 k).1 f7 f8 f9 f10)) 2
    = nA (lg (i 1).val (arg2.view.read (Elt F) X2) (arg3.view.read (Elt F) X3) (arg5.view.read (Elt F) X5) (2 * k.val + 1) 2) (nM (rd0 arg10 f10 2) (rd8 arg8 f8 2)) (kb (arg4.view.read (Elt F) X4) (2 * k.val + 1) 2) (nA (rd0 arg10 f10 2) (rd8 arg8 f8 2) (kb (arg4.view.read (Elt F) X4) (2 * k.val) 2) (rd7 arg7 f7 2)) := by
  unfold trip_k0_t1
  dsimp only [rd7]
  unfold trip_k0_t1.sl.HW_arg7_7 trip_k0_t1.sl.HW_arg7_6 trip_k0_t1.sl.HW_arg7_5 trip_k0_t1.sl.HW_arg7_4
  repeat rw [rd_miss _ _ _ _ _ _ (by decide)]
  rw [rd_hit]
  show nA (trip_k0_t1.sl.v1085 i arg2 arg3 arg5 arg10 X2 X3 X5 k) (trip_k0_t1.sl.v1087 i arg2 arg3 arg5 arg8 arg10 X2 X3 X5 k f8 f10) (arg4.view.readAt (Elt F) (Rect.unit (s := S8192x512) (k0_off12 i k 1#32) S256x128.size (k0_off12_inb i k 0)).toLoadRect X4) (trip_k0_t1.sl.v1116 i arg2 arg3 arg4 arg5 arg7 arg8 arg10 X2 X3 X4 X5 k f7 f8 f10) = _
  rw [c10_2, c8_2, c7_2, rd_kb arg4 X4 _ _ 2 (off12_1 i k)]
  rfl
set_option maxHeartbeats 1000000 in
theorem t0_2 : rd0 arg10 (arg10.view.writes (Elt F) f10 ((trip_k0_t1 (F := F) 𝒱 c bd i arg2 harg2 arg3 harg3 arg4 harg4 arg5 harg5 arg6 harg6 arg7 harg7 arg8 harg8 arg9 harg9 arg10 harg10 arg1 X2 X3 X4 X5 k).2.2.2.1 f7 f8 f9 f10)) 2 = lg (i 1).val (arg2.view.read (Elt F) X2) (arg3.view.read (Elt F) X3) (arg5.view.read (Elt F) X5) (2 * k.val + 2) 2 := by
  unfold trip_k0_t1
  dsimp only [rd0]
  unfold trip_k0_t1.sl.HW_arg10_8
  repeat rw [rd_miss _ _ _ _ _ _ (by decide)]
  rw [rd_hit]
  show k0_pay3 (arg5.view.readAt (Elt F) (Rect.unit (s := S1x8192x4) (k0_off11 i) S1x1x1.size (k0_off11_inb i)).toLoadRect X5) (arg3.view.readAt (Elt F) (Rect.unit (s := S8192x512) (k0_off12 i k 2#32) S256x128.size (k0_off12_inb i k 1)).toLoadRect X3) (arg2.view.readAt (Elt F) (Rect.unit (s := S512x512) ![0, 256] S512x128.size inb_S512x512_S512x128_0_256).toLoadRect X2) (arg5.view.readAt (Elt F) (Rect.unit (s := S1x8192x4) (k0_off13 i k 2#32) S1x256x1.size (k0_off13_inb i k 1)).toLoadRect X5) = _
  rw [rd_c0b arg5 X5 _ _ 2 (off11 i), rd_kb arg3 X3 _ _ 2 (off12_2 i k), rd_qb arg2 X2 _ 2 rfl, rd_cb arg5 X5 _ _ 2 (off13_2 i k)]; rfl
set_option maxHeartbeats 1000000 in
theorem t8_3 : rd8 arg8 (arg8.view.writes (Elt F) f8 ((trip_k0_t1 (F := F) 𝒱 c bd i arg2 harg2 arg3 harg3 arg4 harg4 arg5 harg5 arg6 harg6 arg7 harg7 arg8 harg8 arg9 harg9 arg10 harg10 arg1 X2 X3 X4 X5 k).2.1 f7 f8 f9 f10)) 3
    = nM (lg (i 1).val (arg2.view.read (Elt F) X2) (arg3.view.read (Elt F) X3) (arg5.view.read (Elt F) X5) (2 * k.val + 1) 3) (nM (rd0 arg10 f10 3) (rd8 arg8 f8 3)) := by
  unfold trip_k0_t1
  dsimp only [rd8]
  repeat rw [rd_miss _ _ _ _ _ _ (by decide)]
  rw [rd_hit]
  show nM (trip_k0_t1.sl.v1125 i arg2 arg3 arg5 arg10 X2 X3 X5 k) (trip_k0_t1.sl.v1127 i arg2 arg3 arg5 arg8 arg10 X2 X3 X5 k f8 f10) = _
  rw [c10_3, c8_3]
  rfl
set_option maxHeartbeats 1000000 in
theorem t9_3 : rd8 arg9 (arg9.view.writes (Elt F) f9 ((trip_k0_t1 (F := F) 𝒱 c bd i arg2 harg2 arg3 harg3 arg4 harg4 arg5 harg5 arg6 harg6 arg7 harg7 arg8 harg8 arg9 harg9 arg10 harg10 arg1 X2 X3 X4 X5 k).2.2.1 f7 f8 f9 f10)) 3
    = nL (lg (i 1).val (arg2.view.read (Elt F) X2) (arg3.view.read (Elt F) X3) (arg5.view.read (Elt F) X5) (2 * k.val + 1) 3) (nM (rd0 arg10 f10 3) (rd8 arg8 f8 3)) (kb (arg4.view.read (Elt F) X4) (2 * k.val + 1) 3) (nL (rd0 arg10 f10 3) (rd8 arg8 f8 3) (kb (arg4.view.read (Elt F) X4) (2 * k.val) 3) (rd8 arg9 f9 3)) := by
  unfold trip_k0_t1
  dsimp only [rd8]
  repeat rw [rd_miss _ _ _ _ _ _ (by decide)]
  rw [rd_hit]
  show nL (trip_k0_t1.sl.v1125 i arg2 arg3 arg5 arg10 X2 X3 X5 k) (trip_k0_t1.sl.v1127 i arg2 arg3 arg5 arg8 arg10 X2 X3 X5 k f8 f10) (arg4.view.readAt (Elt F) (Rect.unit (s := S8192x512) (k0_off15 i k 1#32) S256x128.size (k0_off15_inb i k 0)).toLoadRect X4) (trip_k0_t1.sl.v1148 i arg2 arg3 arg4 arg5 arg8 arg9 arg10 X2 X3 X4 X5 k f8 f9 f10) = _
  rw [c10_3, c8_3, c9_3, rd_kb arg4 X4 _ _ 3 (off15_1 i k)]
  rfl
set_option maxHeartbeats 1000000 in
theorem t7_3 : rd7 arg7 (arg7.view.writes (Elt F) f7 ((trip_k0_t1 (F := F) 𝒱 c bd i arg2 harg2 arg3 harg3 arg4 harg4 arg5 harg5 arg6 harg6 arg7 harg7 arg8 harg8 arg9 harg9 arg10 harg10 arg1 X2 X3 X4 X5 k).1 f7 f8 f9 f10)) 3
    = nA (lg (i 1).val (arg2.view.read (Elt F) X2) (arg3.view.read (Elt F) X3) (arg5.view.read (Elt F) X5) (2 * k.val + 1) 3) (nM (rd0 arg10 f10 3) (rd8 arg8 f8 3)) (kb (arg4.view.read (Elt F) X4) (2 * k.val + 1) 3) (nA (rd0 arg10 f10 3) (rd8 arg8 f8 3) (kb (arg4.view.read (Elt F) X4) (2 * k.val) 3) (rd7 arg7 f7 3)) := by
  unfold trip_k0_t1
  dsimp only [rd7]
  repeat rw [rd_miss _ _ _ _ _ _ (by decide)]
  rw [rd_hit]
  show nA (trip_k0_t1.sl.v1125 i arg2 arg3 arg5 arg10 X2 X3 X5 k) (trip_k0_t1.sl.v1127 i arg2 arg3 arg5 arg8 arg10 X2 X3 X5 k f8 f10) (arg4.view.readAt (Elt F) (Rect.unit (s := S8192x512) (k0_off15 i k 1#32) S256x128.size (k0_off15_inb i k 0)).toLoadRect X4) (trip_k0_t1.sl.v1156 i arg2 arg3 arg4 arg5 arg7 arg8 arg10 X2 X3 X4 X5 k f7 f8 f10) = _
  rw [c10_3, c8_3, c7_3, rd_kb arg4 X4 _ _ 3 (off15_1 i k)]
  rfl
set_option maxHeartbeats 1000000 in
theorem t0_3 : rd0 arg10 (arg10.view.writes (Elt F) f10 ((trip_k0_t1 (F := F) 𝒱 c bd i arg2 harg2 arg3 harg3 arg4 harg4 arg5 harg5 arg6 harg6 arg7 harg7 arg8 harg8 arg9 harg9 arg10 harg10 arg1 X2 X3 X4 X5 k).2.2.2.1 f7 f8 f9 f10)) 3 = lg (i 1).val (arg2.view.read (Elt F) X2) (arg3.view.read (Elt F) X3) (arg5.view.read (Elt F) X5) (2 * k.val + 2) 3 := by
  unfold trip_k0_t1
  dsimp only [rd0]
  unfold trip_k0_t1.sl.HW_arg10_8
  repeat rw [rd_miss _ _ _ _ _ _ (by decide)]
  rw [rd_hit]
  show k0_pay3 (arg5.view.readAt (Elt F) (Rect.unit (s := S1x8192x4) (k0_off14 i) S1x1x1.size (k0_off14_inb i)).toLoadRect X5) (arg3.view.readAt (Elt F) (Rect.unit (s := S8192x512) (k0_off15 i k 2#32) S256x128.size (k0_off15_inb i k 1)).toLoadRect X3) (arg2.view.readAt (Elt F) (Rect.unit (s := S512x512) ![0, 384] S512x128.size inb_S512x512_S512x128_0_384).toLoadRect X2) (arg5.view.readAt (Elt F) (Rect.unit (s := S1x8192x4) (k0_off16 i k 2#32) S1x256x1.size (k0_off16_inb i k 1)).toLoadRect X5) = _
  rw [rd_c0b arg5 X5 _ _ 3 (off14 i), rd_kb arg3 X3 _ _ 3 (off15_2 i k), rd_qb arg2 X2 _ 3 rfl, rd_cb arg5 X5 _ _ 3 (off16_2 i k)]; rfl
theorem t8 (h : Fin 4) : rd8 arg8 (arg8.view.writes (Elt F) f8 ((trip_k0_t1 (F := F) 𝒱 c bd i arg2 harg2 arg3 harg3 arg4 harg4 arg5 harg5 arg6 harg6 arg7 harg7 arg8 harg8 arg9 harg9 arg10 harg10 arg1 X2 X3 X4 X5 k).2.1 f7 f8 f9 f10)) h = nM (lg (i 1).val (arg2.view.read (Elt F) X2) (arg3.view.read (Elt F) X3) (arg5.view.read (Elt F) X5) (2 * k.val + 1) h.val) (nM (rd0 arg10 f10 h) (rd8 arg8 f8 h)) := by
  fin_cases h
  · exact t8_0 𝒱 c bd i arg2 harg2 arg3 harg3 arg4 harg4 arg5 harg5 arg6 harg6 arg7 harg7 arg8 harg8 arg9 harg9 arg10 harg10 arg1 X2 X3 X4 X5 k f7 f8 f9 f10
  · exact t8_1 𝒱 c bd i arg2 harg2 arg3 harg3 arg4 harg4 arg5 harg5 arg6 harg6 arg7 harg7 arg8 harg8 arg9 harg9 arg10 harg10 arg1 X2 X3 X4 X5 k f7 f8 f9 f10
  · exact t8_2 𝒱 c bd i arg2 harg2 arg3 harg3 arg4 harg4 arg5 harg5 arg6 harg6 arg7 harg7 arg8 harg8 arg9 harg9 arg10 harg10 arg1 X2 X3 X4 X5 k f7 f8 f9 f10
  · exact t8_3 𝒱 c bd i arg2 harg2 arg3 harg3 arg4 harg4 arg5 harg5 arg6 harg6 arg7 harg7 arg8 harg8 arg9 harg9 arg10 harg10 arg1 X2 X3 X4 X5 k f7 f8 f9 f10
theorem t9 (h : Fin 4) : rd8 arg9 (arg9.view.writes (Elt F) f9 ((trip_k0_t1 (F := F) 𝒱 c bd i arg2 harg2 arg3 harg3 arg4 harg4 arg5 harg5 arg6 harg6 arg7 harg7 arg8 harg8 arg9 harg9 arg10 harg10 arg1 X2 X3 X4 X5 k).2.2.1 f7 f8 f9 f10)) h = nL (lg (i 1).val (arg2.view.read (Elt F) X2) (arg3.view.read (Elt F) X3) (arg5.view.read (Elt F) X5) (2 * k.val + 1) h.val) (nM (rd0 arg10 f10 h) (rd8 arg8 f8 h)) (kb (arg4.view.read (Elt F) X4) (2 * k.val + 1) h.val) (nL (rd0 arg10 f10 h) (rd8 arg8 f8 h) (kb (arg4.view.read (Elt F) X4) (2 * k.val) h.val) (rd8 arg9 f9 h)) := by
  fin_cases h
  · exact t9_0 𝒱 c bd i arg2 harg2 arg3 harg3 arg4 harg4 arg5 harg5 arg6 harg6 arg7 harg7 arg8 harg8 arg9 harg9 arg10 harg10 arg1 X2 X3 X4 X5 k f7 f8 f9 f10
  · exact t9_1 𝒱 c bd i arg2 harg2 arg3 harg3 arg4 harg4 arg5 harg5 arg6 harg6 arg7 harg7 arg8 harg8 arg9 harg9 arg10 harg10 arg1 X2 X3 X4 X5 k f7 f8 f9 f10
  · exact t9_2 𝒱 c bd i arg2 harg2 arg3 harg3 arg4 harg4 arg5 harg5 arg6 harg6 arg7 harg7 arg8 harg8 arg9 harg9 arg10 harg10 arg1 X2 X3 X4 X5 k f7 f8 f9 f10
  · exact t9_3 𝒱 c bd i arg2 harg2 arg3 harg3 arg4 harg4 arg5 harg5 arg6 harg6 arg7 harg7 arg8 harg8 arg9 harg9 arg10 harg10 arg1 X2 X3 X4 X5 k f7 f8 f9 f10
theorem t7 (h : Fin 4) : rd7 arg7 (arg7.view.writes (Elt F) f7 ((trip_k0_t1 (F := F) 𝒱 c bd i arg2 harg2 arg3 harg3 arg4 harg4 arg5 harg5 arg6 harg6 arg7 harg7 arg8 harg8 arg9 harg9 arg10 harg10 arg1 X2 X3 X4 X5 k).1 f7 f8 f9 f10)) h = nA (lg (i 1).val (arg2.view.read (Elt F) X2) (arg3.view.read (Elt F) X3) (arg5.view.read (Elt F) X5) (2 * k.val + 1) h.val) (nM (rd0 arg10 f10 h) (rd8 arg8 f8 h)) (kb (arg4.view.read (Elt F) X4) (2 * k.val + 1) h.val) (nA (rd0 arg10 f10 h) (rd8 arg8 f8 h) (kb (arg4.view.read (Elt F) X4) (2 * k.val) h.val) (rd7 arg7 f7 h)) := by
  fin_cases h
  · exact t7_0 𝒱 c bd i arg2 harg2 arg3 harg3 arg4 harg4 arg5 harg5 arg6 harg6 arg7 harg7 arg8 harg8 arg9 harg9 arg10 harg10 arg1 X2 X3 X4 X5 k f7 f8 f9 f10
  · exact t7_1 𝒱 c bd i arg2 harg2 arg3 harg3 arg4 harg4 arg5 harg5 arg6 harg6 arg7 harg7 arg8 harg8 arg9 harg9 arg10 harg10 arg1 X2 X3 X4 X5 k f7 f8 f9 f10
  · exact t7_2 𝒱 c bd i arg2 harg2 arg3 harg3 arg4 harg4 arg5 harg5 arg6 harg6 arg7 harg7 arg8 harg8 arg9 harg9 arg10 harg10 arg1 X2 X3 X4 X5 k f7 f8 f9 f10
  · exact t7_3 𝒱 c bd i arg2 harg2 arg3 harg3 arg4 harg4 arg5 harg5 arg6 harg6 arg7 harg7 arg8 harg8 arg9 harg9 arg10 harg10 arg1 X2 X3 X4 X5 k f7 f8 f9 f10
theorem t0 (h : Fin 4) : rd0 arg10 (arg10.view.writes (Elt F) f10 ((trip_k0_t1 (F := F) 𝒱 c bd i arg2 harg2 arg3 harg3 arg4 harg4 arg5 harg5 arg6 harg6 arg7 harg7 arg8 harg8 arg9 harg9 arg10 harg10 arg1 X2 X3 X4 X5 k).2.2.2.1 f7 f8 f9 f10)) h = lg (i 1).val (arg2.view.read (Elt F) X2) (arg3.view.read (Elt F) X3) (arg5.view.read (Elt F) X5) (2 * k.val + 2) h.val := by
  fin_cases h
  · exact t0_0 𝒱 c bd i arg2 harg2 arg3 harg3 arg4 harg4 arg5 harg5 arg6 harg6 arg7 harg7 arg8 harg8 arg9 harg9 arg10 harg10 arg1 X2 X3 X4 X5 k f7 f8 f9 f10
  · exact t0_1 𝒱 c bd i arg2 harg2 arg3 harg3 arg4 harg4 arg5 harg5 arg6 harg6 arg7 harg7 arg8 harg8 arg9 harg9 arg10 harg10 arg1 X2 X3 X4 X5 k f7 f8 f9 f10
  · exact t0_2 𝒱 c bd i arg2 harg2 arg3 harg3 arg4 harg4 arg5 harg5 arg6 harg6 arg7 harg7 arg8 harg8 arg9 harg9 arg10 harg10 arg1 X2 X3 X4 X5 k f7 f8 f9 f10
  · exact t0_3 𝒱 c bd i arg2 harg2 arg3 harg3 arg4 harg4 arg5 harg5 arg6 harg6 arg7 harg7 arg8 harg8 arg9 harg9 arg10 harg10 arg1 X2 X3 X4 X5 k f7 f8 f9 f10

end Trip
end Cert.KernelIdeal.Hand
end
-- ==== Proof.FoxRunIdeal.lean ====
module

public import proofs.«01_k».proof.Proof.Gen.KernelIdeal.Loops
public import proofs.«01_k».proof.Proof.Gen.KernelIdeal.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 20000000 in
/-- One grid point of the attention call: the four staged inputs are left as found, and what the stores leave in the
    result's staging buffer is a list of pieces, a function of what the result's buffer and the four scratch arrays
    held before. -/
def bodyRun (c : Dev nD) (i : grid0.Coords) (arg2 : Memref sig .tc .vmem S512x512 .bf16) (harg2 : arg2.IsWhole) (arg3 : Memref sig .tc .vmem S8192x512 .bf16) (harg3 : arg3.IsWhole) (arg4 : Memref sig .tc .vmem S8192x512 .bf16) (harg4 : arg4.IsWhole) (arg5 : Memref sig .tc .vmem S1x8192x4 .f32) (harg5 : arg5.IsWhole) (arg6 : Memref sig .tc .vmem S512x512 .bf16) (harg6 : arg6.IsWhole) (arg7 : Memref sig .tc .vmem S4x128x512 .f32) (harg7 : arg7.IsWhole) (arg8 : Memref sig .tc .vmem S4x1x512 .f32) (harg8 : arg8.IsWhole) (arg9 : Memref sig .tc .vmem S4x1x512 .f32) (harg9 : arg9.IsWhole) (arg10 : Memref sig .tc .vmem S2x4x256x512 .f32) (harg10 : arg10.IsWhole) (X2 : BufTy.Contents (Elt F) arg2.view.ty) (X3 : BufTy.Contents (Elt F) arg3.view.ty) (X4 : BufTy.Contents (Elt F) arg4.view.ty) (X5 : BufTy.Contents (Elt F) arg5.view.ty) :
    { L : BufTy.Contents (Elt F) arg6.view.ty → BufTy.Contents (Elt F) arg7.view.ty → BufTy.Contents (Elt F) arg8.view.ty → BufTy.Contents (Elt F) arg9.view.ty → BufTy.Contents (Elt F) arg10.view.ty → List (View.Piece (Elt F) S512x512 .bf16) //
      ∀ (E : Set ℕ) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (K : PUnit → sProp 𝕄),
        iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10)
          ∗ (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} (arg6.view.writes (Elt F) f6 (L f6 f7 f8 f9 f10))) ∗ (∃ f, arg7.view.loc (c : Thread nD τ) ↦[arg7.view.set]{fullShare} f) ∗ (∃ f, arg8.view.loc (c : Thread nD τ) ↦[arg8.view.set]{fullShare} f) ∗ (∃ f, arg9.view.loc (c : Thread nD τ) ↦[arg9.view.set]{fullShare} f) ∗ (∃ f, arg10.view.loc (c : Thread nD τ) ↦[arg10.view.set]{fullShare} f)) -∗ K ⟨⟩))
        ⊢ wp frame (wpE (defs₀ (F := F)) Variants.none c none) E (cc0_fox_attn i arg2 harg2 arg3 harg3 arg4 harg4 arg5 harg5 arg6 harg6 arg7 harg7 arg8 harg8 arg9 harg9 arg10 harg10) K } := by
  refine ⟨?_, fun E f6 f7 f8 f9 f10 K => ?run⟩
  case run =>
    simp only [cc0_fox_attn_eq_skeleton]; unfold cc0_fox_attn_skel
    iintro ⟨H2, H3, H4, H5, H6, H7, H8, H9, H10, Hk⟩
    sl_exec
    sl_step
    iapply Hk
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    iexists _; iexact H10

end Cert.KernelIdeal.Hand

end
-- ==== Proof.FoxTail.lean ====
module

public import proofs.«01_k».proof.Proof.FoxStep
public import proofs.«01_k».proof.Proof.FoxRunIdeal
public import Idealize.ShloMosaic.Lib.HeldBySlice

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F] [Named F]

/-! ### The tail's tile steps: masked, over all the queries of the block and over its later half -/

/-- Step over a masked tile whose first key is number `b`, over the whole block. -/
def mM (a b : BitVec 32) (s : Vec F S1x1x256x512 .f32) (m : Vec F S1x1x512 .f32) : FVec F S1x1x512 .f32 :=
  k0_pay191 a (k0_pay186 s) b (iota .tc S256x512 32 [0] iota_S256x512_d0_w32) m
def mL (a b : BitVec 32) (s : Vec F S1x1x256x512 .f32) (m : Vec F S1x1x512 .f32) (v : Vec F S256x128 .bf16) (l : Vec F S1x1x512 .f32) :
    FVec F S1x1x512 .f32 := k0_pay193 a (k0_pay186 s) b (iota .tc S256x512 32 [0] iota_S256x512_d0_w32) m v l
def mA (a b : BitVec 32) (s : Vec F S1x1x256x512 .f32) (m : Vec F S1x1x512 .f32) (v : Vec F S256x128 .bf16) (x : Vec F S1x128x512 .f32) :
    FVec F S1x128x512 .f32 :=
  k0_pay194 (k0_pay190 a (k0_pay186 s) b (iota .tc S256x512 32 [0] iota_S256x512_d0_w32) m)
    (k0_pay192 a (k0_pay186 s) b (iota .tc S256x512 32 [0] iota_S256x512_d0_w32) m v) x
/-- Step over masked tile number `b`, over the block's later half. -/
def hM (a b : BitVec 32) (s : Vec F S1x1x256x256 .f32) (m : Vec F S1x1x256 .f32) : FVec F S1x1x256 .f32 := k0_pay236 a b s m
def hL (a b : BitVec 32) (s : Vec F S1x1x256x256 .f32) (m : Vec F S1x1x256 .f32) (v : Vec F S256x128 .bf16) (l : Vec F S1x1x256 .f32) :
    FVec F S1x1x256 .f32 := k0_pay238 (k0_pay235 a b s m) (k0_pay237 a b s m v) l
def hA (a b : BitVec 32) (s : Vec F S1x1x256x256 .f32) (m : Vec F S1x1x256 .f32) (v : Vec F S256x128 .bf16) (x : Vec F S1x128x256 .f32) :
    FVec F S1x128x256 .f32 := k0_pay239 (k0_pay235 a b s m) (k0_pay237 a b s m v) x
/-- The quotient, transposed. -/
def oT (x : Vec F S1x128x512 .f32) (l : Vec F S1x1x512 .f32) : FVec F S512x128 .bf16 := k0_pay2 x l

/-- The later half of a row of 512, and a row whose later half is replaced. -/
def hf8 (x : Vec F S1x1x512 .f32) : Vec F S1x1x256 .f32 := fun y => x (ix3 0 0 ⟨256 + (y 2).val, by have : (y 2).val < 256 := (y 2).isLt; omega⟩)
def hf7 (x : Vec F S1x128x512 .f32) : Vec F S1x128x256 .f32 := fun y =>
  x (ix3 0 (y 1) ⟨256 + (y 2).val, by have : (y 2).val < 256 := (y 2).isLt; omega⟩)
def ps8 (x : Vec F S1x1x512 .f32) (u : Vec F S1x1x256 .f32) : Vec F S1x1x512 .f32 := fun y =>
  if (y 2).val < 256 then x y else u (ix3 0 0 ⟨(y 2).val - 256, by have : (y 2).val < 512 := (y 2).isLt; omega⟩)
def ps7 (x : Vec F S1x128x512 .f32) (u : Vec F S1x128x256 .f32) : Vec F S1x128x512 .f32 := fun y =>
  if (y 2).val < 256 then x y else u (ix3 0 (y 1) ⟨(y 2).val - 256, by have : (y 2).val < 512 := (y 2).isLt; omega⟩)

theorem rd_hf8 (r : Memref sig .tc .vmem S4x1x512 .f32) (f : BufTy.Contents (Elt F) r.view.ty) (h : ℕ)
    (inb : ∀ a, (![h, 0, 256] : Fin 3 → ℕ) a + S1x1x256.size a ≤ S4x1x512.size a) (inb' : ∀ a, (![h, 0, 0] : Fin 3 → ℕ) a + S1x1x512.size a ≤ S4x1x512.size a)
    (x : Vec F S1x1x512 .f32) (L : List (View.Piece (Elt F) S4x1x512 .f32)) :
    r.view.readAt (Elt F) (Rect.unit (s := S4x1x512) ![h, 0, 256] S1x1x256.size inb).toLoadRect
      (r.view.writes (Elt F) f ((⟨Rect.unit (s := S4x1x512) ![h, 0, 0] S1x1x512.size inb', x⟩ : View.Piece (Elt F) S4x1x512 .f32) :: L)) = hf8 x := by
  funext y
  have y0 : (y 0).val < 1 := (y 0).isLt
  have y1 : (y 1).val < 1 := (y 1).isLt
  refine View.read_writes_cons_unit_of_mem r.view f inb' x L _ (ix3 0 0 ⟨256 + (y 2).val, by have : (y 2).val < 256 := (y 2).isLt; omega⟩) rfl fun a => ?_
  match a with
  | 0 => show h + 1 * (y 0).val = h + 0; omega
  | 1 => show 0 + 1 * (y 1).val = 0 + 0; omega
  | 2 => show 256 + 1 * (y 2).val = 0 + (256 + (y 2).val); omega
theorem rd_ps8 (r : Memref sig .tc .vmem S4x1x512 .f32) (f : BufTy.Contents (Elt F) r.view.ty) (h : ℕ)
    (inb : ∀ a, (![h, 0, 0] : Fin 3 → ℕ) a + S1x1x512.size a ≤ S4x1x512.size a) (inb' : ∀ a, (![h, 0, 256] : Fin 3 → ℕ) a + S1x1x256.size a ≤ S4x1x512.size a)
    (u : Vec F S1x1x256 .f32) (L : List (View.Piece (Elt F) S4x1x512 .f32)) :
    r.view.readAt (Elt F) (Rect.unit (s := S4x1x512) ![h, 0, 0] S1x1x512.size inb).toLoadRect
      (r.view.writes (Elt F) f ((⟨Rect.unit (s := S4x1x512) ![h, 0, 256] S1x1x256.size inb', u⟩ : View.Piece (Elt F) S4x1x512 .f32) :: L))
      = ps8 (r.view.readAt (Elt F) (Rect.unit (s := S4x1x512) ![h, 0, 0] S1x1x512.size inb).toLoadRect (r.view.writes (Elt F) f L)) u := by
  funext y
  have y0 : (y 0).val < 1 := (y 0).isLt
  have y1 : (y 1).val < 1 := (y 1).isLt
  have y2 : (y 2).val < 512 := (y 2).isLt
  unfold ps8
  by_cases hy : (y 2).val < 256
  · rw [if_pos hy]
    refine View.read_writes_cons_unit_of_not_mem r.view f inb' u L _ rfl 2 (Or.inl ?_)
    show 0 + 1 * (y 2).val < 256; omega
  · rw [if_neg hy]
    refine View.read_writes_cons_unit_of_mem r.view f inb' u L _ (ix3 0 0 ⟨(y 2).val - 256, by omega⟩) rfl fun a => ?_
    match a with
    | 0 => show h + 1 * (y 0).val = h + 0; omega
    | 1 => show 0 + 1 * (y 1).val = 0 + 0; omega
    | 2 => show 0 + 1 * (y 2).val = 256 + ((y 2).val - 256); omega
theorem rd_hf7 (r : Memref sig .tc .vmem S4x128x512 .f32) (f : BufTy.Contents (Elt F) r.view.ty) (h : ℕ)
    (inb : ∀ a, (![h, 0, 256] : Fin 3 → ℕ) a + S1x128x256.size a ≤ S4x128x512.size a) (inb' : ∀ a, (![h, 0, 0] : Fin 3 → ℕ) a + S1x128x512.size a ≤ S4x128x512.size a)
    (x : Vec F S1x128x512 .f32) (L : List (View.Piece (Elt F) S4x128x512 .f32)) :
    r.view.readAt (Elt F) (Rect.unit (s := S4x128x512) ![h, 0, 256] S1x128x256.size inb).toLoadRect
      (r.view.writes (Elt F) f ((⟨Rect.unit (s := S4x128x512) ![h, 0, 0] S1x128x512.size inb', x⟩ : View.Piece (Elt F) S4x128x512 .f32) :: L)) = hf7 x := by
  funext y
  have y0 : (y 0).val < 1 := (y 0).isLt
  have y1 : (y 1).val < 128 := (y 1).isLt
  refine View.read_writes_cons_unit_of_mem r.view f inb' x L _ (ix3 0 (y 1) ⟨256 + (y 2).val, by have : (y 2).val < 256 := (y 2).isLt; omega⟩) rfl fun a => ?_
  match a with
  | 0 => show h + 1 * (y 0).val = h + 0; omega
  | 1 => show 0 + 1 * (y 1).val = 0 + (y 1).val; omega
  | 2 => show 256 + 1 * (y 2).val = 0 + (256 + (y 2).val); omega
theorem rd_ps7 (r : Memref sig .tc .vmem S4x128x512 .f32) (f : BufTy.Contents (Elt F) r.view.ty) (h : ℕ)
    (inb : ∀ a, (![h, 0, 0] : Fin 3 → ℕ) a + S1x128x512.size a ≤ S4x128x512.size a) (inb' : ∀ a, (![h, 0, 256] : Fin 3 → ℕ) a + S1x128x256.size a ≤ S4x128x512.size a)
    (u : Vec F S1x128x256 .f32) (L : List (View.Piece (Elt F) S4x128x512 .f32)) :
    r.view.readAt (Elt F) (Rect.unit (s := S4x128x512) ![h, 0, 0] S1x128x512.size inb).toLoadRect
      (r.view.writes (Elt F) f ((⟨Rect.unit (s := S4x128x512) ![h, 0, 256] S1x128x256.size inb', u⟩ : View.Piece (Elt F) S4x128x512 .f32) :: L))
      = ps7 (r.view.readAt (Elt F) (Rect.unit (s := S4x128x512) ![h, 0, 0] S1x128x512.size inb).toLoadRect (r.view.writes (Elt F) f L)) u := by
  funext y
  have y0 : (y 0).val < 1 := (y 0).isLt
  have y1 : (y 1).val < 128 := (y 1).isLt
  have y2 : (y 2).val < 512 := (y 2).isLt
  unfold ps7
  by_cases hy : (y 2).val < 256
  · rw [if_pos hy]
    refine View.read_writes_cons_unit_of_not_mem r.view f inb' u L _ rfl 2 (Or.inl ?_)
    show 0 + 1 * (y 2).val < 256; omega
  · rw [if_neg hy]
    refine View.read_writes_cons_unit_of_mem r.view f inb' u L _ (ix3 0 (y 1) ⟨(y 2).val - 256, by omega⟩) rfl fun a => ?_
    match a with
    | 0 => show h + 1 * (y 0).val = h + 0; omega
    | 1 => show 0 + 1 * (y 1).val = 0 + (y 1).val; omega
    | 2 => show 0 + 1 * (y 2).val = 256 + ((y 2).val - 256); omega

/-- The later half of the query block, head `h`. -/
def qh (X : S512x512.Idx → Elt F .bf16) (h : ℕ) : Vec F S256x128 .bf16 := fun x =>
  X (ix2 ⟨256 + (x 0).val, by have : (x 0).val < 256 := (x 0).isLt; omega⟩ ⟨(128 * h + (x 1).val) % 512, Nat.mod_lt _ (by decide)⟩)
theorem rd_qh (r : Memref sig .tc .vmem S512x512 .bf16) (X : BufTy.Contents (Elt F) r.view.ty) {off : Fin 2 → ℕ}
    (inb : ∀ a, off a + S256x128.size a ≤ S512x512.size a) (h : ℕ) (e : off = ![256, 128 * h]) :
    r.view.readAt (Elt F) (Rect.unit (s := S512x512) off S256x128.size inb).toLoadRect X = qh (r.view.read (Elt F) X) h := by
  subst e; funext x
  have h1 : 128 * h + 128 ≤ 512 := inb 1
  have x1 : (x 1).val < 128 := (x 1).isLt
  refine congrArg (r.view.read (Elt F) X) (funext fun a => Fin.ext ?_)
  match a with
  | 0 => show 256 + 1 * (x 0).val = 256 + (x 0).val; omega
  | 1 => show 128 * h + 1 * (x 1).val = (128 * h + (x 1).val) % 512; omega

/-- The logits of key tile `n` against the later half of the query block. -/
def lgh (i : ℕ) (x2 : S512x512.Idx → Elt F .bf16) (x3 : S8192x512.Idx → Elt F .bf16) (x5 : S1x8192x4.Idx → Elt F .f32) (n h : ℕ) :
    Vec F S1x1x256x256 .f32 := k0_pay180 (c0b x5 (512 * i) h) (kb x3 n h) (qh x2 h) (cb x5 n h)

theorem off37 : ∀ i : grid0.Coords, k0_off37 i = ![256 * (2 * (i 1).val + 1), 128 * 0] := by decide +kernel
theorem off39 : ∀ i : grid0.Coords, k0_off39 i = ![256 * (2 * (i 1).val + 1), 128 * 1] := by decide +kernel
theorem off41 : ∀ i : grid0.Coords, k0_off41 i = ![256 * (2 * (i 1).val + 1), 128 * 2] := by decide +kernel
theorem off43 : ∀ i : grid0.Coords, k0_off43 i = ![256 * (2 * (i 1).val + 1), 128 * 3] := by decide +kernel
theorem off38 : ∀ i : grid0.Coords, k0_off38 i = ![0, 256 * (2 * (i 1).val + 1), 0] := by decide +kernel
theorem off40 : ∀ i : grid0.Coords, k0_off40 i = ![0, 256 * (2 * (i 1).val + 1), 1] := by decide +kernel
theorem off42 : ∀ i : grid0.Coords, k0_off42 i = ![0, 256 * (2 * (i 1).val + 1), 2] := by decide +kernel
theorem off44 : ∀ i : grid0.Coords, k0_off44 i = ![0, 256 * (2 * (i 1).val + 1), 3] := by decide +kernel
theorem off45 : ∀ i : grid0.Coords, k0_off45 i = ![256 * (2 * (i 1).val), 128 * 0] := by decide +kernel
theorem off46 : ∀ i : grid0.Coords, k0_off46 i = ![256 * (2 * (i 1).val), 128 * 1] := by decide +kernel
theorem off47 : ∀ i : grid0.Coords, k0_off47 i = ![256 * (2 * (i 1).val), 128 * 2] := by decide +kernel
theorem off48 : ∀ i : grid0.Coords, k0_off48 i = ![256 * (2 * (i 1).val), 128 * 3] := by decide +kernel
theorem trips1 : ∀ i : grid0.Coords, (k0_t1_loop i).trips = (i 1).val := by decide +kernel
theorem trips2 : ∀ i : grid0.Coords, Scf.trips (k0_t2_loop i).lb (k0_t2_loop i).ub (k0_t2_loop i).st = 0 := by decide +kernel

theorem writes_nil {s : Shape} {t : EltTy} (r : Memref sig .tc .vmem s t) (f : BufTy.Contents (Elt F) r.view.ty) :
    r.view.writes (Elt F) f [] = f := rfl

section Tail

variable (c : Dev nD) (i : grid0.Coords) (arg2 : Memref sig .tc .vmem S512x512 .bf16) (harg2 : arg2.IsWhole) (arg3 : Memref sig .tc .vmem S8192x512 .bf16) (harg3 : arg3.IsWhole) (arg4 : Memref sig .tc .vmem S8192x512 .bf16) (harg4 : arg4.IsWhole) (arg5 : Memref sig .tc .vmem S1x8192x4 .f32) (harg5 : arg5.IsWhole) (arg6 : Memref sig .tc .vmem S512x512 .bf16) (harg6 : arg6.IsWhole) (arg7 : Memref sig .tc .vmem S4x128x512 .f32) (harg7 : arg7.IsWhole) (arg8 : Memref sig .tc .vmem S4x1x512 .f32) (harg8 : arg8.IsWhole) (arg9 : Memref sig .tc .vmem S4x1x512 .f32) (harg9 : arg9.IsWhole) (arg10 : Memref sig .tc .vmem S2x4x256x512 .f32) (harg10 : arg10.IsWhole) (X2 : BufTy.Contents (Elt F) arg2.view.ty) (X3 : BufTy.Contents (Elt F) arg3.view.ty) (X4 : BufTy.Contents (Elt F) arg4.view.ty) (X5 : BufTy.Contents (Elt F) arg5.view.ty)
variable (f10 : BufTy.Contents (Elt F) arg10.view.ty)

/-- What the scratch arrays hold before the loop: the running maximum, sum and accumulator as first set, and the
    first tile's logits. -/
def G7 : BufTy.Contents (Elt F) arg7.view.ty := arg7.view.writes (Elt F) arg7.view.junk bodyRun.sl.H7_1
def G8 : BufTy.Contents (Elt F) arg8.view.ty := arg8.view.writes (Elt F) arg8.view.junk bodyRun.sl.H8_1
def G9 : BufTy.Contents (Elt F) arg9.view.ty := arg9.view.writes (Elt F) arg9.view.junk bodyRun.sl.H9_1
def I10 : List (View.Piece (Elt F) S2x4x256x512 .f32) :=
  [⟨Rect.unit (s := S2x4x256x512) ![0, 3, 0, 0] S1x1x256x512.size inb_S2x4x256x512_S1x1x256x512_0_3_0_0, k0_pay175 (arg5.view.readAt (Elt F) (Rect.unit (s := S1x8192x4) (k0_off4 i) S1x1x1.size (k0_off4_inb i)).toLoadRect X5) (arg3.view.readAt (Elt F) (Rect.unit (s := S8192x512) ![0, 384] S256x128.size inb_S8192x512_S256x128_0_384).toLoadRect X3) (arg2.view.readAt (Elt F) (Rect.unit (s := S512x512) ![0, 384] S512x128.size inb_S512x512_S512x128_0_384).toLoadRect X2) (arg5.view.readAt (Elt F) (Rect.unit (s := S1x8192x4) ![0, 0, 3] S1x256x1.size inb_S1x8192x4_S1x256x1_0_0_3).toLoadRect X5)⟩,
   ⟨Rect.unit (s := S2x4x256x512) ![0, 2, 0, 0] S1x1x256x512.size inb_S2x4x256x512_S1x1x256x512_0_2_0_0, k0_pay174 (bodyRun.sl.r_1 i arg5 X5) (bodyRun.sl.r_2 arg3 X3) (bodyRun.sl.r_3 arg2 X2) (arg5.view.readAt (Elt F) (Rect.unit (s := S1x8192x4) ![0, 0, 2] S1x256x1.size inb_S1x8192x4_S1x256x1_0_0_2).toLoadRect X5)⟩,
   ⟨Rect.unit (s := S2x4x256x512) ![0, 1, 0, 0] S1x1x256x512.size inb_S2x4x256x512_S1x1x256x512_0_1_0_0, k0_pay170 (arg5.view.readAt (Elt F) (Rect.unit (s := S1x8192x4) (k0_off2 i) S1x1x1.size (k0_off2_inb i)).toLoadRect X5) (arg3.view.readAt (Elt F) (Rect.unit (s := S8192x512) ![0, 128] S256x128.size inb_S8192x512_S256x128_0_128).toLoadRect X3) (arg2.view.readAt (Elt F) (Rect.unit (s := S512x512) ![0, 128] S512x128.size inb_S512x512_S512x128_0_128).toLoadRect X2) (arg5.view.readAt (Elt F) (Rect.unit (s := S1x8192x4) ![0, 0, 1] S1x256x1.size inb_S1x8192x4_S1x256x1_0_0_1).toLoadRect X5)⟩,
   ⟨Rect.unit (s := S2x4x256x512) ![0, 0, 0, 0] S1x1x256x512.size inb_S2x4x256x512_S1x1x256x512_0_0_0_0, k0_pay169 (bodyRun.sl.r i arg2 arg3 arg5 X2 X3 X5)⟩]
def G10 : BufTy.Contents (Elt F) arg10.view.ty := arg10.view.writes (Elt F) f10 (I10 i arg2 arg3 arg5 X2 X3 X5)
/-- The pieces the first `n` trips write. -/
def TP (n : ℕ) := pb_k0_t1 (F := F) Variants.none c none i arg2 harg2 arg3 harg3 arg4 harg4 arg5 harg5 arg6 harg6 arg7 harg7 arg8 harg8 arg9 harg9 arg10 harg10 (BitVec.ofNat 32 (i 1).val) X2 X3 X4 X5 (G7 arg7) (G8 arg8) (G9 arg9) (G10 i arg2 arg3 arg5 arg10 X2 X3 X5 f10) n
/-- What `arg7` holds after `n` trips. -/
def g7 (n : ℕ) : BufTy.Contents (Elt F) arg7.view.ty := arg7.view.writes (Elt F) (G7 arg7) (TP c i arg2 harg2 arg3 harg3 arg4 harg4 arg5 harg5 arg6 harg6 arg7 harg7 arg8 harg8 arg9 harg9 arg10 harg10 X2 X3 X4 X5 f10 n).1
/-- What `arg8` holds after `n` trips. -/
def g8 (n : ℕ) : BufTy.Contents (Elt F) arg8.view.ty := arg8.view.writes (Elt F) (G8 arg8) (TP c i arg2 harg2 arg3 harg3 arg4 harg4 arg5 harg5 arg6 harg6 arg7 harg7 arg8 harg8 arg9 harg9 arg10 harg10 X2 X3 X4 X5 f10 n).2.1
/-- What `arg9` holds after `n` trips. -/
def g9 (n : ℕ) : BufTy.Contents (Elt F) arg9.view.ty := arg9.view.writes (Elt F) (G9 arg9) (TP c i arg2 harg2 arg3 harg3 arg4 harg4 arg5 harg5 arg6 harg6 arg7 harg7 arg8 harg8 arg9 harg9 arg10 harg10 X2 X3 X4 X5 f10 n).2.2.1
/-- What `arg10` holds after `n` trips. -/
def g10 (n : ℕ) : BufTy.Contents (Elt F) arg10.view.ty := arg10.view.writes (Elt F) (G10 i arg2 arg3 arg5 arg10 X2 X3 X5 f10) (TP c i arg2 harg2 arg3 harg3 arg4 harg4 arg5 harg5 arg6 harg6 arg7 harg7 arg8 harg8 arg9 harg9 arg10 harg10 X2 X3 X4 X5 f10 n).2.2.2
theorem tl7 (k : Fin (k0_t1_loop i).trips) (f7 : BufTy.Contents (Elt F) arg7.view.ty) (f8 : BufTy.Contents (Elt F) arg8.view.ty)
    (f9 : BufTy.Contents (Elt F) arg9.view.ty) (f0 : BufTy.Contents (Elt F) arg10.view.ty) :
    (tripL_k0_t1 (F := F) Variants.none c none i arg2 harg2 arg3 harg3 arg4 harg4 arg5 harg5 arg6 harg6 arg7 harg7 arg8 harg8 arg9 harg9 arg10 harg10 (BitVec.ofNat 32 (i 1).val) X2 X3 X4 X5 k f7 f8 f9 f0).1 = (trip_k0_t1 (F := F) Variants.none c none i arg2 harg2 arg3 harg3 arg4 harg4 arg5 harg5 arg6 harg6 arg7 harg7 arg8 harg8 arg9 harg9 arg10 harg10 (BitVec.ofNat 32 (i 1).val) X2 X3 X4 X5 k).1 f7 f8 f9 f0 := rfl
theorem g7_succ (n : ℕ) (hn : n < (k0_t1_loop i).trips) :
    (g7 c i arg2 harg2 arg3 harg3 arg4 harg4 arg5 harg5 arg6 harg6 arg7 harg7 arg8 harg8 arg9 harg9 arg10 harg10 X2 X3 X4 X5 f10 (n + 1)) = arg7.view.writes (Elt F) (g7 c i arg2 harg2 arg3 harg3 arg4 harg4 arg5 harg5 arg6 harg6 arg7 harg7 arg8 harg8 arg9 harg9 arg10 harg10 X2 X3 X4 X5 f10 n) ((trip_k0_t1 (F := F) Variants.none c none i arg2 harg2 arg3 harg3 arg4 harg4 arg5 harg5 arg6 harg6 arg7 harg7 arg8 harg8 arg9 harg9 arg10 harg10 (BitVec.ofNat 32 (i 1).val) X2 X3 X4 X5 ⟨n, hn⟩).1 (g7 c i arg2 harg2 arg3 harg3 arg4 harg4 arg5 harg5 arg6 harg6 arg7 harg7 arg8 harg8 arg9 harg9 arg10 harg10 X2 X3 X4 X5 f10 n) (g8 c i arg2 harg2 arg3 harg3 arg4 harg4 arg5 harg5 arg6 harg6 arg7 harg7 arg8 harg8 arg9 harg9 arg10 harg10 X2 X3 X4 X5 f10 n) (g9 c i arg2 harg2 arg3 harg3 arg4 harg4 arg5 harg5 arg6 harg6 arg7 harg7 arg8 harg8 arg9 harg9 arg10 harg10 X2 X3 X4 X5 f10 n) (g10 c i arg2 harg2 arg3 harg3 arg4 harg4 arg5 harg5 arg6 harg6 arg7 harg7 arg8 harg8 arg9 harg9 arg10 harg10 X2 X3 X4 X5 f10 n)) := by
  unfold g7 TP
  rw [pb_k0_t1_succ Variants.none c none i arg2 harg2 arg3 harg3 arg4 harg4 arg5 harg5 arg6 harg6 arg7 harg7 arg8 harg8 arg9 harg9 arg10 harg10 (BitVec.ofNat 32 (i 1).val) X2 X3 X4 X5 (G7 arg7) (G8 arg8) (G9 arg9) (G10 i arg2 arg3 arg5 arg10 X2 X3 X5 f10) ⟨n, hn⟩]
  refine Eq.trans (b := arg7.view.writes (Elt F) (g7 c i arg2 harg2 arg3 harg3 arg4 harg4 arg5 harg5 arg6 harg6 arg7 harg7 arg8 harg8 arg9 harg9 arg10 harg10 X2 X3 X4 X5 f10 n) (tripL_k0_t1 (F := F) Variants.none c none i arg2 harg2 arg3 harg3 arg4 harg4 arg5 harg5 arg6 harg6 arg7 harg7 arg8 harg8 arg9 harg9 arg10 harg10 (BitVec.ofNat 32 (i 1).val) X2 X3 X4 X5 ⟨n, hn⟩ (g7 c i arg2 harg2 arg3 harg3 arg4 harg4 arg5 harg5 arg6 harg6 arg7 harg7 arg8 harg8 arg9 harg9 arg10 harg10 X2 X3 X4 X5 f10 n) (g8 c i arg2 harg2 arg3 harg3 arg4 harg4 arg5 harg5 arg6 harg6 arg7 harg7 arg8 harg8 arg9 harg9 arg10 harg10 X2 X3 X4 X5 f10 n) (g9 c i arg2 harg2 arg3 harg3 arg4 harg4 arg5 harg5 arg6 harg6 arg7 harg7 arg8 harg8 arg9 harg9 arg10 harg10 X2 X3 X4 X5 f10 n) (g10 c i arg2 harg2 arg3 harg3 arg4 harg4 arg5 harg5 arg6 harg6 arg7 harg7 arg8 harg8 arg9 harg9 arg10 harg10 X2 X3 X4 X5 f10 n)).1) (View.writes_append _ _ _ _) ?_
  exact congrArg (fun L => arg7.view.writes (Elt F) (g7 c i arg2 harg2 arg3 harg3 arg4 harg4 arg5 harg5 arg6 harg6 arg7 harg7 arg8 harg8 arg9 harg9 arg10 harg10 X2 X3 X4 X5 f10 n) L) (tl7 c i arg2 harg2 arg3 harg3 arg4 harg4 arg5 harg5 arg6 harg6 arg7 harg7 arg8 harg8 arg9 harg9 arg10 harg10 X2 X3 X4 X5 ⟨n, hn⟩ _ _ _ _)
theorem g7_zero : (g7 c i arg2 harg2 arg3 harg3 arg4 harg4 arg5 harg5 arg6 harg6 arg7 harg7 arg8 harg8 arg9 harg9 arg10 harg10 X2 X3 X4 X5 f10 0) = (G7 arg7) := by
  unfold g7 TP
  rw [pb_k0_t1.eq_1]
  exact writes_nil arg7 (G7 arg7)
theorem tl8 (k : Fin (k0_t1_loop i).trips) (f7 : BufTy.Contents (Elt F) arg7.view.ty) (f8 : BufTy.Contents (Elt F) arg8.view.ty)
    (f9 : BufTy.Contents (Elt F) arg9.view.ty) (f0 : BufTy.Contents (Elt F) arg10.view.ty) :
    (tripL_k0_t1 (F := F) Variants.none c none i arg2 harg2 arg3 harg3 arg4 harg4 arg5 harg5 arg6 harg6 arg7 harg7 arg8 harg8 arg9 harg9 arg10 harg10 (BitVec.ofNat 32 (i 1).val) X2 X3 X4 X5 k f7 f8 f9 f0).2.1 = (trip_k0_t1 (F := F) Variants.none c none i arg2 harg2 arg3 harg3 arg4 harg4 arg5 harg5 arg6 harg6 arg7 harg7 arg8 harg8 arg9 harg9 arg10 harg10 (BitVec.ofNat 32 (i 1).val) X2 X3 X4 X5 k).2.1 f7 f8 f9 f0 := rfl
theorem g8_succ (n : ℕ) (hn : n < (k0_t1_loop i).trips) :
    (g8 c i arg2 harg2 arg3 harg3 arg4 harg4 arg5 harg5 arg6 harg6 arg7 harg7 arg8 harg8 arg9 harg9 arg10 harg10 X2 X3 X4 X5 f10 (n + 1)) = arg8.view.writes (Elt F) (g8 c i arg2 harg2 arg3 harg3 arg4 harg4 arg5 harg5 arg6 harg6 arg7 harg7 arg8 harg8 arg9 harg9 arg10 harg10 X2 X3 X4 X5 f10 n) ((trip_k0_t1 (F := F) Variants.none c none i arg2 harg2 arg3 harg3 arg4 harg4 arg5 harg5 arg6 harg6 arg7 harg7 arg8 harg8 arg9 harg9 arg10 harg10 (BitVec.ofNat 32 (i 1).val) X2 X3 X4 X5 ⟨n, hn⟩).2.1 (g7 c i arg2 harg2 arg3 harg3 arg4 harg4 arg5 harg5 arg6 harg6 arg7 harg7 arg8 harg8 arg9 harg9 arg10 harg10 X2 X3 X4 X5 f10 n) (g8 c i arg2 harg2 arg3 harg3 arg4 harg4 arg5 harg5 arg6 harg6 arg7 harg7 arg8 harg8 arg9 harg9 arg10 harg10 X2 X3 X4 X5 f10 n) (g9 c i arg2 harg2 arg3 harg3 arg4 harg4 arg5 harg5 arg6 harg6 arg7 harg7 arg8 harg8 arg9 harg9 arg10 harg10 X2 X3 X4 X5 f10 n) (g10 c i arg2 harg2 arg3 harg3 arg4 harg4 arg5 harg5 arg6 harg6 arg7 harg7 arg8 harg8 arg9 harg9 arg10 harg10 X2 X3 X4 X5 f10 n)) := by
  unfold g8 TP
  rw [pb_k0_t1_succ Variants.none c none i arg2 harg2 arg3 harg3 arg4 harg4 arg5 harg5 arg6 harg6 arg7 harg7 arg8 harg8 arg9 harg9 arg10 harg10 (BitVec.ofNat 32 (i 1).val) X2 X3 X4 X5 (G7 arg7) (G8 arg8) (G9 arg9) (G10 i arg2 arg3 arg5 arg10 X2 X3 X5 f10) ⟨n, hn⟩]
  refine Eq.trans (b := arg8.view.writes (Elt F) (g8 c i arg2 harg2 arg3 harg3 arg4 harg4 arg5 harg5 arg6 harg6 arg7 harg7 arg8 harg8 arg9 harg9 arg10 harg10 X2 X3 X4 X5 f10 n) (tripL_k0_t1 (F := F) Variants.none c none i arg2 harg2 arg3 harg3 arg4 harg4 arg5 harg5 arg6 harg6 arg7 harg7 arg8 harg8 arg9 harg9 arg10 harg10 (BitVec.ofNat 32 (i 1).val) X2 X3 X4 X5 ⟨n, hn⟩ (g7 c i arg2 harg2 arg3 harg3 arg4 harg4 arg5 harg5 arg6 harg6 arg7 harg7 arg8 harg8 arg9 harg9 arg10 harg10 X2 X3 X4 X5 f10 n) (g8 c i arg2 harg2 arg3 harg3 arg4 harg4 arg5 harg5 arg6 harg6 arg7 harg7 arg8 harg8 arg9 harg9 arg10 harg10 X2 X3 X4 X5 f10 n) (g9 c i arg2 harg2 arg3 harg3 arg4 harg4 arg5 harg5 arg6 harg6 arg7 harg7 arg8 harg8 arg9 harg9 arg10 harg10 X2 X3 X4 X5 f10 n) (g10 c i arg2 harg2 arg3 harg3 arg4 harg4 arg5 harg5 arg6 harg6 arg7 harg7 arg8 harg8 arg9 harg9 arg10 harg10 X2 X3 X4 X5 f10 n)).2.1) (View.writes_append _ _ _ _) ?_
  exact congrArg (fun L => arg8.view.writes (Elt F) (g8 c i arg2 harg2 arg3 harg3 arg4 harg4 arg5 harg5 arg6 harg6 arg7 harg7 arg8 harg8 arg9 harg9 arg10 harg10 X2 X3 X4 X5 f10 n) L) (tl8 c i arg2 harg2 arg3 harg3 arg4 harg4 arg5 harg5 arg6 harg6 arg7 harg7 arg8 harg8 arg9 harg9 arg10 harg10 X2 X3 X4 X5 ⟨n, hn⟩ _ _ _ _)
theorem g8_zero : (g8 c i arg2 harg2 arg3 harg3 arg4 harg4 arg5 harg5 arg6 harg6 arg7 harg7 arg8 harg8 arg9 harg9 arg10 harg10 X2 X3 X4 X5 f10 0) = (G8 arg8) := by
  unfold g8 TP
  rw [pb_k0_t1.eq_1]
  exact writes_nil arg8 (G8 arg8)
theorem tl9 (k : Fin (k0_t1_loop i).trips) (f7 : BufTy.Contents (Elt F) arg7.view.ty) (f8 : BufTy.Contents (Elt F) arg8.view.ty)
    (f9 : BufTy.Contents (Elt F) arg9.view.ty) (f0 : BufTy.Contents (Elt F) arg10.view.ty) :
    (tripL_k0_t1 (F := F) Variants.none c none i arg2 harg2 arg3 harg3 arg4 harg4 arg5 harg5 arg6 harg6 arg7 harg7 arg8 harg8 arg9 harg9 arg10 harg10 (BitVec.ofNat 32 (i 1).val) X2 X3 X4 X5 k f7 f8 f9 f0).2.2.1 = (trip_k0_t1 (F := F) Variants.none c none i arg2 harg2 arg3 harg3 arg4 harg4 arg5 harg5 arg6 harg6 arg7 harg7 arg8 harg8 arg9 harg9 arg10 harg10 (BitVec.ofNat 32 (i 1).val) X2 X3 X4 X5 k).2.2.1 f7 f8 f9 f0 := rfl
theorem g9_succ (n : ℕ) (hn : n < (k0_t1_loop i).trips) :
    (g9 c i arg2 harg2 arg3 harg3 arg4 harg4 arg5 harg5 arg6 harg6 arg7 harg7 arg8 harg8 arg9 harg9 arg10 harg10 X2 X3 X4 X5 f10 (n + 1)) = arg9.view.writes (Elt F) (g9 c i arg2 harg2 arg3 harg3 arg4 harg4 arg5 harg5 arg6 harg6 arg7 harg7 arg8 harg8 arg9 harg9 arg10 harg10 X2 X3 X4 X5 f10 n) ((trip_k0_t1 (F := F) Variants.none c none i arg2 harg2 arg3 harg3 arg4 harg4 arg5 harg5 arg6 harg6 arg7 harg7 arg8 harg8 arg9 harg9 arg10 harg10 (BitVec.ofNat 32 (i 1).val) X2 X3 X4 X5 ⟨n, hn⟩).2.2.1 (g7 c i arg2 harg2 arg3 harg3 arg4 harg4 arg5 harg5 arg6 harg6 arg7 harg7 arg8 harg8 arg9 harg9 arg10 harg10 X2 X3 X4 X5 f10 n) (g8 c i arg2 harg2 arg3 harg3 arg4 harg4 arg5 harg5 arg6 harg6 arg7 harg7 arg8 harg8 arg9 harg9 arg10 harg10 X2 X3 X4 X5 f10 n) (g9 c i arg2 harg2 arg3 harg3 arg4 harg4 arg5 harg5 arg6 harg6 arg7 harg7 arg8 harg8 arg9 harg9 arg10 harg10 X2 X3 X4 X5 f10 n) (g10 c i arg2 harg2 arg3 harg3 arg4 harg4 arg5 harg5 arg6 harg6 arg7 harg7 arg8 harg8 arg9 harg9 arg10 harg10 X2 X3 X4 X5 f10 n)) := by
  unfold g9 TP
  rw [pb_k0_t1_succ Variants.none c none i arg2 harg2 arg3 harg3 arg4 harg4 arg5 harg5 arg6 harg6 arg7 harg7 arg8 harg8 arg9 harg9 arg10 harg10 (BitVec.ofNat 32 (i 1).val) X2 X3 X4 X5 (G7 arg7) (G8 arg8) (G9 arg9) (G10 i arg2 arg3 arg5 arg10 X2 X3 X5 f10) ⟨n, hn⟩]
  refine Eq.trans (b := arg9.view.writes (Elt F) (g9 c i arg2 harg2 arg3 harg3 arg4 harg4 arg5 harg5 arg6 harg6 arg7 harg7 arg8 harg8 arg9 harg9 arg10 harg10 X2 X3 X4 X5 f10 n) (tripL_k0_t1 (F := F) Variants.none c none i arg2 harg2 arg3 harg3 arg4 harg4 arg5 harg5 arg6 harg6 arg7 harg7 arg8 harg8 arg9 harg9 arg10 harg10 (BitVec.ofNat 32 (i 1).val) X2 X3 X4 X5 ⟨n, hn⟩ (g7 c i arg2 harg2 arg3 harg3 arg4 harg4 arg5 harg5 arg6 harg6 arg7 harg7 arg8 harg8 arg9 harg9 arg10 harg10 X2 X3 X4 X5 f10 n) (g8 c i arg2 harg2 arg3 harg3 arg4 harg4 arg5 harg5 arg6 harg6 arg7 harg7 arg8 harg8 arg9 harg9 arg10 harg10 X2 X3 X4 X5 f10 n) (g9 c i arg2 harg2 arg3 harg3 arg4 harg4 arg5 harg5 arg6 harg6 arg7 harg7 arg8 harg8 arg9 harg9 arg10 harg10 X2 X3 X4 X5 f10 n) (g10 c i arg2 harg2 arg3 harg3 arg4 harg4 arg5 harg5 arg6 harg6 arg7 harg7 arg8 harg8 arg9 harg9 arg10 harg10 X2 X3 X4 X5 f10 n)).2.2.1) (View.writes_append _ _ _ _) ?_
  exact congrArg (fun L => arg9.view.writes (Elt F) (g9 c i arg2 harg2 arg3 harg3 arg4 harg4 arg5 harg5 arg6 harg6 arg7 harg7 arg8 harg8 arg9 harg9 arg10 harg10 X2 X3 X4 X5 f10 n) L) (tl9 c i arg2 harg2 arg3 harg3 arg4 harg4 arg5 harg5 arg6 harg6 arg7 harg7 arg8 harg8 arg9 harg9 arg10 harg10 X2 X3 X4 X5 ⟨n, hn⟩ _ _ _ _)
theorem g9_zero : (g9 c i arg2 harg2 arg3 harg3 arg4 harg4 arg5 harg5 arg6 harg6 arg7 harg7 arg8 harg8 arg9 harg9 arg10 harg10 X2 X3 X4 X5 f10 0) = (G9 arg9) := by
  unfold g9 TP
  rw [pb_k0_t1.eq_1]
  exact writes_nil arg9 (G9 arg9)
theorem tl10 (k : Fin (k0_t1_loop i).trips) (f7 : BufTy.Contents (Elt F) arg7.view.ty) (f8 : BufTy.Contents (Elt F) arg8.view.ty)
    (f9 : BufTy.Contents (Elt F) arg9.view.ty) (f0 : BufTy.Contents (Elt F) arg10.view.ty) :
    (tripL_k0_t1 (F := F) Variants.none c none i arg2 harg2 arg3 harg3 arg4 harg4 arg5 harg5 arg6 harg6 arg7 harg7 arg8 harg8 arg9 harg9 arg10 harg10 (BitVec.ofNat 32 (i 1).val) X2 X3 X4 X5 k f7 f8 f9 f0).2.2.2 = (trip_k0_t1 (F := F) Variants.none c none i arg2 harg2 arg3 harg3 arg4 harg4 arg5 harg5 arg6 harg6 arg7 harg7 arg8 harg8 arg9 harg9 arg10 harg10 (BitVec.ofNat 32 (i 1).val) X2 X3 X4 X5 k).2.2.2.1 f7 f8 f9 f0 := rfl
theorem g10_succ (n : ℕ) (hn : n < (k0_t1_loop i).trips) :
    (g10 c i arg2 harg2 arg3 harg3 arg4 harg4 arg5 harg5 arg6 harg6 arg7 harg7 arg8 harg8 arg9 harg9 arg10 harg10 X2 X3 X4 X5 f10 (n + 1)) = arg10.view.writes (Elt F) (g10 c i arg2 harg2 arg3 harg3 arg4 harg4 arg5 harg5 arg6 harg6 arg7 harg7 arg8 harg8 arg9 harg9 arg10 harg10 X2 X3 X4 X5 f10 n) ((trip_k0_t1 (F := F) Variants.none c none i arg2 harg2 arg3 harg3 arg4 harg4 arg5 harg5 arg6 harg6 arg7 harg7 arg8 harg8 arg9 harg9 arg10 harg10 (BitVec.ofNat 32 (i 1).val) X2 X3 X4 X5 ⟨n, hn⟩).2.2.2.1 (g7 c i arg2 harg2 arg3 harg3 arg4 harg4 arg5 harg5 arg6 harg6 arg7 harg7 arg8 harg8 arg9 harg9 arg10 harg10 X2 X3 X4 X5 f10 n) (g8 c i arg2 harg2 arg3 harg3 arg4 harg4 arg5 harg5 arg6 harg6 arg7 harg7 arg8 harg8 arg9 harg9 arg10 harg10 X2 X3 X4 X5 f10 n) (g9 c i arg2 harg2 arg3 harg3 arg4 harg4 arg5 harg5 arg6 harg6 arg7 harg7 arg8 harg8 arg9 harg9 arg10 harg10 X2 X3 X4 X5 f10 n) (g10 c i arg2 harg2 arg3 harg3 arg4 harg4 arg5 harg5 arg6 harg6 arg7 harg7 arg8 harg8 arg9 harg9 arg10 harg10 X2 X3 X4 X5 f10 n)) := by
  unfold g10 TP
  rw [pb_k0_t1_succ Variants.none c none i arg2 harg2 arg3 harg3 arg4 harg4 arg5 harg5 arg6 harg6 arg7 harg7 arg8 harg8 arg9 harg9 arg10 harg10 (BitVec.ofNat 32 (i 1).val) X2 X3 X4 X5 (G7 arg7) (G8 arg8) (G9 arg9) (G10 i arg2 arg3 arg5 arg10 X2 X3 X5 f10) ⟨n, hn⟩]
  refine Eq.trans (b := arg10.view.writes (Elt F) (g10 c i arg2 harg2 arg3 harg3 arg4 harg4 arg5 harg5 arg6 harg6 arg7 harg7 arg8 harg8 arg9 harg9 arg10 harg10 X2 X3 X4 X5 f10 n) (tripL_k0_t1 (F := F) Variants.none c none i arg2 harg2 arg3 harg3 arg4 harg4 arg5 harg5 arg6 harg6 arg7 harg7 arg8 harg8 arg9 harg9 arg10 harg10 (BitVec.ofNat 32 (i 1).val) X2 X3 X4 X5 ⟨n, hn⟩ (g7 c i arg2 harg2 arg3 harg3 arg4 harg4 arg5 harg5 arg6 harg6 arg7 harg7 arg8 harg8 arg9 harg9 arg10 harg10 X2 X3 X4 X5 f10 n) (g8 c i arg2 harg2 arg3 harg3 arg4 harg4 arg5 harg5 arg6 harg6 arg7 harg7 arg8 harg8 arg9 harg9 arg10 harg10 X2 X3 X4 X5 f10 n) (g9 c i arg2 harg2 arg3 harg3 arg4 harg4 arg5 harg5 arg6 harg6 arg7 harg7 arg8 harg8 arg9 harg9 arg10 harg10 X2 X3 X4 X5 f10 n) (g10 c i arg2 harg2 arg3 harg3 arg4 harg4 arg5 harg5 arg6 harg6 arg7 harg7 arg8 harg8 arg9 harg9 arg10 harg10 X2 X3 X4 X5 f10 n)).2.2.2) (View.writes_append _ _ _ _) ?_
  exact congrArg (fun L => arg10.view.writes (Elt F) (g10 c i arg2 harg2 arg3 harg3 arg4 harg4 arg5 harg5 arg6 harg6 arg7 harg7 arg8 harg8 arg9 harg9 arg10 harg10 X2 X3 X4 X5 f10 n) L) (tl10 c i arg2 harg2 arg3 harg3 arg4 harg4 arg5 harg5 arg6 harg6 arg7 harg7 arg8 harg8 arg9 harg9 arg10 harg10 X2 X3 X4 X5 ⟨n, hn⟩ _ _ _ _)
theorem g10_zero : (g10 c i arg2 harg2 arg3 harg3 arg4 harg4 arg5 harg5 arg6 harg6 arg7 harg7 arg8 harg8 arg9 harg9 arg10 harg10 X2 X3 X4 X5 f10 0) = (G10 i arg2 arg3 arg5 arg10 X2 X3 X5 f10) := by
  unfold g10 TP
  rw [pb_k0_t1.eq_1]
  exact writes_nil arg10 (G10 i arg2 arg3 arg5 arg10 X2 X3 X5 f10)
theorem rd8_one (r : Memref sig .tc .vmem S4x1x512 .f32) (f : BufTy.Contents (Elt F) r.view.ty)
    (inb : ∀ a, (![0, 0, 0] : Fin 3 → ℕ) a + S4x1x512.size a ≤ S4x1x512.size a) (w : Vec F S4x1x512 .f32) (h : Fin 4) :
    rd8 r (r.view.writes (Elt F) f [(⟨Rect.unit (s := S4x1x512) ![0, 0, 0] S4x1x512.size inb, w⟩ : View.Piece (Elt F) S4x1x512 .f32)]) h
      = fun y => w (ix3 h (y 1) (y 2)) := by
  have e : ∀ (b : ℕ) (hb : b < 4) (inb' : ∀ a, (![b, 0, 0] : Fin 3 → ℕ) a + S1x1x512.size a ≤ S4x1x512.size a), r.view.readAt (Elt F) (Rect.unit (s := S4x1x512) ![b, 0, 0] S1x1x512.size inb').toLoadRect
      (r.view.writes (Elt F) f [(⟨Rect.unit (s := S4x1x512) ![0, 0, 0] S4x1x512.size inb, w⟩ : View.Piece (Elt F) S4x1x512 .f32)]) = fun y => w (ix3 ⟨b, hb⟩ (y 1) (y 2)) := by
    intro b hb inb'
    funext y
    have y0 : (y 0).val < 1 := (y 0).isLt
    refine View.read_writes_cons_unit_of_mem r.view f inb w [] _ (ix3 ⟨b, hb⟩ (y 1) (y 2)) rfl fun a => ?_
    match a with
    | 0 => show b + 1 * (y 0).val = 0 + b; omega
    | 1 => show 0 + 1 * (y 1).val = 0 + (y 1).val; omega
    | 2 => show 0 + 1 * (y 2).val = 0 + (y 2).val; omega
  fin_cases h
  · exact e 0 (by decide) _
  · exact e 1 (by decide) _
  · exact e 2 (by decide) _
  · exact e 3 (by decide) _
theorem rd7_one (r : Memref sig .tc .vmem S4x128x512 .f32) (f : BufTy.Contents (Elt F) r.view.ty)
    (inb : ∀ a, (![0, 0, 0] : Fin 3 → ℕ) a + S4x128x512.size a ≤ S4x128x512.size a) (w : Vec F S4x128x512 .f32) (h : Fin 4) :
    rd7 r (r.view.writes (Elt F) f [(⟨Rect.unit (s := S4x128x512) ![0, 0, 0] S4x128x512.size inb, w⟩ : View.Piece (Elt F) S4x128x512 .f32)]) h
      = fun y => w (ix3 h (y 1) (y 2)) := by
  have e : ∀ (b : ℕ) (hb : b < 4) (inb' : ∀ a, (![b, 0, 0] : Fin 3 → ℕ) a + S1x128x512.size a ≤ S4x128x512.size a), r.view.readAt (Elt F) (Rect.unit (s := S4x128x512) ![b, 0, 0] S1x128x512.size inb').toLoadRect
      (r.view.writes (Elt F) f [(⟨Rect.unit (s := S4x128x512) ![0, 0, 0] S4x128x512.size inb, w⟩ : View.Piece (Elt F) S4x128x512 .f32)]) = fun y => w (ix3 ⟨b, hb⟩ (y 1) (y 2)) := by
    intro b hb inb'
    funext y
    have y0 : (y 0).val < 1 := (y 0).isLt
    refine View.read_writes_cons_unit_of_mem r.view f inb w [] _ (ix3 ⟨b, hb⟩ (y 1) (y 2)) rfl fun a => ?_
    match a with
    | 0 => show b + 1 * (y 0).val = 0 + b; omega
    | 1 => show 0 + 1 * (y 1).val = 0 + (y 1).val; omega
    | 2 => show 0 + 1 * (y 2).val = 0 + (y 2).val; omega
  fin_cases h
  · exact e 0 (by decide) _
  · exact e 1 (by decide) _
  · exact e 2 (by decide) _
  · exact e 3 (by decide) _
/-- Head `h`'s running maximum, sum and accumulator after the first `n` tiles, none masked. -/
def SM (i : ℕ) (x2 : S512x512.Idx → Elt F .bf16) (x3 : S8192x512.Idx → Elt F .bf16) (x5 : S1x8192x4.Idx → Elt F .f32) (h : ℕ) : ℕ → Vec F S1x1x512 .f32
  | 0 => broadcast S1x1x512 (Named.named κ "masked" 0xF149F2CA#32)
  | n + 1 => nM (lg i x2 x3 x5 n h) (SM i x2 x3 x5 h n)
def SL (i : ℕ) (x2 : S512x512.Idx → Elt F .bf16) (x3 x4 : S8192x512.Idx → Elt F .bf16) (x5 : S1x8192x4.Idx → Elt F .f32) (h : ℕ) : ℕ → Vec F S1x1x512 .f32
  | 0 => broadcast S1x1x512 (Scalar.ofBits .f32 0x00000000#32)
  | n + 1 => nL (lg i x2 x3 x5 n h) (SM i x2 x3 x5 h n) (kb x4 n h) (SL i x2 x3 x4 x5 h n)
def SA (i : ℕ) (x2 : S512x512.Idx → Elt F .bf16) (x3 x4 : S8192x512.Idx → Elt F .bf16) (x5 : S1x8192x4.Idx → Elt F .f32) (h : ℕ) : ℕ → Vec F S1x128x512 .f32
  | 0 => broadcast S1x128x512 (Scalar.ofBits .f32 0x00000000#32)
  | n + 1 => nA (lg i x2 x3 x5 n h) (SM i x2 x3 x5 h n) (kb x4 n h) (SA i x2 x3 x4 x5 h n)

theorem I10_rd (f : BufTy.Contents (Elt F) arg10.view.ty) (h : Fin 4) :
    rd0 arg10 (arg10.view.writes (Elt F) f (I10 i arg2 arg3 arg5 X2 X3 X5)) h = lg (i 1).val (arg2.view.read (Elt F) X2) (arg3.view.read (Elt F) X3) (arg5.view.read (Elt F) X5) 0 h.val := by
  unfold I10
  fin_cases h
  · show View.readAt _ _ _ _ = _
    repeat rw [rd_miss _ _ _ _ _ _ (by decide)]
    rw [rd_hit]
    show k0_pay3 (arg5.view.readAt (Elt F) (Rect.unit (s := S1x8192x4) (k0_off1 i) S1x1x1.size (k0_off1_inb i)).toLoadRect X5) (arg3.view.readAt (Elt F) (Rect.unit (s := S8192x512) ![0, 0] S256x128.size inb_S8192x512_S256x128_0_0).toLoadRect X3) (arg2.view.readAt (Elt F) (Rect.unit (s := S512x512) ![0, 0] S512x128.size inb_S512x512_S512x128_0_0).toLoadRect X2) (arg5.view.readAt (Elt F) (Rect.unit (s := S1x8192x4) ![0, 0, 0] S1x256x1.size inb_S1x8192x4_S1x256x1_0_0_0).toLoadRect X5) = _
    rw [rd_c0b arg5 X5 _ _ 0 (off1 i), rd_kb arg3 X3 _ 0 0 rfl, rd_qb arg2 X2 _ 0 rfl, rd_cb arg5 X5 _ 0 0 rfl]; rfl
  · show View.readAt _ _ _ _ = _
    repeat rw [rd_miss _ _ _ _ _ _ (by decide)]
    rw [rd_hit]
    show k0_pay3 (arg5.view.readAt (Elt F) (Rect.unit (s := S1x8192x4) (k0_off2 i) S1x1x1.size (k0_off2_inb i)).toLoadRect X5) (arg3.view.readAt (Elt F) (Rect.unit (s := S8192x512) ![0, 128] S256x128.size inb_S8192x512_S256x128_0_128).toLoadRect X3) (arg2.view.readAt (Elt F) (Rect.unit (s := S512x512) ![0, 128] S512x128.size inb_S512x512_S512x128_0_128).toLoadRect X2) (arg5.view.readAt (Elt F) (Rect.unit (s := S1x8192x4) ![0, 0, 1] S1x256x1.size inb_S1x8192x4_S1x256x1_0_0_1).toLoadRect X5) = _
    rw [rd_c0b arg5 X5 _ _ 1 (off2 i), rd_kb arg3 X3 _ 0 1 rfl, rd_qb arg2 X2 _ 1 rfl, rd_cb arg5 X5 _ 0 1 rfl]; rfl
  · show View.readAt _ _ _ _ = _
    repeat rw [rd_miss _ _ _ _ _ _ (by decide)]
    rw [rd_hit]
    show k0_pay3 (arg5.view.readAt (Elt F) (Rect.unit (s := S1x8192x4) (k0_off3 i) S1x1x1.size (k0_off3_inb i)).toLoadRect X5) (arg3.view.readAt (Elt F) (Rect.unit (s := S8192x512) ![0, 256] S256x128.size inb_S8192x512_S256x128_0_256).toLoadRect X3) (arg2.view.readAt (Elt F) (Rect.unit (s := S512x512) ![0, 256] S512x128.size inb_S512x512_S512x128_0_256).toLoadRect X2) (arg5.view.readAt (Elt F) (Rect.unit (s := S1x8192x4) ![0, 0, 2] S1x256x1.size inb_S1x8192x4_S1x256x1_0_0_2).toLoadRect X5) = _
    rw [rd_c0b arg5 X5 _ _ 2 (off3 i), rd_kb arg3 X3 _ 0 2 rfl, rd_qb arg2 X2 _ 2 rfl, rd_cb arg5 X5 _ 0 2 rfl]; rfl
  · show View.readAt _ _ _ _ = _
    repeat rw [rd_miss _ _ _ _ _ _ (by decide)]
    rw [rd_hit]
    show k0_pay3 (arg5.view.readAt (Elt F) (Rect.unit (s := S1x8192x4) (k0_off4 i) S1x1x1.size (k0_off4_inb i)).toLoadRect X5) (arg3.view.readAt (Elt F) (Rect.unit (s := S8192x512) ![0, 384] S256x128.size inb_S8192x512_S256x128_0_384).toLoadRect X3) (arg2.view.readAt (Elt F) (Rect.unit (s := S512x512) ![0, 384] S512x128.size inb_S512x512_S512x128_0_384).toLoadRect X2) (arg5.view.readAt (Elt F) (Rect.unit (s := S1x8192x4) ![0, 0, 3] S1x256x1.size inb_S1x8192x4_S1x256x1_0_0_3).toLoadRect X5) = _
    rw [rd_c0b arg5 X5 _ _ 3 (off4 i), rd_kb arg3 X3 _ 0 3 rfl, rd_qb arg2 X2 _ 3 rfl, rd_cb arg5 X5 _ 0 3 rfl]; rfl
theorem g10_rd (h : Fin 4) (n : ℕ) (hn : n ≤ (k0_t1_loop i).trips) : rd0 arg10 (g10 c i arg2 harg2 arg3 harg3 arg4 harg4 arg5 harg5 arg6 harg6 arg7 harg7 arg8 harg8 arg9 harg9 arg10 harg10 X2 X3 X4 X5 f10 n) h = lg (i 1).val (arg2.view.read (Elt F) X2) (arg3.view.read (Elt F) X3) (arg5.view.read (Elt F) X5) (2 * n) h.val := by
  cases n with
  | zero => rw [g10_zero]; exact I10_rd i arg2 arg3 arg5 arg10 X2 X3 X5 f10 h
  | succ n => rw [g10_succ _ _ _ _ _ _ _ _ _ _ _ _ _ _ _ _ _ _ _ _ _ _ _ _ _ n hn]; exact t0 Variants.none c none i arg2 harg2 arg3 harg3 arg4 harg4 arg5 harg5 arg6 harg6 arg7 harg7 arg8 harg8 arg9 harg9 arg10 harg10 (BitVec.ofNat 32 (i 1).val) X2 X3 X4 X5 ⟨n, hn⟩ (g7 c i arg2 harg2 arg3 harg3 arg4 harg4 arg5 harg5 arg6 harg6 arg7 harg7 arg8 harg8 arg9 harg9 arg10 harg10 X2 X3 X4 X5 f10 n) (g8 c i arg2 harg2 arg3 harg3 arg4 harg4 arg5 harg5 arg6 harg6 arg7 harg7 arg8 harg8 arg9 harg9 arg10 harg10 X2 X3 X4 X5 f10 n) (g9 c i arg2 harg2 arg3 harg3 arg4 harg4 arg5 harg5 arg6 harg6 arg7 harg7 arg8 harg8 arg9 harg9 arg10 harg10 X2 X3 X4 X5 f10 n) (g10 c i arg2 harg2 arg3 harg3 arg4 harg4 arg5 harg5 arg6 harg6 arg7 harg7 arg8 harg8 arg9 harg9 arg10 harg10 X2 X3 X4 X5 f10 n) h
theorem g_rd (h : Fin 4) (n : ℕ) (hn : n ≤ (k0_t1_loop i).trips) : rd8 arg8 (g8 c i arg2 harg2 arg3 harg3 arg4 harg4 arg5 harg5 arg6 harg6 arg7 harg7 arg8 harg8 arg9 harg9 arg10 harg10 X2 X3 X4 X5 f10 n) h = SM (i 1).val (arg2.view.read (Elt F) X2) (arg3.view.read (Elt F) X3) (arg5.view.read (Elt F) X5) h.val (2 * n)
    ∧ rd8 arg9 (g9 c i arg2 harg2 arg3 harg3 arg4 harg4 arg5 harg5 arg6 harg6 arg7 harg7 arg8 harg8 arg9 harg9 arg10 harg10 X2 X3 X4 X5 f10 n) h = SL (i 1).val (arg2.view.read (Elt F) X2) (arg3.view.read (Elt F) X3) (arg4.view.read (Elt F) X4) (arg5.view.read (Elt F) X5) h.val (2 * n) ∧ rd7 arg7 (g7 c i arg2 harg2 arg3 harg3 arg4 harg4 arg5 harg5 arg6 harg6 arg7 harg7 arg8 harg8 arg9 harg9 arg10 harg10 X2 X3 X4 X5 f10 n) h = SA (i 1).val (arg2.view.read (Elt F) X2) (arg3.view.read (Elt F) X3) (arg4.view.read (Elt F) X4) (arg5.view.read (Elt F) X5) h.val (2 * n) := by
  induction n with
  | zero =>
    refine ⟨?_, ?_, ?_⟩
    · rw [g8_zero]; exact (rd8_one arg8 _ _ _ h).trans rfl
    · rw [g9_zero]; exact (rd8_one arg9 _ _ _ h).trans rfl
    · rw [g7_zero]; exact (rd7_one arg7 _ _ _ h).trans rfl
  | succ n ih =>
    obtain ⟨h8, h9, h7⟩ := ih (Nat.le_of_succ_le hn)
    have h10 := g10_rd c i arg2 harg2 arg3 harg3 arg4 harg4 arg5 harg5 arg6 harg6 arg7 harg7 arg8 harg8 arg9 harg9 arg10 harg10 X2 X3 X4 X5 f10 h n (Nat.le_of_succ_le hn)
    refine ⟨?_, ?_, ?_⟩
    · rw [g8_succ _ _ _ _ _ _ _ _ _ _ _ _ _ _ _ _ _ _ _ _ _ _ _ _ _ n hn]
      refine (t8 Variants.none c none i arg2 harg2 arg3 harg3 arg4 harg4 arg5 harg5 arg6 harg6 arg7 harg7 arg8 harg8 arg9 harg9 arg10 harg10 (BitVec.ofNat 32 (i 1).val) X2 X3 X4 X5 ⟨n, hn⟩ (g7 c i arg2 harg2 arg3 harg3 arg4 harg4 arg5 harg5 arg6 harg6 arg7 harg7 arg8 harg8 arg9 harg9 arg10 harg10 X2 X3 X4 X5 f10 n) (g8 c i arg2 harg2 arg3 harg3 arg4 harg4 arg5 harg5 arg6 harg6 arg7 harg7 arg8 harg8 arg9 harg9 arg10 harg10 X2 X3 X4 X5 f10 n) (g9 c i arg2 harg2 arg3 harg3 arg4 harg4 arg5 harg5 arg6 harg6 arg7 harg7 arg8 harg8 arg9 harg9 arg10 harg10 X2 X3 X4 X5 f10 n) (g10 c i arg2 harg2 arg3 harg3 arg4 harg4 arg5 harg5 arg6 harg6 arg7 harg7 arg8 harg8 arg9 harg9 arg10 harg10 X2 X3 X4 X5 f10 n) h).trans ?_
      rw [h10, h8]; rfl
    · rw [g9_succ _ _ _ _ _ _ _ _ _ _ _ _ _ _ _ _ _ _ _ _ _ _ _ _ _ n hn]
      refine (t9 Variants.none c none i arg2 harg2 arg3 harg3 arg4 harg4 arg5 harg5 arg6 harg6 arg7 harg7 arg8 harg8 arg9 harg9 arg10 harg10 (BitVec.ofNat 32 (i 1).val) X2 X3 X4 X5 ⟨n, hn⟩ (g7 c i arg2 harg2 arg3 harg3 arg4 harg4 arg5 harg5 arg6 harg6 arg7 harg7 arg8 harg8 arg9 harg9 arg10 harg10 X2 X3 X4 X5 f10 n) (g8 c i arg2 harg2 arg3 harg3 arg4 harg4 arg5 harg5 arg6 harg6 arg7 harg7 arg8 harg8 arg9 harg9 arg10 harg10 X2 X3 X4 X5 f10 n) (g9 c i arg2 harg2 arg3 harg3 arg4 harg4 arg5 harg5 arg6 harg6 arg7 harg7 arg8 harg8 arg9 harg9 arg10 harg10 X2 X3 X4 X5 f10 n) (g10 c i arg2 harg2 arg3 harg3 arg4 harg4 arg5 harg5 arg6 harg6 arg7 harg7 arg8 harg8 arg9 harg9 arg10 harg10 X2 X3 X4 X5 f10 n) h).trans ?_
      rw [h10, h8, h9]; rfl
    · rw [g7_succ _ _ _ _ _ _ _ _ _ _ _ _ _ _ _ _ _ _ _ _ _ _ _ _ _ n hn]
      refine (t7 Variants.none c none i arg2 harg2 arg3 harg3 arg4 harg4 arg5 harg5 arg6 harg6 arg7 harg7 arg8 harg8 arg9 harg9 arg10 harg10 (BitVec.ofNat 32 (i 1).val) X2 X3 X4 X5 ⟨n, hn⟩ (g7 c i arg2 harg2 arg3 harg3 arg4 harg4 arg5 harg5 arg6 harg6 arg7 harg7 arg8 harg8 arg9 harg9 arg10 harg10 X2 X3 X4 X5 f10 n) (g8 c i arg2 harg2 arg3 harg3 arg4 harg4 arg5 harg5 arg6 harg6 arg7 harg7 arg8 harg8 arg9 harg9 arg10 harg10 X2 X3 X4 X5 f10 n) (g9 c i arg2 harg2 arg3 harg3 arg4 harg4 arg5 harg5 arg6 harg6 arg7 harg7 arg8 harg8 arg9 harg9 arg10 harg10 X2 X3 X4 X5 f10 n) (g10 c i arg2 harg2 arg3 harg3 arg4 harg4 arg5 harg5 arg6 harg6 arg7 harg7 arg8 harg8 arg9 harg9 arg10 harg10 X2 X3 X4 X5 f10 n) h).trans ?_
      rw [h10, h8, h7]; rfl

end Tail
end Cert.KernelIdeal.Hand
end
-- ==== Proof.FoxTail2.lean ====
module

public import proofs.«01_k».proof.Proof.FoxTail

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F] [Named F]

/-- First key of the first masked tile, and the number of the second one, at query block `n`. -/
def kF (n : ℕ) : BitVec 32 := Scalar.muli (Scalar.muli 2#32 (BitVec.ofNat 32 n)) 256#32
def tH (n : ℕ) : BitVec 32 := Scalar.addi (Scalar.muli 2#32 (BitVec.ofNat 32 n)) 1#32

section Pure
variable (i : ℕ) (x2 : S512x512.Idx → Elt F .bf16) (x3 x4 : S8192x512.Idx → Elt F .bf16) (x5 : S1x8192x4.Idx → Elt F .f32) (h : ℕ)
/-- Maximum, sum and accumulator after the first masked tile. -/
def M1 : Vec F S1x1x512 .f32 := mM (BitVec.ofNat 32 i) (kF i) (lg i x2 x3 x5 (2 * i) h) (SM i x2 x3 x5 h (2 * i))
def L1 : Vec F S1x1x512 .f32 := mL (BitVec.ofNat 32 i) (kF i) (lg i x2 x3 x5 (2 * i) h) (SM i x2 x3 x5 h (2 * i)) (kb x4 (2 * i) h) (SL i x2 x3 x4 x5 h (2 * i))
def A1 : Vec F S1x128x512 .f32 := mA (BitVec.ofNat 32 i) (kF i) (lg i x2 x3 x5 (2 * i) h) (SM i x2 x3 x5 h (2 * i)) (kb x4 (2 * i) h) (SA i x2 x3 x4 x5 h (2 * i))
/-- Sum and accumulator after the second masked tile, which only the later half of the queries takes. -/
def L2 : Vec F S1x1x512 .f32 := ps8 (L1 i x2 x3 x4 x5 h)
  (hL (BitVec.ofNat 32 i) (tH i) (lgh i x2 x3 x5 (2 * i + 1) h) (hf8 (M1 i x2 x3 x5 h)) (kb x4 (2 * i + 1) h) (hf8 (L1 i x2 x3 x4 x5 h)))
def A2 : Vec F S1x128x512 .f32 := ps7 (A1 i x2 x3 x4 x5 h)
  (hA (BitVec.ofNat 32 i) (tH i) (lgh i x2 x3 x5 (2 * i + 1) h) (hf8 (M1 i x2 x3 x5 h)) (kb x4 (2 * i + 1) h) (hf7 (A1 i x2 x3 x4 x5 h)))
/-- The query block's results, as functions of the four blocks. -/
def OUT : S512x512.Idx → Elt F .bf16 := fun y =>
  oT (A2 i x2 x3 x4 x5 ((y 1).val / 128)) (L2 i x2 x3 x4 x5 ((y 1).val / 128)) (ix2 (y 0) ⟨(y 1).val % 128, Nat.mod_lt _ (by decide)⟩)
end Pure

theorem writes_cat {s : Shape} {t : EltTy} (r : Memref sig .tc .vmem s t) (f : BufTy.Contents (Elt F) r.view.ty) (A B C : List (View.Piece (Elt F) s t))
    (hA : A = []) : r.view.writes (Elt F) f (A ++ (B ++ C)) = r.view.writes (Elt F) (r.view.writes (Elt F) f C) B := by
  subst hA; rw [List.nil_append]; exact View.writes_append r.view f B C

section Tail

variable (c : Dev nD) (i : grid0.Coords) (arg2 : Memref sig .tc .vmem S512x512 .bf16) (harg2 : arg2.IsWhole) (arg3 : Memref sig .tc .vmem S8192x512 .bf16) (harg3 : arg3.IsWhole) (arg4 : Memref sig .tc .vmem S8192x512 .bf16) (harg4 : arg4.IsWhole) (arg5 : Memref sig .tc .vmem S1x8192x4 .f32) (harg5 : arg5.IsWhole) (arg6 : Memref sig .tc .vmem S512x512 .bf16) (harg6 : arg6.IsWhole) (arg7 : Memref sig .tc .vmem S4x128x512 .f32) (harg7 : arg7.IsWhole) (arg8 : Memref sig .tc .vmem S4x1x512 .f32) (harg8 : arg8.IsWhole) (arg9 : Memref sig .tc .vmem S4x1x512 .f32) (harg9 : arg9.IsWhole) (arg10 : Memref sig .tc .vmem S2x4x256x512 .f32) (harg10 : arg10.IsWhole) (X2 : BufTy.Contents (Elt F) arg2.view.ty) (X3 : BufTy.Contents (Elt F) arg3.view.ty) (X4 : BufTy.Contents (Elt F) arg4.view.ty) (X5 : BufTy.Contents (Elt F) arg5.view.ty)
variable (f10 : BufTy.Contents (Elt F) arg10.view.ty)

/-- What the second loop writes: nothing, for it makes no trip. -/
def T2 := (pb_k0_t2 (F := F) Variants.none c none i arg2 harg2 arg3 harg3 arg4 harg4 arg5 harg5 arg6 harg6 arg7 harg7 arg8 harg8 arg9 harg9 arg10 harg10 (BitVec.ofNat 32 (i 1).val) (bodyRun.sl.v105 i) X2 X3 X4 X5 (arg7.view.writes (Elt F) arg7.view.junk ((TP c i arg2 harg2 arg3 harg3 arg4 harg4 arg5 harg5 arg6 harg6 arg7 harg7 arg8 harg8 arg9 harg9 arg10 harg10 X2 X3 X4 X5 f10 (k0_t1_loop i).trips).1 ++ bodyRun.sl.H7_1)) (arg8.view.writes (Elt F) arg8.view.junk ((TP c i arg2 harg2 arg3 harg3 arg4 harg4 arg5 harg5 arg6 harg6 arg7 harg7 arg8 harg8 arg9 harg9 arg10 harg10 X2 X3 X4 X5 f10 (k0_t1_loop i).trips).2.1 ++ bodyRun.sl.H8_1)) (arg9.view.writes (Elt F) arg9.view.junk ((TP c i arg2 harg2 arg3 harg3 arg4 harg4 arg5 harg5 arg6 harg6 arg7 harg7 arg8 harg8 arg9 harg9 arg10 harg10 X2 X3 X4 X5 f10 (k0_t1_loop i).trips).2.2.1 ++ bodyRun.sl.H9_1)) (arg10.view.writes (Elt F) f10 ((TP c i arg2 harg2 arg3 harg3 arg4 harg4 arg5 harg5 arg6 harg6 arg7 harg7 arg8 harg8 arg9 harg9 arg10 harg10 X2 X3 X4 X5 f10 (k0_t1_loop i).trips).2.2.2 ++ I10 i arg2 arg3 arg5 X2 X3 X5)) (Scf.trips (k0_t2_loop i).lb (k0_t2_loop i).ub (k0_t2_loop i).st))
theorem T2_eq : T2 c i arg2 harg2 arg3 harg3 arg4 harg4 arg5 harg5 arg6 harg6 arg7 harg7 arg8 harg8 arg9 harg9 arg10 harg10 X2 X3 X4 X5 f10 = ([], [], [], []) := by
  unfold T2
  rw [trips2 i, pb_k0_t2.eq_1]
def L07 : List (View.Piece (Elt F) S4x128x512 .f32) := (T2 c i arg2 harg2 arg3 harg3 arg4 harg4 arg5 harg5 arg6 harg6 arg7 harg7 arg8 harg8 arg9 harg9 arg10 harg10 X2 X3 X4 X5 f10).1 ++ ((TP c i arg2 harg2 arg3 harg3 arg4 harg4 arg5 harg5 arg6 harg6 arg7 harg7 arg8 harg8 arg9 harg9 arg10 harg10 X2 X3 X4 X5 f10 (k0_t1_loop i).trips).1 ++ bodyRun.sl.H7_1)
def L08 : List (View.Piece (Elt F) S4x1x512 .f32) := (T2 c i arg2 harg2 arg3 harg3 arg4 harg4 arg5 harg5 arg6 harg6 arg7 harg7 arg8 harg8 arg9 harg9 arg10 harg10 X2 X3 X4 X5 f10).2.1 ++ ((TP c i arg2 harg2 arg3 harg3 arg4 harg4 arg5 harg5 arg6 harg6 arg7 harg7 arg8 harg8 arg9 harg9 arg10 harg10 X2 X3 X4 X5 f10 (k0_t1_loop i).trips).2.1 ++ bodyRun.sl.H8_1)
def L09 : List (View.Piece (Elt F) S4x1x512 .f32) := (T2 c i arg2 harg2 arg3 harg3 arg4 harg4 arg5 harg5 arg6 harg6 arg7 harg7 arg8 harg8 arg9 harg9 arg10 harg10 X2 X3 X4 X5 f10).2.2.1 ++ ((TP c i arg2 harg2 arg3 harg3 arg4 harg4 arg5 harg5 arg6 harg6 arg7 harg7 arg8 harg8 arg9 harg9 arg10 harg10 X2 X3 X4 X5 f10 (k0_t1_loop i).trips).2.2.1 ++ bodyRun.sl.H9_1)
def L010 : List (View.Piece (Elt F) S2x4x256x512 .f32) := (T2 c i arg2 harg2 arg3 harg3 arg4 harg4 arg5 harg5 arg6 harg6 arg7 harg7 arg8 harg8 arg9 harg9 arg10 harg10 X2 X3 X4 X5 f10).2.2.2 ++ ((TP c i arg2 harg2 arg3 harg3 arg4 harg4 arg5 harg5 arg6 harg6 arg7 harg7 arg8 harg8 arg9 harg9 arg10 harg10 X2 X3 X4 X5 f10 (k0_t1_loop i).trips).2.2.2 ++ I10 i arg2 arg3 arg5 X2 X3 X5)
theorem base7 : arg7.view.writes (Elt F) arg7.view.junk (L07 c i arg2 harg2 arg3 harg3 arg4 harg4 arg5 harg5 arg6 harg6 arg7 harg7 arg8 harg8 arg9 harg9 arg10 harg10 X2 X3 X4 X5 f10) = (g7 c i arg2 harg2 arg3 harg3 arg4 harg4 arg5 harg5 arg6 harg6 arg7 harg7 arg8 harg8 arg9 harg9 arg10 harg10 X2 X3 X4 X5 f10 (i 1).val) := by
  unfold L07
  refine (writes_cat arg7 _ _ _ _ (by rw [T2_eq])).trans ?_
  rw [trips1 i]; rfl
theorem base8 : arg8.view.writes (Elt F) arg8.view.junk (L08 c i arg2 harg2 arg3 harg3 arg4 harg4 arg5 harg5 arg6 harg6 arg7 harg7 arg8 harg8 arg9 harg9 arg10 harg10 X2 X3 X4 X5 f10) = (g8 c i arg2 harg2 arg3 harg3 arg4 harg4 arg5 harg5 arg6 harg6 arg7 harg7 arg8 harg8 arg9 harg9 arg10 harg10 X2 X3 X4 X5 f10 (i 1).val) := by
  unfold L08
  refine (writes_cat arg8 _ _ _ _ (by rw [T2_eq])).trans ?_
  rw [trips1 i]; rfl
theorem base9 : arg9.view.writes (Elt F) arg9.view.junk (L09 c i arg2 harg2 arg3 harg3 arg4 harg4 arg5 harg5 arg6 harg6 arg7 harg7 arg8 harg8 arg9 harg9 arg10 harg10 X2 X3 X4 X5 f10) = (g9 c i arg2 harg2 arg3 harg3 arg4 harg4 arg5 harg5 arg6 harg6 arg7 harg7 arg8 harg8 arg9 harg9 arg10 harg10 X2 X3 X4 X5 f10 (i 1).val) := by
  unfold L09
  refine (writes_cat arg9 _ _ _ _ (by rw [T2_eq])).trans ?_
  rw [trips1 i]; rfl
theorem EH7_1_1 : (bodyRun.sl.H7_1_1 c i arg2 harg2 arg3 harg3 arg4 harg4 arg5 harg5 arg6 harg6 arg7 harg7 arg8 harg8 arg9 harg9 arg10 harg10 X2 X3 X4 X5 f10) = ⟨Rect.unit (s := S4x128x512) ![0, 0, 0] S1x128x512.size inb_S4x128x512_S1x128x512_0_0_0, mA (BitVec.ofNat 32 (i 1).val) (kF (i 1).val) (bodyRun.sl.v201 c i arg2 harg2 arg3 harg3 arg4 harg4 arg5 harg5 arg6 harg6 arg7 harg7 arg8 harg8 arg9 harg9 arg10 harg10 X2 X3 X4 X5 f10) (bodyRun.sl.v215 c i arg2 harg2 arg3 harg3 arg4 harg4 arg5 harg5 arg6 harg6 arg7 harg7 arg8 harg8 arg9 harg9 arg10 harg10 X2 X3 X4 X5 f10) (arg4.view.readAt (Elt F) (Rect.unit (s := S8192x512) (k0_off45 i) S256x128.size (k0_off45_inb i)).toLoadRect X4) (bodyRun.sl.v244 c i arg2 harg2 arg3 harg3 arg4 harg4 arg5 harg5 arg6 harg6 arg7 harg7 arg8 harg8 arg9 harg9 arg10 harg10 X2 X3 X4 X5 f10)⟩ :: (L07 c i arg2 harg2 arg3 harg3 arg4 harg4 arg5 harg5 arg6 harg6 arg7 harg7 arg8 harg8 arg9 harg9 arg10 harg10 X2 X3 X4 X5 f10) := rfl
theorem EH7_2 : (bodyRun.sl.H7_2 c i arg2 harg2 arg3 harg3 arg4 harg4 arg5 harg5 arg6 harg6 arg7 harg7 arg8 harg8 arg9 harg9 arg10 harg10 X2 X3 X4 X5 f10) = ⟨Rect.unit (s := S4x128x512) ![1, 0, 0] S1x128x512.size inb_S4x128x512_S1x128x512_1_0_0, mA (BitVec.ofNat 32 (i 1).val) (kF (i 1).val) (bodyRun.sl.v253 c i arg2 harg2 arg3 harg3 arg4 harg4 arg5 harg5 arg6 harg6 arg7 harg7 arg8 harg8 arg9 harg9 arg10 harg10 X2 X3 X4 X5 f10) (bodyRun.sl.v267 c i arg2 harg2 arg3 harg3 arg4 harg4 arg5 harg5 arg6 harg6 arg7 harg7 arg8 harg8 arg9 harg9 arg10 harg10 X2 X3 X4 X5 f10) (arg4.view.readAt (Elt F) (Rect.unit (s := S8192x512) (k0_off46 i) S256x128.size (k0_off46_inb i)).toLoadRect X4) (bodyRun.sl.v296 c i arg2 harg2 arg3 harg3 arg4 harg4 arg5 harg5 arg6 harg6 arg7 harg7 arg8 harg8 arg9 harg9 arg10 harg10 X2 X3 X4 X5 f10)⟩ :: (bodyRun.sl.H7_1_1 c i arg2 harg2 arg3 harg3 arg4 harg4 arg5 harg5 arg6 harg6 arg7 harg7 arg8 harg8 arg9 harg9 arg10 harg10 X2 X3 X4 X5 f10) := rfl
theorem EH7_3 : (bodyRun.sl.H7_3 c i arg2 harg2 arg3 harg3 arg4 harg4 arg5 harg5 arg6 harg6 arg7 harg7 arg8 harg8 arg9 harg9 arg10 harg10 X2 X3 X4 X5 f10) = ⟨Rect.unit (s := S4x128x512) ![2, 0, 0] S1x128x512.size inb_S4x128x512_S1x128x512_2_0_0, mA (BitVec.ofNat 32 (i 1).val) (kF (i 1).val) (bodyRun.sl.v305 c i arg2 harg2 arg3 harg3 arg4 harg4 arg5 harg5 arg6 harg6 arg7 harg7 arg8 harg8 arg9 harg9 arg10 harg10 X2 X3 X4 X5 f10) (bodyRun.sl.v319 c i arg2 harg2 arg3 harg3 arg4 harg4 arg5 harg5 arg6 harg6 arg7 harg7 arg8 harg8 arg9 harg9 arg10 harg10 X2 X3 X4 X5 f10) (arg4.view.readAt (Elt F) (Rect.unit (s := S8192x512) (k0_off47 i) S256x128.size (k0_off47_inb i)).toLoadRect X4) (bodyRun.sl.v348 c i arg2 harg2 arg3 harg3 arg4 harg4 arg5 harg5 arg6 harg6 arg7 harg7 arg8 harg8 arg9 harg9 arg10 harg10 X2 X3 X4 X5 f10)⟩ :: (bodyRun.sl.H7_2 c i arg2 harg2 arg3 harg3 arg4 harg4 arg5 harg5 arg6 harg6 arg7 harg7 arg8 harg8 arg9 harg9 arg10 harg10 X2 X3 X4 X5 f10) := rfl
theorem EH7_4 : (bodyRun.sl.H7_4 c i arg2 harg2 arg3 harg3 arg4 harg4 arg5 harg5 arg6 harg6 arg7 harg7 arg8 harg8 arg9 harg9 arg10 harg10 X2 X3 X4 X5 f10) = ⟨Rect.unit (s := S4x128x512) ![3, 0, 0] S1x128x512.size inb_S4x128x512_S1x128x512_3_0_0, mA (BitVec.ofNat 32 (i 1).val) (kF (i 1).val) (bodyRun.sl.v357 c i arg2 harg2 arg3 harg3 arg4 harg4 arg5 harg5 arg6 harg6 arg7 harg7 arg8 harg8 arg9 harg9 arg10 harg10 X2 X3 X4 X5 f10) (bodyRun.sl.v371 c i arg2 harg2 arg3 harg3 arg4 harg4 arg5 harg5 arg6 harg6 arg7 harg7 arg8 harg8 arg9 harg9 arg10 harg10 X2 X3 X4 X5 f10) (arg4.view.readAt (Elt F) (Rect.unit (s := S8192x512) (k0_off48 i) S256x128.size (k0_off48_inb i)).toLoadRect X4) (bodyRun.sl.v400 c i arg2 harg2 arg3 harg3 arg4 harg4 arg5 harg5 arg6 harg6 arg7 harg7 arg8 harg8 arg9 harg9 arg10 harg10 X2 X3 X4 X5 f10)⟩ :: (bodyRun.sl.H7_3 c i arg2 harg2 arg3 harg3 arg4 harg4 arg5 harg5 arg6 harg6 arg7 harg7 arg8 harg8 arg9 harg9 arg10 harg10 X2 X3 X4 X5 f10) := rfl
theorem EH7_5 : (bodyRun.sl.H7_5 c i arg2 harg2 arg3 harg3 arg4 harg4 arg5 harg5 arg6 harg6 arg7 harg7 arg8 harg8 arg9 harg9 arg10 harg10 X2 X3 X4 X5 f10) = ⟨Rect.unit (s := S4x128x512) ![0, 0, 256] S1x128x256.size inb_S4x128x512_S1x128x256_0_0_256, hA (BitVec.ofNat 32 (i 1).val) (tH (i 1).val) (bodyRun.sl.v413 c i arg2 harg2 arg3 harg3 arg4 harg4 arg5 harg5 arg6 harg6 arg7 harg7 arg8 harg8 arg9 harg9 arg10 harg10 X2 X3 X4 X5 f10) (bodyRun.sl.v427 c i arg2 harg2 arg3 harg3 arg4 harg4 arg5 harg5 arg6 harg6 arg7 harg7 arg8 harg8 arg9 harg9 arg10 harg10 X2 X3 X4 X5 f10) (arg4.view.readAt (Elt F) (Rect.unit (s := S8192x512) (k0_off37 i) S256x128.size (k0_off37_inb i)).toLoadRect X4) (bodyRun.sl.v456 c i arg2 harg2 arg3 harg3 arg4 harg4 arg5 harg5 arg6 harg6 arg7 harg7 arg8 harg8 arg9 harg9 arg10 harg10 X2 X3 X4 X5 f10)⟩ :: (bodyRun.sl.H7_4 c i arg2 harg2 arg3 harg3 arg4 harg4 arg5 harg5 arg6 harg6 arg7 harg7 arg8 harg8 arg9 harg9 arg10 harg10 X2 X3 X4 X5 f10) := rfl
theorem EH7_6 : (bodyRun.sl.H7_6 c i arg2 harg2 arg3 harg3 arg4 harg4 arg5 harg5 arg6 harg6 arg7 harg7 arg8 harg8 arg9 harg9 arg10 harg10 X2 X3 X4 X5 f10) = ⟨Rect.unit (s := S4x128x512) ![1, 0, 256] S1x128x256.size inb_S4x128x512_S1x128x256_1_0_256, hA (BitVec.ofNat 32 (i 1).val) (tH (i 1).val) (bodyRun.sl.v465 c i arg2 harg2 arg3 harg3 arg4 harg4 arg5 harg5 arg6 harg6 arg7 harg7 arg8 harg8 arg9 harg9 arg10 harg10 X2 X3 X4 X5 f10) (bodyRun.sl.v479 c i arg2 harg2 arg3 harg3 arg4 harg4 arg5 harg5 arg6 harg6 arg7 harg7 arg8 harg8 arg9 harg9 arg10 harg10 X2 X3 X4 X5 f10) (arg4.view.readAt (Elt F) (Rect.unit (s := S8192x512) (k0_off39 i) S256x128.size (k0_off39_inb i)).toLoadRect X4) (bodyRun.sl.v508 c i arg2 harg2 arg3 harg3 arg4 harg4 arg5 harg5 arg6 harg6 arg7 harg7 arg8 harg8 arg9 harg9 arg10 harg10 X2 X3 X4 X5 f10)⟩ :: (bodyRun.sl.H7_5 c i arg2 harg2 arg3 harg3 arg4 harg4 arg5 harg5 arg6 harg6 arg7 harg7 arg8 harg8 arg9 harg9 arg10 harg10 X2 X3 X4 X5 f10) := rfl
theorem EH7_7 : (bodyRun.sl.H7_7 c i arg2 harg2 arg3 harg3 arg4 harg4 arg5 harg5 arg6 harg6 arg7 harg7 arg8 harg8 arg9 harg9 arg10 harg10 X2 X3 X4 X5 f10) = ⟨Rect.unit (s := S4x128x512) ![2, 0, 256] S1x128x256.size inb_S4x128x512_S1x128x256_2_0_256, hA (BitVec.ofNat 32 (i 1).val) (tH (i 1).val) (bodyRun.sl.v517 c i arg2 harg2 arg3 harg3 arg4 harg4 arg5 harg5 arg6 harg6 arg7 harg7 arg8 harg8 arg9 harg9 arg10 harg10 X2 X3 X4 X5 f10) (bodyRun.sl.v531 c i arg2 harg2 arg3 harg3 arg4 harg4 arg5 harg5 arg6 harg6 arg7 harg7 arg8 harg8 arg9 harg9 arg10 harg10 X2 X3 X4 X5 f10) (arg4.view.readAt (Elt F) (Rect.unit (s := S8192x512) (k0_off41 i) S256x128.size (k0_off41_inb i)).toLoadRect X4) (bodyRun.sl.v560 c i arg2 harg2 arg3 harg3 arg4 harg4 arg5 harg5 arg6 harg6 arg7 harg7 arg8 harg8 arg9 harg9 arg10 harg10 X2 X3 X4 X5 f10)⟩ :: (bodyRun.sl.H7_6 c i arg2 harg2 arg3 harg3 arg4 harg4 arg5 harg5 arg6 harg6 arg7 harg7 arg8 harg8 arg9 harg9 arg10 harg10 X2 X3 X4 X5 f10) := rfl
theorem EH7_8 : (bodyRun.sl.H7_8 c i arg2 harg2 arg3 harg3 arg4 harg4 arg5 harg5 arg6 harg6 arg7 harg7 arg8 harg8 arg9 harg9 arg10 harg10 X2 X3 X4 X5 f10) = ⟨Rect.unit (s := S4x128x512) ![3, 0, 256] S1x128x256.size inb_S4x128x512_S1x128x256_3_0_256, hA (BitVec.ofNat 32 (i 1).val) (tH (i 1).val) (bodyRun.sl.v569 c i arg2 harg2 arg3 harg3 arg4 harg4 arg5 harg5 arg6 harg6 arg7 harg7 arg8 harg8 arg9 harg9 arg10 harg10 X2 X3 X4 X5 f10) (bodyRun.sl.v583 c i arg2 harg2 arg3 harg3 arg4 harg4 arg5 harg5 arg6 harg6 arg7 harg7 arg8 harg8 arg9 harg9 arg10 harg10 X2 X3 X4 X5 f10) (arg4.view.readAt (Elt F) (Rect.unit (s := S8192x512) (k0_off43 i) S256x128.size (k0_off43_inb i)).toLoadRect X4) (bodyRun.sl.v612 c i arg2 harg2 arg3 harg3 arg4 harg4 arg5 harg5 arg6 harg6 arg7 harg7 arg8 harg8 arg9 harg9 arg10 harg10 X2 X3 X4 X5 f10)⟩ :: (bodyRun.sl.H7_7 c i arg2 harg2 arg3 harg3 arg4 harg4 arg5 harg5 arg6 harg6 arg7 harg7 arg8 harg8 arg9 harg9 arg10 harg10 X2 X3 X4 X5 f10) := rfl
theorem EH8_1_1 : (bodyRun.sl.H8_1_1 c i arg2 harg2 arg3 harg3 arg4 harg4 arg5 harg5 arg6 harg6 arg7 harg7 arg8 harg8 arg9 harg9 arg10 harg10 X2 X3 X4 X5 f10) = ⟨Rect.unit (s := S4x1x512) ![0, 0, 0] S1x1x512.size inb_S4x1x512_S1x1x512_0_0_0, mM (BitVec.ofNat 32 (i 1).val) (kF (i 1).val) (bodyRun.sl.v201 c i arg2 harg2 arg3 harg3 arg4 harg4 arg5 harg5 arg6 harg6 arg7 harg7 arg8 harg8 arg9 harg9 arg10 harg10 X2 X3 X4 X5 f10) (bodyRun.sl.v215 c i arg2 harg2 arg3 harg3 arg4 harg4 arg5 harg5 arg6 harg6 arg7 harg7 arg8 harg8 arg9 harg9 arg10 harg10 X2 X3 X4 X5 f10)⟩ :: (L08 c i arg2 harg2 arg3 harg3 arg4 harg4 arg5 harg5 arg6 harg6 arg7 harg7 arg8 harg8 arg9 harg9 arg10 harg10 X2 X3 X4 X5 f10) := rfl
theorem EH8_2 : (bodyRun.sl.H8_2 c i arg2 harg2 arg3 harg3 arg4 harg4 arg5 harg5 arg6 harg6 arg7 harg7 arg8 harg8 arg9 harg9 arg10 harg10 X2 X3 X4 X5 f10) = ⟨Rect.unit (s := S4x1x512) ![1, 0, 0] S1x1x512.size inb_S4x1x512_S1x1x512_1_0_0, mM (BitVec.ofNat 32 (i 1).val) (kF (i 1).val) (bodyRun.sl.v253 c i arg2 harg2 arg3 harg3 arg4 harg4 arg5 harg5 arg6 harg6 arg7 harg7 arg8 harg8 arg9 harg9 arg10 harg10 X2 X3 X4 X5 f10) (bodyRun.sl.v267 c i arg2 harg2 arg3 harg3 arg4 harg4 arg5 harg5 arg6 harg6 arg7 harg7 arg8 harg8 arg9 harg9 arg10 harg10 X2 X3 X4 X5 f10)⟩ :: (bodyRun.sl.H8_1_1 c i arg2 harg2 arg3 harg3 arg4 harg4 arg5 harg5 arg6 harg6 arg7 harg7 arg8 harg8 arg9 harg9 arg10 harg10 X2 X3 X4 X5 f10) := rfl
theorem EH8_3 : (bodyRun.sl.H8_3 c i arg2 harg2 arg3 harg3 arg4 harg4 arg5 harg5 arg6 harg6 arg7 harg7 arg8 harg8 arg9 harg9 arg10 harg10 X2 X3 X4 X5 f10) = ⟨Rect.unit (s := S4x1x512) ![2, 0, 0] S1x1x512.size inb_S4x1x512_S1x1x512_2_0_0, mM (BitVec.ofNat 32 (i 1).val) (kF (i 1).val) (bodyRun.sl.v305 c i arg2 harg2 arg3 harg3 arg4 harg4 arg5 harg5 arg6 harg6 arg7 harg7 arg8 harg8 arg9 harg9 arg10 harg10 X2 X3 X4 X5 f10) (bodyRun.sl.v319 c i arg2 harg2 arg3 harg3 arg4 harg4 arg5 harg5 arg6 harg6 arg7 harg7 arg8 harg8 arg9 harg9 arg10 harg10 X2 X3 X4 X5 f10)⟩ :: (bodyRun.sl.H8_2 c i arg2 harg2 arg3 harg3 arg4 harg4 arg5 harg5 arg6 harg6 arg7 harg7 arg8 harg8 arg9 harg9 arg10 harg10 X2 X3 X4 X5 f10) := rfl
theorem EH8_4 : (bodyRun.sl.H8_4 c i arg2 harg2 arg3 harg3 arg4 harg4 arg5 harg5 arg6 harg6 arg7 harg7 arg8 harg8 arg9 harg9 arg10 harg10 X2 X3 X4 X5 f10) = ⟨Rect.unit (s := S4x1x512) ![3, 0, 0] S1x1x512.size inb_S4x1x512_S1x1x512_3_0_0, mM (BitVec.ofNat 32 (i 1).val) (kF (i 1).val) (bodyRun.sl.v357 c i arg2 harg2 arg3 harg3 arg4 harg4 arg5 harg5 arg6 harg6 arg7 harg7 arg8 harg8 arg9 harg9 arg10 harg10 X2 X3 X4 X5 f10) (bodyRun.sl.v371 c i arg2 harg2 arg3 harg3 arg4 harg4 arg5 harg5 arg6 harg6 arg7 harg7 arg8 harg8 arg9 harg9 arg10 harg10 X2 X3 X4 X5 f10)⟩ :: (bodyRun.sl.H8_3 c i arg2 harg2 arg3 harg3 arg4 harg4 arg5 harg5 arg6 harg6 arg7 harg7 arg8 harg8 arg9 harg9 arg10 harg10 X2 X3 X4 X5 f10) := rfl
theorem EH8_5 : (bodyRun.sl.H8_5 c i arg2 harg2 arg3 harg3 arg4 harg4 arg5 harg5 arg6 harg6 arg7 harg7 arg8 harg8 arg9 harg9 arg10 harg10 X2 X3 X4 X5 f10) = ⟨Rect.unit (s := S4x1x512) ![0, 0, 256] S1x1x256.size inb_S4x1x512_S1x1x256_0_0_256, hM (BitVec.ofNat 32 (i 1).val) (tH (i 1).val) (bodyRun.sl.v413 c i arg2 harg2 arg3 harg3 arg4 harg4 arg5 harg5 arg6 harg6 arg7 harg7 arg8 harg8 arg9 harg9 arg10 harg10 X2 X3 X4 X5 f10) (bodyRun.sl.v427 c i arg2 harg2 arg3 harg3 arg4 harg4 arg5 harg5 arg6 harg6 arg7 harg7 arg8 harg8 arg9 harg9 arg10 harg10 X2 X3 X4 X5 f10)⟩ :: (bodyRun.sl.H8_4 c i arg2 harg2 arg3 harg3 arg4 harg4 arg5 harg5 arg6 harg6 arg7 harg7 arg8 harg8 arg9 harg9 arg10 harg10 X2 X3 X4 X5 f10) := rfl
theorem EH8_6 : (bodyRun.sl.H8_6 c i arg2 harg2 arg3 harg3 arg4 harg4 arg5 harg5 arg6 harg6 arg7 harg7 arg8 harg8 arg9 harg9 arg10 harg10 X2 X3 X4 X5 f10) = ⟨Rect.unit (s := S4x1x512) ![1, 0, 256] S1x1x256.size inb_S4x1x512_S1x1x256_1_0_256, hM (BitVec.ofNat 32 (i 1).val) (tH (i 1).val) (bodyRun.sl.v465 c i arg2 harg2 arg3 harg3 arg4 harg4 arg5 harg5 arg6 harg6 arg7 harg7 arg8 harg8 arg9 harg9 arg10 harg10 X2 X3 X4 X5 f10) (bodyRun.sl.v479 c i arg2 harg2 arg3 harg3 arg4 harg4 arg5 harg5 arg6 harg6 arg7 harg7 arg8 harg8 arg9 harg9 arg10 harg10 X2 X3 X4 X5 f10)⟩ :: (bodyRun.sl.H8_5 c i arg2 harg2 arg3 harg3 arg4 harg4 arg5 harg5 arg6 harg6 arg7 harg7 arg8 harg8 arg9 harg9 arg10 harg10 X2 X3 X4 X5 f10) := rfl
theorem EH8_7 : (bodyRun.sl.H8_7 c i arg2 harg2 arg3 harg3 arg4 harg4 arg5 harg5 arg6 harg6 arg7 harg7 arg8 harg8 arg9 harg9 arg10 harg10 X2 X3 X4 X5 f10) = ⟨Rect.unit (s := S4x1x512) ![2, 0, 256] S1x1x256.size inb_S4x1x512_S1x1x256_2_0_256, hM (BitVec.ofNat 32 (i 1).val) (tH (i 1).val) (bodyRun.sl.v517 c i arg2 harg2 arg3 harg3 arg4 harg4 arg5 harg5 arg6 harg6 arg7 harg7 arg8 harg8 arg9 harg9 arg10 harg10 X2 X3 X4 X5 f10) (bodyRun.sl.v531 c i arg2 harg2 arg3 harg3 arg4 harg4 arg5 harg5 arg6 harg6 arg7 harg7 arg8 harg8 arg9 harg9 arg10 harg10 X2 X3 X4 X5 f10)⟩ :: (bodyRun.sl.H8_6 c i arg2 harg2 arg3 harg3 arg4 harg4 arg5 harg5 arg6 harg6 arg7 harg7 arg8 harg8 arg9 harg9 arg10 harg10 X2 X3 X4 X5 f10) := rfl
theorem EH9_1_1 : (bodyRun.sl.H9_1_1 c i arg2 harg2 arg3 harg3 arg4 harg4 arg5 harg5 arg6 harg6 arg7 harg7 arg8 harg8 arg9 harg9 arg10 harg10 X2 X3 X4 X5 f10) = ⟨Rect.unit (s := S4x1x512) ![0, 0, 0] S1x1x512.size inb_S4x1x512_S1x1x512_0_0_0, mL (BitVec.ofNat 32 (i 1).val) (kF (i 1).val) (bodyRun.sl.v201 c i arg2 harg2 arg3 harg3 arg4 harg4 arg5 harg5 arg6 harg6 arg7 harg7 arg8 harg8 arg9 harg9 arg10 harg10 X2 X3 X4 X5 f10) (bodyRun.sl.v215 c i arg2 harg2 arg3 harg3 arg4 harg4 arg5 harg5 arg6 harg6 arg7 harg7 arg8 harg8 arg9 harg9 arg10 harg10 X2 X3 X4 X5 f10) (arg4.view.readAt (Elt F) (Rect.unit (s := S8192x512) (k0_off45 i) S256x128.size (k0_off45_inb i)).toLoadRect X4) (bodyRun.sl.v236 c i arg2 harg2 arg3 harg3 arg4 harg4 arg5 harg5 arg6 harg6 arg7 harg7 arg8 harg8 arg9 harg9 arg10 harg10 X2 X3 X4 X5 f10)⟩ :: (L09 c i arg2 harg2 arg3 harg3 arg4 harg4 arg5 harg5 arg6 harg6 arg7 harg7 arg8 harg8 arg9 harg9 arg10 harg10 X2 X3 X4 X5 f10) := rfl
theorem EH9_2 : (bodyRun.sl.H9_2 c i arg2 harg2 arg3 harg3 arg4 harg4 arg5 harg5 arg6 harg6 arg7 harg7 arg8 harg8 arg9 harg9 arg10 harg10 X2 X3 X4 X5 f10) = ⟨Rect.unit (s := S4x1x512) ![1, 0, 0] S1x1x512.size inb_S4x1x512_S1x1x512_1_0_0, mL (BitVec.ofNat 32 (i 1).val) (kF (i 1).val) (bodyRun.sl.v253 c i arg2 harg2 arg3 harg3 arg4 harg4 arg5 harg5 arg6 harg6 arg7 harg7 arg8 harg8 arg9 harg9 arg10 harg10 X2 X3 X4 X5 f10) (bodyRun.sl.v267 c i arg2 harg2 arg3 harg3 arg4 harg4 arg5 harg5 arg6 harg6 arg7 harg7 arg8 harg8 arg9 harg9 arg10 harg10 X2 X3 X4 X5 f10) (arg4.view.readAt (Elt F) (Rect.unit (s := S8192x512) (k0_off46 i) S256x128.size (k0_off46_inb i)).toLoadRect X4) (bodyRun.sl.v288 c i arg2 harg2 arg3 harg3 arg4 harg4 arg5 harg5 arg6 harg6 arg7 harg7 arg8 harg8 arg9 harg9 arg10 harg10 X2 X3 X4 X5 f10)⟩ :: (bodyRun.sl.H9_1_1 c i arg2 harg2 arg3 harg3 arg4 harg4 arg5 harg5 arg6 harg6 arg7 harg7 arg8 harg8 arg9 harg9 arg10 harg10 X2 X3 X4 X5 f10) := rfl
theorem EH9_3 : (bodyRun.sl.H9_3 c i arg2 harg2 arg3 harg3 arg4 harg4 arg5 harg5 arg6 harg6 arg7 harg7 arg8 harg8 arg9 harg9 arg10 harg10 X2 X3 X4 X5 f10) = ⟨Rect.unit (s := S4x1x512) ![2, 0, 0] S1x1x512.size inb_S4x1x512_S1x1x512_2_0_0, mL (BitVec.ofNat 32 (i 1).val) (kF (i 1).val) (bodyRun.sl.v305 c i arg2 harg2 arg3 harg3 arg4 harg4 arg5 harg5 arg6 harg6 arg7 harg7 arg8 harg8 arg9 harg9 arg10 harg10 X2 X3 X4 X5 f10) (bodyRun.sl.v319 c i arg2 harg2 arg3 harg3 arg4 harg4 arg5 harg5 arg6 harg6 arg7 harg7 arg8 harg8 arg9 harg9 arg10 harg10 X2 X3 X4 X5 f10) (arg4.view.readAt (Elt F) (Rect.unit (s := S8192x512) (k0_off47 i) S256x128.size (k0_off47_inb i)).toLoadRect X4) (bodyRun.sl.v340 c i arg2 harg2 arg3 harg3 arg4 harg4 arg5 harg5 arg6 harg6 arg7 harg7 arg8 harg8 arg9 harg9 arg10 harg10 X2 X3 X4 X5 f10)⟩ :: (bodyRun.sl.H9_2 c i arg2 harg2 arg3 harg3 arg4 harg4 arg5 harg5 arg6 harg6 arg7 harg7 arg8 harg8 arg9 harg9 arg10 harg10 X2 X3 X4 X5 f10) := rfl
theorem EH9_4 : (bodyRun.sl.H9_4 c i arg2 harg2 arg3 harg3 arg4 harg4 arg5 harg5 arg6 harg6 arg7 harg7 arg8 harg8 arg9 harg9 arg10 harg10 X2 X3 X4 X5 f10) = ⟨Rect.unit (s := S4x1x512) ![3, 0, 0] S1x1x512.size inb_S4x1x512_S1x1x512_3_0_0, mL (BitVec.ofNat 32 (i 1).val) (kF (i 1).val) (bodyRun.sl.v357 c i arg2 harg2 arg3 harg3 arg4 harg4 arg5 harg5 arg6 harg6 arg7 harg7 arg8 harg8 arg9 harg9 arg10 harg10 X2 X3 X4 X5 f10) (bodyRun.sl.v371 c i arg2 harg2 arg3 harg3 arg4 harg4 arg5 harg5 arg6 harg6 arg7 harg7 arg8 harg8 arg9 harg9 arg10 harg10 X2 X3 X4 X5 f10) (arg4.view.readAt (Elt F) (Rect.unit (s := S8192x512) (k0_off48 i) S256x128.size (k0_off48_inb i)).toLoadRect X4) (bodyRun.sl.v392 c i arg2 harg2 arg3 harg3 arg4 harg4 arg5 harg5 arg6 harg6 arg7 harg7 arg8 harg8 arg9 harg9 arg10 harg10 X2 X3 X4 X5 f10)⟩ :: (bodyRun.sl.H9_3 c i arg2 harg2 arg3 harg3 arg4 harg4 arg5 harg5 arg6 harg6 arg7 harg7 arg8 harg8 arg9 harg9 arg10 harg10 X2 X3 X4 X5 f10) := rfl
theorem EH9_5 : (bodyRun.sl.H9_5 c i arg2 harg2 arg3 harg3 arg4 harg4 arg5 harg5 arg6 harg6 arg7 harg7 arg8 harg8 arg9 harg9 arg10 harg10 X2 X3 X4 X5 f10) = ⟨Rect.unit (s := S4x1x512) ![0, 0, 256] S1x1x256.size inb_S4x1x512_S1x1x256_0_0_256, hL (BitVec.ofNat 32 (i 1).val) (tH (i 1).val) (bodyRun.sl.v413 c i arg2 harg2 arg3 harg3 arg4 harg4 arg5 harg5 arg6 harg6 arg7 harg7 arg8 harg8 arg9 harg9 arg10 harg10 X2 X3 X4 X5 f10) (bodyRun.sl.v427 c i arg2 harg2 arg3 harg3 arg4 harg4 arg5 harg5 arg6 harg6 arg7 harg7 arg8 harg8 arg9 harg9 arg10 harg10 X2 X3 X4 X5 f10) (arg4.view.readAt (Elt F) (Rect.unit (s := S8192x512) (k0_off37 i) S256x128.size (k0_off37_inb i)).toLoadRect X4) (bodyRun.sl.v448 c i arg2 harg2 arg3 harg3 arg4 harg4 arg5 harg5 arg6 harg6 arg7 harg7 arg8 harg8 arg9 harg9 arg10 harg10 X2 X3 X4 X5 f10)⟩ :: (bodyRun.sl.H9_4 c i arg2 harg2 arg3 harg3 arg4 harg4 arg5 harg5 arg6 harg6 arg7 harg7 arg8 harg8 arg9 harg9 arg10 harg10 X2 X3 X4 X5 f10) := rfl
theorem EH9_6 : (bodyRun.sl.H9_6 c i arg2 harg2 arg3 harg3 arg4 harg4 arg5 harg5 arg6 harg6 arg7 harg7 arg8 harg8 arg9 harg9 arg10 harg10 X2 X3 X4 X5 f10) = ⟨Rect.unit (s := S4x1x512) ![1, 0, 256] S1x1x256.size inb_S4x1x512_S1x1x256_1_0_256, hL (BitVec.ofNat 32 (i 1).val) (tH (i 1).val) (bodyRun.sl.v465 c i arg2 harg2 arg3 harg3 arg4 harg4 arg5 harg5 arg6 harg6 arg7 harg7 arg8 harg8 arg9 harg9 arg10 harg10 X2 X3 X4 X5 f10) (bodyRun.sl.v479 c i arg2 harg2 arg3 harg3 arg4 harg4 arg5 harg5 arg6 harg6 arg7 harg7 arg8 harg8 arg9 harg9 arg10 harg10 X2 X3 X4 X5 f10) (arg4.view.readAt (Elt F) (Rect.unit (s := S8192x512) (k0_off39 i) S256x128.size (k0_off39_inb i)).toLoadRect X4) (bodyRun.sl.v500 c i arg2 harg2 arg3 harg3 arg4 harg4 arg5 harg5 arg6 harg6 arg7 harg7 arg8 harg8 arg9 harg9 arg10 harg10 X2 X3 X4 X5 f10)⟩ :: (bodyRun.sl.H9_5 c i arg2 harg2 arg3 harg3 arg4 harg4 arg5 harg5 arg6 harg6 arg7 harg7 arg8 harg8 arg9 harg9 arg10 harg10 X2 X3 X4 X5 f10) := rfl
theorem EH9_7 : (bodyRun.sl.H9_7 c i arg2 harg2 arg3 harg3 arg4 harg4 arg5 harg5 arg6 harg6 arg7 harg7 arg8 harg8 arg9 harg9 arg10 harg10 X2 X3 X4 X5 f10) = ⟨Rect.unit (s := S4x1x512) ![2, 0, 256] S1x1x256.size inb_S4x1x512_S1x1x256_2_0_256, hL (BitVec.ofNat 32 (i 1).val) (tH (i 1).val) (bodyRun.sl.v517 c i arg2 harg2 arg3 harg3 arg4 harg4 arg5 harg5 arg6 harg6 arg7 harg7 arg8 harg8 arg9 harg9 arg10 harg10 X2 X3 X4 X5 f10) (bodyRun.sl.v531 c i arg2 harg2 arg3 harg3 arg4 harg4 arg5 harg5 arg6 harg6 arg7 harg7 arg8 harg8 arg9 harg9 arg10 harg10 X2 X3 X4 X5 f10) (arg4.view.readAt (Elt F) (Rect.unit (s := S8192x512) (k0_off41 i) S256x128.size (k0_off41_inb i)).toLoadRect X4) (bodyRun.sl.v552 c i arg2 harg2 arg3 harg3 arg4 harg4 arg5 harg5 arg6 harg6 arg7 harg7 arg8 harg8 arg9 harg9 arg10 harg10 X2 X3 X4 X5 f10)⟩ :: (bodyRun.sl.H9_6 c i arg2 harg2 arg3 harg3 arg4 harg4 arg5 harg5 arg6 harg6 arg7 harg7 arg8 harg8 arg9 harg9 arg10 harg10 X2 X3 X4 X5 f10) := rfl
theorem EH9_8 : (bodyRun.sl.H9_8 c i arg2 harg2 arg3 harg3 arg4 harg4 arg5 harg5 arg6 harg6 arg7 harg7 arg8 harg8 arg9 harg9 arg10 harg10 X2 X3 X4 X5 f10) = ⟨Rect.unit (s := S4x1x512) ![3, 0, 256] S1x1x256.size inb_S4x1x512_S1x1x256_3_0_256, hL (BitVec.ofNat 32 (i 1).val) (tH (i 1).val) (bodyRun.sl.v569 c i arg2 harg2 arg3 harg3 arg4 harg4 arg5 harg5 arg6 harg6 arg7 harg7 arg8 harg8 arg9 harg9 arg10 harg10 X2 X3 X4 X5 f10) (bodyRun.sl.v583 c i arg2 harg2 arg3 harg3 arg4 harg4 arg5 harg5 arg6 harg6 arg7 harg7 arg8 harg8 arg9 harg9 arg10 harg10 X2 X3 X4 X5 f10) (arg4.view.readAt (Elt F) (Rect.unit (s := S8192x512) (k0_off43 i) S256x128.size (k0_off43_inb i)).toLoadRect X4) (bodyRun.sl.v604 c i arg2 harg2 arg3 harg3 arg4 harg4 arg5 harg5 arg6 harg6 arg7 harg7 arg8 harg8 arg9 harg9 arg10 harg10 X2 X3 X4 X5 f10)⟩ :: (bodyRun.sl.H9_7 c i arg2 harg2 arg3 harg3 arg4 harg4 arg5 harg5 arg6 harg6 arg7 harg7 arg8 harg8 arg9 harg9 arg10 harg10 X2 X3 X4 X5 f10) := rfl
theorem EH10 : (bodyRun.sl.H10_4 c i arg2 harg2 arg3 harg3 arg4 harg4 arg5 harg5 arg6 harg6 arg7 harg7 arg8 harg8 arg9 harg9 arg10 harg10 X2 X3 X4 X5 f10) = ⟨Rect.unit (s := S2x4x256x512) ![1, 3, 0, 256] S1x1x256x256.size inb_S2x4x256x512_S1x1x256x256_1_3_0_256, k0_pay180 (arg5.view.readAt (Elt F) (Rect.unit (s := S1x8192x4) (k0_off4 i) S1x1x1.size (k0_off4_inb i)).toLoadRect X5) (arg3.view.readAt (Elt F) (Rect.unit (s := S8192x512) (k0_off43 i) S256x128.size (k0_off43_inb i)).toLoadRect X3) (arg2.view.readAt (Elt F) (Rect.unit (s := S512x512) ![256, 384] S256x128.size inb_S512x512_S256x128_256_384).toLoadRect X2) (arg5.view.readAt (Elt F) (Rect.unit (s := S1x8192x4) (k0_off44 i) S1x256x1.size (k0_off44_inb i)).toLoadRect X5)⟩ :: ⟨Rect.unit (s := S2x4x256x512) ![1, 2, 0, 256] S1x1x256x256.size inb_S2x4x256x512_S1x1x256x256_1_2_0_256, k0_pay180 (arg5.view.readAt (Elt F) (Rect.unit (s := S1x8192x4) (k0_off3 i) S1x1x1.size (k0_off3_inb i)).toLoadRect X5) (arg3.view.readAt (Elt F) (Rect.unit (s := S8192x512) (k0_off41 i) S256x128.size (k0_off41_inb i)).toLoadRect X3) (arg2.view.readAt (Elt F) (Rect.unit (s := S512x512) ![256, 256] S256x128.size inb_S512x512_S256x128_256_256).toLoadRect X2) (arg5.view.readAt (Elt F) (Rect.unit (s := S1x8192x4) (k0_off42 i) S1x256x1.size (k0_off42_inb i)).toLoadRect X5)⟩ :: ⟨Rect.unit (s := S2x4x256x512) ![1, 1, 0, 256] S1x1x256x256.size inb_S2x4x256x512_S1x1x256x256_1_1_0_256, k0_pay180 (arg5.view.readAt (Elt F) (Rect.unit (s := S1x8192x4) (k0_off2 i) S1x1x1.size (k0_off2_inb i)).toLoadRect X5) (arg3.view.readAt (Elt F) (Rect.unit (s := S8192x512) (k0_off39 i) S256x128.size (k0_off39_inb i)).toLoadRect X3) (arg2.view.readAt (Elt F) (Rect.unit (s := S512x512) ![256, 128] S256x128.size inb_S512x512_S256x128_256_128).toLoadRect X2) (arg5.view.readAt (Elt F) (Rect.unit (s := S1x8192x4) (k0_off40 i) S1x256x1.size (k0_off40_inb i)).toLoadRect X5)⟩ :: ⟨Rect.unit (s := S2x4x256x512) ![1, 0, 0, 256] S1x1x256x256.size inb_S2x4x256x512_S1x1x256x256_1_0_0_256, k0_pay180 (arg5.view.readAt (Elt F) (Rect.unit (s := S1x8192x4) (k0_off1 i) S1x1x1.size (k0_off1_inb i)).toLoadRect X5) (arg3.view.readAt (Elt F) (Rect.unit (s := S8192x512) (k0_off37 i) S256x128.size (k0_off37_inb i)).toLoadRect X3) (arg2.view.readAt (Elt F) (Rect.unit (s := S512x512) ![256, 0] S256x128.size inb_S512x512_S256x128_256_0).toLoadRect X2) (arg5.view.readAt (Elt F) (Rect.unit (s := S1x8192x4) (k0_off38 i) S1x256x1.size (k0_off38_inb i)).toLoadRect X5)⟩ :: (L010 c i arg2 harg2 arg3 harg3 arg4 harg4 arg5 harg5 arg6 harg6 arg7 harg7 arg8 harg8 arg9 harg9 arg10 harg10 X2 X3 X4 X5 f10) := rfl
theorem base10_0 : (arg10.view.readAt (Elt F) (Rect.unit (s := S2x4x256x512) ![0, 0, 0, 0] S1x1x256x512.size inb_S2x4x256x512_S1x1x256x512_0_0_0_0).toLoadRect (arg10.view.writes (Elt F) arg10.view.junk (L010 c i arg2 harg2 arg3 harg3 arg4 harg4 arg5 harg5 arg6 harg6 arg7 harg7 arg8 harg8 arg9 harg9 arg10 harg10 X2 X3 X4 X5 f10)))
    = (lg (i 1).val (arg2.view.read (Elt F) X2) (arg3.view.read (Elt F) X3) (arg5.view.read (Elt F) X5) (2 * (i 1).val) 0) := by
  unfold L010
  rw [writes_cat arg10 _ _ _ _ (by rw [T2_eq]), ← View.writes_append,
    View.readAt_writes_eq_of_cover arg10.view arg10.view.junk f10 ((TP c i arg2 harg2 arg3 harg3 arg4 harg4 arg5 harg5 arg6 harg6 arg7 harg7 arg8 harg8 arg9 harg9 arg10 harg10 X2 X3 X4 X5 f10 (k0_t1_loop i).trips).2.2.2 ++ I10 i arg2 arg3 arg5 X2 X3 X5) _ (fun j =>
      ⟨(I10 i arg2 arg3 arg5 X2 X3 X5)[3]'(by show 3 < 4; decide), List.mem_append_right _ (List.getElem_mem _), LoadRect.idx_mem_of_within (p := Rect.unit (s := S2x4x256x512) ![0, 0, 0, 0] S1x1x256x512.size inb_S2x4x256x512_S1x1x256x512_0_0_0_0) (by decide) j⟩),
    View.writes_append, trips1 i]
  exact g10_rd c i arg2 harg2 arg3 harg3 arg4 harg4 arg5 harg5 arg6 harg6 arg7 harg7 arg8 harg8 arg9 harg9 arg10 harg10 X2 X3 X4 X5 f10 0 (i 1).val (trips1 i).ge
theorem c201 : (bodyRun.sl.v201 c i arg2 harg2 arg3 harg3 arg4 harg4 arg5 harg5 arg6 harg6 arg7 harg7 arg8 harg8 arg9 harg9 arg10 harg10 X2 X3 X4 X5 f10) = (lg (i 1).val (arg2.view.read (Elt F) X2) (arg3.view.read (Elt F) X3) (arg5.view.read (Elt F) X5) (2 * (i 1).val) 0) := by
  show View.readAt _ _ _ (View.writes _ _ _ _) = _
  rw [EH10]
  repeat rw [rd_miss _ _ _ _ _ _ (by decide)]
  exact base10_0 c i arg2 harg2 arg3 harg3 arg4 harg4 arg5 harg5 arg6 harg6 arg7 harg7 arg8 harg8 arg9 harg9 arg10 harg10 X2 X3 X4 X5 f10
theorem c413 : (bodyRun.sl.v413 c i arg2 harg2 arg3 harg3 arg4 harg4 arg5 harg5 arg6 harg6 arg7 harg7 arg8 harg8 arg9 harg9 arg10 harg10 X2 X3 X4 X5 f10) = (lgh (i 1).val (arg2.view.read (Elt F) X2) (arg3.view.read (Elt F) X3) (arg5.view.read (Elt F) X5) (2 * (i 1).val + 1) 0) := by
  show View.readAt _ _ _ (View.writes _ _ _ _) = _
  rw [EH10]
  repeat rw [rd_miss _ _ _ _ _ _ (by decide)]
  rw [rd_hit, rd_c0b arg5 X5 _ _ 0 (off1 i), rd_kb arg3 X3 _ _ 0 (off37 i), rd_qh arg2 X2 _ 0 rfl, rd_cb arg5 X5 _ _ 0 (off38 i)]; rfl
theorem base10_1 : (arg10.view.readAt (Elt F) (Rect.unit (s := S2x4x256x512) ![0, 1, 0, 0] S1x1x256x512.size inb_S2x4x256x512_S1x1x256x512_0_1_0_0).toLoadRect (arg10.view.writes (Elt F) arg10.view.junk (L010 c i arg2 harg2 arg3 harg3 arg4 harg4 arg5 harg5 arg6 harg6 arg7 harg7 arg8 harg8 arg9 harg9 arg10 harg10 X2 X3 X4 X5 f10)))
    = (lg (i 1).val (arg2.view.read (Elt F) X2) (arg3.view.read (Elt F) X3) (arg5.view.read (Elt F) X5) (2 * (i 1).val) 1) := by
  unfold L010
  rw [writes_cat arg10 _ _ _ _ (by rw [T2_eq]), ← View.writes_append,
    View.readAt_writes_eq_of_cover arg10.view arg10.view.junk f10 ((TP c i arg2 harg2 arg3 harg3 arg4 harg4 arg5 harg5 arg6 harg6 arg7 harg7 arg8 harg8 arg9 harg9 arg10 harg10 X2 X3 X4 X5 f10 (k0_t1_loop i).trips).2.2.2 ++ I10 i arg2 arg3 arg5 X2 X3 X5) _ (fun j =>
      ⟨(I10 i arg2 arg3 arg5 X2 X3 X5)[2]'(by show 2 < 4; decide), List.mem_append_right _ (List.getElem_mem _), LoadRect.idx_mem_of_within (p := Rect.unit (s := S2x4x256x512) ![0, 1, 0, 0] S1x1x256x512.size inb_S2x4x256x512_S1x1x256x512_0_1_0_0) (by decide) j⟩),
    View.writes_append, trips1 i]
  exact g10_rd c i arg2 harg2 arg3 harg3 arg4 harg4 arg5 harg5 arg6 harg6 arg7 harg7 arg8 harg8 arg9 harg9 arg10 harg10 X2 X3 X4 X5 f10 1 (i 1).val (trips1 i).ge
theorem c253 : (bodyRun.sl.v253 c i arg2 harg2 arg3 harg3 arg4 harg4 arg5 harg5 arg6 harg6 arg7 harg7 arg8 harg8 arg9 harg9 arg10 harg10 X2 X3 X4 X5 f10) = (lg (i 1).val (arg2.view.read (Elt F) X2) (arg3.view.read (Elt F) X3) (arg5.view.read (Elt F) X5) (2 * (i 1).val) 1) := by
  show View.readAt _ _ _ (View.writes _ _ _ _) = _
  rw [EH10]
  repeat rw [rd_miss _ _ _ _ _ _ (by decide)]
  exact base10_1 c i arg2 harg2 arg3 harg3 arg4 harg4 arg5 harg5 arg6 harg6 arg7 harg7 arg8 harg8 arg9 harg9 arg10 harg10 X2 X3 X4 X5 f10
theorem c465 : (bodyRun.sl.v465 c i arg2 harg2 arg3 harg3 arg4 harg4 arg5 harg5 arg6 harg6 arg7 harg7 arg8 harg8 arg9 harg9 arg10 harg10 X2 X3 X4 X5 f10) = (lgh (i 1).val (arg2.view.read (Elt F) X2) (arg3.view.read (Elt F) X3) (arg5.view.read (Elt F) X5) (2 * (i 1).val + 1) 1) := by
  show View.readAt _ _ _ (View.writes _ _ _ _) = _
  rw [EH10]
  repeat rw [rd_miss _ _ _ _ _ _ (by decide)]
  rw [rd_hit, rd_c0b arg5 X5 _ _ 1 (off2 i), rd_kb arg3 X3 _ _ 1 (off39 i), rd_qh arg2 X2 _ 1 rfl, rd_cb arg5 X5 _ _ 1 (off40 i)]; rfl
theorem base10_2 : (arg10.view.readAt (Elt F) (Rect.unit (s := S2x4x256x512) ![0, 2, 0, 0] S1x1x256x512.size inb_S2x4x256x512_S1x1x256x512_0_2_0_0).toLoadRect (arg10.view.writes (Elt F) arg10.view.junk (L010 c i arg2 harg2 arg3 harg3 arg4 harg4 arg5 harg5 arg6 harg6 arg7 harg7 arg8 harg8 arg9 harg9 arg10 harg10 X2 X3 X4 X5 f10)))
    = (lg (i 1).val (arg2.view.read (Elt F) X2) (arg3.view.read (Elt F) X3) (arg5.view.read (Elt F) X5) (2 * (i 1).val) 2) := by
  unfold L010
  rw [writes_cat arg10 _ _ _ _ (by rw [T2_eq]), ← View.writes_append,
    View.readAt_writes_eq_of_cover arg10.view arg10.view.junk f10 ((TP c i arg2 harg2 arg3 harg3 arg4 harg4 arg5 harg5 arg6 harg6 arg7 harg7 arg8 harg8 arg9 harg9 arg10 harg10 X2 X3 X4 X5 f10 (k0_t1_loop i).trips).2.2.2 ++ I10 i arg2 arg3 arg5 X2 X3 X5) _ (fun j =>
      ⟨(I10 i arg2 arg3 arg5 X2 X3 X5)[1]'(by show 1 < 4; decide), List.mem_append_right _ (List.getElem_mem _), LoadRect.idx_mem_of_within (p := Rect.unit (s := S2x4x256x512) ![0, 2, 0, 0] S1x1x256x512.size inb_S2x4x256x512_S1x1x256x512_0_2_0_0) (by decide) j⟩),
    View.writes_append, trips1 i]
  exact g10_rd c i arg2 harg2 arg3 harg3 arg4 harg4 arg5 harg5 arg6 harg6 arg7 harg7 arg8 harg8 arg9 harg9 arg10 harg10 X2 X3 X4 X5 f10 2 (i 1).val (trips1 i).ge
theorem c305 : (bodyRun.sl.v305 c i arg2 harg2 arg3 harg3 arg4 harg4 arg5 harg5 arg6 harg6 arg7 harg7 arg8 harg8 arg9 harg9 arg10 harg10 X2 X3 X4 X5 f10) = (lg (i 1).val (arg2.view.read (Elt F) X2) (arg3.view.read (Elt F) X3) (arg5.view.read (Elt F) X5) (2 * (i 1).val) 2) := by
  show View.readAt _ _ _ (View.writes _ _ _ _) = _
  rw [EH10]
  repeat rw [rd_miss _ _ _ _ _ _ (by decide)]
  exact base10_2 c i arg2 harg2 arg3 harg3 arg4 harg4 arg5 harg5 arg6 harg6 arg7 harg7 arg8 harg8 arg9 harg9 arg10 harg10 X2 X3 X4 X5 f10
theorem c517 : (bodyRun.sl.v517 c i arg2 harg2 arg3 harg3 arg4 harg4 arg5 harg5 arg6 harg6 arg7 harg7 arg8 harg8 arg9 harg9 arg10 harg10 X2 X3 X4 X5 f10) = (lgh (i 1).val (arg2.view.read (Elt F) X2) (arg3.view.read (Elt F) X3) (arg5.view.read (Elt F) X5) (2 * (i 1).val + 1) 2) := by
  show View.readAt _ _ _ (View.writes _ _ _ _) = _
  rw [EH10]
  repeat rw [rd_miss _ _ _ _ _ _ (by decide)]
  rw [rd_hit, rd_c0b arg5 X5 _ _ 2 (off3 i), rd_kb arg3 X3 _ _ 2 (off41 i), rd_qh arg2 X2 _ 2 rfl, rd_cb arg5 X5 _ _ 2 (off42 i)]; rfl
theorem base10_3 : (arg10.view.readAt (Elt F) (Rect.unit (s := S2x4x256x512) ![0, 3, 0, 0] S1x1x256x512.size inb_S2x4x256x512_S1x1x256x512_0_3_0_0).toLoadRect (arg10.view.writes (Elt F) arg10.view.junk (L010 c i arg2 harg2 arg3 harg3 arg4 harg4 arg5 harg5 arg6 harg6 arg7 harg7 arg8 harg8 arg9 harg9 arg10 harg10 X2 X3 X4 X5 f10)))
    = (lg (i 1).val (arg2.view.read (Elt F) X2) (arg3.view.read (Elt F) X3) (arg5.view.read (Elt F) X5) (2 * (i 1).val) 3) := by
  unfold L010
  rw [writes_cat arg10 _ _ _ _ (by rw [T2_eq]), ← View.writes_append,
    View.readAt_writes_eq_of_cover arg10.view arg10.view.junk f10 ((TP c i arg2 harg2 arg3 harg3 arg4 harg4 arg5 harg5 arg6 harg6 arg7 harg7 arg8 harg8 arg9 harg9 arg10 harg10 X2 X3 X4 X5 f10 (k0_t1_loop i).trips).2.2.2 ++ I10 i arg2 arg3 arg5 X2 X3 X5) _ (fun j =>
      ⟨(I10 i arg2 arg3 arg5 X2 X3 X5)[0]'(by show 0 < 4; decide), List.mem_append_right _ (List.getElem_mem _), LoadRect.idx_mem_of_within (p := Rect.unit (s := S2x4x256x512) ![0, 3, 0, 0] S1x1x256x512.size inb_S2x4x256x512_S1x1x256x512_0_3_0_0) (by decide) j⟩),
    View.writes_append, trips1 i]
  exact g10_rd c i arg2 harg2 arg3 harg3 arg4 harg4 arg5 harg5 arg6 harg6 arg7 harg7 arg8 harg8 arg9 harg9 arg10 harg10 X2 X3 X4 X5 f10 3 (i 1).val (trips1 i).ge
theorem c357 : (bodyRun.sl.v357 c i arg2 harg2 arg3 harg3 arg4 harg4 arg5 harg5 arg6 harg6 arg7 harg7 arg8 harg8 arg9 harg9 arg10 harg10 X2 X3 X4 X5 f10) = (lg (i 1).val (arg2.view.read (Elt F) X2) (arg3.view.read (Elt F) X3) (arg5.view.read (Elt F) X5) (2 * (i 1).val) 3) := by
  show View.readAt _ _ _ (View.writes _ _ _ _) = _
  rw [EH10]
  repeat rw [rd_miss _ _ _ _ _ _ (by decide)]
  exact base10_3 c i arg2 harg2 arg3 harg3 arg4 harg4 arg5 harg5 arg6 harg6 arg7 harg7 arg8 harg8 arg9 harg9 arg10 harg10 X2 X3 X4 X5 f10
theorem c569 : (bodyRun.sl.v569 c i arg2 harg2 arg3 harg3 arg4 harg4 arg5 harg5 arg6 harg6 arg7 harg7 arg8 harg8 arg9 harg9 arg10 harg10 X2 X3 X4 X5 f10) = (lgh (i 1).val (arg2.view.read (Elt F) X2) (arg3.view.read (Elt F) X3) (arg5.view.read (Elt F) X5) (2 * (i 1).val + 1) 3) := by
  show View.readAt _ _ _ (View.writes _ _ _ _) = _
  rw [EH10]
  repeat rw [rd_miss _ _ _ _ _ _ (by decide)]
  rw [rd_hit, rd_c0b arg5 X5 _ _ 3 (off4 i), rd_kb arg3 X3 _ _ 3 (off43 i), rd_qh arg2 X2 _ 3 rfl, rd_cb arg5 X5 _ _ 3 (off44 i)]; rfl
theorem c215 : (bodyRun.sl.v215 c i arg2 harg2 arg3 harg3 arg4 harg4 arg5 harg5 arg6 harg6 arg7 harg7 arg8 harg8 arg9 harg9 arg10 harg10 X2 X3 X4 X5 f10) = SM (i 1).val (arg2.view.read (Elt F) X2) (arg3.view.read (Elt F) X3) (arg5.view.read (Elt F) X5) 0 (2 * (i 1).val) := by
  show View.readAt _ _ _ (View.writes _ _ _ _) = _
  refine Eq.trans (congrArg (fun f => arg8.view.readAt (Elt F) (Rect.unit (s := S4x1x512) ![0, 0, 0] S1x1x512.size inb_S4x1x512_S1x1x512_0_0_0).toLoadRect f) (base8 c i arg2 harg2 arg3 harg3 arg4 harg4 arg5 harg5 arg6 harg6 arg7 harg7 arg8 harg8 arg9 harg9 arg10 harg10 X2 X3 X4 X5 f10)) ?_
  exact (g_rd c i arg2 harg2 arg3 harg3 arg4 harg4 arg5 harg5 arg6 harg6 arg7 harg7 arg8 harg8 arg9 harg9 arg10 harg10 X2 X3 X4 X5 f10 0 (i 1).val (trips1 i).ge).1
theorem c236 : (bodyRun.sl.v236 c i arg2 harg2 arg3 harg3 arg4 harg4 arg5 harg5 arg6 harg6 arg7 harg7 arg8 harg8 arg9 harg9 arg10 harg10 X2 X3 X4 X5 f10) = SL (i 1).val (arg2.view.read (Elt F) X2) (arg3.view.read (Elt F) X3) (arg4.view.read (Elt F) X4) (arg5.view.read (Elt F) X5) 0 (2 * (i 1).val) := by
  show View.readAt _ _ _ (View.writes _ _ _ _) = _
  refine Eq.trans (congrArg (fun f => arg9.view.readAt (Elt F) (Rect.unit (s := S4x1x512) ![0, 0, 0] S1x1x512.size inb_S4x1x512_S1x1x512_0_0_0).toLoadRect f) (base9 c i arg2 harg2 arg3 harg3 arg4 harg4 arg5 harg5 arg6 harg6 arg7 harg7 arg8 harg8 arg9 harg9 arg10 harg10 X2 X3 X4 X5 f10)) ?_
  exact (g_rd c i arg2 harg2 arg3 harg3 arg4 harg4 arg5 harg5 arg6 harg6 arg7 harg7 arg8 harg8 arg9 harg9 arg10 harg10 X2 X3 X4 X5 f10 0 (i 1).val (trips1 i).ge).2.1
theorem c244 : (bodyRun.sl.v244 c i arg2 harg2 arg3 harg3 arg4 harg4 arg5 harg5 arg6 harg6 arg7 harg7 arg8 harg8 arg9 harg9 arg10 harg10 X2 X3 X4 X5 f10) = SA (i 1).val (arg2.view.read (Elt F) X2) (arg3.view.read (Elt F) X3) (arg4.view.read (Elt F) X4) (arg5.view.read (Elt F) X5) 0 (2 * (i 1).val) := by
  show View.readAt _ _ _ (View.writes _ _ _ _) = _
  refine Eq.trans (congrArg (fun f => arg7.view.readAt (Elt F) (Rect.unit (s := S4x128x512) ![0, 0, 0] S1x128x512.size inb_S4x128x512_S1x128x512_0_0_0).toLoadRect f) (base7 c i arg2 harg2 arg3 harg3 arg4 harg4 arg5 harg5 arg6 harg6 arg7 harg7 arg8 harg8 arg9 harg9 arg10 harg10 X2 X3 X4 X5 f10)) ?_
  exact (g_rd c i arg2 harg2 arg3 harg3 arg4 harg4 arg5 harg5 arg6 harg6 arg7 harg7 arg8 harg8 arg9 harg9 arg10 harg10 X2 X3 X4 X5 f10 0 (i 1).val (trips1 i).ge).2.2
theorem c427 : (bodyRun.sl.v427 c i arg2 harg2 arg3 harg3 arg4 harg4 arg5 harg5 arg6 harg6 arg7 harg7 arg8 harg8 arg9 harg9 arg10 harg10 X2 X3 X4 X5 f10) = hf8 (M1 (i 1).val (arg2.view.read (Elt F) X2) (arg3.view.read (Elt F) X3) (arg5.view.read (Elt F) X5) 0) := by
  show View.readAt _ _ _ (View.writes _ _ _ _) = _
  rw [EH8_4, EH8_3, EH8_2, EH8_1_1]
  repeat rw [rd_miss _ _ _ _ _ _ (by decide)]
  rw [rd_hf8, c201, c215]; rfl
theorem c448 : (bodyRun.sl.v448 c i arg2 harg2 arg3 harg3 arg4 harg4 arg5 harg5 arg6 harg6 arg7 harg7 arg8 harg8 arg9 harg9 arg10 harg10 X2 X3 X4 X5 f10) = hf8 (L1 (i 1).val (arg2.view.read (Elt F) X2) (arg3.view.read (Elt F) X3) (arg4.view.read (Elt F) X4) (arg5.view.read (Elt F) X5) 0) := by
  show View.readAt _ _ _ (View.writes _ _ _ _) = _
  rw [EH9_4, EH9_3, EH9_2, EH9_1_1]
  repeat rw [rd_miss _ _ _ _ _ _ (by decide)]
  rw [rd_hf8, c201, c215, c236, rd_kb arg4 X4 _ _ 0 (off45 i)]; rfl
theorem c456 : (bodyRun.sl.v456 c i arg2 harg2 arg3 harg3 arg4 harg4 arg5 harg5 arg6 harg6 arg7 harg7 arg8 harg8 arg9 harg9 arg10 harg10 X2 X3 X4 X5 f10) = hf7 (A1 (i 1).val (arg2.view.read (Elt F) X2) (arg3.view.read (Elt F) X3) (arg4.view.read (Elt F) X4) (arg5.view.read (Elt F) X5) 0) := by
  show View.readAt _ _ _ (View.writes _ _ _ _) = _
  rw [EH7_4, EH7_3, EH7_2, EH7_1_1]
  repeat rw [rd_miss _ _ _ _ _ _ (by decide)]
  rw [rd_hf7, c201, c215, c244, rd_kb arg4 X4 _ _ 0 (off45 i)]; rfl
theorem c623 : (bodyRun.sl.v623 c i arg2 harg2 arg3 harg3 arg4 harg4 arg5 harg5 arg6 harg6 arg7 harg7 arg8 harg8 arg9 harg9 arg10 harg10 X2 X3 X4 X5 f10) = L2 (i 1).val (arg2.view.read (Elt F) X2) (arg3.view.read (Elt F) X3) (arg4.view.read (Elt F) X4) (arg5.view.read (Elt F) X5) 0 := by
  show View.readAt _ _ _ (View.writes _ _ _ _) = _
  rw [EH9_8, EH9_7, EH9_6, EH9_5, EH9_4, EH9_3, EH9_2, EH9_1_1]
  repeat rw [rd_miss _ _ _ _ _ _ (by decide)]
  rw [rd_ps8]
  repeat rw [rd_miss _ _ _ _ _ _ (by decide)]
  rw [rd_hit, c201, c215, c236, rd_kb arg4 X4 _ _ 0 (off45 i), c413, c427, c448, rd_kb arg4 X4 _ _ 0 (off37 i)]; rfl
theorem c621 : (bodyRun.sl.v621 c i arg2 harg2 arg3 harg3 arg4 harg4 arg5 harg5 arg6 harg6 arg7 harg7 arg8 harg8 arg9 harg9 arg10 harg10 X2 X3 X4 X5 f10) = A2 (i 1).val (arg2.view.read (Elt F) X2) (arg3.view.read (Elt F) X3) (arg4.view.read (Elt F) X4) (arg5.view.read (Elt F) X5) 0 := by
  show View.readAt _ _ _ (View.writes _ _ _ _) = _
  rw [EH7_8, EH7_7, EH7_6, EH7_5, EH7_4, EH7_3, EH7_2, EH7_1_1]
  repeat rw [rd_miss _ _ _ _ _ _ (by decide)]
  rw [rd_ps7]
  repeat rw [rd_miss _ _ _ _ _ _ (by decide)]
  rw [rd_hit, c201, c215, c244, rd_kb arg4 X4 _ _ 0 (off45 i), c413, c427, c456, rd_kb arg4 X4 _ _ 0 (off37 i)]; rfl
theorem c267 : (bodyRun.sl.v267 c i arg2 harg2 arg3 harg3 arg4 harg4 arg5 harg5 arg6 harg6 arg7 harg7 arg8 harg8 arg9 harg9 arg10 harg10 X2 X3 X4 X5 f10) = SM (i 1).val (arg2.view.read (Elt F) X2) (arg3.view.read (Elt F) X3) (arg5.view.read (Elt F) X5) 1 (2 * (i 1).val) := by
  show View.readAt _ _ _ (View.writes _ _ _ _) = _
  rw [EH8_1_1]
  repeat rw [rd_miss _ _ _ _ _ _ (by decide)]
  rw [base8]
  exact (g_rd c i arg2 harg2 arg3 harg3 arg4 harg4 arg5 harg5 arg6 harg6 arg7 harg7 arg8 harg8 arg9 harg9 arg10 harg10 X2 X3 X4 X5 f10 1 (i 1).val (trips1 i).ge).1
theorem c288 : (bodyRun.sl.v288 c i arg2 harg2 arg3 harg3 arg4 harg4 arg5 harg5 arg6 harg6 arg7 harg7 arg8 harg8 arg9 harg9 arg10 harg10 X2 X3 X4 X5 f10) = SL (i 1).val (arg2.view.read (Elt F) X2) (arg3.view.read (Elt F) X3) (arg4.view.read (Elt F) X4) (arg5.view.read (Elt F) X5) 1 (2 * (i 1).val) := by
  show View.readAt _ _ _ (View.writes _ _ _ _) = _
  rw [EH9_1_1]
  repeat rw [rd_miss _ _ _ _ _ _ (by decide)]
  rw [base9]
  exact (g_rd c i arg2 harg2 arg3 harg3 arg4 harg4 arg5 harg5 arg6 harg6 arg7 harg7 arg8 harg8 arg9 harg9 arg10 harg10 X2 X3 X4 X5 f10 1 (i 1).val (trips1 i).ge).2.1
theorem c296 : (bodyRun.sl.v296 c i arg2 harg2 arg3 harg3 arg4 harg4 arg5 harg5 arg6 harg6 arg7 harg7 arg8 harg8 arg9 harg9 arg10 harg10 X2 X3 X4 X5 f10) = SA (i 1).val (arg2.view.read (Elt F) X2) (arg3.view.read (Elt F) X3) (arg4.view.read (Elt F) X4) (arg5.view.read (Elt F) X5) 1 (2 * (i 1).val) := by
  show View.readAt _ _ _ (View.writes _ _ _ _) = _
  rw [EH7_1_1]
  repeat rw [rd_miss _ _ _ _ _ _ (by decide)]
  rw [base7]
  exact (g_rd c i arg2 harg2 arg3 harg3 arg4 harg4 arg5 harg5 arg6 harg6 arg7 harg7 arg8 harg8 arg9 harg9 arg10 harg10 X2 X3 X4 X5 f10 1 (i 1).val (trips1 i).ge).2.2
theorem c479 : (bodyRun.sl.v479 c i arg2 harg2 arg3 harg3 arg4 harg4 arg5 harg5 arg6 harg6 arg7 harg7 arg8 harg8 arg9 harg9 arg10 harg10 X2 X3 X4 X5 f10) = hf8 (M1 (i 1).val (arg2.view.read (Elt F) X2) (arg3.view.read (Elt F) X3) (arg5.view.read (Elt F) X5) 1) := by
  show View.readAt _ _ _ (View.writes _ _ _ _) = _
  rw [EH8_5, EH8_4, EH8_3, EH8_2, EH8_1_1]
  repeat rw [rd_miss _ _ _ _ _ _ (by decide)]
  rw [rd_hf8, c253, c267]; rfl
theorem c500 : (bodyRun.sl.v500 c i arg2 harg2 arg3 harg3 arg4 harg4 arg5 harg5 arg6 harg6 arg7 harg7 arg8 harg8 arg9 harg9 arg10 harg10 X2 X3 X4 X5 f10) = hf8 (L1 (i 1).val (arg2.view.read (Elt F) X2) (arg3.view.read (Elt F) X3) (arg4.view.read (Elt F) X4) (arg5.view.read (Elt F) X5) 1) := by
  show View.readAt _ _ _ (View.writes _ _ _ _) = _
  rw [EH9_5, EH9_4, EH9_3, EH9_2, EH9_1_1]
  repeat rw [rd_miss _ _ _ _ _ _ (by decide)]
  rw [rd_hf8, c253, c267, c288, rd_kb arg4 X4 _ _ 1 (off46 i)]; rfl
theorem c508 : (bodyRun.sl.v508 c i arg2 harg2 arg3 harg3 arg4 harg4 arg5 harg5 arg6 harg6 arg7 harg7 arg8 harg8 arg9 harg9 arg10 harg10 X2 X3 X4 X5 f10) = hf7 (A1 (i 1).val (arg2.view.read (Elt F) X2) (arg3.view.read (Elt F) X3) (arg4.view.read (Elt F) X4) (arg5.view.read (Elt F) X5) 1) := by
  show View.readAt _ _ _ (View.writes _ _ _ _) = _
  rw [EH7_5, EH7_4, EH7_3, EH7_2, EH7_1_1]
  repeat rw [rd_miss _ _ _ _ _ _ (by decide)]
  rw [rd_hf7, c253, c267, c296, rd_kb arg4 X4 _ _ 1 (off46 i)]; rfl
theorem c632 : (bodyRun.sl.v632 c i arg2 harg2 arg3 harg3 arg4 harg4 arg5 harg5 arg6 harg6 arg7 harg7 arg8 harg8 arg9 harg9 arg10 harg10 X2 X3 X4 X5 f10) = L2 (i 1).val (arg2.view.read (Elt F) X2) (arg3.view.read (Elt F) X3) (arg4.view.read (Elt F) X4) (arg5.view.read (Elt F) X5) 1 := by
  show View.readAt _ _ _ (View.writes _ _ _ _) = _
  rw [EH9_8, EH9_7, EH9_6, EH9_5, EH9_4, EH9_3, EH9_2, EH9_1_1]
  repeat rw [rd_miss _ _ _ _ _ _ (by decide)]
  rw [rd_ps8]
  repeat rw [rd_miss _ _ _ _ _ _ (by decide)]
  rw [rd_hit, c253, c267, c288, rd_kb arg4 X4 _ _ 1 (off46 i), c465, c479, c500, rd_kb arg4 X4 _ _ 1 (off39 i)]; rfl
theorem c630 : (bodyRun.sl.v630 c i arg2 harg2 arg3 harg3 arg4 harg4 arg5 harg5 arg6 harg6 arg7 harg7 arg8 harg8 arg9 harg9 arg10 harg10 X2 X3 X4 X5 f10) = A2 (i 1).val (arg2.view.read (Elt F) X2) (arg3.view.read (Elt F) X3) (arg4.view.read (Elt F) X4) (arg5.view.read (Elt F) X5) 1 := by
  show View.readAt _ _ _ (View.writes _ _ _ _) = _
  rw [EH7_8, EH7_7, EH7_6, EH7_5, EH7_4, EH7_3, EH7_2, EH7_1_1]
  repeat rw [rd_miss _ _ _ _ _ _ (by decide)]
  rw [rd_ps7]
  repeat rw [rd_miss _ _ _ _ _ _ (by decide)]
  rw [rd_hit, c253, c267, c296, rd_kb arg4 X4 _ _ 1 (off46 i), c465, c479, c508, rd_kb arg4 X4 _ _ 1 (off39 i)]; rfl
theorem c319 : (bodyRun.sl.v319 c i arg2 harg2 arg3 harg3 arg4 harg4 arg5 harg5 arg6 harg6 arg7 harg7 arg8 harg8 arg9 harg9 arg10 harg10 X2 X3 X4 X5 f10) = SM (i 1).val (arg2.view.read (Elt F) X2) (arg3.view.read (Elt F) X3) (arg5.view.read (Elt F) X5) 2 (2 * (i 1).val) := by
  show View.readAt _ _ _ (View.writes _ _ _ _) = _
  rw [EH8_2, EH8_1_1]
  repeat rw [rd_miss _ _ _ _ _ _ (by decide)]
  rw [base8]
  exact (g_rd c i arg2 harg2 arg3 harg3 arg4 harg4 arg5 harg5 arg6 harg6 arg7 harg7 arg8 harg8 arg9 harg9 arg10 harg10 X2 X3 X4 X5 f10 2 (i 1).val (trips1 i).ge).1
theorem c340 : (bodyRun.sl.v340 c i arg2 harg2 arg3 harg3 arg4 harg4 arg5 harg5 arg6 harg6 arg7 harg7 arg8 harg8 arg9 harg9 arg10 harg10 X2 X3 X4 X5 f10) = SL (i 1).val (arg2.view.read (Elt F) X2) (arg3.view.read (Elt F) X3) (arg4.view.read (Elt F) X4) (arg5.view.read (Elt F) X5) 2 (2 * (i 1).val) := by
  show View.readAt _ _ _ (View.writes _ _ _ _) = _
  rw [EH9_2, EH9_1_1]
  repeat rw [rd_miss _ _ _ _ _ _ (by decide)]
  rw [base9]
  exact (g_rd c i arg2 harg2 arg3 harg3 arg4 harg4 arg5 harg5 arg6 harg6 arg7 harg7 arg8 harg8 arg9 harg9 arg10 harg10 X2 X3 X4 X5 f10 2 (i 1).val (trips1 i).ge).2.1
theorem c348 : (bodyRun.sl.v348 c i arg2 harg2 arg3 harg3 arg4 harg4 arg5 harg5 arg6 harg6 arg7 harg7 arg8 harg8 arg9 harg9 arg10 harg10 X2 X3 X4 X5 f10) = SA (i 1).val (arg2.view.read (Elt F) X2) (arg3.view.read (Elt F) X3) (arg4.view.read (Elt F) X4) (arg5.view.read (Elt F) X5) 2 (2 * (i 1).val) := by
  show View.readAt _ _ _ (View.writes _ _ _ _) = _
  rw [EH7_2, EH7_1_1]
  repeat rw [rd_miss _ _ _ _ _ _ (by decide)]
  rw [base7]
  exact (g_rd c i arg2 harg2 arg3 harg3 arg4 harg4 arg5 harg5 arg6 harg6 arg7 harg7 arg8 harg8 arg9 harg9 arg10 harg10 X2 X3 X4 X5 f10 2 (i 1).val (trips1 i).ge).2.2
theorem c531 : (bodyRun.sl.v531 c i arg2 harg2 arg3 harg3 arg4 harg4 arg5 harg5 arg6 harg6 arg7 harg7 arg8 harg8 arg9 harg9 arg10 harg10 X2 X3 X4 X5 f10) = hf8 (M1 (i 1).val (arg2.view.read (Elt F) X2) (arg3.view.read (Elt F) X3) (arg5.view.read (Elt F) X5) 2) := by
  show View.readAt _ _ _ (View.writes _ _ _ _) = _
  rw [EH8_6, EH8_5, EH8_4, EH8_3, EH8_2, EH8_1_1]
  repeat rw [rd_miss _ _ _ _ _ _ (by decide)]
  rw [rd_hf8, c305, c319]; rfl
theorem c552 : (bodyRun.sl.v552 c i arg2 harg2 arg3 harg3 arg4 harg4 arg5 harg5 arg6 harg6 arg7 harg7 arg8 harg8 arg9 harg9 arg10 harg10 X2 X3 X4 X5 f10) = hf8 (L1 (i 1).val (arg2.view.read (Elt F) X2) (arg3.view.read (Elt F) X3) (arg4.view.read (Elt F) X4) (arg5.view.read (Elt F) X5) 2) := by
  show View.readAt _ _ _ (View.writes _ _ _ _) = _
  rw [EH9_6, EH9_5, EH9_4, EH9_3, EH9_2, EH9_1_1]
  repeat rw [rd_miss _ _ _ _ _ _ (by decide)]
  rw [rd_hf8, c305, c319, c340, rd_kb arg4 X4 _ _ 2 (off47 i)]; rfl
theorem c560 : (bodyRun.sl.v560 c i arg2 harg2 arg3 harg3 arg4 harg4 arg5 harg5 arg6 harg6 arg7 harg7 arg8 harg8 arg9 harg9 arg10 harg10 X2 X3 X4 X5 f10) = hf7 (A1 (i 1).val (arg2.view.read (Elt F) X2) (arg3.view.read (Elt F) X3) (arg4.view.read (Elt F) X4) (arg5.view.read (Elt F) X5) 2) := by
  show View.readAt _ _ _ (View.writes _ _ _ _) = _
  rw [EH7_6, EH7_5, EH7_4, EH7_3, EH7_2, EH7_1_1]
  repeat rw [rd_miss _ _ _ _ _ _ (by decide)]
  rw [rd_hf7, c305, c319, c348, rd_kb arg4 X4 _ _ 2 (off47 i)]; rfl
theorem c641 : (bodyRun.sl.v641 c i arg2 harg2 arg3 harg3 arg4 harg4 arg5 harg5 arg6 harg6 arg7 harg7 arg8 harg8 arg9 harg9 arg10 harg10 X2 X3 X4 X5 f10) = L2 (i 1).val (arg2.view.read (Elt F) X2) (arg3.view.read (Elt F) X3) (arg4.view.read (Elt F) X4) (arg5.view.read (Elt F) X5) 2 := by
  show View.readAt _ _ _ (View.writes _ _ _ _) = _
  rw [EH9_8, EH9_7, EH9_6, EH9_5, EH9_4, EH9_3, EH9_2, EH9_1_1]
  repeat rw [rd_miss _ _ _ _ _ _ (by decide)]
  rw [rd_ps8]
  repeat rw [rd_miss _ _ _ _ _ _ (by decide)]
  rw [rd_hit, c305, c319, c340, rd_kb arg4 X4 _ _ 2 (off47 i), c517, c531, c552, rd_kb arg4 X4 _ _ 2 (off41 i)]; rfl
theorem c639 : (bodyRun.sl.v639 c i arg2 harg2 arg3 harg3 arg4 harg4 arg5 harg5 arg6 harg6 arg7 harg7 arg8 harg8 arg9 harg9 arg10 harg10 X2 X3 X4 X5 f10) = A2 (i 1).val (arg2.view.read (Elt F) X2) (arg3.view.read (Elt F) X3) (arg4.view.read (Elt F) X4) (arg5.view.read (Elt F) X5) 2 := by
  show View.readAt _ _ _ (View.writes _ _ _ _) = _
  rw [EH7_8, EH7_7, EH7_6, EH7_5, EH7_4, EH7_3, EH7_2, EH7_1_1]
  repeat rw [rd_miss _ _ _ _ _ _ (by decide)]
  rw [rd_ps7]
  repeat rw [rd_miss _ _ _ _ _ _ (by decide)]
  rw [rd_hit, c305, c319, c348, rd_kb arg4 X4 _ _ 2 (off47 i), c517, c531, c560, rd_kb arg4 X4 _ _ 2 (off41 i)]; rfl
theorem c371 : (bodyRun.sl.v371 c i arg2 harg2 arg3 harg3 arg4 harg4 arg5 harg5 arg6 harg6 arg7 harg7 arg8 harg8 arg9 harg9 arg10 harg10 X2 X3 X4 X5 f10) = SM (i 1).val (arg2.view.read (Elt F) X2) (arg3.view.read (Elt F) X3) (arg5.view.read (Elt F) X5) 3 (2 * (i 1).val) := by
  show View.readAt _ _ _ (View.writes _ _ _ _) = _
  rw [EH8_3, EH8_2, EH8_1_1]
  repeat rw [rd_miss _ _ _ _ _ _ (by decide)]
  rw [base8]
  exact (g_rd c i arg2 harg2 arg3 harg3 arg4 harg4 arg5 harg5 arg6 harg6 arg7 harg7 arg8 harg8 arg9 harg9 arg10 harg10 X2 X3 X4 X5 f10 3 (i 1).val (trips1 i).ge).1
theorem c392 : (bodyRun.sl.v392 c i arg2 harg2 arg3 harg3 arg4 harg4 arg5 harg5 arg6 harg6 arg7 harg7 arg8 harg8 arg9 harg9 arg10 harg10 X2 X3 X4 X5 f10) = SL (i 1).val (arg2.view.read (Elt F) X2) (arg3.view.read (Elt F) X3) (arg4.view.read (Elt F) X4) (arg5.view.read (Elt F) X5) 3 (2 * (i 1).val) := by
  show View.readAt _ _ _ (View.writes _ _ _ _) = _
  rw [EH9_3, EH9_2, EH9_1_1]
  repeat rw [rd_miss _ _ _ _ _ _ (by decide)]
  rw [base9]
  exact (g_rd c i arg2 harg2 arg3 harg3 arg4 harg4 arg5 harg5 arg6 harg6 arg7 harg7 arg8 harg8 arg9 harg9 arg10 harg10 X2 X3 X4 X5 f10 3 (i 1).val (trips1 i).ge).2.1
theorem c400 : (bodyRun.sl.v400 c i arg2 harg2 arg3 harg3 arg4 harg4 arg5 harg5 arg6 harg6 arg7 harg7 arg8 harg8 arg9 harg9 arg10 harg10 X2 X3 X4 X5 f10) = SA (i 1).val (arg2.view.read (Elt F) X2) (arg3.view.read (Elt F) X3) (arg4.view.read (Elt F) X4) (arg5.view.read (Elt F) X5) 3 (2 * (i 1).val) := by
  show View.readAt _ _ _ (View.writes _ _ _ _) = _
  rw [EH7_3, EH7_2, EH7_1_1]
  repeat rw [rd_miss _ _ _ _ _ _ (by decide)]
  rw [base7]
  exact (g_rd c i arg2 harg2 arg3 harg3 arg4 harg4 arg5 harg5 arg6 harg6 arg7 harg7 arg8 harg8 arg9 harg9 arg10 harg10 X2 X3 X4 X5 f10 3 (i 1).val (trips1 i).ge).2.2
theorem c583 : (bodyRun.sl.v583 c i arg2 harg2 arg3 harg3 arg4 harg4 arg5 harg5 arg6 harg6 arg7 harg7 arg8 harg8 arg9 harg9 arg10 harg10 X2 X3 X4 X5 f10) = hf8 (M1 (i 1).val (arg2.view.read (Elt F) X2) (arg3.view.read (Elt F) X3) (arg5.view.read (Elt F) X5) 3) := by
  show View.readAt _ _ _ (View.writes _ _ _ _) = _
  rw [EH8_7, EH8_6, EH8_5, EH8_4, EH8_3, EH8_2, EH8_1_1]
  repeat rw [rd_miss _ _ _ _ _ _ (by decide)]
  rw [rd_hf8, c357, c371]; rfl
theorem c604 : (bodyRun.sl.v604 c i arg2 harg2 arg3 harg3 arg4 harg4 arg5 harg5 arg6 harg6 arg7 harg7 arg8 harg8 arg9 harg9 arg10 harg10 X2 X3 X4 X5 f10) = hf8 (L1 (i 1).val (arg2.view.read (Elt F) X2) (arg3.view.read (Elt F) X3) (arg4.view.read (Elt F) X4) (arg5.view.read (Elt F) X5) 3) := by
  show View.readAt _ _ _ (View.writes _ _ _ _) = _
  rw [EH9_7, EH9_6, EH9_5, EH9_4, EH9_3, EH9_2, EH9_1_1]
  repeat rw [rd_miss _ _ _ _ _ _ (by decide)]
  rw [rd_hf8, c357, c371, c392, rd_kb arg4 X4 _ _ 3 (off48 i)]; rfl
theorem c612 : (bodyRun.sl.v612 c i arg2 harg2 arg3 harg3 arg4 harg4 arg5 harg5 arg6 harg6 arg7 harg7 arg8 harg8 arg9 harg9 arg10 harg10 X2 X3 X4 X5 f10) = hf7 (A1 (i 1).val (arg2.view.read (Elt F) X2) (arg3.view.read (Elt F) X3) (arg4.view.read (Elt F) X4) (arg5.view.read (Elt F) X5) 3) := by
  show View.readAt _ _ _ (View.writes _ _ _ _) = _
  rw [EH7_7, EH7_6, EH7_5, EH7_4, EH7_3, EH7_2, EH7_1_1]
  repeat rw [rd_miss _ _ _ _ _ _ (by decide)]
  rw [rd_hf7, c357, c371, c400, rd_kb arg4 X4 _ _ 3 (off48 i)]; rfl
theorem c650 : (bodyRun.sl.v650 c i arg2 harg2 arg3 harg3 arg4 harg4 arg5 harg5 arg6 harg6 arg7 harg7 arg8 harg8 arg9 harg9 arg10 harg10 X2 X3 X4 X5 f10) = L2 (i 1).val (arg2.view.read (Elt F) X2) (arg3.view.read (Elt F) X3) (arg4.view.read (Elt F) X4) (arg5.view.read (Elt F) X5) 3 := by
  show View.readAt _ _ _ (View.writes _ _ _ _) = _
  rw [EH9_8, EH9_7, EH9_6, EH9_5, EH9_4, EH9_3, EH9_2, EH9_1_1]
  repeat rw [rd_miss _ _ _ _ _ _ (by decide)]
  rw [rd_ps8]
  repeat rw [rd_miss _ _ _ _ _ _ (by decide)]
  rw [rd_hit, c357, c371, c392, rd_kb arg4 X4 _ _ 3 (off48 i), c569, c583, c604, rd_kb arg4 X4 _ _ 3 (off43 i)]; rfl
theorem c648 : (bodyRun.sl.v648 c i arg2 harg2 arg3 harg3 arg4 harg4 arg5 harg5 arg6 harg6 arg7 harg7 arg8 harg8 arg9 harg9 arg10 harg10 X2 X3 X4 X5 f10) = A2 (i 1).val (arg2.view.read (Elt F) X2) (arg3.view.read (Elt F) X3) (arg4.view.read (Elt F) X4) (arg5.view.read (Elt F) X5) 3 := by
  show View.readAt _ _ _ (View.writes _ _ _ _) = _
  rw [EH7_8, EH7_7, EH7_6, EH7_5, EH7_4, EH7_3, EH7_2, EH7_1_1]
  repeat rw [rd_miss _ _ _ _ _ _ (by decide)]
  rw [rd_ps7]
  repeat rw [rd_miss _ _ _ _ _ _ (by decide)]
  rw [rd_hit, c357, c371, c400, rd_kb arg4 X4 _ _ 3 (off48 i), c569, c583, c612, rd_kb arg4 X4 _ _ 3 (off43 i)]; rfl
variable (f6 : BufTy.Contents (Elt F) arg6.view.ty) (f7 : BufTy.Contents (Elt F) arg7.view.ty) (f8 : BufTy.Contents (Elt F) arg8.view.ty) (f9 : BufTy.Contents (Elt F) arg9.view.ty)
theorem EO : ((bodyRun c i arg2 harg2 arg3 harg3 arg4 harg4 arg5 harg5 arg6 harg6 arg7 harg7 arg8 harg8 arg9 harg9 arg10 harg10 X2 X3 X4 X5).1 f6 f7 f8 f9 f10) = [⟨Rect.unit (s := S512x512) ![0, 384] S512x128.size inb_S512x512_S512x128_0_384, oT (bodyRun.sl.v648 c i arg2 harg2 arg3 harg3 arg4 harg4 arg5 harg5 arg6 harg6 arg7 harg7 arg8 harg8 arg9 harg9 arg10 harg10 X2 X3 X4 X5 f10) (bodyRun.sl.v650 c i arg2 harg2 arg3 harg3 arg4 harg4 arg5 harg5 arg6 harg6 arg7 harg7 arg8 harg8 arg9 harg9 arg10 harg10 X2 X3 X4 X5 f10)⟩, ⟨Rect.unit (s := S512x512) ![0, 256] S512x128.size inb_S512x512_S512x128_0_256, oT (bodyRun.sl.v639 c i arg2 harg2 arg3 harg3 arg4 harg4 arg5 harg5 arg6 harg6 arg7 harg7 arg8 harg8 arg9 harg9 arg10 harg10 X2 X3 X4 X5 f10) (bodyRun.sl.v641 c i arg2 harg2 arg3 harg3 arg4 harg4 arg5 harg5 arg6 harg6 arg7 harg7 arg8 harg8 arg9 harg9 arg10 harg10 X2 X3 X4 X5 f10)⟩, ⟨Rect.unit (s := S512x512) ![0, 128] S512x128.size inb_S512x512_S512x128_0_128, oT (bodyRun.sl.v630 c i arg2 harg2 arg3 harg3 arg4 harg4 arg5 harg5 arg6 harg6 arg7 harg7 arg8 harg8 arg9 harg9 arg10 harg10 X2 X3 X4 X5 f10) (bodyRun.sl.v632 c i arg2 harg2 arg3 harg3 arg4 harg4 arg5 harg5 arg6 harg6 arg7 harg7 arg8 harg8 arg9 harg9 arg10 harg10 X2 X3 X4 X5 f10)⟩, ⟨Rect.unit (s := S512x512) ![0, 0] S512x128.size inb_S512x512_S512x128_0_0, oT (bodyRun.sl.v621 c i arg2 harg2 arg3 harg3 arg4 harg4 arg5 harg5 arg6 harg6 arg7 harg7 arg8 harg8 arg9 harg9 arg10 harg10 X2 X3 X4 X5 f10) (bodyRun.sl.v623 c i arg2 harg2 arg3 harg3 arg4 harg4 arg5 harg5 arg6 harg6 arg7 harg7 arg8 harg8 arg9 harg9 arg10 harg10 X2 X3 X4 X5 f10)⟩] := rfl
theorem out_read : arg6.view.read (Elt F) (arg6.view.writes (Elt F) f6 ((bodyRun c i arg2 harg2 arg3 harg3 arg4 harg4 arg5 harg5 arg6 harg6 arg7 harg7 arg8 harg8 arg9 harg9 arg10 harg10 X2 X3 X4 X5).1 f6 f7 f8 f9 f10)) = OUT (i 1).val (arg2.view.read (Elt F) X2) (arg3.view.read (Elt F) X3) (arg4.view.read (Elt F) X4) (arg5.view.read (Elt F) X5) := by
  rw [EO]
  rw [c621, c623, c630, c632, c639, c641, c648, c650]
  funext y
  have y1 : (y 1).val < 512 := (y 1).isLt
  unfold OUT
  rcases (by omega : (y 1).val / 128 = 0 ∨ (y 1).val / 128 = 1 ∨ (y 1).val / 128 = 2 ∨ (y 1).val / 128 = 3) with e | e | e | e <;> rw [e]
  · refine (View.read_writes_cons_unit_of_not_mem arg6.view f6 inb_S512x512_S512x128_0_384 _ _ y rfl 1 (Or.inl (show (y 1).val < 384 by omega))).trans ?_
    refine (View.read_writes_cons_unit_of_not_mem arg6.view f6 inb_S512x512_S512x128_0_256 _ _ y rfl 1 (Or.inl (show (y 1).val < 256 by omega))).trans ?_
    refine (View.read_writes_cons_unit_of_not_mem arg6.view f6 inb_S512x512_S512x128_0_128 _ _ y rfl 1 (Or.inl (show (y 1).val < 128 by omega))).trans ?_
    refine View.read_writes_cons_unit_of_mem arg6.view f6 inb_S512x512_S512x128_0_0 _ _ y (ix2 (y 0) ⟨(y 1).val % 128, Nat.mod_lt _ (by decide)⟩) rfl fun a => ?_
    match a with
    | 0 => show (y 0).val = 0 + (y 0).val; omega
    | 1 => show (y 1).val = 0 + (y 1).val % 128; omega
  · refine (View.read_writes_cons_unit_of_not_mem arg6.view f6 inb_S512x512_S512x128_0_384 _ _ y rfl 1 (Or.inl (show (y 1).val < 384 by omega))).trans ?_
    refine (View.read_writes_cons_unit_of_not_mem arg6.view f6 inb_S512x512_S512x128_0_256 _ _ y rfl 1 (Or.inl (show (y 1).val < 256 by omega))).trans ?_
    refine View.read_writes_cons_unit_of_mem arg6.view f6 inb_S512x512_S512x128_0_128 _ _ y (ix2 (y 0) ⟨(y 1).val % 128, Nat.mod_lt _ (by decide)⟩) rfl fun a => ?_
    match a with
    | 0 => show (y 0).val = 0 + (y 0).val; omega
    | 1 => show (y 1).val = 128 + (y 1).val % 128; omega
  · refine (View.read_writes_cons_unit_of_not_mem arg6.view f6 inb_S512x512_S512x128_0_384 _ _ y rfl 1 (Or.inl (show (y 1).val < 384 by omega))).trans ?_
    refine View.read_writes_cons_unit_of_mem arg6.view f6 inb_S512x512_S512x128_0_256 _ _ y (ix2 (y 0) ⟨(y 1).val % 128, Nat.mod_lt _ (by decide)⟩) rfl fun a => ?_
    match a with
    | 0 => show (y 0).val = 0 + (y 0).val; omega
    | 1 => show (y 1).val = 256 + (y 1).val % 128; omega
  · refine View.read_writes_cons_unit_of_mem arg6.view f6 inb_S512x512_S512x128_0_384 _ _ y (ix2 (y 0) ⟨(y 1).val % 128, Nat.mod_lt _ (by decide)⟩) rfl fun a => ?_
    match a with
    | 0 => show (y 0).val = 0 + (y 0).val; omega
    | 1 => show (y 1).val = 384 + (y 1).val % 128; omega

end Tail
end Cert.KernelIdeal.Hand
end
-- ==== Proof.FoxFrameIdeal.lean ====
module

public import proofs.«01_k».proof.Proof.FoxRunIdeal

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

open Idealize.ShloMosaic.Pipeline (Dat Cfg Window BodyObligation BodyObligationLoose cellOf)

variable (m : (ℓ : Loc nD τ sig) → Buf (Elt F) ℓ) (ρ : Dev nD → PrngReg)

/-- Contents of the result's staging buffer that one grid point may leave: what the run's list of stores leaves, over
    inputs that hold their blocks and over any prior contents of the result's buffer and of the scratch arrays. -/
def Left (c : Dev nD) (t : Fin cfg0.N) (Y : S512x512.Idx → Elt F .bf16) : Prop :=
  ∃ X2 X3 X4 X5 f6 f7 f8 f9 f10,
    (st0_0 t).view.read (Elt F) X2 = iblk m c 0 t ∧ (st0_1 t).view.read (Elt F) X3 = iblk m c 1 t
    ∧ (st0_2 t).view.read (Elt F) X4 = iblk m c 2 t ∧ (st0_3 t).view.read (Elt F) X5 = iblk m c 3 t
    ∧ Y = (st0_4 t).view.read (Elt F) ((st0_4 t).view.writes (Elt F) f6
        ((bodyRun c (grid0.coords t) (st0_0 t) (hstage0_0 ((cfg0.slots t 0).cast nbuf0_0)) (st0_1 t) (hstage0_1 ((cfg0.slots t 1).cast nbuf0_1))
          (st0_2 t) (hstage0_2 ((cfg0.slots t 2).cast nbuf0_2)) (st0_3 t) (hstage0_3 ((cfg0.slots t 3).cast nbuf0_3))
          (st0_4 t) (hstage0_4 ((cfg0.slots t 4).cast nbuf0_4)) (Memref.whole cc0_scratch0) (Memref.isWhole_whole _)
          (Memref.whole cc0_scratch1) (Memref.isWhole_whole _) (Memref.whole cc0_scratch2) (Memref.isWhole_whole _)
          (Memref.whole cc0_scratch3) (Memref.isWhole_whole _) X2 X3 X4 X5).1 f6 f7 f8 f9 f10))

/-- A whole scratch array, held as the region hands it out, is held as the body names it; and back at any contents. -/
theorem scr_in (c : Dev nD) (r : Ref sig .tc) (f : Buf (Elt F) ((c : Thread nD τ).loc r)) :
    iprop(((c : Thread nD τ).loc r) ↦{fullShare} f : sProp 𝕄)
      ⊢ iprop((Memref.whole r).view.loc (c : Thread nD τ) ↦[(Memref.whole r).view.set]{fullShare} f) := by
  simp only [Memref.view_whole, View.set_whole]; exact .rfl
theorem scr_out (c : Dev nD) (r : Ref sig .tc) :
    iprop((∃ f, (Memref.whole r).view.loc (c : Thread nD τ) ↦[(Memref.whole r).view.set]{fullShare} f) : sProp 𝕄)
      ⊢ iprop(∃ f : Buf (Elt F) ((c : Thread nD τ).loc r), ((c : Thread nD τ).loc r) ↦{fullShare} f) := by
  simp only [Memref.view_whole, View.set_whole]; exact .rfl

set_option maxHeartbeats 4000000 in
/-- One grid point: the scratch arrays and the generator at some state before and after, the inputs' buffers at their
    blocks before and after, the result's buffer at anything before and at contents `Left` names after. -/
theorem point_run (c : Dev nD) (t : Fin cfg0.N) :
    iprop((Pipeline.ΦA spec0 c : sProp 𝕄) ∗ owns (c : Thread nD τ) (st0_0 t) fullShare (iblk m c 0 t) ∗ owns (c : Thread nD τ) (st0_1 t) fullShare (iblk m c 1 t)
        ∗ owns (c : Thread nD τ) (st0_2 t) fullShare (iblk m c 2 t) ∗ owns (c : Thread nD τ) (st0_3 t) fullShare (iblk m c 3 t)
        ∗ (∃ X, owns (c : Thread nD τ) (st0_4 t) fullShare X))
      ⊢ wp frame (wpE (defs₀ (F := F)) Variants.none c none) Set.univ (bodyAt0 t) (fun _ =>
        iprop((Pipeline.ΦA spec0 c : sProp 𝕄) ∗ owns (c : Thread nD τ) (st0_0 t) fullShare (iblk m c 0 t) ∗ owns (c : Thread nD τ) (st0_1 t) fullShare (iblk m c 1 t)
        ∗ owns (c : Thread nD τ) (st0_2 t) fullShare (iblk m c 2 t) ∗ owns (c : Thread nD τ) (st0_3 t) fullShare (iblk m c 3 t)
        ∗ (∃ Y, ⌜Left m c t Y⌝ ∗ owns (c : Thread nD τ) (st0_4 t) fullShare Y))) := by
  unfold Pipeline.ΦA
  rw [scopedRest0_eq]
  unfold owns bodyAt0
  iintro ⟨⟨⟨⟨%g7, S7⟩, ⟨%g8, S8⟩, ⟨%g9, S9⟩, ⟨%g10, S10⟩⟩, Hg⟩, ⟨%X2, %h2, H2⟩, ⟨%X3, %h3, H3⟩, ⟨%X4, %h4, H4⟩, ⟨%X5, %h5, H5⟩, ⟨%X, %f6, %h6, H6⟩⟩
  iapply ((bodyRun c (grid0.coords t) (st0_0 t) (hstage0_0 ((cfg0.slots t 0).cast nbuf0_0)) (st0_1 t) (hstage0_1 ((cfg0.slots t 1).cast nbuf0_1))
          (st0_2 t) (hstage0_2 ((cfg0.slots t 2).cast nbuf0_2)) (st0_3 t) (hstage0_3 ((cfg0.slots t 3).cast nbuf0_3))
          (st0_4 t) (hstage0_4 ((cfg0.slots t 4).cast nbuf0_4)) (Memref.whole cc0_scratch0) (Memref.isWhole_whole _)
          (Memref.whole cc0_scratch1) (Memref.isWhole_whole _) (Memref.whole cc0_scratch2) (Memref.isWhole_whole _)
          (Memref.whole cc0_scratch3) (Memref.isWhole_whole _) X2 X3 X4 X5).2 Set.univ f6 g7 g8 g9 g10 _)
  isplitl [H2]; · iexact H2
  isplitl [H3]; · iexact H3
  isplitl [H4]; · iexact H4
  isplitl [H5]; · iexact H5
  isplitl [H6]; · iexact H6
  isplitl [S7]; · iapply scr_in; iexact S7
  isplitl [S8]; · iapply scr_in; iexact S8
  isplitl [S9]; · iapply scr_in; iexact S9
  isplitl [S10]; · iapply scr_in; iexact S10
  iintro ⟨H2, H3, H4, H5, H6, S7, S8, S9, S10⟩
  isplitl [S7 S8 S9 S10 Hg]
  · isplitl [S7 S8 S9 S10]
    · isplitl [S7]; · iapply scr_out; iexact S7
      isplitl [S8]; · iapply scr_out; iexact S8
      isplitl [S9]; · iapply scr_out; iexact S9
      iapply scr_out; iexact S10
    iexact Hg
  isplitl [H2]; · iexists X2; isplitr; swap; · iexact H2
                  ipureintro; exact h2
  isplitl [H3]; · iexists X3; isplitr; swap; · iexact H3
                  ipureintro; exact h3
  isplitl [H4]; · iexists X4; isplitr; swap; · iexact H4
                  ipureintro; exact h4
  isplitl [H5]; · iexists X5; isplitr; swap; · iexact H5
                  ipureintro; exact h5
  iexists _; isplitr
  swap; · iexists _; isplitr
          swap; · iexact H6
          ipureintro; rfl
  ipureintro
  exact ⟨X2, X3, X4, X5, f6, g7, g8, g9, g10, h2, h3, h4, h5, rfl⟩

/-- The data of the pipeline: arrays as the region finds them, inputs' buffers left at their blocks, the result's at
    `out`; the scratch arrays at anything between points; the shares of an array that several windows read. -/
def dats (out : (c : Dev nD) → (t : Fin cfg0.N) → S512x512.Idx → Elt F .bf16) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out c t
  Φ _ := Pipeline.ΦA spec0 c
  q w := Pipeline.shareOf spec0 w
  owed _ := 0

variable (out : (c : Dev nD) → (t : Fin cfg0.N) → S512x512.Idx → Elt F .bf16)

theorem A_eq (c : Dev nD) (w : Fin cfg0.W) : (dats m out 0 c).A w = V m c (Pipeline.arrRef spec0 w) := by dsimp only [dats]
theorem after0_0 (c : Dev nD) (t : Fin cfg0.N) : (dats m out 0 c).after 0 t = iblk m c 0 t := by dsimp only [dats]
theorem after0_1 (c : Dev nD) (t : Fin cfg0.N) : (dats m out 0 c).after 1 t = iblk m c 1 t := by dsimp only [dats]
theorem after0_2 (c : Dev nD) (t : Fin cfg0.N) : (dats m out 0 c).after 2 t = iblk m c 2 t := by dsimp only [dats]
theorem after0_3 (c : Dev nD) (t : Fin cfg0.N) : (dats m out 0 c).after 3 t = iblk m c 3 t := by dsimp only [dats]
theorem after0_4 (c : Dev nD) (t : Fin cfg0.N) : (dats m out 0 c).after 4 t = out c t := by dsimp only [dats]
theorem before0_0 (c : Dev nD) (t : Fin cfg0.N) (d) : (dats m out 0 c).before 0 t d = iblk m c 0 t :=
  before0_0_of m (dats m out 0 c) (A_eq m out c 0) (after0_0 m out c) t d
theorem before0_1 (c : Dev nD) (t : Fin cfg0.N) (d) : (dats m out 0 c).before 1 t d = iblk m c 1 t :=
  before0_1_of m (dats m out 0 c) (A_eq m out c 1) (after0_1 m out c) t d
theorem before0_2 (c : Dev nD) (t : Fin cfg0.N) (d) : (dats m out 0 c).before 2 t d = iblk m c 2 t :=
  before0_2_of m (dats m out 0 c) (A_eq m out c 2) (after0_2 m out c) t d
theorem before0_3 (c : Dev nD) (t : Fin cfg0.N) (d) : (dats m out 0 c).before 3 t d = iblk m c 3 t :=
  before0_3_of m (dats m out 0 c) (A_eq m out c 3) (after0_3 m out c) t d

/-- The body table's row at a point is the body as spelt. -/
theorem defs₀_row (t : Fin cfg0.N) :
    defs₀ (F := F) .tc cfg0.body (cfg0.bodyArgs t (cfg0.slots t)) = bodyAt0 t := by
  unfold defs₀; rw [Defs.onTc_tc]

/-- The window whose contents are left unnamed: the result's. -/
abbrev fgt : Fin cfg0.W → Bool := fun w => decide (w = 4)

set_option maxHeartbeats 1000000 in
/-- The body obligation with the result's contents left unnamed. -/
theorem obligation_unnamed (c : Dev nD) : BodyObligationLoose (dats m out 0 c) (defs₀ (F := F)) Variants.none () Set.univ fgt := fun t => by
  rw [bigSep_W0, bigSep_W0, defs₀_row]
  refine triple_restated (P := iprop((Pipeline.ΦA spec0 c : sProp 𝕄) ∗ (dats m out 0 c).owesAt () t.castSucc
      ∗ (∃ d, owns (c : Thread nD τ) (st0_0 t) fullShare ((dats m out 0 c).before 0 t d))
      ∗ (∃ d, owns (c : Thread nD τ) (st0_1 t) fullShare ((dats m out 0 c).before 1 t d))
      ∗ (∃ d, owns (c : Thread nD τ) (st0_2 t) fullShare ((dats m out 0 c).before 2 t d))
      ∗ (∃ d, owns (c : Thread nD τ) (st0_3 t) fullShare ((dats m out 0 c).before 3 t d))
      ∗ (∃ X, owns (c : Thread nD τ) (st0_4 t) fullShare X)))
    (Q := fun _ => iprop((Pipeline.ΦA spec0 c : sProp 𝕄) ∗ (dats m out 0 c).owesAt () t.castSucc
      ∗ owns (c : Thread nD τ) (st0_0 t) fullShare ((dats m out 0 c).after 0 t)
      ∗ owns (c : Thread nD τ) (st0_1 t) fullShare ((dats m out 0 c).after 1 t)
      ∗ owns (c : Thread nD τ) (st0_2 t) fullShare ((dats m out 0 c).after 2 t)
      ∗ owns (c : Thread nD τ) (st0_3 t) fullShare ((dats m out 0 c).after 3 t)
      ∗ (∃ X, owns (c : Thread nD τ) (st0_4 t) fullShare X))) ?_ rfl .rfl fun _ => .rfl
  simp only [before0_0, before0_1, before0_2, before0_3, after0_0, after0_1, after0_2, after0_3]
  iintro ⟨HA, Ho, ⟨%d0, H0⟩, ⟨%d1, H1⟩, ⟨%d2, H2⟩, ⟨%d3, H3⟩, H4⟩
  iapply (wp_wand_r frame (wpE (defs₀ (F := F)) Variants.none c none) Set.univ)
  isplitl [HA H0 H1 H2 H3 H4]
  · iapply (point_run m c t)
    isplitl [HA]; · iexact HA
    isplitl [H0]; · iexact H0
    isplitl [H1]; · iexact H1
    isplitl [H2]; · iexact H2
    isplitl [H3]; · iexact H3
    iexact H4
  iintro %a ⟨HA, H0, H1, H2, H3, ⟨%Y, %hY, H4⟩⟩
  isplitl [HA]; · iexact HA
  isplitl [Ho]; · iexact Ho
  isplitl [H0]; · iexact H0
  isplitl [H1]; · iexact H1
  isplitl [H2]; · iexact H2
  isplitl [H3]; · iexact H3
  iexists Y; iexact H4

set_option maxHeartbeats 1000000 in
/-- The body obligation with the result's contents named, where every contents a point may leave is the named one. -/
theorem obligation_named (hout : ∀ c t Y, Left m c t Y → Y = out c t) (c : Dev nD) : BodyObligation (dats m out 0 c) (defs₀ (F := F)) Variants.none () Set.univ := fun t => by
  rw [bigSep_W0, bigSep_W0, defs₀_row]
  refine triple_restated (P := iprop((Pipeline.ΦA spec0 c : sProp 𝕄) ∗ (dats m out 0 c).owesAt () t.castSucc
      ∗ (∃ d, owns (c : Thread nD τ) (st0_0 t) fullShare ((dats m out 0 c).before 0 t d))
      ∗ (∃ d, owns (c : Thread nD τ) (st0_1 t) fullShare ((dats m out 0 c).before 1 t d))
      ∗ (∃ d, owns (c : Thread nD τ) (st0_2 t) fullShare ((dats m out 0 c).before 2 t d))
      ∗ (∃ d, owns (c : Thread nD τ) (st0_3 t) fullShare ((dats m out 0 c).before 3 t d))
      ∗ (∃ d, owns (c : Thread nD τ) (st0_4 t) fullShare ((dats m out 0 c).before 4 t d))))
    (Q := fun _ => iprop((Pipeline.ΦA spec0 c : sProp 𝕄) ∗ (dats m out 0 c).owesAt () t.castSucc
      ∗ owns (c : Thread nD τ) (st0_0 t) fullShare ((dats m out 0 c).after 0 t)
      ∗ owns (c : Thread nD τ) (st0_1 t) fullShare ((dats m out 0 c).after 1 t)
      ∗ owns (c : Thread nD τ) (st0_2 t) fullShare ((dats m out 0 c).after 2 t)
      ∗ owns (c : Thread nD τ) (st0_3 t) fullShare ((dats m out 0 c).after 3 t)
      ∗ owns (c : Thread nD τ) (st0_4 t) fullShare ((dats m out 0 c).after 4 t))) ?_ rfl .rfl fun _ => .rfl
  simp only [before0_0, before0_1, before0_2, before0_3, after0_0, after0_1, after0_2, after0_3, after0_4]
  iintro ⟨HA, Ho, ⟨%d0, H0⟩, ⟨%d1, H1⟩, ⟨%d2, H2⟩, ⟨%d3, H3⟩, ⟨%d4, H4⟩⟩
  iapply (wp_wand_r frame (wpE (defs₀ (F := F)) Variants.none c none) Set.univ)
  isplitl [HA H0 H1 H2 H3 H4]
  · iapply (point_run m c t)
    isplitl [HA]; · iexact HA
    isplitl [H0]; · iexact H0
    isplitl [H1]; · iexact H1
    isplitl [H2]; · iexact H2
    isplitl [H3]; · iexact H3
    iexists _; iexact H4
  iintro %a ⟨HA, H0, H1, H2, H3, ⟨%Y, %hY, H4⟩⟩
  obtain rfl := hout c t Y hY
  isplitl [HA]; · iexact HA
  isplitl [Ho]; · iexact Ho
  isplitl [H0]; · iexact H0
  isplitl [H1]; · iexact H1
  isplitl [H2]; · iexact H2
  isplitl [H3]; · iexact H3
  iexact H4

set_option backward.isDefEq.respectTransparency.types false in
/-- The run of the whole call, the result left unnamed: the argument arrays as launched, every counter at zero. -/
theorem run_unnamed : θ_run defs (onTc (τ := τ) (main (F := F))) (s₀ m ρ) (fun r =>
    (Pipeline.RDat.FramePost cfg0 (fun c => (dats m (fun _ _ => constant S512x512 .bf16 0x0000#16) 0 c).toRForget fgt) (V m)) r ∧ r.2.sem = fun _ => 0) :=
  Pipeline.θ_run_frame_forget_shared (Q' := _) cfgs (dats m (fun _ _ => constant S512x512 .bf16 0x0000#16)) (0 : Fin 1) launch₀0 defs₀ Variants.none fgt m ρ main
    (hbody := fun c => obligation_unnamed m _ c) (hq := fun _ _ _ => rfl) (howed := fun _ _ => rfl) (V := V m)
    (hmain := hmain m Variants.none) (hA := A_eq m _) (hΦ := fun _ _ => rfl) (hQ' := fun _ h => h)

/-- The frame of the call with the counters. -/
theorem frame_counters : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩) (run_unnamed m ρ)

set_option backward.isDefEq.respectTransparency.types false in
/-- The run of the whole call, the result named. -/
theorem run_named (hout : ∀ c t Y, Left m c t Y → Y = out c t) : θ_run defs (onTc (τ := τ) (main (F := F))) (s₀ m ρ)
    (Pipeline.FramePost cfgs (dats m out) 0 (V m)) :=
  Pipeline.θ_run_frame_shared cfgs (dats m out) (0 : Fin 1) launch₀0 defs₀ Variants.none m ρ main
    (hbody := fun c => (obligation_named m out hout c).loose) (hq := fun _ _ _ => rfl) (howed := fun _ _ => rfl) (V := V m)
    (hmain := hmain m Variants.none) (hA := A_eq m out) (hΦ := fun _ _ => rfl)

end Cert.KernelIdeal.Hand

end
-- ==== Proof.FoxOut.lean ====
module

public import proofs.«01_k».proof.Proof.FoxTail2
public import proofs.«01_k».proof.Proof.FoxFrameIdeal

@[expose] public section

set_option maxRecDepth 16384

noncomputable section

namespace Cert.KernelIdeal.Hand

open Cert.KernelIdeal Cert.KernelIdeal.Gen
open Idealize.ShloMosaic Idealize.ShloMosaic.TcCoe
open Idealize.SL.Sem

variable {F : FTy → Type} [FloatOps F] [Named F]
variable (m : (ℓ : Loc nD τ sig) → Buf (Elt F) ℓ) (ρ : Dev nD → PrngReg)

/-- What a grid point leaves, as a function of the four blocks it reads. -/
def outAt (c : Dev nD) (t : Fin cfg0.N) : S512x512.Idx → Elt F .bf16 :=
  OUT (grid0.coords t 1).val (iblk m c 0 t) (iblk m c 1 t) (iblk m c 2 t) (iblk m c 3 t)

theorem left_out (c : Dev nD) (t : Fin cfg0.N) (Y : S512x512.Idx → Elt F .bf16) (h : Left m c t Y) : Y = outAt m c t := by
  obtain ⟨X2, X3, X4, X5, f6, f7, f8, f9, f10, e2, e3, e4, e5, rfl⟩ := h
  unfold outAt
  rw [← e2, ← e3, ← e4, ← e5]
  exact out_read _ _ _ _ _ _ _ _ _ _ _ _ _ _ _ _ _ _ _ _ _ _ _ _ _ _ _ _ _

theorem run_out : θ_run defs (onTc (τ := τ) (main (F := F))) (s₀ m ρ)
    (Pipeline.FramePost cfgs (dats m (outAt m)) 0 (V m)) := run_named m ρ (outAt m) (left_out m)

end Cert.KernelIdeal.Hand
end
-- ==== Proof.FoxMath.lean ====
module

public import Idealize.ShloMosaic.Lib.Pointwise

@[expose] public section

noncomputable section

namespace Cert.Proof.Fox

open Idealize.ShloMosaic Finset

theorem pos_mul_sum (α : ℝ) (hα : 0 ≤ α) (f : ℕ → EReal) (n : ℕ) :
    (α : EReal) * ∑ k ∈ range n, f k = ∑ k ∈ range n, (α : EReal) * f k := by
  induction n with
  | zero => simp
  | succ n ih => rw [sum_range_succ, sum_range_succ, EReal.left_distrib_of_nonneg_of_ne_top (EReal.coe_nonneg.mpr hα) (EReal.coe_ne_top α), ih]

theorem real_sum (f : ℕ → ℝ) (n : ℕ) : (∑ k ∈ range n, (f k : EReal)) = ((∑ k ∈ range n, f k : ℝ) : EReal) := by
  induction n with
  | zero => simp
  | succ n ih => rw [sum_range_succ, sum_range_succ, ih, EReal.coe_add]

theorem real_sum_fin {n : ℕ} (f : Fin n → ℝ) : (∑ k, (f k : EReal)) = ((∑ k, f k : ℝ) : EReal) := by
  induction n with
  | zero => simp
  | succ n ih => rw [Fin.sum_univ_succ, Fin.sum_univ_succ, ih, EReal.coe_add]

theorem real_of {x : EReal} (h : x ≠ ⊤) (h' : x ≠ ⊥) : ∃ r : ℝ, x = r := ⟨x.toReal, (EReal.coe_toReal h h').symm⟩

/-- Two shifts in a row are one. -/
theorem shift (M M' : ℝ) (y : EReal) (hy : y ≠ ⊤) :
    Ideal.exp2 ((M : EReal) - M') * Ideal.exp2 (y - M) = Ideal.exp2 (y - M') := by
  by_cases h : y = ⊥
  · subst h; rw [EReal.bot_sub, EReal.bot_sub, Ideal.exp2_bot, mul_zero]
  · obtain ⟨r, rfl⟩ := real_of hy h
    rw [← EReal.coe_sub, ← EReal.coe_sub, ← EReal.coe_sub, Ideal.exp2_coe, Ideal.exp2_coe, Ideal.exp2_coe, ← EReal.coe_mul]
    congr 1
    show (2 : ℝ) ^ (M - M') * (2 : ℝ) ^ (r - M) = (2 : ℝ) ^ (r - M')
    rw [← Real.rpow_add (by norm_num)]
    congr 1; ring

/-- Running maximum, sum and weighted sum over the first `n` keys with logits `y` and values `v`. -/
def St (y v : ℕ → EReal) (n : ℕ) (m l a : EReal) : Prop :=
  (n = 0 ∧ m = ⊥ ∧ l = 0 ∧ a = 0) ∨ ∃ M : ℝ, m = M ∧ l = ∑ k ∈ range n, Ideal.exp2 (y k - M)
    ∧ a = ∑ k ∈ range n, Ideal.exp2 (y k - M) * v k

theorem St.step {y v : ℕ → EReal} {n : ℕ} {m l a : EReal} (h : St y v n m l a) (hy : ∀ k, y k ≠ ⊤) (h0 : y 0 ≠ ⊥)
    {T : ℕ} (hT : 0 < T) (b : EReal) (hb : b = ⊥) (s u : Fin T → EReal) (hs : ∀ j, s j = y (n + j.val)) (hu : ∀ j, u j = v (n + j.val)) :
    St y v (n + T) (max m (fold max b s univ))
      (Ideal.exp2 (m - max m (fold max b s univ)) * l + ∑ j, Ideal.exp2 (s j - max m (fold max b s univ)))
      (Ideal.exp2 (m - max m (fold max b s univ)) * a + ∑ j, u j * Ideal.exp2 (s j - max m (fold max b s univ))) := by
  have ht : max m (fold max b s univ) ≠ ⊤ := by
    refine ne_of_lt (max_lt ?_ ((Finset.fold_max_lt _).mpr ⟨?_, fun j _ => ?_⟩))
    · rcases h with ⟨-, rfl, -⟩ | ⟨M, rfl, -⟩
      · exact bot_lt_top
      · exact EReal.coe_lt_top M
    · rw [hb]; exact bot_lt_top
    · rw [hs]; exact lt_top_iff_ne_top.mpr (hy _)
  have hbm : max m (fold max b s univ) ≠ ⊥ := by
    rcases h with ⟨hn, -⟩ | ⟨M, hM, -⟩
    · refine ne_of_gt (lt_of_lt_of_le (bot_lt_iff_ne_bot.mpr h0) (le_max_of_le_right ?_))
      refine (Finset.le_fold_max _).mpr (Or.inr ⟨⟨0, hT⟩, mem_univ _, ?_⟩)
      rw [hs]; subst hn; simp
    · refine ne_of_gt (lt_of_lt_of_le (EReal.bot_lt_coe M) (le_max_of_le_left ?_))
      rw [hM]
  obtain ⟨M', hM'⟩ := real_of ht hbm
  rw [hM']
  refine Or.inr ⟨M', rfl, ?_, ?_⟩
  · rw [sum_range_add, ← Fin.sum_univ_eq_sum_range (fun k => Ideal.exp2 (y (n + k) - M')) T]
    congr 1
    · rcases h with ⟨hn, -, hl, -⟩ | ⟨M, hM, hl, -⟩
      · rw [hl, hn]; simp
      · rw [hM, hl, ← EReal.coe_sub, Ideal.exp2_coe, pos_mul_sum (Real.rpow 2 (M - M')) (Real.rpow_nonneg (by norm_num) _)]
        refine sum_congr rfl fun k _ => ?_
        rw [← Ideal.exp2_coe, EReal.coe_sub, shift M M' _ (hy k)]
    · exact sum_congr rfl fun j _ => by rw [hs]
  · rw [sum_range_add, ← Fin.sum_univ_eq_sum_range (fun k => Ideal.exp2 (y (n + k) - M') * v (n + k)) T]
    congr 1
    · rcases h with ⟨hn, -, -, ha⟩ | ⟨M, hM, -, ha⟩
      · rw [ha, hn]; simp
      · rw [hM, ha, ← EReal.coe_sub, Ideal.exp2_coe, pos_mul_sum (Real.rpow 2 (M - M')) (Real.rpow_nonneg (by norm_num) _)]
        refine sum_congr rfl fun k _ => ?_
        rw [← mul_assoc, ← Ideal.exp2_coe, EReal.coe_sub, shift M M' _ (hy k)]
    · exact sum_congr rfl fun j _ => by rw [hs, hu, mul_comm]

/-- The quotient of the two sums is the softmax-weighted sum, whatever logits `z` differ from `y` by a scale to the base
    `e` and a shift. -/
theorem St.final {y v : ℕ → EReal} {n N : ℕ} {m l a : EReal} (h : St y v n m l a) (hn : 0 < n) (hN : n ≤ N) (z : ℕ → EReal)
    (Z δ : ℝ) (h0 : y 0 ≠ ⊥) (x : ℕ → ℝ) (p : ℕ → Prop) (hp : ∀ k, n ≤ k → ¬ p k)
    (hy1 : ∀ k, p k → y k = (x k : ℝ)) (hy2 : ∀ k, ¬ p k → y k = ⊥)
    (hz1 : ∀ k, k < N → p k → z k = ((x k * Real.log 2 + δ : ℝ) : EReal)) (hz2 : ∀ k, k < N → ¬ p k → z k = ⊥) :
    Ideal.div a l = ∑ k ∈ range N, Ideal.div (Ideal.exp (z k - Z)) (∑ k ∈ range N, Ideal.exp (z k - Z)) * v k := by
  classical
  rcases h with ⟨h, -⟩ | ⟨M, -, hl, ha⟩
  · omega
  let w : ℕ → ℝ := fun k => if p k then Real.exp (x k * Real.log 2 + δ - Z) else 0
  let κ : ℝ := Real.exp (Z - δ - M * Real.log 2)
  have hκ : 0 < κ := Real.exp_pos _
  have w0 : ∀ k, 0 ≤ w k := fun k => by dsimp only [w]; split_ifs; exacts [(Real.exp_pos _).le, le_rfl]
  have ey : ∀ k, Ideal.exp2 (y k - M) = ((κ * w k : ℝ) : EReal) := by
    intro k
    by_cases hk : p k
    · rw [hy1 k hk, ← EReal.coe_sub, Ideal.exp2_coe]
      congr 1
      show (2 : ℝ) ^ (x k - M) = κ * w k
      simp only [w, κ, if_pos hk]
      rw [Real.rpow_def_of_pos (by norm_num), ← Real.exp_add]
      congr 1; ring
    · rw [hy2 k hk, EReal.bot_sub, Ideal.exp2_bot]; simp [w, hk]
  have ez : ∀ k, k < N → Ideal.exp (z k - Z) = ((w k : ℝ) : EReal) := by
    intro k kN
    by_cases hk : p k
    · rw [hz1 k kN hk, ← EReal.coe_sub, Ideal.exp_coe]; simp only [w, if_pos hk]
    · rw [hz2 k kN hk, EReal.bot_sub, Ideal.exp_bot]; simp [w, hk]
  have hW : (∑ k ∈ range N, Ideal.exp (z k - Z)) = ((∑ k ∈ range N, w k : ℝ) : EReal) := by
    rw [← real_sum]; exact sum_congr rfl fun k hk => ez k (mem_range.mp hk)
  have p0 : p 0 := by by_contra hc; exact h0 (hy2 0 hc)
  have Wpos : 0 < ∑ k ∈ range N, w k := by
    refine sum_pos' (fun k _ => w0 k) ⟨0, mem_range.mpr (by omega), ?_⟩
    simp only [w, if_pos p0]; exact Real.exp_pos _
  have cut : ∀ f : ℕ → EReal, (∀ k, n ≤ k → f k = 0) → ∑ k ∈ range n, f k = ∑ k ∈ range N, f k := by
    intro f hf
    exact sum_subset (range_mono hN) fun k _ hk => hf k (by simpa using hk)
  have hl' : l = ((κ * ∑ k ∈ range N, w k : ℝ) : EReal) := by
    rw [hl, cut _ (fun k hk => by rw [hy2 k (hp k hk), EReal.bot_sub, Ideal.exp2_bot]), mul_sum, ← real_sum]
    exact sum_congr rfl fun k _ => ey k
  have ha' : a = ∑ k ∈ range N, ((κ * w k : ℝ) : EReal) * v k := by
    rw [ha, cut _ (fun k hk => by rw [hy2 k (hp k hk), EReal.bot_sub, Ideal.exp2_bot, zero_mul])]
    exact sum_congr rfl fun k _ => by rw [ey k]
  rw [hl', Ideal.div_coe (mul_pos hκ Wpos).ne', hW, ha', mul_comm, pos_mul_sum _ (by positivity)]
  refine sum_congr rfl fun k hk => ?_
  rw [ez k (mem_range.mp hk), Ideal.div_coe Wpos.ne', ← mul_assoc, ← EReal.coe_mul, ← EReal.coe_mul]
  congr 2
  field_simp

/-- The greatest of finitely many reals and lower bounds, one of them real, is real. -/
theorem max_real {T : ℕ} (b : EReal) (hb : b = ⊥) (s : Fin T → EReal) (hs : ∀ j, s j ≠ ⊤) (j : Fin T) (hj : s j ≠ ⊥) :
    ∃ Z : ℝ, fold max b s univ = Z := by
  refine real_of (ne_of_lt ((Finset.fold_max_lt _).mpr ⟨?_, fun j _ => lt_top_iff_ne_top.mpr (hs j)⟩)) ?_
  · rw [hb]; exact bot_lt_top
  · exact ne_of_gt (lt_of_lt_of_le (bot_lt_iff_ne_bot.mpr hj) ((Finset.le_fold_max _).mpr (Or.inr ⟨j, mem_univ _, le_rfl⟩)))

end Cert.Proof.Fox
end
-- ==== Proof.FoxPt.lean ====
module

public import proofs.«01_k».proof.Proof.FoxOut
public import proofs.«01_k».proof.Proof.FoxMath
public import Idealize.ShloMosaic.Lib.Pointwise
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe
open Cert.Proof.Fox Idealize.ShloMosaic.WordCmp

theorem ninf : (Ideal.ofBits .f32 0xFF800000#32 : EReal) = ⊥ := by
  simp [Ideal.ofBits, Ideal.ieee]
theorem masked_eq : (Named.named (F := Ideal) (φ := .f32) κ "masked" 0xF149F2CA#32) = ⊥ :=
  IdealRules.named_const.ideal_named_scalar _ _ _ _ rfl
theorem log2e_eq : (Named.named (F := Ideal) (φ := .f32) κ "log2_e" 0x3FB8AA3B#32) = (((Real.log 2)⁻¹ : ℝ) : EReal) :=
  IdealRules.named_const.ideal_named_scalar _ _ _ _ rfl

/-- The mask of the first masked tile: key `512 i + j` against query `512 i + r`. -/
theorem maskF (i : ℕ) (hi : i < 16) (j r : ℕ) (hj : j < 256) (hr : r < 512) (A B : EReal) :
    Scalar.select (IntOp.cmpi .sle (IntOp.addi (kF i) (BitVec.ofNat 32 j))
      (IntOp.addi (Scalar.addi (Scalar.muli (BitVec.ofNat 32 i) 512#32) 0#32) (BitVec.ofNat 32 r))) A B = if j ≤ r then A else B := by
  have e1 : IntOp.addi (kF i) (BitVec.ofNat 32 j) = BitVec.ofNat 32 (2 * i * 256 + j) := by
    rw [BitVec.ofNat_add, BitVec.ofNat_mul, BitVec.ofNat_mul]; rfl
  have e2 : IntOp.addi (Scalar.addi (Scalar.muli (BitVec.ofNat 32 i) 512#32) 0#32) (BitVec.ofNat 32 r) = BitVec.ofNat 32 (i * 512 + 0 + r) := by
    rw [BitVec.ofNat_add, BitVec.ofNat_add, BitVec.ofNat_mul]; rfl
  rw [e1, e2]
  have q := cmpi_sle_ofNat_eq_one_iff (w := 32) (a := 2 * i * 256 + j) (b := i * 512 + 0 + r) (by norm_num; omega) (by norm_num; omega)
  unfold Scalar.select
  by_cases h : j ≤ r
  · rw [if_pos h]; exact if_pos (q.mpr (by omega))
  · rw [if_neg h]; exact if_neg (fun hc => h (by have := q.mp hc; omega))

/-- The mask of the second masked tile: key `512 i + 256 + j` against query `512 i + 256 + r`. -/
theorem maskH (i : ℕ) (hi : i < 16) (j r : ℕ) (hj : j < 256) (hr : r < 256) (A B : EReal) :
    Scalar.select (IntOp.cmpi .sle (IntOp.addi (Scalar.muli (tH i) 256#32) (BitVec.ofNat 32 j))
      (IntOp.addi (Scalar.addi (Scalar.muli (BitVec.ofNat 32 i) 512#32) 256#32) (BitVec.ofNat 32 r))) A B = if j ≤ r then A else B := by
  have e1 : IntOp.addi (Scalar.muli (tH i) 256#32) (BitVec.ofNat 32 j) = BitVec.ofNat 32 ((2 * i + 1) * 256 + j) := by
    rw [BitVec.ofNat_add, BitVec.ofNat_mul, BitVec.ofNat_add, BitVec.ofNat_mul]; rfl
  have e2 : IntOp.addi (Scalar.addi (Scalar.muli (BitVec.ofNat 32 i) 512#32) 256#32) (BitVec.ofNat 32 r) = BitVec.ofNat 32 (i * 512 + 256 + r) := by
    rw [BitVec.ofNat_add, BitVec.ofNat_add, BitVec.ofNat_mul]; rfl
  rw [e1, e2]
  have q := cmpi_sle_ofNat_eq_one_iff (w := 32) (a := (2 * i + 1) * 256 + j) (b := i * 512 + 256 + r) (by norm_num; omega) (by norm_num; omega)
  unfold Scalar.select
  by_cases h : j ≤ r
  · rw [if_pos h]; exact if_pos (q.mpr (by omega))
  · rw [if_neg h]; exact if_neg (fun hc => h (by have := q.mp hc; omega))

/-! ### The tile steps, column by column -/

/-- Greatest of a bound and 256 scores. -/
abbrev mx (m : EReal) (s : Fin 256 → EReal) : EReal := max m (Finset.fold max ⊥ s Finset.univ)

section Columns

theorem nM_apply  (s : Vec Ideal S1x1x256x512 .f32) (m : Vec Ideal S1x1x512 .f32) (r : Fin 512) :
    nM s m (ix3 0 0 r) = mx (m (ix3 0 0 r)) (fun j => s (ix4 0 0 j r)) := by
  pointwise [nM, k0_pay15, k0_pay12, k0_pay11, k0_pay10]
  rw [ninf]; try rfl
theorem nL_apply  (s : Vec Ideal S1x1x256x512 .f32) (m l : Vec Ideal S1x1x512 .f32) (v : Vec Ideal S256x128 .bf16) (r : Fin 512) :
    nL s m v l (ix3 0 0 r) = Ideal.exp2 (m (ix3 0 0 r) - mx (m (ix3 0 0 r)) (fun j => s (ix4 0 0 j r))) * l (ix3 0 0 r)
      + ∑ j, Ideal.exp2 ((fun j => s (ix4 0 0 j r)) j - mx (m (ix3 0 0 r)) (fun j => s (ix4 0 0 j r))) := by
  pointwise [nL, k0_pay17, k0_pay13, k0_pay14, k0_pay16, k0_pay12, k0_pay11, k0_pay10]
  rw [ninf]; try rfl
theorem nA_apply  (s : Vec Ideal S1x1x256x512 .f32) (m : Vec Ideal S1x1x512 .f32) (v : Vec Ideal S256x128 .bf16) (a : Vec Ideal S1x128x512 .f32)
    (d : Fin 128) (r : Fin 512) :
    nA s m v a (ix3 0 d r) = Ideal.exp2 (m (ix3 0 0 r) - mx (m (ix3 0 0 r)) (fun j => s (ix4 0 0 j r))) * a (ix3 0 d r)
      + ∑ j, v (ix2 j d) * Ideal.exp2 ((fun j => s (ix4 0 0 j r)) j - mx (m (ix3 0 0 r)) (fun j => s (ix4 0 0 j r))) := by
  pointwise [nA, k0_pay18, k0_pay13, k0_pay14, k0_pay16, k0_pay12, k0_pay11, k0_pay10]
  rw [ninf]; try rfl

theorem mM_apply (i : ℕ) (hi : i < 16) (s : Vec Ideal S1x1x256x512 .f32) (m : Vec Ideal S1x1x512 .f32) (r : Fin 512) :
    mM (BitVec.ofNat 32 i) (kF i) s m (ix3 0 0 r) = mx (m (ix3 0 0 r)) (fun j : Fin 256 => if j.val ≤ r.val then s (ix4 0 0 j r) else ⊥) := by
  pointwise [mM, k0_pay191, k0_pay189, k0_pay188, k0_pay187, k0_pay186]
  simp only [maskF i hi _ _ (Fin.isLt _) r.isLt, masked_eq, ninf]; try rfl
theorem mL_apply (i : ℕ) (hi : i < 16) (s : Vec Ideal S1x1x256x512 .f32) (m l : Vec Ideal S1x1x512 .f32) (v : Vec Ideal S256x128 .bf16) (r : Fin 512) :
    mL (BitVec.ofNat 32 i) (kF i) s m v l (ix3 0 0 r) = Ideal.exp2 (m (ix3 0 0 r) - mx (m (ix3 0 0 r)) (fun j : Fin 256 => if j.val ≤ r.val then s (ix4 0 0 j r) else ⊥)) * l (ix3 0 0 r)
      + ∑ j, Ideal.exp2 ((fun j : Fin 256 => if j.val ≤ r.val then s (ix4 0 0 j r) else ⊥) j - mx (m (ix3 0 0 r)) (fun j : Fin 256 => if j.val ≤ r.val then s (ix4 0 0 j r) else ⊥)) := by
  pointwise [mL, k0_pay193, k0_pay192, k0_pay190, k0_pay189, k0_pay188, k0_pay187, k0_pay186]
  simp only [maskF i hi _ _ (Fin.isLt _) r.isLt, masked_eq, ninf]; try rfl
theorem mA_apply (i : ℕ) (hi : i < 16) (s : Vec Ideal S1x1x256x512 .f32) (m : Vec Ideal S1x1x512 .f32) (v : Vec Ideal S256x128 .bf16) (a : Vec Ideal S1x128x512 .f32)
    (d : Fin 128) (r : Fin 512) :
    mA (BitVec.ofNat 32 i) (kF i) s m v a (ix3 0 d r) = Ideal.exp2 (m (ix3 0 0 r) - mx (m (ix3 0 0 r)) (fun j : Fin 256 => if j.val ≤ r.val then s (ix4 0 0 j r) else ⊥)) * a (ix3 0 d r)
      + ∑ j, v (ix2 j d) * Ideal.exp2 ((fun j : Fin 256 => if j.val ≤ r.val then s (ix4 0 0 j r) else ⊥) j - mx (m (ix3 0 0 r)) (fun j : Fin 256 => if j.val ≤ r.val then s (ix4 0 0 j r) else ⊥)) := by
  pointwise [mA, k0_pay194, k0_pay192, k0_pay190, k0_pay189, k0_pay188, k0_pay187, k0_pay186]
  simp only [maskF i hi _ _ (Fin.isLt _) r.isLt, masked_eq, ninf]; try rfl

theorem hM_apply (i : ℕ) (hi : i < 16) (s : Vec Ideal S1x1x256x256 .f32) (m : Vec Ideal S1x1x256 .f32) (r : Fin 256) :
    hM (BitVec.ofNat 32 i) (tH i) s m (ix3 0 0 r) = mx (m (ix3 0 0 r)) (fun j : Fin 256 => if j.val ≤ r.val then s (ix4 0 0 j r) else ⊥) := by
  pointwise [hM, k0_pay236, k0_pay234, k0_pay233, k0_pay232]
  simp only [maskH i hi _ _ (Fin.isLt _) r.isLt, masked_eq, ninf]; try rfl
theorem hL_apply (i : ℕ) (hi : i < 16) (s : Vec Ideal S1x1x256x256 .f32) (m l : Vec Ideal S1x1x256 .f32) (v : Vec Ideal S256x128 .bf16) (r : Fin 256) :
    hL (BitVec.ofNat 32 i) (tH i) s m v l (ix3 0 0 r) = Ideal.exp2 (m (ix3 0 0 r) - mx (m (ix3 0 0 r)) (fun j : Fin 256 => if j.val ≤ r.val then s (ix4 0 0 j r) else ⊥)) * l (ix3 0 0 r)
      + ∑ j, Ideal.exp2 ((fun j : Fin 256 => if j.val ≤ r.val then s (ix4 0 0 j r) else ⊥) j - mx (m (ix3 0 0 r)) (fun j : Fin 256 => if j.val ≤ r.val then s (ix4 0 0 j r) else ⊥)) := by
  pointwise [hL, k0_pay238, k0_pay235, k0_pay237, k0_pay234, k0_pay233, k0_pay232]
  simp only [maskH i hi _ _ (Fin.isLt _) r.isLt, masked_eq, ninf]; try rfl
theorem hA_apply (i : ℕ) (hi : i < 16) (s : Vec Ideal S1x1x256x256 .f32) (m : Vec Ideal S1x1x256 .f32) (v : Vec Ideal S256x128 .bf16) (a : Vec Ideal S1x128x256 .f32)
    (d : Fin 128) (r : Fin 256) :
    hA (BitVec.ofNat 32 i) (tH i) s m v a (ix3 0 d r) = Ideal.exp2 (m (ix3 0 0 r) - mx (m (ix3 0 0 r)) (fun j : Fin 256 => if j.val ≤ r.val then s (ix4 0 0 j r) else ⊥)) * a (ix3 0 d r)
      + ∑ j, v (ix2 j d) * Ideal.exp2 ((fun j : Fin 256 => if j.val ≤ r.val then s (ix4 0 0 j r) else ⊥) j - mx (m (ix3 0 0 r)) (fun j : Fin 256 => if j.val ≤ r.val then s (ix4 0 0 j r) else ⊥)) := by
  pointwise [hA, k0_pay239, k0_pay235, k0_pay237, k0_pay234, k0_pay233, k0_pay232]
  simp only [maskH i hi _ _ (Fin.isLt _) r.isLt, masked_eq, ninf]; try rfl

theorem oT_apply (x : Vec Ideal S1x128x512 .f32) (l : Vec Ideal S1x1x512 .f32) (r : Fin 512) (d : Fin 128) :
    oT x l (ix2 r d) = Ideal.div (x (ix3 0 d r)) (l (ix3 0 0 r)) := by
  pointwise [oT, k0_pay2]
end Columns

section Block
variable (i : ℕ) (x2 : S512x512.Idx → EReal) (x3 x4 : S8192x512.Idx → EReal) (x5 : S1x8192x4.Idx → EReal) (h : ℕ) (r : Fin 512) (d : Fin 128)

/-- Score, to the base 2 and up to a shift that depends on the query only, of key `k` for query `r` of the block. -/
def X (k : ℕ) : EReal :=
  (x5 (ix3 0 ⟨512 * i % 8192, Nat.mod_lt _ (by decide)⟩ ⟨h % 4, Nat.mod_lt _ (by decide)⟩)
      - x5 (ix3 0 ⟨k % 8192, Nat.mod_lt _ (by decide)⟩ ⟨h % 4, Nat.mod_lt _ (by decide)⟩)) * (((Real.log 2)⁻¹ : ℝ) : EReal)
    + ∑ e : Fin 128, x3 (ix2 ⟨k % 8192, Nat.mod_lt _ (by decide)⟩ ⟨(128 * h + e.val) % 512, Nat.mod_lt _ (by decide)⟩)
        * x2 (ix2 r ⟨(128 * h + e.val) % 512, Nat.mod_lt _ (by decide)⟩)
/-- The same under the mask, and the values. -/
def Y (k : ℕ) : EReal := if k ≤ 512 * i + r.val then X i x2 x3 x5 h r k else ⊥
def Vv (k : ℕ) : EReal := x4 (ix2 ⟨k % 8192, Nat.mod_lt _ (by decide)⟩ ⟨(128 * h + d.val) % 512, Nat.mod_lt _ (by decide)⟩)

theorem lg_apply (n : ℕ) (j : Fin 256) : lg (F := Ideal) i x2 x3 x5 n h (ix4 0 0 j r) = X i x2 x3 x5 h r (256 * n + j.val) := by
  unfold X
  pointwise [lg, k0_pay3, c0b, kb, qb, cb]
  rw [log2e_eq]
theorem lgh_apply (n : ℕ) (j r' : Fin 256) (hr : r.val = 256 + r'.val) :
    lgh (F := Ideal) i x2 x3 x5 n h (ix4 0 0 j r') = X i x2 x3 x5 h r (256 * n + j.val) := by
  have er : r = ⟨256 + r'.val, by have := r'.isLt; omega⟩ := Fin.ext hr
  rw [er]
  unfold X
  pointwise [lgh, k0_pay180, c0b, kb, qh, cb]
  rw [log2e_eq]
theorem kb_apply (n : ℕ) (j : Fin 256) : kb (F := Ideal) x4 n h (ix2 j d) = Vv x4 h d (256 * n + j.val) := rfl

variable (hX : ∀ k, ∃ x : ℝ, X i x2 x3 x5 h r k = x)
include hX
theorem Y_top (k : ℕ) : Y i x2 x3 x5 h r k ≠ ⊤ := by
  unfold Y
  split_ifs
  · obtain ⟨x, e⟩ := hX k; rw [e]; exact EReal.coe_ne_top x
  · exact bot_ne_top
theorem Y_zero : Y i x2 x3 x5 h r 0 ≠ ⊥ := by
  unfold Y
  rw [if_pos (Nat.zero_le _)]
  obtain ⟨x, e⟩ := hX 0; rw [e]; exact EReal.coe_ne_bot x

/-- Before the masked tiles. -/
theorem col_loop (n : ℕ) (hn : n ≤ 2 * i) : St (Y i x2 x3 x5 h r) (Vv x4 h d) (256 * n) (SM (F := Ideal) i x2 x3 x5 h n (ix3 0 0 r))
    (SL (F := Ideal) i x2 x3 x4 x5 h n (ix3 0 0 r)) (SA (F := Ideal) i x2 x3 x4 x5 h n (ix3 0 d r)) := by
  induction n with
  | zero =>
    have z : (Ideal.ofBits FTy.f32 0x00000000#32 : EReal) = 0 := Ideal.ofBits_zero .f32
    exact Or.inl ⟨rfl, masked_eq, z, z⟩
  | succ n ih =>
    have e := (ih (by omega)).step (Y_top i x2 x3 x5 h r hX) (Y_zero i x2 x3 x5 h r hX) (T := 256) (by decide) ⊥ rfl
      (fun j => lg (F := Ideal) i x2 x3 x5 n h (ix4 0 0 j r)) (fun j => kb (F := Ideal) x4 n h (ix2 j d))
      (fun j => by
        have := j.isLt
        rw [lg_apply]; unfold Y; rw [if_pos (by omega)])
      (fun j => rfl)
    show St _ _ (256 * (n + 1)) (nM (F := Ideal) (lg i x2 x3 x5 n h) (SM i x2 x3 x5 h n) (ix3 0 0 r))
      (nL (F := Ideal) (lg i x2 x3 x5 n h) (SM i x2 x3 x5 h n) (kb x4 n h) (SL i x2 x3 x4 x5 h n) (ix3 0 0 r))
      (nA (F := Ideal) (lg i x2 x3 x5 n h) (SM i x2 x3 x5 h n) (kb x4 n h) (SA i x2 x3 x4 x5 h n) (ix3 0 d r))
    rw [nM_apply, nL_apply, nA_apply]
    exact e

/-- After the first masked tile. -/
theorem col_first (hi : i < 16) : St (Y i x2 x3 x5 h r) (Vv x4 h d) (512 * i + 256) (M1 (F := Ideal) i x2 x3 x5 h (ix3 0 0 r))
    (L1 (F := Ideal) i x2 x3 x4 x5 h (ix3 0 0 r)) (A1 (F := Ideal) i x2 x3 x4 x5 h (ix3 0 d r)) := by
  have e := (col_loop i x2 x3 x4 x5 h r d hX (2 * i) le_rfl).step (Y_top i x2 x3 x5 h r hX) (Y_zero i x2 x3 x5 h r hX) (T := 256) (by decide) ⊥ rfl
      (fun j => if j.val ≤ r.val then lg (F := Ideal) i x2 x3 x5 (2 * i) h (ix4 0 0 j r) else ⊥) (fun j => kb (F := Ideal) x4 (2 * i) h (ix2 j d))
      (fun j => by
        have := j.isLt
        rw [lg_apply]; unfold Y
        by_cases c : j.val ≤ r.val
        · rw [if_pos c, if_pos (by omega)]
        · rw [if_neg c, if_neg (by omega)])
      (fun j => rfl)
  rw [show 256 * (2 * i) + 256 = 512 * i + 256 by omega] at e
  unfold M1 L1 A1
  rw [mM_apply i hi, mL_apply i hi, mA_apply i hi]
  exact e

/-- After the second masked tile, for a query of the later half. -/
theorem col_second (hi : i < 16) (r' : Fin 256) (hr : r.val = 256 + r'.val) : ∃ m, St (Y i x2 x3 x5 h r) (Vv x4 h d) (512 * i + 512) m
    (L2 (F := Ideal) i x2 x3 x4 x5 h (ix3 0 0 r)) (A2 (F := Ideal) i x2 x3 x4 x5 h (ix3 0 d r)) := by
  have er : (⟨256 + r'.val, by have := r'.isLt; omega⟩ : Fin 512) = r := Fin.ext hr.symm
  have em : M1 (F := Ideal) i x2 x3 x5 h (ix3 0 0 r) = hf8 (M1 (F := Ideal) i x2 x3 x5 h) (ix3 0 0 r') := by rw [← er]; rfl
  have el : L1 (F := Ideal) i x2 x3 x4 x5 h (ix3 0 0 r) = hf8 (L1 (F := Ideal) i x2 x3 x4 x5 h) (ix3 0 0 r') := by rw [← er]; rfl
  have ea : A1 (F := Ideal) i x2 x3 x4 x5 h (ix3 0 d r) = hf7 (A1 (F := Ideal) i x2 x3 x4 x5 h) (ix3 0 d r') := by rw [← er]; rfl
  have e0 := col_first i x2 x3 x4 x5 h r d hX hi
  rw [em, el, ea] at e0
  have e := e0.step (Y_top i x2 x3 x5 h r hX) (Y_zero i x2 x3 x5 h r hX) (T := 256) (by decide) ⊥ rfl
      (fun j => if j.val ≤ r'.val then lgh (F := Ideal) i x2 x3 x5 (2 * i + 1) h (ix4 0 0 j r') else ⊥) (fun j => kb (F := Ideal) x4 (2 * i + 1) h (ix2 j d))
      (fun j => by
        have := j.isLt
        rw [lgh_apply i x2 x3 x5 h r _ j r' hr, show 512 * i + 256 + j.val = 256 * (2 * i + 1) + j.val by omega]; unfold Y
        by_cases c : j.val ≤ r'.val
        · rw [if_pos c, if_pos (by omega)]
        · rw [if_neg c, if_neg (by omega)])
      (fun j => by rw [kb_apply, show 512 * i + 256 + j.val = 256 * (2 * i + 1) + j.val by omega])
  rw [show 512 * i + 256 + 256 = 512 * i + 512 by omega] at e
  refine ⟨max (hf8 (M1 (F := Ideal) i x2 x3 x5 h) (ix3 0 0 r')) (Finset.fold max ⊥ (fun j : Fin 256 =>
    if j.val ≤ r'.val then lgh (F := Ideal) i x2 x3 x5 (2 * i + 1) h (ix4 0 0 j r') else ⊥) Finset.univ), ?_⟩
  have hn : ¬ r.val < 256 := by omega
  have l2 : L2 (F := Ideal) i x2 x3 x4 x5 h (ix3 0 0 r) = hL (F := Ideal) (BitVec.ofNat 32 i) (tH i) (lgh i x2 x3 x5 (2 * i + 1) h) (hf8 (M1 i x2 x3 x5 h)) (kb x4 (2 * i + 1) h) (hf8 (L1 i x2 x3 x4 x5 h)) (ix3 0 0 r') := by
    unfold L2 ps8
    rw [if_neg (show ¬ ((ix3 0 0 r : S1x1x512.Idx) 2).val < 256 from hn)]
    congr 2
    exact Fin.ext (show r.val - 256 = r'.val by omega)
  have a2 : A2 (F := Ideal) i x2 x3 x4 x5 h (ix3 0 d r) = hA (F := Ideal) (BitVec.ofNat 32 i) (tH i) (lgh i x2 x3 x5 (2 * i + 1) h) (hf8 (M1 i x2 x3 x5 h)) (kb x4 (2 * i + 1) h) (hf7 (A1 i x2 x3 x4 x5 h)) (ix3 0 d r') := by
    unfold A2 ps7
    rw [if_neg (show ¬ ((ix3 0 d r : S1x128x512.Idx) 2).val < 256 from hn)]
    congr 2
    exact Fin.ext (show r.val - 256 = r'.val by omega)
  rw [l2, a2, hL_apply i hi, hA_apply i hi]
  exact e

/-- At the end: some number of keys, no fewer than those the query sees. -/
theorem col_end (hi : i < 16) : ∃ n m, 512 * i + r.val < n ∧ n ≤ 8192 ∧ St (Y i x2 x3 x5 h r) (Vv x4 h d) n m
    (L2 (F := Ideal) i x2 x3 x4 x5 h (ix3 0 0 r)) (A2 (F := Ideal) i x2 x3 x4 x5 h (ix3 0 d r)) := by
  have hr := r.isLt
  by_cases c : r.val < 256
  · refine ⟨512 * i + 256, M1 (F := Ideal) i x2 x3 x5 h (ix3 0 0 r), by omega, by omega, ?_⟩
    have l2 : L2 (F := Ideal) i x2 x3 x4 x5 h (ix3 0 0 r) = L1 (F := Ideal) i x2 x3 x4 x5 h (ix3 0 0 r) := by
      unfold L2 ps8
      rw [if_pos (show ((ix3 0 0 r : S1x1x512.Idx) 2).val < 256 from c)]
    have a2 : A2 (F := Ideal) i x2 x3 x4 x5 h (ix3 0 d r) = A1 (F := Ideal) i x2 x3 x4 x5 h (ix3 0 d r) := by
      unfold A2 ps7
      rw [if_pos (show ((ix3 0 d r : S1x128x512.Idx) 2).val < 256 from c)]
    rw [l2, a2]
    exact col_first i x2 x3 x4 x5 h r d hX hi
  · obtain ⟨m, e⟩ := col_second i x2 x3 x4 x5 h r d hX hi ⟨r.val - 256, by omega⟩ (by show r.val = 256 + (r.val - 256); omega)
    exact ⟨_, m, by omega, by omega, e⟩

/-- The block's result is the softmax-weighted sum for any logits `z` that are the scores up to a scale and a shift. -/
theorem out_val (hi : i < 16) (z : ℕ → EReal) (Z δ : ℝ) (x : ℕ → ℝ) (hx : ∀ k, X i x2 x3 x5 h r k = x k)
    (hz1 : ∀ k, k < 8192 → k ≤ 512 * i + r.val → z k = ((x k * Real.log 2 + δ : ℝ) : EReal))
    (hz2 : ∀ k, k < 8192 → ¬ k ≤ 512 * i + r.val → z k = ⊥) :
    oT (F := Ideal) (A2 i x2 x3 x4 x5 h) (L2 i x2 x3 x4 x5 h) (ix2 r d)
      = ∑ k ∈ Finset.range 8192, Ideal.div (Ideal.exp (z k - Z)) (∑ k ∈ Finset.range 8192, Ideal.exp (z k - Z)) * Vv x4 h d k := by
  rw [oT_apply]
  obtain ⟨n, m, hn, hN, e⟩ := col_end i x2 x3 x4 x5 h r d hX hi
  refine e.final (by omega) hN z Z δ (Y_zero i x2 x3 x5 h r hX) x (fun k => k ≤ 512 * i + r.val) (fun k hk => by omega) (fun k hk => ?_) (fun k hk => ?_) hz1 hz2
  · unfold Y; rw [if_pos hk, hx]
  · unfold Y; rw [if_neg hk]
end Block

end Cert.KernelIdeal.Hand
end
-- ==== Proof.FoxBlk.lean ====
module

public import proofs.«01_k».proof.Proof.FoxPt
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe
open Cert.Proof.Fox

variable (m : (ℓ : Loc nD τ sig) → Buf (Elt Ideal) ℓ)

/-- The windows' block indices over the grid. -/
theorem idx : ∀ t : Fin cfg0.N, win0_0.index t = ![t.val % 16, t.val / 16] ∧ win0_1.index t = ![0, t.val / 16 + 4]
    ∧ win0_2.index t = ![0, t.val / 16 + 8] ∧ win0_3.index t = ![t.val / 16, 0, 0] ∧ win0_4.index t = ![t.val % 16, t.val / 16] :=
  (by decide +kernel : ∀ t : Fin grid0.N, _)
theorem coord1 : ∀ t : Fin cfg0.N, (grid0.coords t 1).val = t.val % 16 := (by decide +kernel : ∀ t : Fin grid0.N, _)

abbrev Q (c : Dev nD) : S8192x2048.Idx → EReal := m ((c : Thread nD τ).loc main_arg0)
abbrev K (c : Dev nD) : S8192x2048.Idx → EReal := m ((c : Thread nD τ).loc main_arg1)
abbrev W (c : Dev nD) : S8192x2048.Idx → EReal := m ((c : Thread nD τ).loc main_arg2)
abbrev C (c : Dev nD) : S8192x16.Idx → EReal := m ((c : Thread nD τ).loc main_arg3)

variable (c : Dev nD) (t : Fin cfg0.N)

theorem blk_c (k : Fin 8192) (h : Fin 4) (h1 : 4 * (t.val / 16) + h.val < 16) :
    iblk m c 3 t (ix3 0 k h) = C m c (ix2 k ⟨4 * (t.val / 16) + h.val, h1⟩) := by
  blk_point [iblk, V, idx t]

/-- The joined operand, as the call finds it. -/
abbrev J : S8192x6144.Idx → EReal := V m c main_v8

theorem J_eq : J m c = concatenate S8192x6144 1 [⟨S8192x2048, (Host.divf (Q m c) (broadcastInDim S8192x2048 ![] bcast_S_S8192x2048 (mulf (Host.log (constant (F := Ideal) S_ .f32 0x40000000#32)) (Host.sqrt (constant (F := Ideal) S_ .f32 0x43000000#32)))) : S8192x2048.Idx → EReal)⟩, ⟨S8192x2048, K m c⟩, ⟨S8192x2048, W m c⟩] concatenates_S8192x2048_S8192x2048_S8192x2048_S8192x6144_d1 := by
  unfold J V
  rfl

theorem cat_at (x y z : S8192x2048.Idx → EReal) (r : Fin 8192) (e : Fin 6144) :
    concatenate S8192x6144 1 [⟨S8192x2048, x⟩, ⟨S8192x2048, y⟩, ⟨S8192x2048, z⟩] concatenates_S8192x2048_S8192x2048_S8192x2048_S8192x6144_d1 (ix2 r e)
      = if h : e.val < 2048 then x (ix2 r ⟨e.val, h⟩) else if h : e.val - 2048 < 2048 then y (ix2 r ⟨e.val - 2048, h⟩) else z (ix2 r ⟨e.val - 2048 - 2048, by omega⟩) := by
  pointwise []

theorem blk_v (k : Fin 8192) (e : Fin 512) (h1 : 512 * (t.val / 16 + 8) + e.val < 6144) :
    iblk m c 2 t (ix2 k e) = J m c (ix2 k ⟨512 * (t.val / 16 + 8) + e.val, h1⟩) := by
  unfold J
  blk_point [iblk, idx t]
theorem blk_k (k : Fin 8192) (e : Fin 512) (h1 : 512 * (t.val / 16 + 4) + e.val < 6144) :
    iblk m c 1 t (ix2 k e) = J m c (ix2 k ⟨512 * (t.val / 16 + 4) + e.val, h1⟩) := by
  unfold J
  blk_point [iblk, idx t]
theorem blk_q (r : Fin 512) (e : Fin 512) (h0 : 512 * (t.val % 16) + r.val < 8192) (h1 : 512 * (t.val / 16) + e.val < 6144) :
    iblk m c 0 t (ix2 r e) = J m c (ix2 ⟨512 * (t.val % 16) + r.val, h0⟩ ⟨512 * (t.val / 16) + e.val, h1⟩) := by
  unfold J
  blk_point [iblk, idx t]

end Cert.KernelIdeal.Hand
end
-- ==== Proof.Ref.lean ====
module

public import proofs.«01_k».proof.Defs
public import proofs.«01_k».proof.Proof.Gen.ReferenceIdeal.Run
public import proofs.«01_k».proof.Proof.Gen.ReferenceIdeal.Read

@[expose] public section

end
-- ==== Proof.FoxRef.lean ====
module

public import proofs.«01_k».proof.Proof.Ref
public import proofs.«01_k».proof.Proof.FoxMath
public import Idealize.ShloMosaic.Lib.Pointwise
public import Idealize.ShloMosaic.Lib.WordCmp

@[expose] public section

set_option maxRecDepth 16384

noncomputable section

namespace Cert.Proof.Fox

open Cert.ReferenceIdeal Cert.ReferenceIdeal.Read
open Idealize.ShloMosaic Idealize.ShloMosaic.TcCoe Idealize.ShloMosaic.WordCmp

variable (x0 x1 x2 : S8192x2048.Idx → EReal) (x3 : S8192x16.Idx → EReal)

/-- The mask of the reference: key `k` against query `R`. -/
theorem mask_ref (k R : Fin 8192) (A B : EReal) :
    Scalar.select (IntOp.cmpi .sle (BitVec.ofNat 32 k.val) (BitVec.ofNat 32 R.val)) A B = if k.val ≤ R.val then A else B := by
  have hk := k.isLt
  have hR := R.isLt
  have q := cmpi_sle_ofNat_eq_one_iff (w := 32) (a := k.val) (b := R.val) (by norm_num; omega) (by norm_num; omega)
  unfold Scalar.select
  by_cases h : k.val ≤ R.val
  · rw [if_pos h]; exact if_pos (q.mpr h)
  · rw [if_neg h]; exact if_neg (fun hc => h (q.mp hc))

theorem ninf_ref : Ideal.ofBits .f32 0xFF800000#32 = ⊥ := by
  simp [Ideal.ofBits, Ideal.ieee]
theorem c128 : Ideal.ofBits .f32 0x43000000#32 = ((128 : ℝ) : EReal) := by
  simp [Ideal.ofBits, Ideal.ieee, -EReal.coe_mul]; norm_num

/-- The masked logits of the reference. -/
theorem ref_logit (h : Fin 16) (R k : Fin 8192) : val_main_v23 (F := Ideal) x0 x1 x3 (ix3 h R k)
    = if k.val ≤ R.val then Ideal.div (∑ e : Fin 128, x0 (ix2 R ⟨h.val * 128 + e.val, by have := h.isLt; have := e.isLt; omega⟩)
          * x1 (ix2 k ⟨h.val * 128 + e.val, by have := h.isLt; have := e.isLt; omega⟩)) (Ideal.sqrt ((128 : ℝ) : EReal)) + x3 (ix2 R h) - x3 (ix2 k h) else ⊥ := by
  pointwise [val_main_v23, val_main_call0_v2, val_main_call0_v1, val_main_call0_v0, val_main_cst_0, val_main_v22, val_main_v21, val_main_v20, val_main_v19,
    val_main_v18, val_main_v17, val_main_v16, val_main_v15, val_main_v14, val_main_v13, val_main_v12, val_main_v11, val_main_v10, val_main_v9, val_main_v8,
    val_main_cst, val_main_v7, val_main_v6, val_main_v3, val_main_v2, val_main_v1, val_main_v0]
  rw [mask_ref, c128, show id (constant (F := Ideal) S_ FTy.f32 4286578688#32) ix0 = ⊥ from ninf_ref]

/-- The greatest element along an axis is real, where no element is `⊤` and one along it is not `⊥`. -/
theorem red_max {s t u : Shape} {a : Fin s.rank} (x : FVec Ideal s .f32) (init : FVec Ideal u .f32) (h' : s.ReducesTo [a] t) (h : s.Reduces [a] t)
    (hu : 0 < u.numel) (j : t.Idx) (hb : init (Shape.Idx.first hu) = (⊥ : EReal)) (ht : ∀ i, x i ≠ (⊤ : EReal)) (k : Fin (s.size a))
    (hk : x (h.lift j k) ≠ (⊥ : EReal)) : ∃ Z : ℝ, Host.reduce FloatOps.maximumf x init h' hu j = (Z : EReal) := by
  rw [Host.reduce_eq_fold_single FloatOps.maximumf x init h' h hu j]
  exact max_real _ hb (fun k => x (h.lift j k)) (fun k => ht _) k hk

/-- The greatest logit of a query is real, where no logit is `⊤` and one is not `⊥`. -/
theorem ref_max (h : Fin 16) (R : Fin 8192) (ht : ∀ i, val_main_v23 (F := Ideal) x0 x1 x3 i ≠ ⊤)
    (hb : val_main_v23 (F := Ideal) x0 x1 x3 (ix3 h R ⟨0, by decide⟩) ≠ ⊥) : ∃ Z : ℝ, val_main_v26 (F := Ideal) x0 x1 x3 (ix2 h R) = Z := by
  have hr : S16x8192x8192.Reduces [2] S16x8192 := by decide
  have hl : hr.lift (ix2 h R) (⟨0, by decide⟩ : Fin (S16x8192x8192.size 2)) = ix3 h R ⟨0, by decide⟩ := funext fun a => match a with
    | ⟨0, _⟩ => rfl
    | ⟨1, _⟩ => rfl
    | ⟨2, _⟩ => rfl
  obtain ⟨Z, hZ⟩ := red_max (val_main_v23 (F := Ideal) x0 x1 x3) (val_main_cst_1 (F := Ideal)) Cert.ReferenceIdeal.Gen.reducesTo_S16x8192x8192_S16x8192_d2 hr Cert.ReferenceIdeal.Gen.h_S_ (ix2 h R) ninf_ref ht
    ⟨0, by decide⟩ (by rw [hl]; exact hb)
  refine ⟨Z, ?_⟩
  rw [val_main_v26_apply]
  unfold val_main_v24
  rw [hZ]
  have e : val_main_v25 (F := Ideal) (ix2 h R) = (⊥ : EReal) := ninf_ref
  rw [e]
  exact max_eq_right bot_le

/-- The reference's result. -/
theorem ref_out (R : Fin 8192) (C : Fin 2048) (hC : C.val / 128 < 16) : val_main_v38 (F := Ideal) x0 x1 x2 x3 (ix2 R C)
    = ∑ k : Fin 8192, Ideal.div (Ideal.exp (val_main_v23 (F := Ideal) x0 x1 x3 (ix3 ⟨C.val / 128, hC⟩ R k) - val_main_v26 (F := Ideal) x0 x1 x3 (ix2 ⟨C.val / 128, hC⟩ R)))
        (∑ k : Fin 8192, Ideal.exp (val_main_v23 (F := Ideal) x0 x1 x3 (ix3 ⟨C.val / 128, hC⟩ R k) - val_main_v26 (F := Ideal) x0 x1 x3 (ix2 ⟨C.val / 128, hC⟩ R))) * x2 (ix2 k C) := by
  pointwise [val_main_v38, val_main_v37, val_main_v36, val_main_v35, val_main_v34, val_main_v33, val_main_v32, val_main_v31, val_main_cst_3, val_main_v30,
    val_main_v29, val_main_v28, val_main_v27, val_main_v5, val_main_v4]

end Cert.Proof.Fox
end
-- ==== Proof.FoxPre.lean ====
module

public import proofs.«01_k».proof.Proof.Gen.Pre_finite_logits
public import proofs.«01_k».proof.Proof.FoxMath

@[expose] public section

noncomputable section

namespace Cert.Proof.Fox

open Idealize.ShloMosaic

/-- A conjunction of bits that is one has only ones. -/
theorem fold_and {ι : Type} [DecidableEq ι] (S : Finset ι) (f : ι → BitVec 1) (b : BitVec 1) (h : S.fold IntOp.andi b f = 1#1) : ∀ i ∈ S, f i = 1#1 := by
  have two : ∀ x y : BitVec 1, IntOp.andi x y = 1#1 → x = 1#1 ∧ y = 1#1 := by decide
  induction S using Finset.cons_induction with
  | empty => intro i hi; exact absurd hi (Finset.notMem_empty i)
  | cons a S ha ih =>
    rw [Finset.fold_cons] at h
    intro i hi
    rcases Finset.mem_cons.mp hi with rfl | hi
    · exact (two _ _ h).1
    · exact ih (two _ _ h).2 i hi

theorem pinf : Ideal.ofBits .f32 0x7F800000#32 = ⊤ := by
  simp [Ideal.ofBits, Ideal.ieee]

/-- An array whose finiteness test is all ones is real everywhere. -/
theorem all_real {s t u : Shape} {axes : List (Fin s.rank)} (x : FVec Ideal s .f32) (y : FVec Ideal s .f32) (hy : ∀ i, y i = (⊤ : EReal)) (init : IVec u 1)
    (h : s.ReducesTo axes t) (hu : 0 < u.numel) (j : t.Idx) (hj : ∀ i, h.drop i = j)
    (e : Host.reduce IntOp.andi (cmpf .olt (Host.absf x) y) init h hu j = 1#1) (i : s.Idx) : ∃ r : ℝ, x i = (r : EReal) := by
  classical
  rw [Host.reduce_eq_fold] at e
  have ei := fold_and _ _ _ e i (Finset.mem_filter.mpr ⟨Finset.mem_univ i, hj i⟩)
  have el : BitVec.ofBool (decide (max (x i : EReal) (-(x i : EReal)) < y i)) = 1#1 := ei
  have lt : max (x i : EReal) (-(x i : EReal)) < ⊤ := by
    rw [hy i] at el
    by_contra hc
    rw [decide_eq_false hc] at el
    exact absurd el (by decide)
  have h1 : (x i : EReal) ≠ ⊤ := fun hc => by rw [hc] at lt; simp at lt
  have h2 : (x i : EReal) ≠ ⊥ := fun hc => by rw [hc] at lt; simp at lt
  exact ⟨EReal.toReal (x i), (EReal.coe_toReal h1 h2).symm⟩

/-- What the precondition says: queries, keys and gate sums are real. -/
theorem finite (q k v : FVec Ideal Cert.Pre_finite_logits.S8192x2048 .f32) (c : FVec Ideal Cert.Pre_finite_logits.S8192x16 .f32)
    (h : @Cert.Pre_finite_logits.fn Cert.Pre_finite_logits.Gen.facts Ideal _ q k v c = fun _ => 1#1) :
    (∀ i, ∃ r : ℝ, q i = (r : EReal)) ∧ (∀ i, ∃ r : ℝ, k i = (r : EReal)) ∧ (∀ i, ∃ r : ℝ, c i = (r : EReal)) := by
  have two : ∀ x y : BitVec 1, IntOp.andi x y = 1#1 → x = 1#1 ∧ y = 1#1 := by decide
  have e := congrFun h (fun a => a.elim0)
  unfold Cert.Pre_finite_logits.fn at e
  obtain ⟨e1, e3⟩ := two _ _ e
  obtain ⟨e1, e2⟩ := two _ _ e1
  exact ⟨all_real q _ (fun i => pinf) _ _ _ _ (fun i => funext fun a => a.elim0) e1, all_real k _ (fun i => pinf) _ _ _ _ (fun i => funext fun a => a.elim0) e2,
    all_real c _ (fun i => pinf) _ _ _ _ (fun i => funext fun a => a.elim0) e3⟩

end Cert.Proof.Fox
end
-- ==== Proof.FoxValue.lean ====
module

public import proofs.«01_k».proof.Proof.FoxBlk
public import proofs.«01_k».proof.Proof.FoxRef
public import proofs.«01_k».proof.Proof.FoxPre

@[expose] public section

set_option maxRecDepth 16384

noncomputable section

namespace Cert.KernelIdeal.Hand

open Cert.KernelIdeal Cert.KernelIdeal.Gen
open Idealize.ShloMosaic Idealize.ShloMosaic.TcCoe
open Cert.Proof.Fox

section Scores
variable (i : ℕ) (x2 : S512x512.Idx → EReal) (x3 : S8192x512.Idx → EReal) (x5 : S1x8192x4.Idx → EReal) (h : ℕ) (r : Fin 512)
  (a : Fin 512 → ℝ) (b : Fin 8192 → Fin 512 → ℝ) (g : Fin 8192 → Fin 4 → ℝ)

/-- The score of key `k` over real data. -/
def xr (k : ℕ) : ℝ :=
  (g ⟨512 * i % 8192, Nat.mod_lt _ (by decide)⟩ ⟨h % 4, Nat.mod_lt _ (by decide)⟩ - g ⟨k % 8192, Nat.mod_lt _ (by decide)⟩ ⟨h % 4, Nat.mod_lt _ (by decide)⟩)
      * (Real.log 2)⁻¹
    + ∑ e : Fin 128, b ⟨k % 8192, Nat.mod_lt _ (by decide)⟩ ⟨(128 * h + e.val) % 512, Nat.mod_lt _ (by decide)⟩
        * a ⟨(128 * h + e.val) % 512, Nat.mod_lt _ (by decide)⟩

theorem X_real (ha : ∀ e, x2 (ix2 r e) = (a e : EReal)) (hb : ∀ k e, x3 (ix2 k e) = (b k e : EReal)) (hg : ∀ k h, x5 (ix3 0 k h) = (g k h : EReal)) (k : ℕ) :
    X i x2 x3 x5 h r k = (xr i h a b g k : EReal) := by
  unfold X xr
  simp only [ha, hb, hg]
  rw [EReal.coe_add, EReal.coe_mul, EReal.coe_sub, ← real_sum_fin]
  simp only [EReal.coe_mul]
end Scores

/-- Scores to the base 2 against logits: a factor and a shift. -/
theorem score_logit {T : ℕ} (q k : Fin T → ℝ) (c0 ck cR : ℝ) :
    (∑ e, q e * k e) / Real.sqrt 128 + cR - ck = ((c0 - ck) * (Real.log 2)⁻¹ + ∑ e, k e * (q e / (Real.log 2 * Real.sqrt 128))) * Real.log 2 + (cR - c0) := by
  have hl : Real.log 2 ≠ 0 := (Real.log_pos (by norm_num)).ne'
  have hs : Real.sqrt 128 ≠ 0 := (Real.sqrt_pos.mpr (by norm_num)).ne'
  have e : ∑ e, k e * (q e / (Real.log 2 * Real.sqrt 128)) = (∑ e, q e * k e) / (Real.log 2 * Real.sqrt 128) := by
    rw [Finset.sum_div]
    exact Finset.sum_congr rfl fun e _ => by ring
  rw [e]
  field_simp
  ring

variable (m : (ℓ : Loc nD τ sig) → Buf (Elt Ideal) ℓ) (c : Dev nD) (t : Fin cfg0.N)

theorem scale (i : S_.Idx) : mulf (Host.log (constant (F := Ideal) S_ .f32 0x40000000#32)) (Host.sqrt (constant (F := Ideal) S_ .f32 0x43000000#32)) i
    = ((Real.log 2 * Real.sqrt 128 : ℝ) : EReal) := by
  have e2 : Ideal.ofBits .f32 0x40000000#32 = ((2 : ℝ) : EReal) := by
    simp [Ideal.ofBits, Ideal.ieee, -EReal.coe_mul]; norm_num
  show Ideal.log (Ideal.ofBits .f32 0x40000000#32) * Ideal.sqrt (Ideal.ofBits .f32 0x43000000#32) = _
  rw [e2, c128, Ideal.log_coe, Ideal.sqrt_coe, if_neg (by norm_num), if_neg (by norm_num), EReal.coe_mul]

theorem ix2_ext {a b : ℕ} {r r' : Fin a} {e e' : Fin b} (h : r.val = r'.val) (h' : e.val = e'.val) : ix2 r e = ix2 r' e' :=
  congrArg₂ ix2 (Fin.ext h) (Fin.ext h')

theorem J_q (q : S8192x2048.Idx → ℝ) (hq : ∀ i, Q m c i = (q i : EReal)) (r : Fin 8192) (e : ℕ) (h : e < 6144) (h' : e < 2048) :
    J m c (ix2 r ⟨e, h⟩) = ((q (ix2 r ⟨e, h'⟩) / (Real.log 2 * Real.sqrt 128) : ℝ) : EReal) := by
  rw [J_eq, cat_at, dif_pos h']
  have hs : Real.log 2 * Real.sqrt 128 ≠ 0 := mul_ne_zero (Real.log_pos (by norm_num)).ne' (Real.sqrt_pos.mpr (by norm_num)).ne'
  refine (congrArg₂ Ideal.div (hq (ix2 r ⟨e, h'⟩)) (scale _)).trans ?_
  rw [Ideal.div_coe hs, ← EReal.coe_mul, mul_one_div]
theorem J_k (r : Fin 8192) (e e' : ℕ) (h : e' < 6144) (h' : e < 2048) (he : e' = 2048 + e) : J m c (ix2 r ⟨e', h⟩) = K m c (ix2 r ⟨e, h'⟩) := by
  have h1 : ¬ e' < 2048 := by omega
  have h2 : e' - 2048 < 2048 := by omega
  rw [J_eq, cat_at, dif_neg h1, dif_pos h2]
  exact congrArg (K m c) (ix2_ext rfl (show e' - 2048 = e by omega))
theorem J_v (r : Fin 8192) (e e' : ℕ) (h : e' < 6144) (h' : e < 2048) (he : e' = 4096 + e) : J m c (ix2 r ⟨e', h⟩) = W m c (ix2 r ⟨e, h'⟩) := by
  have h1 : ¬ e' < 2048 := by omega
  have h2 : ¬ e' - 2048 < 2048 := by omega
  rw [J_eq, cat_at, dif_neg h1, dif_neg h2]
  exact congrArg (W m c) (ix2_ext rfl (show e' - 2048 - 2048 = e by omega))

/-- One grid point's result is the reference's at the block's place. -/
theorem point_value (hq : ∀ i, ∃ r : ℝ, Q m c i = (r : EReal)) (hk : ∀ i, ∃ r : ℝ, K m c i = (r : EReal)) (hc : ∀ i, ∃ r : ℝ, C m c i = (r : EReal))
    (r : Fin 512) (col : Fin 512) (hR : 512 * (t.val % 16) + r.val < 8192) (hC : 512 * (t.val / 16) + col.val < 2048) :
    outAt m c t (ix2 r col) = Cert.ReferenceIdeal.Read.val_main_v38 (F := Ideal) (Q m c) (K m c) (W m c) (C m c)
      (ix2 ⟨512 * (t.val % 16) + r.val, hR⟩ ⟨512 * (t.val / 16) + col.val, hC⟩) := by
  obtain ⟨q, hq⟩ := Classical.skolem.mp hq
  obtain ⟨k, hk⟩ := Classical.skolem.mp hk
  obtain ⟨g, hg⟩ := Classical.skolem.mp hc
  have hN : t.val < 64 := t.isLt
  have hr := r.isLt
  have hcol := col.isLt
  have hi : t.val % 16 < 16 := Nat.mod_lt _ (by decide)
  have hgr : t.val / 16 < 4 := by omega
  have hh : (512 * (t.val / 16) + col.val) / 128 = 4 * (t.val / 16) + col.val / 128 := by omega
  have hH : (512 * (t.val / 16) + col.val) / 128 < 16 := by omega
  have hs : Real.sqrt 128 ≠ 0 := (Real.sqrt_pos.mpr (by norm_num)).ne'
  -- the blocks over real data
  have ba : ∀ e : Fin 512, iblk m c 0 t (ix2 r e) = ((q (ix2 ⟨512 * (t.val % 16) + r.val, hR⟩ ⟨512 * (t.val / 16) + e.val, by have := e.isLt; omega⟩) / (Real.log 2 * Real.sqrt 128) : ℝ) : EReal) := fun e => by
    have := e.isLt
    rw [blk_q m c t r e hR (by omega)]
    exact J_q m c q hq _ _ _ (by omega)
  have bb : ∀ (j : Fin 8192) (e : Fin 512), iblk m c 1 t (ix2 j e) = (k (ix2 j ⟨512 * (t.val / 16) + e.val, by have := e.isLt; omega⟩) : EReal) := fun j e => by
    have := e.isLt
    rw [blk_k m c t j e (by omega), ← hk]
    exact J_k m c j _ _ _ _ (by omega)
  have bv : ∀ (j : Fin 8192) (e : Fin 512), iblk m c 2 t (ix2 j e) = W m c (ix2 j ⟨512 * (t.val / 16) + e.val, by have := e.isLt; omega⟩) := fun j e => by
    have := e.isLt
    rw [blk_v m c t j e (by omega)]
    exact J_v m c j _ _ _ _ (by omega)
  have bc : ∀ (j : Fin 8192) (h : Fin 4), iblk m c 3 t (ix3 0 j h) = (g (ix2 j ⟨4 * (t.val / 16) + h.val, by have := h.isLt; omega⟩) : EReal) := fun j h => by
    have := h.isLt
    rw [blk_c m c t j h (by omega), hg]
  -- the logits over real data
  have zl : ∀ (H : Fin 16) (R j : Fin 8192), Cert.ReferenceIdeal.Read.val_main_v23 (F := Ideal) (Q m c) (K m c) (C m c) (ix3 H R j)
      = if j.val ≤ R.val then (((∑ e : Fin 128, q (ix2 R ⟨H.val * 128 + e.val, by have := H.isLt; have := e.isLt; omega⟩)
          * k (ix2 j ⟨H.val * 128 + e.val, by have := H.isLt; have := e.isLt; omega⟩)) / Real.sqrt 128 + g (ix2 R H) - g (ix2 j H) : ℝ) : EReal) else ⊥ := fun H R j => by
    rw [ref_logit]
    by_cases hm : j.val ≤ R.val
    swap
    · rw [if_neg hm, if_neg hm]
    rw [if_pos hm, if_pos hm]
    simp only [hq, hk, hg]
    rw [Ideal.sqrt_coe, if_neg (by norm_num), Ideal.div_coe hs]
    simp only [← EReal.coe_mul]
    rw [real_sum_fin, ← EReal.coe_mul, ← EReal.coe_add, ← EReal.coe_sub, mul_one_div]
  have zt : ∀ i, Cert.ReferenceIdeal.Read.val_main_v23 (F := Ideal) (Q m c) (K m c) (C m c) i ≠ ⊤ := fun i => by
    idx_vars i
    rw [zl]
    split_ifs
    · exact EReal.coe_ne_top _
    · exact bot_ne_top
  obtain ⟨Z, hZ⟩ := ref_max (Q m c) (K m c) (C m c) ⟨(512 * (t.val / 16) + col.val) / 128, hH⟩ ⟨512 * (t.val % 16) + r.val, hR⟩ zt
    (by rw [zl, if_pos (Nat.zero_le _)]; exact EReal.coe_ne_bot _)
  rw [ref_out _ _ _ _ _ _ hH, hZ]
  -- the kernel's side
  unfold outAt OUT
  rw [coord1]
  have hX := X_real (t.val % 16) (iblk m c 0 t) (iblk m c 1 t) (iblk m c 3 t) (col.val / 128) r _ _ _ ba bb bc
  obtain ⟨z, hz⟩ : ∃ z : ℕ → EReal, ∀ j : Fin 8192, z j.val = Cert.ReferenceIdeal.Read.val_main_v23 (F := Ideal) (Q m c) (K m c) (C m c)
      (ix3 ⟨(512 * (t.val / 16) + col.val) / 128, hH⟩ ⟨512 * (t.val % 16) + r.val, hR⟩ j) :=
    ⟨fun j => if hj : j < 8192 then Cert.ReferenceIdeal.Read.val_main_v23 (F := Ideal) (Q m c) (K m c) (C m c)
      (ix3 ⟨(512 * (t.val / 16) + col.val) / 128, hH⟩ ⟨512 * (t.val % 16) + r.val, hR⟩ ⟨j, hj⟩) else 0, fun j => dif_pos j.isLt⟩
  have e := out_val (t.val % 16) (iblk m c 0 t) (iblk m c 1 t) (iblk m c 2 t) (iblk m c 3 t) (col.val / 128) r ⟨col.val % 128, Nat.mod_lt _ (by decide)⟩
    (fun k => ⟨_, hX k⟩) hi z Z
    (g (ix2 ⟨512 * (t.val % 16) + r.val, hR⟩ ⟨(512 * (t.val / 16) + col.val) / 128, hH⟩) - g (ix2 ⟨512 * (t.val % 16), by omega⟩ ⟨(512 * (t.val / 16) + col.val) / 128, hH⟩))
    _ hX
    (fun j hj hm => by
      rw [hz ⟨j, hj⟩, zl, if_pos hm]
      refine congrArg (fun v : ℝ => (v : EReal)) ?_
      rw [score_logit _ _ (g (ix2 ⟨512 * (t.val % 16), by omega⟩ ⟨(512 * (t.val / 16) + col.val) / 128, hH⟩))]
      unfold xr
      refine congrArg₂ (· + ·) (congrArg (· * Real.log 2) (congrArg₂ (· + ·) (congrArg (· * (Real.log 2)⁻¹) (congrArg₂ (· - ·) (congrArg g ?_) (congrArg g ?_)))
        (Finset.sum_congr rfl fun e _ => congrArg₂ (· * ·) (congrArg k ?_) (congrArg (· / _) (congrArg q ?_))))) rfl
      · exact ix2_ext (by dsimp only; omega) (by dsimp only; omega)
      · exact ix2_ext (by dsimp only; omega) (by dsimp only; omega)
      · exact ix2_ext (by dsimp only; omega) (by have := e.isLt; dsimp only; omega)
      · exact ix2_ext (by dsimp only) (by have := e.isLt; dsimp only; omega))
    (fun j hj hm => by rw [hz ⟨j, hj⟩, zl, if_neg hm])
  refine e.trans ?_
  rw [← Fin.sum_univ_eq_sum_range, ← Fin.sum_univ_eq_sum_range]
  simp only [hz]
  refine Finset.sum_congr rfl fun j _ => congrArg _ ?_
  unfold Vv
  rw [bv]
  exact congrArg (W m c) (ix2_ext (by have := j.isLt; dsimp only; omega) (by dsimp only; omega))

end Cert.KernelIdeal.Hand
end
-- ==== Proof.Fox.lean ====
module

public import proofs.«01_k».proof.Defs
public import proofs.«01_k».proof.Proof.FoxValue
public import proofs.«01_k».proof.Proof.FoxFrame

@[expose] public section

set_option maxRecDepth 16384

noncomputable section

namespace Cert.KernelIdeal.Hand

open Cert.KernelIdeal Cert.KernelIdeal.Gen
open Idealize.ShloMosaic Idealize.ShloMosaic.TcCoe
open Cert.Proof.Fox

variable (m : (ℓ : Loc nD τ sig) → Buf (Elt Ideal) ℓ) (c : Dev nD)

/-- The grid's blocks together are the reference's result. -/
theorem final (hq : ∀ i, ∃ r : ℝ, Q m c i = (r : EReal)) (hk : ∀ i, ∃ r : ℝ, K m c i = (r : EReal)) (hc : ∀ i, ∃ r : ℝ, C m c i = (r : EReal)) :
    (dats m (outAt m) 0 c).arrAt 4 cfg0.N = Cert.ReferenceIdeal.Read.val_main_v38 (F := Ideal) (Q m c) (K m c) (W m c) (C m c) := by
  refine (dats m (outAt m) 0 c).arrAt_eq_of_covers 4 _ (by decide +kernel) fun t hf y => ?_
  blk_simp
  rw [after0_4]
  idx_vars y
  have hN : t.val < 64 := t.isLt
  have hr := y0.isLt
  have hcol := y1.isLt
  have e := point_value m c t hq hk hc y0 y1 (by omega) (by omega)
  refine Eq.trans e (congrArg _ ?_)
  blk_ext [idx t]

end Cert.KernelIdeal.Hand

namespace Cert.Proof

open Idealize.ShloMosaic Idealize.ShloMosaic.TcCoe Idealize.SL.Sem

theorem quiescent_Kernel : Cert.quiescent_Kernel (hKernel := Cert.Kernel.Gen.facts) :=
  fun m g _ => Cert.Kernel.Hand.frame_counters m g

theorem quiescent_KernelIdeal : Cert.quiescent_KernelIdeal (hKernelIdeal := Cert.KernelIdeal.Gen.facts) :=
  fun m g _ => Cert.KernelIdeal.Hand.frame_counters m g

theorem quiescent_KernelIdeal_finite : Cert.quiescent_KernelIdeal_pre_finite_logits (hKernelIdeal := Cert.KernelIdeal.Gen.facts)
    (hPre_finite_logits := Cert.Pre_finite_logits.Gen.facts) :=
  fun m g _ => Cert.KernelIdeal.Hand.frame_counters m g

theorem quiescent_ReferenceIdeal : Cert.quiescent_ReferenceIdeal (hReferenceIdeal := Cert.ReferenceIdeal.Gen.facts) :=
  fun m g _ => (θ_run _ _ _).mono (fun r h => ⟨fun c => (h c).2, sem_eq_zero_of_no_sems (by decide) r.2⟩)
    (Cert.ReferenceIdeal.Value.run m g)

theorem quiescent_ReferenceIdeal_finite : Cert.quiescent_ReferenceIdeal_pre_finite_logits (hReferenceIdeal := Cert.ReferenceIdeal.Gen.facts)
    (hPre_finite_logits := Cert.Pre_finite_logits.Gen.facts) :=
  fun m g _ => quiescent_ReferenceIdeal m g trivial

theorem preserves_Kernel_KernelIdeal : Cert.preserves_Kernel_KernelIdeal :=
  ⟨IdealRules.named_const.statement Cert.KernelIdeal.κ "masked" .f32 0xF149F2CA#32 ⊥ rfl,
    IdealRules.named_const.statement Cert.KernelIdeal.κ "log2_e" .f32 0x3FB8AA3B#32 (((Real.log 2)⁻¹ : ℝ) : EReal) rfl⟩

open Cert.KernelIdeal Cert.KernelIdeal.Gen Cert.KernelIdeal.Hand in
theorem algebraic_KernelIdeal_ReferenceIdeal :
    Cert.algebraic_KernelIdeal_ReferenceIdeal_pre_finite_logits (hKernelIdeal := Cert.KernelIdeal.Gen.facts)
      (hReferenceIdeal := Cert.ReferenceIdeal.Gen.facts) (hPre_finite_logits := Cert.Pre_finite_logits.Gen.facts) := by
  intro m g m' g' hpre hagree
  refine ⟨fun c => Cert.ReferenceIdeal.Read.val_main_v38 (F := Ideal) (Q m c) (K m c) (W m c) (C m c), ?_, ?_⟩
  · refine (θ_run defs _ _).mono (fun r h c => ?_) (run_out m g)
    obtain ⟨hq, hk, hc⟩ := Fox.finite _ _ _ _ (hpre c)
    exact ⟨((h c).1 4).trans (final m c hq hk hc),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩
  · refine (θ_run _ _ _).mono (fun r h c => ?_) (Cert.ReferenceIdeal.Value.run m' g')
    refine ⟨(h c).1.trans ?_, (h c).2⟩
    rw [Cert.ReferenceIdeal.Read.val_main_v38_eq, (hagree c).1, (hagree c).2.1, (hagree c).2.2.1, (hagree c).2.2.2]

end Cert.Proof

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Pre_finite_logits
public import proofs.«01_k».proof.Proof.Ffn
public import proofs.«01_k».proof.Proof.ConvOut
public import proofs.«01_k».proof.Proof.ConvIn
public import proofs.«01_k».proof.Proof.SbQkv
public import proofs.«01_k».proof.Proof.FoxQkv
public import proofs.«01_k».proof.Proof.FoxGate
public import proofs.«01_k».proof.Proof.OutProj
public import proofs.«01_k».proof.Proof.Fox
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Pre_finite_logits.Gen.facts,
  quiescent_Kernel, quiescent_KernelIdeal, quiescent_KernelIdeal_finite, quiescent_ReferenceIdeal, quiescent_ReferenceIdeal_finite,
  quiescent_Kernel2, quiescent_Kernel2Ideal, quiescent_Reference2Ideal,
  quiescent_Kernel3, quiescent_Kernel3Ideal, quiescent_Reference3Ideal,
  quiescent_Kernel4, quiescent_Kernel4Ideal, quiescent_Reference4Ideal,
  quiescent_Kernel5, quiescent_Kernel5Ideal, quiescent_Reference5Ideal,
  quiescent_Kernel6, quiescent_Kernel6Ideal, quiescent_Reference6Ideal,
  quiescent_Kernel7, quiescent_Kernel7Ideal, quiescent_Reference7Ideal,
  quiescent_Kernel8, quiescent_Kernel8Ideal, quiescent_Reference8Ideal,
  preserves_Kernel_KernelIdeal, algebraic_KernelIdeal_ReferenceIdeal,
  trivial, algebraic_Kernel2Ideal_Reference2Ideal,
  trivial, algebraic_Kernel3Ideal_Reference3Ideal,
  trivial, algebraic_Kernel4Ideal_Reference4Ideal,
  trivial, algebraic_Kernel5Ideal_Reference5Ideal,
  trivial, algebraic_Kernel6Ideal_Reference6Ideal,
  trivial, algebraic_Kernel7Ideal_Reference7Ideal,
  trivial, algebraic_Kernel8Ideal_Reference8Ideal⟩

end Cert.Proof

end

end
